-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v418) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x512x512 : Shape := ⟨4, ![4, 1, 512, 512]⟩
abbrev S4x512x512 : Shape := ⟨3, ![4, 512, 512]⟩
abbrev S4x1x512 : Shape := ⟨3, ![4, 1, 512]⟩
abbrev S4x511x512 : Shape := ⟨3, ![4, 511, 512]⟩
abbrev S4x512x511 : Shape := ⟨3, ![4, 512, 511]⟩
abbrev S4x512x1 : Shape := ⟨3, ![4, 512, 1]⟩
abbrev S1x4x512x512 : Shape := ⟨4, ![1, 4, 512, 512]⟩
abbrev S1 : Shape := ⟨1, ![1]⟩
abbrev S1x1x1x1 : Shape := ⟨4, ![1, 1, 1, 1]⟩
abbrev S256x4096 : Shape := ⟨2, ![256, 4096]⟩
abbrev S32x32 : Shape := ⟨2, ![32, 32]⟩
abbrev S32768 : Shape := ⟨1, ![32768]⟩
abbrev S4096 : Shape := ⟨1, ![4096]⟩
abbrev S32 : Shape := ⟨1, ![32]⟩
abbrev S_ : Shape := ⟨0, ![]⟩
abbrev S16 : Shape := ⟨1, ![16]⟩
abbrev S1x4096 : Shape := ⟨2, ![1, 4096]⟩
abbrev S1x32 : Shape := ⟨2, ![1, 32]⟩

abbrev nBuf : Table → Nat
  | .hbm => 21
  | .local .tc .vmem => 8
  | .local .scVector .vmem => 5
  | _ => 0

abbrev bufTy : (tb : Table) → Fin (nBuf tb) → BufTy
  | .hbm, ⟨0, _⟩ => ⟨S4x1x512x512, .f32⟩
  | .hbm, ⟨1, _⟩ => ⟨S4x1x512x512, .f32⟩
  | .hbm, ⟨2, _⟩ => ⟨S4x512x512, .f32⟩
  | .hbm, ⟨3, _⟩ => ⟨S4x512x512, .f32⟩
  | .hbm, ⟨4, _⟩ => ⟨S4x512x512, .i32⟩
  | .hbm, ⟨5, _⟩ => ⟨S4x512x512, .i32⟩
  | .hbm, ⟨6, _⟩ => ⟨S4x512x512, .i32⟩
  | .hbm, ⟨7, _⟩ => ⟨S4x512x512, .i32⟩
  | .hbm, ⟨8, _⟩ => ⟨S4x512x512, .i32⟩
  | .hbm, ⟨9, _⟩ => ⟨S4x512x512, .i32⟩
  | .hbm, ⟨10, _⟩ => ⟨S256x4096, .i32⟩
  | .hbm, ⟨11, _⟩ => ⟨S256x4096, .i32⟩
  | .hbm, ⟨12, _⟩ => ⟨S256x4096, .i32⟩
  | .hbm, ⟨13, _⟩ => ⟨S256x4096, .i32⟩
  | .hbm, ⟨14, _⟩ => ⟨S256x4096, .i32⟩
  | .hbm, ⟨15, _⟩ => ⟨S256x4096, .i32⟩
  | .hbm, ⟨16, _⟩ => ⟨S32x32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local .tc .vmem, ⟨0, _⟩ => ⟨S4x512x512, .f32⟩
  | .local .tc .vmem, ⟨1, _⟩ => ⟨S4x512x512, .f32⟩
  | .local .tc .vmem, ⟨2, _⟩ => ⟨S4x512x512, .i32⟩
  | .local .tc .vmem, ⟨3, _⟩ => ⟨S4x512x512, .i32⟩
  | .local .tc .vmem, ⟨4, _⟩ => ⟨S4x512x512, .i32⟩
  | .local .tc .vmem, ⟨5, _⟩ => ⟨S4x512x512, .i32⟩
  | .local .tc .vmem, ⟨6, _⟩ => ⟨S4x512x512, .i32⟩
  | .local .tc .vmem, ⟨7, _⟩ => ⟨S4x512x512, .i32⟩
  | .local .scVector .vmem, ⟨0, _⟩ => ⟨S32768, .f32⟩
  | .local .scVector .vmem, ⟨1, _⟩ => ⟨S32768, .f32⟩
  | .local .scVector .vmem, ⟨2, _⟩ => ⟨S4096, .i32⟩
  | .local .scVector .vmem, ⟨3, _⟩ => ⟨S4096, .i32⟩
  | .local .scVector .vmem, ⟨4, _⟩ => ⟨S32, .f32⟩
  | _, _ => ⟨S4x1x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v3_scv : Ref sig .scVector := ⟨.hbm, 10, rfl⟩
abbrev main_v4_scv : Ref sig .scVector := ⟨.hbm, 11, rfl⟩
abbrev main_v5_scv : Ref sig .scVector := ⟨.hbm, 12, rfl⟩
abbrev main_v6_scv : Ref sig .scVector := ⟨.hbm, 13, rfl⟩
abbrev main_v7_scv : Ref sig .scVector := ⟨.hbm, 14, rfl⟩
abbrev main_v8_scv : Ref sig .scVector := ⟨.hbm, 15, rfl⟩
abbrev main_v9_scv : Ref sig .scVector := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x512x512 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x512 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x512x512 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_0 : BitVec 32 := 0#32
  let c128_i32 : BitVec 32 := 128#32
  let v3 : BitVec 32 := Scalar.addi c0_i32_0 c128_i32
  let c1_i32 : BitVec 32 := 1#32
  ⟨c0_i32_0, v3, c1_i32⟩
def k1_off1 (k1_t1 : Fin k1_t1_loop.trips) (c0_i32_627 : BitVec 32) : Fin 1 → Nat :=
  let c0_i32_0 : BitVec 32 := 0#32
  let c1_i32 : BitVec 32 := 1#32
  let arg16 : BitVec 32 := Scf.iv c0_i32_0 c1_i32 k1_t1
  let c256_i32_626 : BitVec 32 := 256#32
  let v638 : BitVec 32 := Scalar.muli arg16 c256_i32_626
  let v639 : BitVec 32 := Scalar.addi v638 c0_i32_627
  let v640 : Index := Scalar.indexCast v639
  ![v640.toNat]
def k1_off2 (i : grid1.Coords) (c0_i32_3 : BitVec 32) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_2 : BitVec 32 := 2#32
  let v4 : BitVec 32 := Scalar.muli v1 c2_i32_2
  let v5 : BitVec 32 := Scalar.addi c0_i32_3 v4
  let v6 : BitVec 32 := Scalar.addi v5 c0_i32_4
  let c0_i32_144 : BitVec 32 := 0#32
  ![v6.toNat, 0]
@[reducible] def k1_t2_loop : Scf.Loop 32 :=
  let c0_i32_152 : BitVec 32 := 0#32
  let c16_i32 : BitVec 32 := 16#32
  let v161 : BitVec 32 := Scalar.addi c0_i32_152 c16_i32
  let c1_i32_153 : BitVec 32 := 1#32
  ⟨c0_i32_152, v161, c1_i32_153⟩
def k1_off3 (k1_t2 : Fin k1_t2_loop.trips) (c0_i32_627 : BitVec 32) : Fin 1 → Nat :=
  let c0_i32_152 : BitVec 32 := 0#32
  let c1_i32_153 : BitVec 32 := 1#32
  let arg16 : BitVec 32 := Scf.iv c0_i32_152 c1_i32_153 k1_t2
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk1 (v641 : IVec S16 32) : Prop :=
  (∀ a x, ((![v641] : Fin 1 → IVec S16 32) a x).toNat < S32768.size a)
theorem k1_idx1_inb : ∀ (v641 : IVec S16 32) (k1_hw1 : k1_chk1 v641), ∀ a x, ((![v641] : Fin 1 → IVec S16 32) a x).toNat < S32768.size a := fun v641 k1_hw1 => k1_hw1

def k1_chk2 (v644 : IVec S16 32) : Prop :=
  (∀ a x, ((![v644] : Fin 1 → IVec S16 32) a x).toNat < S32768.size a)
theorem k1_idx2_inb : ∀ (v644 : IVec S16 32) (k1_hw2 : k1_chk2 v644), ∀ a x, ((![v644] : Fin 1 → IVec S16 32) a x).toNat < S32768.size a := fun v644 k1_hw2 => k1_hw2

def k1_chk3 (v647 : IVec S16 32) : Prop :=
  (∀ a x, ((![v647] : Fin 1 → IVec S16 32) a x).toNat < S32768.size a)
theorem k1_idx3_inb : ∀ (v647 : IVec S16 32) (k1_hw3 : k1_chk3 v647), ∀ a x, ((![v647] : Fin 1 → IVec S16 32) a x).toNat < S32768.size a := fun v647 k1_hw3 => k1_hw3

def k1_chk4 (v650 : IVec S16 32) : Prop :=
  (∀ a x, ((![v650] : Fin 1 → IVec S16 32) a x).toNat < S32768.size a)
theorem k1_idx4_inb : ∀ (v650 : IVec S16 32) (k1_hw4 : k1_chk4 v650), ∀ a x, ((![v650] : Fin 1 → IVec S16 32) a x).toNat < S32768.size a := fun v650 k1_hw4 => k1_hw4

def k1_chk5 (v653 : IVec S16 32) : Prop :=
  (∀ a x, ((![v653] : Fin 1 → IVec S16 32) a x).toNat < S32768.size a)
theorem k1_idx5_inb : ∀ (v653 : IVec S16 32) (k1_hw5 : k1_chk5 v653), ∀ a x, ((![v653] : Fin 1 → IVec S16 32) a x).toNat < S32768.size a := fun v653 k1_hw5 => k1_hw5

def k1_chk6 (v656 : IVec S16 32) : Prop :=
  (∀ a x, ((![v656] : Fin 1 → IVec S16 32) a x).toNat < S32768.size a)
theorem k1_idx6_inb : ∀ (v656 : IVec S16 32) (k1_hw6 : k1_chk6 v656), ∀ a x, ((![v656] : Fin 1 → IVec S16 32) a x).toNat < S32768.size a := fun v656 k1_hw6 => k1_hw6

def k1_chk7 (v659 : IVec S16 32) : Prop :=
  (∀ a x, ((![v659] : Fin 1 → IVec S16 32) a x).toNat < S32768.size a)
theorem k1_idx7_inb : ∀ (v659 : IVec S16 32) (k1_hw7 : k1_chk7 v659), ∀ a x, ((![v659] : Fin 1 → IVec S16 32) a x).toNat < S32768.size a := fun v659 k1_hw7 => k1_hw7

def k1_chk8 (v662 : IVec S16 32) : Prop :=
  (∀ a x, ((![v662] : Fin 1 → IVec S16 32) a x).toNat < S32768.size a)
theorem k1_idx8_inb : ∀ (v662 : IVec S16 32) (k1_hw8 : k1_chk8 v662), ∀ a x, ((![v662] : Fin 1 → IVec S16 32) a x).toNat < S32768.size a := fun v662 k1_hw8 => k1_hw8

def k1_chk9 (v665 : IVec S16 32) : Prop :=
  (∀ a x, ((![v665] : Fin 1 → IVec S16 32) a x).toNat < S32768.size a)
theorem k1_idx9_inb : ∀ (v665 : IVec S16 32) (k1_hw9 : k1_chk9 v665), ∀ a x, ((![v665] : Fin 1 → IVec S16 32) a x).toNat < S32768.size a := fun v665 k1_hw9 => k1_hw9

def k1_chk10 (v668 : IVec S16 32) : Prop :=
  (∀ a x, ((![v668] : Fin 1 → IVec S16 32) a x).toNat < S32768.size a)
theorem k1_idx10_inb : ∀ (v668 : IVec S16 32) (k1_hw10 : k1_chk10 v668), ∀ a x, ((![v668] : Fin 1 → IVec S16 32) a x).toNat < S32768.size a := fun v668 k1_hw10 => k1_hw10

def k1_chk11 (v671 : IVec S16 32) : Prop :=
  (∀ a x, ((![v671] : Fin 1 → IVec S16 32) a x).toNat < S32768.size a)
theorem k1_idx11_inb : ∀ (v671 : IVec S16 32) (k1_hw11 : k1_chk11 v671), ∀ a x, ((![v671] : Fin 1 → IVec S16 32) a x).toNat < S32768.size a := fun v671 k1_hw11 => k1_hw11

def k1_chk12 (v674 : IVec S16 32) : Prop :=
  (∀ a x, ((![v674] : Fin 1 → IVec S16 32) a x).toNat < S32768.size a)
theorem k1_idx12_inb : ∀ (v674 : IVec S16 32) (k1_hw12 : k1_chk12 v674), ∀ a x, ((![v674] : Fin 1 → IVec S16 32) a x).toNat < S32768.size a := fun v674 k1_hw12 => k1_hw12

def k1_chk13 (v677 : IVec S16 32) : Prop :=
  (∀ a x, ((![v677] : Fin 1 → IVec S16 32) a x).toNat < S32768.size a)
theorem k1_idx13_inb : ∀ (v677 : IVec S16 32) (k1_hw13 : k1_chk13 v677), ∀ a x, ((![v677] : Fin 1 → IVec S16 32) a x).toNat < S32768.size a := fun v677 k1_hw13 => k1_hw13

def k1_chk14 (v680 : IVec S16 32) : Prop :=
  (∀ a x, ((![v680] : Fin 1 → IVec S16 32) a x).toNat < S32768.size a)
theorem k1_idx14_inb : ∀ (v680 : IVec S16 32) (k1_hw14 : k1_chk14 v680), ∀ a x, ((![v680] : Fin 1 → IVec S16 32) a x).toNat < S32768.size a := fun v680 k1_hw14 => k1_hw14

def k1_chk15 (v683 : IVec S16 32) : Prop :=
  (∀ a x, ((![v683] : Fin 1 → IVec S16 32) a x).toNat < S32768.size a)
theorem k1_idx15_inb : ∀ (v683 : IVec S16 32) (k1_hw15 : k1_chk15 v683), ∀ a x, ((![v683] : Fin 1 → IVec S16 32) a x).toNat < S32768.size a := fun v683 k1_hw15 => k1_hw15

def k1_chk16 (v686 : IVec S16 32) : Prop :=
  (∀ a x, ((![v686] : Fin 1 → IVec S16 32) a x).toNat < S32768.size a)
theorem k1_idx16_inb : ∀ (v686 : IVec S16 32) (k1_hw16 : k1_chk16 v686), ∀ a x, ((![v686] : Fin 1 → IVec S16 32) a x).toNat < S32768.size a := fun v686 k1_hw16 => k1_hw16
@[reducible] def k1_t3_loop : Scf.Loop 32 :=
  let c0_i32_161 : BitVec 32 := 0#32
  let c16_i32_162 : BitVec 32 := 16#32
  let v171 : BitVec 32 := Scalar.addi c0_i32_161 c16_i32_162
  let c1_i32_163 : BitVec 32 := 1#32
  ⟨c0_i32_161, v171, c1_i32_163⟩
def k1_off4 (k1_t3 : Fin k1_t3_loop.trips) (c0_i32_627 : BitVec 32) : Fin 1 → Nat :=
  let c0_i32_161 : BitVec 32 := 0#32
  let c1_i32_163 : BitVec 32 := 1#32
  let arg16 : BitVec 32 := Scf.iv c0_i32_161 c1_i32_163 k1_t3
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk17 (v641 : IVec S16 32) : Prop :=
  (∀ a x, ((![v641] : Fin 1 → IVec S16 32) a x).toNat < S32768.size a)
theorem k1_idx17_inb : ∀ (v641 : IVec S16 32) (k1_hw17 : k1_chk17 v641), ∀ a x, ((![v641] : Fin 1 → IVec S16 32) a x).toNat < S32768.size a := fun v641 k1_hw17 => k1_hw17

def k1_chk18 (v644 : IVec S16 32) : Prop :=
  (∀ a x, ((![v644] : Fin 1 → IVec S16 32) a x).toNat < S32768.size a)
theorem k1_idx18_inb : ∀ (v644 : IVec S16 32) (k1_hw18 : k1_chk18 v644), ∀ a x, ((![v644] : Fin 1 → IVec S16 32) a x).toNat < S32768.size a := fun v644 k1_hw18 => k1_hw18

def k1_chk19 (v647 : IVec S16 32) : Prop :=
  (∀ a x, ((![v647] : Fin 1 → IVec S16 32) a x).toNat < S32768.size a)
theorem k1_idx19_inb : ∀ (v647 : IVec S16 32) (k1_hw19 : k1_chk19 v647), ∀ a x, ((![v647] : Fin 1 → IVec S16 32) a x).toNat < S32768.size a := fun v647 k1_hw19 => k1_hw19

def k1_chk20 (v650 : IVec S16 32) : Prop :=
  (∀ a x, ((![v650] : Fin 1 → IVec S16 32) a x).toNat < S32768.size a)
theorem k1_idx20_inb : ∀ (v650 : IVec S16 32) (k1_hw20 : k1_chk20 v650), ∀ a x, ((![v650] : Fin 1 → IVec S16 32) a x).toNat < S32768.size a := fun v650 k1_hw20 => k1_hw20

def k1_chk21 (v653 : IVec S16 32) : Prop :=
  (∀ a x, ((![v653] : Fin 1 → IVec S16 32) a x).toNat < S32768.size a)
theorem k1_idx21_inb : ∀ (v653 : IVec S16 32) (k1_hw21 : k1_chk21 v653), ∀ a x, ((![v653] : Fin 1 → IVec S16 32) a x).toNat < S32768.size a := fun v653 k1_hw21 => k1_hw21

def k1_chk22 (v656 : IVec S16 32) : Prop :=
  (∀ a x, ((![v656] : Fin 1 → IVec S16 32) a x).toNat < S32768.size a)
theorem k1_idx22_inb : ∀ (v656 : IVec S16 32) (k1_hw22 : k1_chk22 v656), ∀ a x, ((![v656] : Fin 1 → IVec S16 32) a x).toNat < S32768.size a := fun v656 k1_hw22 => k1_hw22

def k1_chk23 (v659 : IVec S16 32) : Prop :=
  (∀ a x, ((![v659] : Fin 1 → IVec S16 32) a x).toNat < S32768.size a)
theorem k1_idx23_inb : ∀ (v659 : IVec S16 32) (k1_hw23 : k1_chk23 v659), ∀ a x, ((![v659] : Fin 1 → IVec S16 32) a x).toNat < S32768.size a := fun v659 k1_hw23 => k1_hw23

def k1_chk24 (v662 : IVec S16 32) : Prop :=
  (∀ a x, ((![v662] : Fin 1 → IVec S16 32) a x).toNat < S32768.size a)
theorem k1_idx24_inb : ∀ (v662 : IVec S16 32) (k1_hw24 : k1_chk24 v662), ∀ a x, ((![v662] : Fin 1 → IVec S16 32) a x).toNat < S32768.size a := fun v662 k1_hw24 => k1_hw24

def k1_chk25 (v665 : IVec S16 32) : Prop :=
  (∀ a x, ((![v665] : Fin 1 → IVec S16 32) a x).toNat < S32768.size a)
theorem k1_idx25_inb : ∀ (v665 : IVec S16 32) (k1_hw25 : k1_chk25 v665), ∀ a x, ((![v665] : Fin 1 → IVec S16 32) a x).toNat < S32768.size a := fun v665 k1_hw25 => k1_hw25

def k1_chk26 (v668 : IVec S16 32) : Prop :=
  (∀ a x, ((![v668] : Fin 1 → IVec S16 32) a x).toNat < S32768.size a)
theorem k1_idx26_inb : ∀ (v668 : IVec S16 32) (k1_hw26 : k1_chk26 v668), ∀ a x, ((![v668] : Fin 1 → IVec S16 32) a x).toNat < S32768.size a := fun v668 k1_hw26 => k1_hw26

def k1_chk27 (v671 : IVec S16 32) : Prop :=
  (∀ a x, ((![v671] : Fin 1 → IVec S16 32) a x).toNat < S32768.size a)
theorem k1_idx27_inb : ∀ (v671 : IVec S16 32) (k1_hw27 : k1_chk27 v671), ∀ a x, ((![v671] : Fin 1 → IVec S16 32) a x).toNat < S32768.size a := fun v671 k1_hw27 => k1_hw27

def k1_chk28 (v674 : IVec S16 32) : Prop :=
  (∀ a x, ((![v674] : Fin 1 → IVec S16 32) a x).toNat < S32768.size a)
theorem k1_idx28_inb : ∀ (v674 : IVec S16 32) (k1_hw28 : k1_chk28 v674), ∀ a x, ((![v674] : Fin 1 → IVec S16 32) a x).toNat < S32768.size a := fun v674 k1_hw28 => k1_hw28

def k1_chk29 (v677 : IVec S16 32) : Prop :=
  (∀ a x, ((![v677] : Fin 1 → IVec S16 32) a x).toNat < S32768.size a)
theorem k1_idx29_inb : ∀ (v677 : IVec S16 32) (k1_hw29 : k1_chk29 v677), ∀ a x, ((![v677] : Fin 1 → IVec S16 32) a x).toNat < S32768.size a := fun v677 k1_hw29 => k1_hw29

def k1_chk30 (v680 : IVec S16 32) : Prop :=
  (∀ a x, ((![v680] : Fin 1 → IVec S16 32) a x).toNat < S32768.size a)
theorem k1_idx30_inb : ∀ (v680 : IVec S16 32) (k1_hw30 : k1_chk30 v680), ∀ a x, ((![v680] : Fin 1 → IVec S16 32) a x).toNat < S32768.size a := fun v680 k1_hw30 => k1_hw30

def k1_chk31 (v683 : IVec S16 32) : Prop :=
  (∀ a x, ((![v683] : Fin 1 → IVec S16 32) a x).toNat < S32768.size a)
theorem k1_idx31_inb : ∀ (v683 : IVec S16 32) (k1_hw31 : k1_chk31 v683), ∀ a x, ((![v683] : Fin 1 → IVec S16 32) a x).toNat < S32768.size a := fun v683 k1_hw31 => k1_hw31

def k1_chk32 (v686 : IVec S16 32) : Prop :=
  (∀ a x, ((![v686] : Fin 1 → IVec S16 32) a x).toNat < S32768.size a)
theorem k1_idx32_inb : ∀ (v686 : IVec S16 32) (k1_hw32 : k1_chk32 v686), ∀ a x, ((![v686] : Fin 1 → IVec S16 32) a x).toNat < S32768.size a := fun v686 k1_hw32 => k1_hw32
@[reducible] def k1_t4_loop : Scf.Loop 32 :=
  let c0_i32_171 : BitVec 32 := 0#32
  let c16_i32_172 : BitVec 32 := 16#32
  let v181 : BitVec 32 := Scalar.addi c0_i32_171 c16_i32_172
  let c1_i32_173 : BitVec 32 := 1#32
  ⟨c0_i32_171, v181, c1_i32_173⟩
def k1_off5 (k1_t4 : Fin k1_t4_loop.trips) (c0_i32_627 : BitVec 32) : Fin 1 → Nat :=
  let c0_i32_171 : BitVec 32 := 0#32
  let c1_i32_173 : BitVec 32 := 1#32
  let arg16 : BitVec 32 := Scf.iv c0_i32_171 c1_i32_173 k1_t4
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk33 (v641 : IVec S16 32) : Prop :=
  (∀ a x, ((![v641] : Fin 1 → IVec S16 32) a x).toNat < S32768.size a)
theorem k1_idx33_inb : ∀ (v641 : IVec S16 32) (k1_hw33 : k1_chk33 v641), ∀ a x, ((![v641] : Fin 1 → IVec S16 32) a x).toNat < S32768.size a := fun v641 k1_hw33 => k1_hw33

def k1_chk34 (v644 : IVec S16 32) : Prop :=
  (∀ a x, ((![v644] : Fin 1 → IVec S16 32) a x).toNat < S32768.size a)
theorem k1_idx34_inb : ∀ (v644 : IVec S16 32) (k1_hw34 : k1_chk34 v644), ∀ a x, ((![v644] : Fin 1 → IVec S16 32) a x).toNat < S32768.size a := fun v644 k1_hw34 => k1_hw34

def k1_chk35 (v647 : IVec S16 32) : Prop :=
  (∀ a x, ((![v647] : Fin 1 → IVec S16 32) a x).toNat < S32768.size a)
theorem k1_idx35_inb : ∀ (v647 : IVec S16 32) (k1_hw35 : k1_chk35 v647), ∀ a x, ((![v647] : Fin 1 → IVec S16 32) a x).toNat < S32768.size a := fun v647 k1_hw35 => k1_hw35

def k1_chk36 (v650 : IVec S16 32) : Prop :=
  (∀ a x, ((![v650] : Fin 1 → IVec S16 32) a x).toNat < S32768.size a)
theorem k1_idx36_inb : ∀ (v650 : IVec S16 32) (k1_hw36 : k1_chk36 v650), ∀ a x, ((![v650] : Fin 1 → IVec S16 32) a x).toNat < S32768.size a := fun v650 k1_hw36 => k1_hw36

def k1_chk37 (v653 : IVec S16 32) : Prop :=
  (∀ a x, ((![v653] : Fin 1 → IVec S16 32) a x).toNat < S32768.size a)
theorem k1_idx37_inb : ∀ (v653 : IVec S16 32) (k1_hw37 : k1_chk37 v653), ∀ a x, ((![v653] : Fin 1 → IVec S16 32) a x).toNat < S32768.size a := fun v653 k1_hw37 => k1_hw37

def k1_chk38 (v656 : IVec S16 32) : Prop :=
  (∀ a x, ((![v656] : Fin 1 → IVec S16 32) a x).toNat < S32768.size a)
theorem k1_idx38_inb : ∀ (v656 : IVec S16 32) (k1_hw38 : k1_chk38 v656), ∀ a x, ((![v656] : Fin 1 → IVec S16 32) a x).toNat < S32768.size a := fun v656 k1_hw38 => k1_hw38

def k1_chk39 (v659 : IVec S16 32) : Prop :=
  (∀ a x, ((![v659] : Fin 1 → IVec S16 32) a x).toNat < S32768.size a)
theorem k1_idx39_inb : ∀ (v659 : IVec S16 32) (k1_hw39 : k1_chk39 v659), ∀ a x, ((![v659] : Fin 1 → IVec S16 32) a x).toNat < S32768.size a := fun v659 k1_hw39 => k1_hw39

def k1_chk40 (v662 : IVec S16 32) : Prop :=
  (∀ a x, ((![v662] : Fin 1 → IVec S16 32) a x).toNat < S32768.size a)
theorem k1_idx40_inb : ∀ (v662 : IVec S16 32) (k1_hw40 : k1_chk40 v662), ∀ a x, ((![v662] : Fin 1 → IVec S16 32) a x).toNat < S32768.size a := fun v662 k1_hw40 => k1_hw40

def k1_chk41 (v665 : IVec S16 32) : Prop :=
  (∀ a x, ((![v665] : Fin 1 → IVec S16 32) a x).toNat < S32768.size a)
theorem k1_idx41_inb : ∀ (v665 : IVec S16 32) (k1_hw41 : k1_chk41 v665), ∀ a x, ((![v665] : Fin 1 → IVec S16 32) a x).toNat < S32768.size a := fun v665 k1_hw41 => k1_hw41

def k1_chk42 (v668 : IVec S16 32) : Prop :=
  (∀ a x, ((![v668] : Fin 1 → IVec S16 32) a x).toNat < S32768.size a)
theorem k1_idx42_inb : ∀ (v668 : IVec S16 32) (k1_hw42 : k1_chk42 v668), ∀ a x, ((![v668] : Fin 1 → IVec S16 32) a x).toNat < S32768.size a := fun v668 k1_hw42 => k1_hw42

def k1_chk43 (v671 : IVec S16 32) : Prop :=
  (∀ a x, ((![v671] : Fin 1 → IVec S16 32) a x).toNat < S32768.size a)
theorem k1_idx43_inb : ∀ (v671 : IVec S16 32) (k1_hw43 : k1_chk43 v671), ∀ a x, ((![v671] : Fin 1 → IVec S16 32) a x).toNat < S32768.size a := fun v671 k1_hw43 => k1_hw43

def k1_chk44 (v674 : IVec S16 32) : Prop :=
  (∀ a x, ((![v674] : Fin 1 → IVec S16 32) a x).toNat < S32768.size a)
theorem k1_idx44_inb : ∀ (v674 : IVec S16 32) (k1_hw44 : k1_chk44 v674), ∀ a x, ((![v674] : Fin 1 → IVec S16 32) a x).toNat < S32768.size a := fun v674 k1_hw44 => k1_hw44

def k1_chk45 (v677 : IVec S16 32) : Prop :=
  (∀ a x, ((![v677] : Fin 1 → IVec S16 32) a x).toNat < S32768.size a)
theorem k1_idx45_inb : ∀ (v677 : IVec S16 32) (k1_hw45 : k1_chk45 v677), ∀ a x, ((![v677] : Fin 1 → IVec S16 32) a x).toNat < S32768.size a := fun v677 k1_hw45 => k1_hw45

def k1_chk46 (v680 : IVec S16 32) : Prop :=
  (∀ a x, ((![v680] : Fin 1 → IVec S16 32) a x).toNat < S32768.size a)
theorem k1_idx46_inb : ∀ (v680 : IVec S16 32) (k1_hw46 : k1_chk46 v680), ∀ a x, ((![v680] : Fin 1 → IVec S16 32) a x).toNat < S32768.size a := fun v680 k1_hw46 => k1_hw46

def k1_chk47 (v683 : IVec S16 32) : Prop :=
  (∀ a x, ((![v683] : Fin 1 → IVec S16 32) a x).toNat < S32768.size a)
theorem k1_idx47_inb : ∀ (v683 : IVec S16 32) (k1_hw47 : k1_chk47 v683), ∀ a x, ((![v683] : Fin 1 → IVec S16 32) a x).toNat < S32768.size a := fun v683 k1_hw47 => k1_hw47

def k1_chk48 (v686 : IVec S16 32) : Prop :=
  (∀ a x, ((![v686] : Fin 1 → IVec S16 32) a x).toNat < S32768.size a)
theorem k1_idx48_inb : ∀ (v686 : IVec S16 32) (k1_hw48 : k1_chk48 v686), ∀ a x, ((![v686] : Fin 1 → IVec S16 32) a x).toNat < S32768.size a := fun v686 k1_hw48 => k1_hw48
@[reducible] def k1_t5_loop : Scf.Loop 32 :=
  let c0_i32_181 : BitVec 32 := 0#32
  let c16_i32_182 : BitVec 32 := 16#32
  let v191 : BitVec 32 := Scalar.addi c0_i32_181 c16_i32_182
  let c1_i32_183 : BitVec 32 := 1#32
  ⟨c0_i32_181, v191, c1_i32_183⟩
def k1_off6 (k1_t5 : Fin k1_t5_loop.trips) (c0_i32_627 : BitVec 32) : Fin 1 → Nat :=
  let c0_i32_181 : BitVec 32 := 0#32
  let c1_i32_183 : BitVec 32 := 1#32
  let arg16 : BitVec 32 := Scf.iv c0_i32_181 c1_i32_183 k1_t5
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk49 (v641 : IVec S16 32) : Prop :=
  (∀ a x, ((![v641] : Fin 1 → IVec S16 32) a x).toNat < S32768.size a)
theorem k1_idx49_inb : ∀ (v641 : IVec S16 32) (k1_hw49 : k1_chk49 v641), ∀ a x, ((![v641] : Fin 1 → IVec S16 32) a x).toNat < S32768.size a := fun v641 k1_hw49 => k1_hw49

def k1_chk50 (v644 : IVec S16 32) : Prop :=
  (∀ a x, ((![v644] : Fin 1 → IVec S16 32) a x).toNat < S32768.size a)
theorem k1_idx50_inb : ∀ (v644 : IVec S16 32) (k1_hw50 : k1_chk50 v644), ∀ a x, ((![v644] : Fin 1 → IVec S16 32) a x).toNat < S32768.size a := fun v644 k1_hw50 => k1_hw50

def k1_chk51 (v647 : IVec S16 32) : Prop :=
  (∀ a x, ((![v647] : Fin 1 → IVec S16 32) a x).toNat < S32768.size a)
theorem k1_idx51_inb : ∀ (v647 : IVec S16 32) (k1_hw51 : k1_chk51 v647), ∀ a x, ((![v647] : Fin 1 → IVec S16 32) a x).toNat < S32768.size a := fun v647 k1_hw51 => k1_hw51

def k1_chk52 (v650 : IVec S16 32) : Prop :=
  (∀ a x, ((![v650] : Fin 1 → IVec S16 32) a x).toNat < S32768.size a)
theorem k1_idx52_inb : ∀ (v650 : IVec S16 32) (k1_hw52 : k1_chk52 v650), ∀ a x, ((![v650] : Fin 1 → IVec S16 32) a x).toNat < S32768.size a := fun v650 k1_hw52 => k1_hw52

def k1_chk53 (v653 : IVec S16 32) : Prop :=
  (∀ a x, ((![v653] : Fin 1 → IVec S16 32) a x).toNat < S32768.size a)
theorem k1_idx53_inb : ∀ (v653 : IVec S16 32) (k1_hw53 : k1_chk53 v653), ∀ a x, ((![v653] : Fin 1 → IVec S16 32) a x).toNat < S32768.size a := fun v653 k1_hw53 => k1_hw53

def k1_chk54 (v656 : IVec S16 32) : Prop :=
  (∀ a x, ((![v656] : Fin 1 → IVec S16 32) a x).toNat < S32768.size a)
theorem k1_idx54_inb : ∀ (v656 : IVec S16 32) (k1_hw54 : k1_chk54 v656), ∀ a x, ((![v656] : Fin 1 → IVec S16 32) a x).toNat < S32768.size a := fun v656 k1_hw54 => k1_hw54

def k1_chk55 (v659 : IVec S16 32) : Prop :=
  (∀ a x, ((![v659] : Fin 1 → IVec S16 32) a x).toNat < S32768.size a)
theorem k1_idx55_inb : ∀ (v659 : IVec S16 32) (k1_hw55 : k1_chk55 v659), ∀ a x, ((![v659] : Fin 1 → IVec S16 32) a x).toNat < S32768.size a := fun v659 k1_hw55 => k1_hw55

def k1_chk56 (v662 : IVec S16 32) : Prop :=
  (∀ a x, ((![v662] : Fin 1 → IVec S16 32) a x).toNat < S32768.size a)
theorem k1_idx56_inb : ∀ (v662 : IVec S16 32) (k1_hw56 : k1_chk56 v662), ∀ a x, ((![v662] : Fin 1 → IVec S16 32) a x).toNat < S32768.size a := fun v662 k1_hw56 => k1_hw56

def k1_chk57 (v665 : IVec S16 32) : Prop :=
  (∀ a x, ((![v665] : Fin 1 → IVec S16 32) a x).toNat < S32768.size a)
theorem k1_idx57_inb : ∀ (v665 : IVec S16 32) (k1_hw57 : k1_chk57 v665), ∀ a x, ((![v665] : Fin 1 → IVec S16 32) a x).toNat < S32768.size a := fun v665 k1_hw57 => k1_hw57

def k1_chk58 (v668 : IVec S16 32) : Prop :=
  (∀ a x, ((![v668] : Fin 1 → IVec S16 32) a x).toNat < S32768.size a)
theorem k1_idx58_inb : ∀ (v668 : IVec S16 32) (k1_hw58 : k1_chk58 v668), ∀ a x, ((![v668] : Fin 1 → IVec S16 32) a x).toNat < S32768.size a := fun v668 k1_hw58 => k1_hw58

def k1_chk59 (v671 : IVec S16 32) : Prop :=
  (∀ a x, ((![v671] : Fin 1 → IVec S16 32) a x).toNat < S32768.size a)
theorem k1_idx59_inb : ∀ (v671 : IVec S16 32) (k1_hw59 : k1_chk59 v671), ∀ a x, ((![v671] : Fin 1 → IVec S16 32) a x).toNat < S32768.size a := fun v671 k1_hw59 => k1_hw59

def k1_chk60 (v674 : IVec S16 32) : Prop :=
  (∀ a x, ((![v674] : Fin 1 → IVec S16 32) a x).toNat < S32768.size a)
theorem k1_idx60_inb : ∀ (v674 : IVec S16 32) (k1_hw60 : k1_chk60 v674), ∀ a x, ((![v674] : Fin 1 → IVec S16 32) a x).toNat < S32768.size a := fun v674 k1_hw60 => k1_hw60

def k1_chk61 (v677 : IVec S16 32) : Prop :=
  (∀ a x, ((![v677] : Fin 1 → IVec S16 32) a x).toNat < S32768.size a)
theorem k1_idx61_inb : ∀ (v677 : IVec S16 32) (k1_hw61 : k1_chk61 v677), ∀ a x, ((![v677] : Fin 1 → IVec S16 32) a x).toNat < S32768.size a := fun v677 k1_hw61 => k1_hw61

def k1_chk62 (v680 : IVec S16 32) : Prop :=
  (∀ a x, ((![v680] : Fin 1 → IVec S16 32) a x).toNat < S32768.size a)
theorem k1_idx62_inb : ∀ (v680 : IVec S16 32) (k1_hw62 : k1_chk62 v680), ∀ a x, ((![v680] : Fin 1 → IVec S16 32) a x).toNat < S32768.size a := fun v680 k1_hw62 => k1_hw62

def k1_chk63 (v683 : IVec S16 32) : Prop :=
  (∀ a x, ((![v683] : Fin 1 → IVec S16 32) a x).toNat < S32768.size a)
theorem k1_idx63_inb : ∀ (v683 : IVec S16 32) (k1_hw63 : k1_chk63 v683), ∀ a x, ((![v683] : Fin 1 → IVec S16 32) a x).toNat < S32768.size a := fun v683 k1_hw63 => k1_hw63

def k1_chk64 (v686 : IVec S16 32) : Prop :=
  (∀ a x, ((![v686] : Fin 1 → IVec S16 32) a x).toNat < S32768.size a)
theorem k1_idx64_inb : ∀ (v686 : IVec S16 32) (k1_hw64 : k1_chk64 v686), ∀ a x, ((![v686] : Fin 1 → IVec S16 32) a x).toNat < S32768.size a := fun v686 k1_hw64 => k1_hw64
@[reducible] def k1_t6_loop : Scf.Loop 32 :=
  let c0_i32_191 : BitVec 32 := 0#32
  let c16_i32_192 : BitVec 32 := 16#32
  let v201 : BitVec 32 := Scalar.addi c0_i32_191 c16_i32_192
  let c1_i32_193 : BitVec 32 := 1#32
  ⟨c0_i32_191, v201, c1_i32_193⟩
def k1_off7 (k1_t6 : Fin k1_t6_loop.trips) (c0_i32_627 : BitVec 32) : Fin 1 → Nat :=
  let c0_i32_191 : BitVec 32 := 0#32
  let c1_i32_193 : BitVec 32 := 1#32
  let arg16 : BitVec 32 := Scf.iv c0_i32_191 c1_i32_193 k1_t6
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk65 (v641 : IVec S16 32) : Prop :=
  (∀ a x, ((![v641] : Fin 1 → IVec S16 32) a x).toNat < S32768.size a)
theorem k1_idx65_inb : ∀ (v641 : IVec S16 32) (k1_hw65 : k1_chk65 v641), ∀ a x, ((![v641] : Fin 1 → IVec S16 32) a x).toNat < S32768.size a := fun v641 k1_hw65 => k1_hw65

def k1_chk66 (v644 : IVec S16 32) : Prop :=
  (∀ a x, ((![v644] : Fin 1 → IVec S16 32) a x).toNat < S32768.size a)
theorem k1_idx66_inb : ∀ (v644 : IVec S16 32) (k1_hw66 : k1_chk66 v644), ∀ a x, ((![v644] : Fin 1 → IVec S16 32) a x).toNat < S32768.size a := fun v644 k1_hw66 => k1_hw66

def k1_chk67 (v647 : IVec S16 32) : Prop :=
  (∀ a x, ((![v647] : Fin 1 → IVec S16 32) a x).toNat < S32768.size a)
theorem k1_idx67_inb : ∀ (v647 : IVec S16 32) (k1_hw67 : k1_chk67 v647), ∀ a x, ((![v647] : Fin 1 → IVec S16 32) a x).toNat < S32768.size a := fun v647 k1_hw67 => k1_hw67

def k1_chk68 (v650 : IVec S16 32) : Prop :=
  (∀ a x, ((![v650] : Fin 1 → IVec S16 32) a x).toNat < S32768.size a)
theorem k1_idx68_inb : ∀ (v650 : IVec S16 32) (k1_hw68 : k1_chk68 v650), ∀ a x, ((![v650] : Fin 1 → IVec S16 32) a x).toNat < S32768.size a := fun v650 k1_hw68 => k1_hw68

def k1_chk69 (v653 : IVec S16 32) : Prop :=
  (∀ a x, ((![v653] : Fin 1 → IVec S16 32) a x).toNat < S32768.size a)
theorem k1_idx69_inb : ∀ (v653 : IVec S16 32) (k1_hw69 : k1_chk69 v653), ∀ a x, ((![v653] : Fin 1 → IVec S16 32) a x).toNat < S32768.size a := fun v653 k1_hw69 => k1_hw69

def k1_chk70 (v656 : IVec S16 32) : Prop :=
  (∀ a x, ((![v656] : Fin 1 → IVec S16 32) a x).toNat < S32768.size a)
theorem k1_idx70_inb : ∀ (v656 : IVec S16 32) (k1_hw70 : k1_chk70 v656), ∀ a x, ((![v656] : Fin 1 → IVec S16 32) a x).toNat < S32768.size a := fun v656 k1_hw70 => k1_hw70

def k1_chk71 (v659 : IVec S16 32) : Prop :=
  (∀ a x, ((![v659] : Fin 1 → IVec S16 32) a x).toNat < S32768.size a)
theorem k1_idx71_inb : ∀ (v659 : IVec S16 32) (k1_hw71 : k1_chk71 v659), ∀ a x, ((![v659] : Fin 1 → IVec S16 32) a x).toNat < S32768.size a := fun v659 k1_hw71 => k1_hw71

def k1_chk72 (v662 : IVec S16 32) : Prop :=
  (∀ a x, ((![v662] : Fin 1 → IVec S16 32) a x).toNat < S32768.size a)
theorem k1_idx72_inb : ∀ (v662 : IVec S16 32) (k1_hw72 : k1_chk72 v662), ∀ a x, ((![v662] : Fin 1 → IVec S16 32) a x).toNat < S32768.size a := fun v662 k1_hw72 => k1_hw72

def k1_chk73 (v665 : IVec S16 32) : Prop :=
  (∀ a x, ((![v665] : Fin 1 → IVec S16 32) a x).toNat < S32768.size a)
theorem k1_idx73_inb : ∀ (v665 : IVec S16 32) (k1_hw73 : k1_chk73 v665), ∀ a x, ((![v665] : Fin 1 → IVec S16 32) a x).toNat < S32768.size a := fun v665 k1_hw73 => k1_hw73

def k1_chk74 (v668 : IVec S16 32) : Prop :=
  (∀ a x, ((![v668] : Fin 1 → IVec S16 32) a x).toNat < S32768.size a)
theorem k1_idx74_inb : ∀ (v668 : IVec S16 32) (k1_hw74 : k1_chk74 v668), ∀ a x, ((![v668] : Fin 1 → IVec S16 32) a x).toNat < S32768.size a := fun v668 k1_hw74 => k1_hw74

def k1_chk75 (v671 : IVec S16 32) : Prop :=
  (∀ a x, ((![v671] : Fin 1 → IVec S16 32) a x).toNat < S32768.size a)
theorem k1_idx75_inb : ∀ (v671 : IVec S16 32) (k1_hw75 : k1_chk75 v671), ∀ a x, ((![v671] : Fin 1 → IVec S16 32) a x).toNat < S32768.size a := fun v671 k1_hw75 => k1_hw75

def k1_chk76 (v674 : IVec S16 32) : Prop :=
  (∀ a x, ((![v674] : Fin 1 → IVec S16 32) a x).toNat < S32768.size a)
theorem k1_idx76_inb : ∀ (v674 : IVec S16 32) (k1_hw76 : k1_chk76 v674), ∀ a x, ((![v674] : Fin 1 → IVec S16 32) a x).toNat < S32768.size a := fun v674 k1_hw76 => k1_hw76

def k1_chk77 (v677 : IVec S16 32) : Prop :=
  (∀ a x, ((![v677] : Fin 1 → IVec S16 32) a x).toNat < S32768.size a)
theorem k1_idx77_inb : ∀ (v677 : IVec S16 32) (k1_hw77 : k1_chk77 v677), ∀ a x, ((![v677] : Fin 1 → IVec S16 32) a x).toNat < S32768.size a := fun v677 k1_hw77 => k1_hw77

def k1_chk78 (v680 : IVec S16 32) : Prop :=
  (∀ a x, ((![v680] : Fin 1 → IVec S16 32) a x).toNat < S32768.size a)
theorem k1_idx78_inb : ∀ (v680 : IVec S16 32) (k1_hw78 : k1_chk78 v680), ∀ a x, ((![v680] : Fin 1 → IVec S16 32) a x).toNat < S32768.size a := fun v680 k1_hw78 => k1_hw78

def k1_chk79 (v683 : IVec S16 32) : Prop :=
  (∀ a x, ((![v683] : Fin 1 → IVec S16 32) a x).toNat < S32768.size a)
theorem k1_idx79_inb : ∀ (v683 : IVec S16 32) (k1_hw79 : k1_chk79 v683), ∀ a x, ((![v683] : Fin 1 → IVec S16 32) a x).toNat < S32768.size a := fun v683 k1_hw79 => k1_hw79

def k1_chk80 (v686 : IVec S16 32) : Prop :=
  (∀ a x, ((![v686] : Fin 1 → IVec S16 32) a x).toNat < S32768.size a)
theorem k1_idx80_inb : ∀ (v686 : IVec S16 32) (k1_hw80 : k1_chk80 v686), ∀ a x, ((![v686] : Fin 1 → IVec S16 32) a x).toNat < S32768.size a := fun v686 k1_hw80 => k1_hw80
@[reducible] def k1_t7_loop : Scf.Loop 32 :=
  let c0_i32_201 : BitVec 32 := 0#32
  let c16_i32_202 : BitVec 32 := 16#32
  let v211 : BitVec 32 := Scalar.addi c0_i32_201 c16_i32_202
  let c1_i32_203 : BitVec 32 := 1#32
  ⟨c0_i32_201, v211, c1_i32_203⟩
def k1_off8 (k1_t7 : Fin k1_t7_loop.trips) (c0_i32_627 : BitVec 32) : Fin 1 → Nat :=
  let c0_i32_201 : BitVec 32 := 0#32
  let c1_i32_203 : BitVec 32 := 1#32
  let arg16 : BitVec 32 := Scf.iv c0_i32_201 c1_i32_203 k1_t7
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk81 (v641 : IVec S16 32) : Prop :=
  (∀ a x, ((![v641] : Fin 1 → IVec S16 32) a x).toNat < S32768.size a)
theorem k1_idx81_inb : ∀ (v641 : IVec S16 32) (k1_hw81 : k1_chk81 v641), ∀ a x, ((![v641] : Fin 1 → IVec S16 32) a x).toNat < S32768.size a := fun v641 k1_hw81 => k1_hw81

def k1_chk82 (v644 : IVec S16 32) : Prop :=
  (∀ a x, ((![v644] : Fin 1 → IVec S16 32) a x).toNat < S32768.size a)
theorem k1_idx82_inb : ∀ (v644 : IVec S16 32) (k1_hw82 : k1_chk82 v644), ∀ a x, ((![v644] : Fin 1 → IVec S16 32) a x).toNat < S32768.size a := fun v644 k1_hw82 => k1_hw82

def k1_chk83 (v647 : IVec S16 32) : Prop :=
  (∀ a x, ((![v647] : Fin 1 → IVec S16 32) a x).toNat < S32768.size a)
theorem k1_idx83_inb : ∀ (v647 : IVec S16 32) (k1_hw83 : k1_chk83 v647), ∀ a x, ((![v647] : Fin 1 → IVec S16 32) a x).toNat < S32768.size a := fun v647 k1_hw83 => k1_hw83

def k1_chk84 (v650 : IVec S16 32) : Prop :=
  (∀ a x, ((![v650] : Fin 1 → IVec S16 32) a x).toNat < S32768.size a)
theorem k1_idx84_inb : ∀ (v650 : IVec S16 32) (k1_hw84 : k1_chk84 v650), ∀ a x, ((![v650] : Fin 1 → IVec S16 32) a x).toNat < S32768.size a := fun v650 k1_hw84 => k1_hw84

def k1_chk85 (v653 : IVec S16 32) : Prop :=
  (∀ a x, ((![v653] : Fin 1 → IVec S16 32) a x).toNat < S32768.size a)
theorem k1_idx85_inb : ∀ (v653 : IVec S16 32) (k1_hw85 : k1_chk85 v653), ∀ a x, ((![v653] : Fin 1 → IVec S16 32) a x).toNat < S32768.size a := fun v653 k1_hw85 => k1_hw85

def k1_chk86 (v656 : IVec S16 32) : Prop :=
  (∀ a x, ((![v656] : Fin 1 → IVec S16 32) a x).toNat < S32768.size a)
theorem k1_idx86_inb : ∀ (v656 : IVec S16 32) (k1_hw86 : k1_chk86 v656), ∀ a x, ((![v656] : Fin 1 → IVec S16 32) a x).toNat < S32768.size a := fun v656 k1_hw86 => k1_hw86

def k1_chk87 (v659 : IVec S16 32) : Prop :=
  (∀ a x, ((![v659] : Fin 1 → IVec S16 32) a x).toNat < S32768.size a)
theorem k1_idx87_inb : ∀ (v659 : IVec S16 32) (k1_hw87 : k1_chk87 v659), ∀ a x, ((![v659] : Fin 1 → IVec S16 32) a x).toNat < S32768.size a := fun v659 k1_hw87 => k1_hw87

def k1_chk88 (v662 : IVec S16 32) : Prop :=
  (∀ a x, ((![v662] : Fin 1 → IVec S16 32) a x).toNat < S32768.size a)
theorem k1_idx88_inb : ∀ (v662 : IVec S16 32) (k1_hw88 : k1_chk88 v662), ∀ a x, ((![v662] : Fin 1 → IVec S16 32) a x).toNat < S32768.size a := fun v662 k1_hw88 => k1_hw88

def k1_chk89 (v665 : IVec S16 32) : Prop :=
  (∀ a x, ((![v665] : Fin 1 → IVec S16 32) a x).toNat < S32768.size a)
theorem k1_idx89_inb : ∀ (v665 : IVec S16 32) (k1_hw89 : k1_chk89 v665), ∀ a x, ((![v665] : Fin 1 → IVec S16 32) a x).toNat < S32768.size a := fun v665 k1_hw89 => k1_hw89

def k1_chk90 (v668 : IVec S16 32) : Prop :=
  (∀ a x, ((![v668] : Fin 1 → IVec S16 32) a x).toNat < S32768.size a)
theorem k1_idx90_inb : ∀ (v668 : IVec S16 32) (k1_hw90 : k1_chk90 v668), ∀ a x, ((![v668] : Fin 1 → IVec S16 32) a x).toNat < S32768.size a := fun v668 k1_hw90 => k1_hw90

def k1_chk91 (v671 : IVec S16 32) : Prop :=
  (∀ a x, ((![v671] : Fin 1 → IVec S16 32) a x).toNat < S32768.size a)
theorem k1_idx91_inb : ∀ (v671 : IVec S16 32) (k1_hw91 : k1_chk91 v671), ∀ a x, ((![v671] : Fin 1 → IVec S16 32) a x).toNat < S32768.size a := fun v671 k1_hw91 => k1_hw91

def k1_chk92 (v674 : IVec S16 32) : Prop :=
  (∀ a x, ((![v674] : Fin 1 → IVec S16 32) a x).toNat < S32768.size a)
theorem k1_idx92_inb : ∀ (v674 : IVec S16 32) (k1_hw92 : k1_chk92 v674), ∀ a x, ((![v674] : Fin 1 → IVec S16 32) a x).toNat < S32768.size a := fun v674 k1_hw92 => k1_hw92

def k1_chk93 (v677 : IVec S16 32) : Prop :=
  (∀ a x, ((![v677] : Fin 1 → IVec S16 32) a x).toNat < S32768.size a)
theorem k1_idx93_inb : ∀ (v677 : IVec S16 32) (k1_hw93 : k1_chk93 v677), ∀ a x, ((![v677] : Fin 1 → IVec S16 32) a x).toNat < S32768.size a := fun v677 k1_hw93 => k1_hw93

def k1_chk94 (v680 : IVec S16 32) : Prop :=
  (∀ a x, ((![v680] : Fin 1 → IVec S16 32) a x).toNat < S32768.size a)
theorem k1_idx94_inb : ∀ (v680 : IVec S16 32) (k1_hw94 : k1_chk94 v680), ∀ a x, ((![v680] : Fin 1 → IVec S16 32) a x).toNat < S32768.size a := fun v680 k1_hw94 => k1_hw94

def k1_chk95 (v683 : IVec S16 32) : Prop :=
  (∀ a x, ((![v683] : Fin 1 → IVec S16 32) a x).toNat < S32768.size a)
theorem k1_idx95_inb : ∀ (v683 : IVec S16 32) (k1_hw95 : k1_chk95 v683), ∀ a x, ((![v683] : Fin 1 → IVec S16 32) a x).toNat < S32768.size a := fun v683 k1_hw95 => k1_hw95

def k1_chk96 (v686 : IVec S16 32) : Prop :=
  (∀ a x, ((![v686] : Fin 1 → IVec S16 32) a x).toNat < S32768.size a)
theorem k1_idx96_inb : ∀ (v686 : IVec S16 32) (k1_hw96 : k1_chk96 v686), ∀ a x, ((![v686] : Fin 1 → IVec S16 32) a x).toNat < S32768.size a := fun v686 k1_hw96 => k1_hw96
@[reducible] def k1_t8_loop : Scf.Loop 32 :=
  let c0_i32_211 : BitVec 32 := 0#32
  let c16_i32_212 : BitVec 32 := 16#32
  let v221 : BitVec 32 := Scalar.addi c0_i32_211 c16_i32_212
  let c1_i32_213 : BitVec 32 := 1#32
  ⟨c0_i32_211, v221, c1_i32_213⟩
def k1_off9 (k1_t8 : Fin k1_t8_loop.trips) (c0_i32_627 : BitVec 32) : Fin 1 → Nat :=
  let c0_i32_211 : BitVec 32 := 0#32
  let c1_i32_213 : BitVec 32 := 1#32
  let arg16 : BitVec 32 := Scf.iv c0_i32_211 c1_i32_213 k1_t8
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk97 (v641 : IVec S16 32) : Prop :=
  (∀ a x, ((![v641] : Fin 1 → IVec S16 32) a x).toNat < S32768.size a)
theorem k1_idx97_inb : ∀ (v641 : IVec S16 32) (k1_hw97 : k1_chk97 v641), ∀ a x, ((![v641] : Fin 1 → IVec S16 32) a x).toNat < S32768.size a := fun v641 k1_hw97 => k1_hw97

def k1_chk98 (v644 : IVec S16 32) : Prop :=
  (∀ a x, ((![v644] : Fin 1 → IVec S16 32) a x).toNat < S32768.size a)
theorem k1_idx98_inb : ∀ (v644 : IVec S16 32) (k1_hw98 : k1_chk98 v644), ∀ a x, ((![v644] : Fin 1 → IVec S16 32) a x).toNat < S32768.size a := fun v644 k1_hw98 => k1_hw98

def k1_chk99 (v647 : IVec S16 32) : Prop :=
  (∀ a x, ((![v647] : Fin 1 → IVec S16 32) a x).toNat < S32768.size a)
theorem k1_idx99_inb : ∀ (v647 : IVec S16 32) (k1_hw99 : k1_chk99 v647), ∀ a x, ((![v647] : Fin 1 → IVec S16 32) a x).toNat < S32768.size a := fun v647 k1_hw99 => k1_hw99

def k1_chk100 (v650 : IVec S16 32) : Prop :=
  (∀ a x, ((![v650] : Fin 1 → IVec S16 32) a x).toNat < S32768.size a)
theorem k1_idx100_inb : ∀ (v650 : IVec S16 32) (k1_hw100 : k1_chk100 v650), ∀ a x, ((![v650] : Fin 1 → IVec S16 32) a x).toNat < S32768.size a := fun v650 k1_hw100 => k1_hw100

def k1_chk101 (v653 : IVec S16 32) : Prop :=
  (∀ a x, ((![v653] : Fin 1 → IVec S16 32) a x).toNat < S32768.size a)
theorem k1_idx101_inb : ∀ (v653 : IVec S16 32) (k1_hw101 : k1_chk101 v653), ∀ a x, ((![v653] : Fin 1 → IVec S16 32) a x).toNat < S32768.size a := fun v653 k1_hw101 => k1_hw101

def k1_chk102 (v656 : IVec S16 32) : Prop :=
  (∀ a x, ((![v656] : Fin 1 → IVec S16 32) a x).toNat < S32768.size a)
theorem k1_idx102_inb : ∀ (v656 : IVec S16 32) (k1_hw102 : k1_chk102 v656), ∀ a x, ((![v656] : Fin 1 → IVec S16 32) a x).toNat < S32768.size a := fun v656 k1_hw102 => k1_hw102

def k1_chk103 (v659 : IVec S16 32) : Prop :=
  (∀ a x, ((![v659] : Fin 1 → IVec S16 32) a x).toNat < S32768.size a)
theorem k1_idx103_inb : ∀ (v659 : IVec S16 32) (k1_hw103 : k1_chk103 v659), ∀ a x, ((![v659] : Fin 1 → IVec S16 32) a x).toNat < S32768.size a := fun v659 k1_hw103 => k1_hw103

def k1_chk104 (v662 : IVec S16 32) : Prop :=
  (∀ a x, ((![v662] : Fin 1 → IVec S16 32) a x).toNat < S32768.size a)
theorem k1_idx104_inb : ∀ (v662 : IVec S16 32) (k1_hw104 : k1_chk104 v662), ∀ a x, ((![v662] : Fin 1 → IVec S16 32) a x).toNat < S32768.size a := fun v662 k1_hw104 => k1_hw104

def k1_chk105 (v665 : IVec S16 32) : Prop :=
  (∀ a x, ((![v665] : Fin 1 → IVec S16 32) a x).toNat < S32768.size a)
theorem k1_idx105_inb : ∀ (v665 : IVec S16 32) (k1_hw105 : k1_chk105 v665), ∀ a x, ((![v665] : Fin 1 → IVec S16 32) a x).toNat < S32768.size a := fun v665 k1_hw105 => k1_hw105

def k1_chk106 (v668 : IVec S16 32) : Prop :=
  (∀ a x, ((![v668] : Fin 1 → IVec S16 32) a x).toNat < S32768.size a)
theorem k1_idx106_inb : ∀ (v668 : IVec S16 32) (k1_hw106 : k1_chk106 v668), ∀ a x, ((![v668] : Fin 1 → IVec S16 32) a x).toNat < S32768.size a := fun v668 k1_hw106 => k1_hw106

def k1_chk107 (v671 : IVec S16 32) : Prop :=
  (∀ a x, ((![v671] : Fin 1 → IVec S16 32) a x).toNat < S32768.size a)
theorem k1_idx107_inb : ∀ (v671 : IVec S16 32) (k1_hw107 : k1_chk107 v671), ∀ a x, ((![v671] : Fin 1 → IVec S16 32) a x).toNat < S32768.size a := fun v671 k1_hw107 => k1_hw107

def k1_chk108 (v674 : IVec S16 32) : Prop :=
  (∀ a x, ((![v674] : Fin 1 → IVec S16 32) a x).toNat < S32768.size a)
theorem k1_idx108_inb : ∀ (v674 : IVec S16 32) (k1_hw108 : k1_chk108 v674), ∀ a x, ((![v674] : Fin 1 → IVec S16 32) a x).toNat < S32768.size a := fun v674 k1_hw108 => k1_hw108

def k1_chk109 (v677 : IVec S16 32) : Prop :=
  (∀ a x, ((![v677] : Fin 1 → IVec S16 32) a x).toNat < S32768.size a)
theorem k1_idx109_inb : ∀ (v677 : IVec S16 32) (k1_hw109 : k1_chk109 v677), ∀ a x, ((![v677] : Fin 1 → IVec S16 32) a x).toNat < S32768.size a := fun v677 k1_hw109 => k1_hw109

def k1_chk110 (v680 : IVec S16 32) : Prop :=
  (∀ a x, ((![v680] : Fin 1 → IVec S16 32) a x).toNat < S32768.size a)
theorem k1_idx110_inb : ∀ (v680 : IVec S16 32) (k1_hw110 : k1_chk110 v680), ∀ a x, ((![v680] : Fin 1 → IVec S16 32) a x).toNat < S32768.size a := fun v680 k1_hw110 => k1_hw110

def k1_chk111 (v683 : IVec S16 32) : Prop :=
  (∀ a x, ((![v683] : Fin 1 → IVec S16 32) a x).toNat < S32768.size a)
theorem k1_idx111_inb : ∀ (v683 : IVec S16 32) (k1_hw111 : k1_chk111 v683), ∀ a x, ((![v683] : Fin 1 → IVec S16 32) a x).toNat < S32768.size a := fun v683 k1_hw111 => k1_hw111

def k1_chk112 (v686 : IVec S16 32) : Prop :=
  (∀ a x, ((![v686] : Fin 1 → IVec S16 32) a x).toNat < S32768.size a)
theorem k1_idx112_inb : ∀ (v686 : IVec S16 32) (k1_hw112 : k1_chk112 v686), ∀ a x, ((![v686] : Fin 1 → IVec S16 32) a x).toNat < S32768.size a := fun v686 k1_hw112 => k1_hw112
@[reducible] def k1_t9_loop : Scf.Loop 32 :=
  let c0_i32_221 : BitVec 32 := 0#32
  let c16_i32_222 : BitVec 32 := 16#32
  let v231 : BitVec 32 := Scalar.addi c0_i32_221 c16_i32_222
  let c1_i32_223 : BitVec 32 := 1#32
  ⟨c0_i32_221, v231, c1_i32_223⟩
def k1_off10 (k1_t9 : Fin k1_t9_loop.trips) (c0_i32_627 : BitVec 32) : Fin 1 → Nat :=
  let c0_i32_221 : BitVec 32 := 0#32
  let c1_i32_223 : BitVec 32 := 1#32
  let arg16 : BitVec 32 := Scf.iv c0_i32_221 c1_i32_223 k1_t9
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk113 (v641 : IVec S16 32) : Prop :=
  (∀ a x, ((![v641] : Fin 1 → IVec S16 32) a x).toNat < S32768.size a)
theorem k1_idx113_inb : ∀ (v641 : IVec S16 32) (k1_hw113 : k1_chk113 v641), ∀ a x, ((![v641] : Fin 1 → IVec S16 32) a x).toNat < S32768.size a := fun v641 k1_hw113 => k1_hw113

def k1_chk114 (v644 : IVec S16 32) : Prop :=
  (∀ a x, ((![v644] : Fin 1 → IVec S16 32) a x).toNat < S32768.size a)
theorem k1_idx114_inb : ∀ (v644 : IVec S16 32) (k1_hw114 : k1_chk114 v644), ∀ a x, ((![v644] : Fin 1 → IVec S16 32) a x).toNat < S32768.size a := fun v644 k1_hw114 => k1_hw114

def k1_chk115 (v647 : IVec S16 32) : Prop :=
  (∀ a x, ((![v647] : Fin 1 → IVec S16 32) a x).toNat < S32768.size a)
theorem k1_idx115_inb : ∀ (v647 : IVec S16 32) (k1_hw115 : k1_chk115 v647), ∀ a x, ((![v647] : Fin 1 → IVec S16 32) a x).toNat < S32768.size a := fun v647 k1_hw115 => k1_hw115

def k1_chk116 (v650 : IVec S16 32) : Prop :=
  (∀ a x, ((![v650] : Fin 1 → IVec S16 32) a x).toNat < S32768.size a)
theorem k1_idx116_inb : ∀ (v650 : IVec S16 32) (k1_hw116 : k1_chk116 v650), ∀ a x, ((![v650] : Fin 1 → IVec S16 32) a x).toNat < S32768.size a := fun v650 k1_hw116 => k1_hw116

def k1_chk117 (v653 : IVec S16 32) : Prop :=
  (∀ a x, ((![v653] : Fin 1 → IVec S16 32) a x).toNat < S32768.size a)
theorem k1_idx117_inb : ∀ (v653 : IVec S16 32) (k1_hw117 : k1_chk117 v653), ∀ a x, ((![v653] : Fin 1 → IVec S16 32) a x).toNat < S32768.size a := fun v653 k1_hw117 => k1_hw117

def k1_chk118 (v656 : IVec S16 32) : Prop :=
  (∀ a x, ((![v656] : Fin 1 → IVec S16 32) a x).toNat < S32768.size a)
theorem k1_idx118_inb : ∀ (v656 : IVec S16 32) (k1_hw118 : k1_chk118 v656), ∀ a x, ((![v656] : Fin 1 → IVec S16 32) a x).toNat < S32768.size a := fun v656 k1_hw118 => k1_hw118

def k1_chk119 (v659 : IVec S16 32) : Prop :=
  (∀ a x, ((![v659] : Fin 1 → IVec S16 32) a x).toNat < S32768.size a)
theorem k1_idx119_inb : ∀ (v659 : IVec S16 32) (k1_hw119 : k1_chk119 v659), ∀ a x, ((![v659] : Fin 1 → IVec S16 32) a x).toNat < S32768.size a := fun v659 k1_hw119 => k1_hw119

def k1_chk120 (v662 : IVec S16 32) : Prop :=
  (∀ a x, ((![v662] : Fin 1 → IVec S16 32) a x).toNat < S32768.size a)
theorem k1_idx120_inb : ∀ (v662 : IVec S16 32) (k1_hw120 : k1_chk120 v662), ∀ a x, ((![v662] : Fin 1 → IVec S16 32) a x).toNat < S32768.size a := fun v662 k1_hw120 => k1_hw120

def k1_chk121 (v665 : IVec S16 32) : Prop :=
  (∀ a x, ((![v665] : Fin 1 → IVec S16 32) a x).toNat < S32768.size a)
theorem k1_idx121_inb : ∀ (v665 : IVec S16 32) (k1_hw121 : k1_chk121 v665), ∀ a x, ((![v665] : Fin 1 → IVec S16 32) a x).toNat < S32768.size a := fun v665 k1_hw121 => k1_hw121

def k1_chk122 (v668 : IVec S16 32) : Prop :=
  (∀ a x, ((![v668] : Fin 1 → IVec S16 32) a x).toNat < S32768.size a)
theorem k1_idx122_inb : ∀ (v668 : IVec S16 32) (k1_hw122 : k1_chk122 v668), ∀ a x, ((![v668] : Fin 1 → IVec S16 32) a x).toNat < S32768.size a := fun v668 k1_hw122 => k1_hw122

def k1_chk123 (v671 : IVec S16 32) : Prop :=
  (∀ a x, ((![v671] : Fin 1 → IVec S16 32) a x).toNat < S32768.size a)
theorem k1_idx123_inb : ∀ (v671 : IVec S16 32) (k1_hw123 : k1_chk123 v671), ∀ a x, ((![v671] : Fin 1 → IVec S16 32) a x).toNat < S32768.size a := fun v671 k1_hw123 => k1_hw123

def k1_chk124 (v674 : IVec S16 32) : Prop :=
  (∀ a x, ((![v674] : Fin 1 → IVec S16 32) a x).toNat < S32768.size a)
theorem k1_idx124_inb : ∀ (v674 : IVec S16 32) (k1_hw124 : k1_chk124 v674), ∀ a x, ((![v674] : Fin 1 → IVec S16 32) a x).toNat < S32768.size a := fun v674 k1_hw124 => k1_hw124

def k1_chk125 (v677 : IVec S16 32) : Prop :=
  (∀ a x, ((![v677] : Fin 1 → IVec S16 32) a x).toNat < S32768.size a)
theorem k1_idx125_inb : ∀ (v677 : IVec S16 32) (k1_hw125 : k1_chk125 v677), ∀ a x, ((![v677] : Fin 1 → IVec S16 32) a x).toNat < S32768.size a := fun v677 k1_hw125 => k1_hw125

def k1_chk126 (v680 : IVec S16 32) : Prop :=
  (∀ a x, ((![v680] : Fin 1 → IVec S16 32) a x).toNat < S32768.size a)
theorem k1_idx126_inb : ∀ (v680 : IVec S16 32) (k1_hw126 : k1_chk126 v680), ∀ a x, ((![v680] : Fin 1 → IVec S16 32) a x).toNat < S32768.size a := fun v680 k1_hw126 => k1_hw126

def k1_chk127 (v683 : IVec S16 32) : Prop :=
  (∀ a x, ((![v683] : Fin 1 → IVec S16 32) a x).toNat < S32768.size a)
theorem k1_idx127_inb : ∀ (v683 : IVec S16 32) (k1_hw127 : k1_chk127 v683), ∀ a x, ((![v683] : Fin 1 → IVec S16 32) a x).toNat < S32768.size a := fun v683 k1_hw127 => k1_hw127

def k1_chk128 (v686 : IVec S16 32) : Prop :=
  (∀ a x, ((![v686] : Fin 1 → IVec S16 32) a x).toNat < S32768.size a)
theorem k1_idx128_inb : ∀ (v686 : IVec S16 32) (k1_hw128 : k1_chk128 v686), ∀ a x, ((![v686] : Fin 1 → IVec S16 32) a x).toNat < S32768.size a := fun v686 k1_hw128 => k1_hw128
@[reducible] def k1_t10_loop : Scf.Loop 32 :=
  let c0_i32_231 : BitVec 32 := 0#32
  let c16_i32_232 : BitVec 32 := 16#32
  let v241 : BitVec 32 := Scalar.addi c0_i32_231 c16_i32_232
  let c1_i32_233 : BitVec 32 := 1#32
  ⟨c0_i32_231, v241, c1_i32_233⟩
def k1_off11 (k1_t10 : Fin k1_t10_loop.trips) (c0_i32_627 : BitVec 32) : Fin 1 → Nat :=
  let c0_i32_231 : BitVec 32 := 0#32
  let c1_i32_233 : BitVec 32 := 1#32
  let arg16 : BitVec 32 := Scf.iv c0_i32_231 c1_i32_233 k1_t10
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk129 (v641 : IVec S16 32) : Prop :=
  (∀ a x, ((![v641] : Fin 1 → IVec S16 32) a x).toNat < S32768.size a)
theorem k1_idx129_inb : ∀ (v641 : IVec S16 32) (k1_hw129 : k1_chk129 v641), ∀ a x, ((![v641] : Fin 1 → IVec S16 32) a x).toNat < S32768.size a := fun v641 k1_hw129 => k1_hw129

def k1_chk130 (v644 : IVec S16 32) : Prop :=
  (∀ a x, ((![v644] : Fin 1 → IVec S16 32) a x).toNat < S32768.size a)
theorem k1_idx130_inb : ∀ (v644 : IVec S16 32) (k1_hw130 : k1_chk130 v644), ∀ a x, ((![v644] : Fin 1 → IVec S16 32) a x).toNat < S32768.size a := fun v644 k1_hw130 => k1_hw130

def k1_chk131 (v647 : IVec S16 32) : Prop :=
  (∀ a x, ((![v647] : Fin 1 → IVec S16 32) a x).toNat < S32768.size a)
theorem k1_idx131_inb : ∀ (v647 : IVec S16 32) (k1_hw131 : k1_chk131 v647), ∀ a x, ((![v647] : Fin 1 → IVec S16 32) a x).toNat < S32768.size a := fun v647 k1_hw131 => k1_hw131

def k1_chk132 (v650 : IVec S16 32) : Prop :=
  (∀ a x, ((![v650] : Fin 1 → IVec S16 32) a x).toNat < S32768.size a)
theorem k1_idx132_inb : ∀ (v650 : IVec S16 32) (k1_hw132 : k1_chk132 v650), ∀ a x, ((![v650] : Fin 1 → IVec S16 32) a x).toNat < S32768.size a := fun v650 k1_hw132 => k1_hw132

def k1_chk133 (v653 : IVec S16 32) : Prop :=
  (∀ a x, ((![v653] : Fin 1 → IVec S16 32) a x).toNat < S32768.size a)
theorem k1_idx133_inb : ∀ (v653 : IVec S16 32) (k1_hw133 : k1_chk133 v653), ∀ a x, ((![v653] : Fin 1 → IVec S16 32) a x).toNat < S32768.size a := fun v653 k1_hw133 => k1_hw133

def k1_chk134 (v656 : IVec S16 32) : Prop :=
  (∀ a x, ((![v656] : Fin 1 → IVec S16 32) a x).toNat < S32768.size a)
theorem k1_idx134_inb : ∀ (v656 : IVec S16 32) (k1_hw134 : k1_chk134 v656), ∀ a x, ((![v656] : Fin 1 → IVec S16 32) a x).toNat < S32768.size a := fun v656 k1_hw134 => k1_hw134

def k1_chk135 (v659 : IVec S16 32) : Prop :=
  (∀ a x, ((![v659] : Fin 1 → IVec S16 32) a x).toNat < S32768.size a)
theorem k1_idx135_inb : ∀ (v659 : IVec S16 32) (k1_hw135 : k1_chk135 v659), ∀ a x, ((![v659] : Fin 1 → IVec S16 32) a x).toNat < S32768.size a := fun v659 k1_hw135 => k1_hw135

def k1_chk136 (v662 : IVec S16 32) : Prop :=
  (∀ a x, ((![v662] : Fin 1 → IVec S16 32) a x).toNat < S32768.size a)
theorem k1_idx136_inb : ∀ (v662 : IVec S16 32) (k1_hw136 : k1_chk136 v662), ∀ a x, ((![v662] : Fin 1 → IVec S16 32) a x).toNat < S32768.size a := fun v662 k1_hw136 => k1_hw136

def k1_chk137 (v665 : IVec S16 32) : Prop :=
  (∀ a x, ((![v665] : Fin 1 → IVec S16 32) a x).toNat < S32768.size a)
theorem k1_idx137_inb : ∀ (v665 : IVec S16 32) (k1_hw137 : k1_chk137 v665), ∀ a x, ((![v665] : Fin 1 → IVec S16 32) a x).toNat < S32768.size a := fun v665 k1_hw137 => k1_hw137

def k1_chk138 (v668 : IVec S16 32) : Prop :=
  (∀ a x, ((![v668] : Fin 1 → IVec S16 32) a x).toNat < S32768.size a)
theorem k1_idx138_inb : ∀ (v668 : IVec S16 32) (k1_hw138 : k1_chk138 v668), ∀ a x, ((![v668] : Fin 1 → IVec S16 32) a x).toNat < S32768.size a := fun v668 k1_hw138 => k1_hw138

def k1_chk139 (v671 : IVec S16 32) : Prop :=
  (∀ a x, ((![v671] : Fin 1 → IVec S16 32) a x).toNat < S32768.size a)
theorem k1_idx139_inb : ∀ (v671 : IVec S16 32) (k1_hw139 : k1_chk139 v671), ∀ a x, ((![v671] : Fin 1 → IVec S16 32) a x).toNat < S32768.size a := fun v671 k1_hw139 => k1_hw139

def k1_chk140 (v674 : IVec S16 32) : Prop :=
  (∀ a x, ((![v674] : Fin 1 → IVec S16 32) a x).toNat < S32768.size a)
theorem k1_idx140_inb : ∀ (v674 : IVec S16 32) (k1_hw140 : k1_chk140 v674), ∀ a x, ((![v674] : Fin 1 → IVec S16 32) a x).toNat < S32768.size a := fun v674 k1_hw140 => k1_hw140

def k1_chk141 (v677 : IVec S16 32) : Prop :=
  (∀ a x, ((![v677] : Fin 1 → IVec S16 32) a x).toNat < S32768.size a)
theorem k1_idx141_inb : ∀ (v677 : IVec S16 32) (k1_hw141 : k1_chk141 v677), ∀ a x, ((![v677] : Fin 1 → IVec S16 32) a x).toNat < S32768.size a := fun v677 k1_hw141 => k1_hw141

def k1_chk142 (v680 : IVec S16 32) : Prop :=
  (∀ a x, ((![v680] : Fin 1 → IVec S16 32) a x).toNat < S32768.size a)
theorem k1_idx142_inb : ∀ (v680 : IVec S16 32) (k1_hw142 : k1_chk142 v680), ∀ a x, ((![v680] : Fin 1 → IVec S16 32) a x).toNat < S32768.size a := fun v680 k1_hw142 => k1_hw142

def k1_chk143 (v683 : IVec S16 32) : Prop :=
  (∀ a x, ((![v683] : Fin 1 → IVec S16 32) a x).toNat < S32768.size a)
theorem k1_idx143_inb : ∀ (v683 : IVec S16 32) (k1_hw143 : k1_chk143 v683), ∀ a x, ((![v683] : Fin 1 → IVec S16 32) a x).toNat < S32768.size a := fun v683 k1_hw143 => k1_hw143

def k1_chk144 (v686 : IVec S16 32) : Prop :=
  (∀ a x, ((![v686] : Fin 1 → IVec S16 32) a x).toNat < S32768.size a)
theorem k1_idx144_inb : ∀ (v686 : IVec S16 32) (k1_hw144 : k1_chk144 v686), ∀ a x, ((![v686] : Fin 1 → IVec S16 32) a x).toNat < S32768.size a := fun v686 k1_hw144 => k1_hw144
@[reducible] def k1_t11_loop : Scf.Loop 32 :=
  let c0_i32_241 : BitVec 32 := 0#32
  let c16_i32_242 : BitVec 32 := 16#32
  let v251 : BitVec 32 := Scalar.addi c0_i32_241 c16_i32_242
  let c1_i32_243 : BitVec 32 := 1#32
  ⟨c0_i32_241, v251, c1_i32_243⟩
def k1_off12 (k1_t11 : Fin k1_t11_loop.trips) (c0_i32_627 : BitVec 32) : Fin 1 → Nat :=
  let c0_i32_241 : BitVec 32 := 0#32
  let c1_i32_243 : BitVec 32 := 1#32
  let arg16 : BitVec 32 := Scf.iv c0_i32_241 c1_i32_243 k1_t11
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk145 (v641 : IVec S16 32) : Prop :=
  (∀ a x, ((![v641] : Fin 1 → IVec S16 32) a x).toNat < S32768.size a)
theorem k1_idx145_inb : ∀ (v641 : IVec S16 32) (k1_hw145 : k1_chk145 v641), ∀ a x, ((![v641] : Fin 1 → IVec S16 32) a x).toNat < S32768.size a := fun v641 k1_hw145 => k1_hw145

def k1_chk146 (v644 : IVec S16 32) : Prop :=
  (∀ a x, ((![v644] : Fin 1 → IVec S16 32) a x).toNat < S32768.size a)
theorem k1_idx146_inb : ∀ (v644 : IVec S16 32) (k1_hw146 : k1_chk146 v644), ∀ a x, ((![v644] : Fin 1 → IVec S16 32) a x).toNat < S32768.size a := fun v644 k1_hw146 => k1_hw146

def k1_chk147 (v647 : IVec S16 32) : Prop :=
  (∀ a x, ((![v647] : Fin 1 → IVec S16 32) a x).toNat < S32768.size a)
theorem k1_idx147_inb : ∀ (v647 : IVec S16 32) (k1_hw147 : k1_chk147 v647), ∀ a x, ((![v647] : Fin 1 → IVec S16 32) a x).toNat < S32768.size a := fun v647 k1_hw147 => k1_hw147

def k1_chk148 (v650 : IVec S16 32) : Prop :=
  (∀ a x, ((![v650] : Fin 1 → IVec S16 32) a x).toNat < S32768.size a)
theorem k1_idx148_inb : ∀ (v650 : IVec S16 32) (k1_hw148 : k1_chk148 v650), ∀ a x, ((![v650] : Fin 1 → IVec S16 32) a x).toNat < S32768.size a := fun v650 k1_hw148 => k1_hw148

def k1_chk149 (v653 : IVec S16 32) : Prop :=
  (∀ a x, ((![v653] : Fin 1 → IVec S16 32) a x).toNat < S32768.size a)
theorem k1_idx149_inb : ∀ (v653 : IVec S16 32) (k1_hw149 : k1_chk149 v653), ∀ a x, ((![v653] : Fin 1 → IVec S16 32) a x).toNat < S32768.size a := fun v653 k1_hw149 => k1_hw149

def k1_chk150 (v656 : IVec S16 32) : Prop :=
  (∀ a x, ((![v656] : Fin 1 → IVec S16 32) a x).toNat < S32768.size a)
theorem k1_idx150_inb : ∀ (v656 : IVec S16 32) (k1_hw150 : k1_chk150 v656), ∀ a x, ((![v656] : Fin 1 → IVec S16 32) a x).toNat < S32768.size a := fun v656 k1_hw150 => k1_hw150

def k1_chk151 (v659 : IVec S16 32) : Prop :=
  (∀ a x, ((![v659] : Fin 1 → IVec S16 32) a x).toNat < S32768.size a)
theorem k1_idx151_inb : ∀ (v659 : IVec S16 32) (k1_hw151 : k1_chk151 v659), ∀ a x, ((![v659] : Fin 1 → IVec S16 32) a x).toNat < S32768.size a := fun v659 k1_hw151 => k1_hw151

def k1_chk152 (v662 : IVec S16 32) : Prop :=
  (∀ a x, ((![v662] : Fin 1 → IVec S16 32) a x).toNat < S32768.size a)
theorem k1_idx152_inb : ∀ (v662 : IVec S16 32) (k1_hw152 : k1_chk152 v662), ∀ a x, ((![v662] : Fin 1 → IVec S16 32) a x).toNat < S32768.size a := fun v662 k1_hw152 => k1_hw152

def k1_chk153 (v665 : IVec S16 32) : Prop :=
  (∀ a x, ((![v665] : Fin 1 → IVec S16 32) a x).toNat < S32768.size a)
theorem k1_idx153_inb : ∀ (v665 : IVec S16 32) (k1_hw153 : k1_chk153 v665), ∀ a x, ((![v665] : Fin 1 → IVec S16 32) a x).toNat < S32768.size a := fun v665 k1_hw153 => k1_hw153

def k1_chk154 (v668 : IVec S16 32) : Prop :=
  (∀ a x, ((![v668] : Fin 1 → IVec S16 32) a x).toNat < S32768.size a)
theorem k1_idx154_inb : ∀ (v668 : IVec S16 32) (k1_hw154 : k1_chk154 v668), ∀ a x, ((![v668] : Fin 1 → IVec S16 32) a x).toNat < S32768.size a := fun v668 k1_hw154 => k1_hw154

def k1_chk155 (v671 : IVec S16 32) : Prop :=
  (∀ a x, ((![v671] : Fin 1 → IVec S16 32) a x).toNat < S32768.size a)
theorem k1_idx155_inb : ∀ (v671 : IVec S16 32) (k1_hw155 : k1_chk155 v671), ∀ a x, ((![v671] : Fin 1 → IVec S16 32) a x).toNat < S32768.size a := fun v671 k1_hw155 => k1_hw155

def k1_chk156 (v674 : IVec S16 32) : Prop :=
  (∀ a x, ((![v674] : Fin 1 → IVec S16 32) a x).toNat < S32768.size a)
theorem k1_idx156_inb : ∀ (v674 : IVec S16 32) (k1_hw156 : k1_chk156 v674), ∀ a x, ((![v674] : Fin 1 → IVec S16 32) a x).toNat < S32768.size a := fun v674 k1_hw156 => k1_hw156

def k1_chk157 (v677 : IVec S16 32) : Prop :=
  (∀ a x, ((![v677] : Fin 1 → IVec S16 32) a x).toNat < S32768.size a)
theorem k1_idx157_inb : ∀ (v677 : IVec S16 32) (k1_hw157 : k1_chk157 v677), ∀ a x, ((![v677] : Fin 1 → IVec S16 32) a x).toNat < S32768.size a := fun v677 k1_hw157 => k1_hw157

def k1_chk158 (v680 : IVec S16 32) : Prop :=
  (∀ a x, ((![v680] : Fin 1 → IVec S16 32) a x).toNat < S32768.size a)
theorem k1_idx158_inb : ∀ (v680 : IVec S16 32) (k1_hw158 : k1_chk158 v680), ∀ a x, ((![v680] : Fin 1 → IVec S16 32) a x).toNat < S32768.size a := fun v680 k1_hw158 => k1_hw158

def k1_chk159 (v683 : IVec S16 32) : Prop :=
  (∀ a x, ((![v683] : Fin 1 → IVec S16 32) a x).toNat < S32768.size a)
theorem k1_idx159_inb : ∀ (v683 : IVec S16 32) (k1_hw159 : k1_chk159 v683), ∀ a x, ((![v683] : Fin 1 → IVec S16 32) a x).toNat < S32768.size a := fun v683 k1_hw159 => k1_hw159

def k1_chk160 (v686 : IVec S16 32) : Prop :=
  (∀ a x, ((![v686] : Fin 1 → IVec S16 32) a x).toNat < S32768.size a)
theorem k1_idx160_inb : ∀ (v686 : IVec S16 32) (k1_hw160 : k1_chk160 v686), ∀ a x, ((![v686] : Fin 1 → IVec S16 32) a x).toNat < S32768.size a := fun v686 k1_hw160 => k1_hw160
@[reducible] def k1_t12_loop : Scf.Loop 32 :=
  let c0_i32_251 : BitVec 32 := 0#32
  let c16_i32_252 : BitVec 32 := 16#32
  let v261 : BitVec 32 := Scalar.addi c0_i32_251 c16_i32_252
  let c1_i32_253 : BitVec 32 := 1#32
  ⟨c0_i32_251, v261, c1_i32_253⟩
def k1_off13 (k1_t12 : Fin k1_t12_loop.trips) (c0_i32_627 : BitVec 32) : Fin 1 → Nat :=
  let c0_i32_251 : BitVec 32 := 0#32
  let c1_i32_253 : BitVec 32 := 1#32
  let arg16 : BitVec 32 := Scf.iv c0_i32_251 c1_i32_253 k1_t12
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk161 (v641 : IVec S16 32) : Prop :=
  (∀ a x, ((![v641] : Fin 1 → IVec S16 32) a x).toNat < S32768.size a)
theorem k1_idx161_inb : ∀ (v641 : IVec S16 32) (k1_hw161 : k1_chk161 v641), ∀ a x, ((![v641] : Fin 1 → IVec S16 32) a x).toNat < S32768.size a := fun v641 k1_hw161 => k1_hw161

def k1_chk162 (v644 : IVec S16 32) : Prop :=
  (∀ a x, ((![v644] : Fin 1 → IVec S16 32) a x).toNat < S32768.size a)
theorem k1_idx162_inb : ∀ (v644 : IVec S16 32) (k1_hw162 : k1_chk162 v644), ∀ a x, ((![v644] : Fin 1 → IVec S16 32) a x).toNat < S32768.size a := fun v644 k1_hw162 => k1_hw162

def k1_chk163 (v647 : IVec S16 32) : Prop :=
  (∀ a x, ((![v647] : Fin 1 → IVec S16 32) a x).toNat < S32768.size a)
theorem k1_idx163_inb : ∀ (v647 : IVec S16 32) (k1_hw163 : k1_chk163 v647), ∀ a x, ((![v647] : Fin 1 → IVec S16 32) a x).toNat < S32768.size a := fun v647 k1_hw163 => k1_hw163

def k1_chk164 (v650 : IVec S16 32) : Prop :=
  (∀ a x, ((![v650] : Fin 1 → IVec S16 32) a x).toNat < S32768.size a)
theorem k1_idx164_inb : ∀ (v650 : IVec S16 32) (k1_hw164 : k1_chk164 v650), ∀ a x, ((![v650] : Fin 1 → IVec S16 32) a x).toNat < S32768.size a := fun v650 k1_hw164 => k1_hw164

def k1_chk165 (v653 : IVec S16 32) : Prop :=
  (∀ a x, ((![v653] : Fin 1 → IVec S16 32) a x).toNat < S32768.size a)
theorem k1_idx165_inb : ∀ (v653 : IVec S16 32) (k1_hw165 : k1_chk165 v653), ∀ a x, ((![v653] : Fin 1 → IVec S16 32) a x).toNat < S32768.size a := fun v653 k1_hw165 => k1_hw165

def k1_chk166 (v656 : IVec S16 32) : Prop :=
  (∀ a x, ((![v656] : Fin 1 → IVec S16 32) a x).toNat < S32768.size a)
theorem k1_idx166_inb : ∀ (v656 : IVec S16 32) (k1_hw166 : k1_chk166 v656), ∀ a x, ((![v656] : Fin 1 → IVec S16 32) a x).toNat < S32768.size a := fun v656 k1_hw166 => k1_hw166

def k1_chk167 (v659 : IVec S16 32) : Prop :=
  (∀ a x, ((![v659] : Fin 1 → IVec S16 32) a x).toNat < S32768.size a)
theorem k1_idx167_inb : ∀ (v659 : IVec S16 32) (k1_hw167 : k1_chk167 v659), ∀ a x, ((![v659] : Fin 1 → IVec S16 32) a x).toNat < S32768.size a := fun v659 k1_hw167 => k1_hw167

def k1_chk168 (v662 : IVec S16 32) : Prop :=
  (∀ a x, ((![v662] : Fin 1 → IVec S16 32) a x).toNat < S32768.size a)
theorem k1_idx168_inb : ∀ (v662 : IVec S16 32) (k1_hw168 : k1_chk168 v662), ∀ a x, ((![v662] : Fin 1 → IVec S16 32) a x).toNat < S32768.size a := fun v662 k1_hw168 => k1_hw168

def k1_chk169 (v665 : IVec S16 32) : Prop :=
  (∀ a x, ((![v665] : Fin 1 → IVec S16 32) a x).toNat < S32768.size a)
theorem k1_idx169_inb : ∀ (v665 : IVec S16 32) (k1_hw169 : k1_chk169 v665), ∀ a x, ((![v665] : Fin 1 → IVec S16 32) a x).toNat < S32768.size a := fun v665 k1_hw169 => k1_hw169

def k1_chk170 (v668 : IVec S16 32) : Prop :=
  (∀ a x, ((![v668] : Fin 1 → IVec S16 32) a x).toNat < S32768.size a)
theorem k1_idx170_inb : ∀ (v668 : IVec S16 32) (k1_hw170 : k1_chk170 v668), ∀ a x, ((![v668] : Fin 1 → IVec S16 32) a x).toNat < S32768.size a := fun v668 k1_hw170 => k1_hw170

def k1_chk171 (v671 : IVec S16 32) : Prop :=
  (∀ a x, ((![v671] : Fin 1 → IVec S16 32) a x).toNat < S32768.size a)
theorem k1_idx171_inb : ∀ (v671 : IVec S16 32) (k1_hw171 : k1_chk171 v671), ∀ a x, ((![v671] : Fin 1 → IVec S16 32) a x).toNat < S32768.size a := fun v671 k1_hw171 => k1_hw171

def k1_chk172 (v674 : IVec S16 32) : Prop :=
  (∀ a x, ((![v674] : Fin 1 → IVec S16 32) a x).toNat < S32768.size a)
theorem k1_idx172_inb : ∀ (v674 : IVec S16 32) (k1_hw172 : k1_chk172 v674), ∀ a x, ((![v674] : Fin 1 → IVec S16 32) a x).toNat < S32768.size a := fun v674 k1_hw172 => k1_hw172

def k1_chk173 (v677 : IVec S16 32) : Prop :=
  (∀ a x, ((![v677] : Fin 1 → IVec S16 32) a x).toNat < S32768.size a)
theorem k1_idx173_inb : ∀ (v677 : IVec S16 32) (k1_hw173 : k1_chk173 v677), ∀ a x, ((![v677] : Fin 1 → IVec S16 32) a x).toNat < S32768.size a := fun v677 k1_hw173 => k1_hw173

def k1_chk174 (v680 : IVec S16 32) : Prop :=
  (∀ a x, ((![v680] : Fin 1 → IVec S16 32) a x).toNat < S32768.size a)
theorem k1_idx174_inb : ∀ (v680 : IVec S16 32) (k1_hw174 : k1_chk174 v680), ∀ a x, ((![v680] : Fin 1 → IVec S16 32) a x).toNat < S32768.size a := fun v680 k1_hw174 => k1_hw174

def k1_chk175 (v683 : IVec S16 32) : Prop :=
  (∀ a x, ((![v683] : Fin 1 → IVec S16 32) a x).toNat < S32768.size a)
theorem k1_idx175_inb : ∀ (v683 : IVec S16 32) (k1_hw175 : k1_chk175 v683), ∀ a x, ((![v683] : Fin 1 → IVec S16 32) a x).toNat < S32768.size a := fun v683 k1_hw175 => k1_hw175

def k1_chk176 (v686 : IVec S16 32) : Prop :=
  (∀ a x, ((![v686] : Fin 1 → IVec S16 32) a x).toNat < S32768.size a)
theorem k1_idx176_inb : ∀ (v686 : IVec S16 32) (k1_hw176 : k1_chk176 v686), ∀ a x, ((![v686] : Fin 1 → IVec S16 32) a x).toNat < S32768.size a := fun v686 k1_hw176 => k1_hw176
@[reducible] def k1_t13_loop : Scf.Loop 32 :=
  let c0_i32_261 : BitVec 32 := 0#32
  let c16_i32_262 : BitVec 32 := 16#32
  let v271 : BitVec 32 := Scalar.addi c0_i32_261 c16_i32_262
  let c1_i32_263 : BitVec 32 := 1#32
  ⟨c0_i32_261, v271, c1_i32_263⟩
def k1_off14 (k1_t13 : Fin k1_t13_loop.trips) (c0_i32_627 : BitVec 32) : Fin 1 → Nat :=
  let c0_i32_261 : BitVec 32 := 0#32
  let c1_i32_263 : BitVec 32 := 1#32
  let arg16 : BitVec 32 := Scf.iv c0_i32_261 c1_i32_263 k1_t13
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk177 (v641 : IVec S16 32) : Prop :=
  (∀ a x, ((![v641] : Fin 1 → IVec S16 32) a x).toNat < S32768.size a)
theorem k1_idx177_inb : ∀ (v641 : IVec S16 32) (k1_hw177 : k1_chk177 v641), ∀ a x, ((![v641] : Fin 1 → IVec S16 32) a x).toNat < S32768.size a := fun v641 k1_hw177 => k1_hw177

def k1_chk178 (v644 : IVec S16 32) : Prop :=
  (∀ a x, ((![v644] : Fin 1 → IVec S16 32) a x).toNat < S32768.size a)
theorem k1_idx178_inb : ∀ (v644 : IVec S16 32) (k1_hw178 : k1_chk178 v644), ∀ a x, ((![v644] : Fin 1 → IVec S16 32) a x).toNat < S32768.size a := fun v644 k1_hw178 => k1_hw178

def k1_chk179 (v647 : IVec S16 32) : Prop :=
  (∀ a x, ((![v647] : Fin 1 → IVec S16 32) a x).toNat < S32768.size a)
theorem k1_idx179_inb : ∀ (v647 : IVec S16 32) (k1_hw179 : k1_chk179 v647), ∀ a x, ((![v647] : Fin 1 → IVec S16 32) a x).toNat < S32768.size a := fun v647 k1_hw179 => k1_hw179

def k1_chk180 (v650 : IVec S16 32) : Prop :=
  (∀ a x, ((![v650] : Fin 1 → IVec S16 32) a x).toNat < S32768.size a)
theorem k1_idx180_inb : ∀ (v650 : IVec S16 32) (k1_hw180 : k1_chk180 v650), ∀ a x, ((![v650] : Fin 1 → IVec S16 32) a x).toNat < S32768.size a := fun v650 k1_hw180 => k1_hw180

def k1_chk181 (v653 : IVec S16 32) : Prop :=
  (∀ a x, ((![v653] : Fin 1 → IVec S16 32) a x).toNat < S32768.size a)
theorem k1_idx181_inb : ∀ (v653 : IVec S16 32) (k1_hw181 : k1_chk181 v653), ∀ a x, ((![v653] : Fin 1 → IVec S16 32) a x).toNat < S32768.size a := fun v653 k1_hw181 => k1_hw181

def k1_chk182 (v656 : IVec S16 32) : Prop :=
  (∀ a x, ((![v656] : Fin 1 → IVec S16 32) a x).toNat < S32768.size a)
theorem k1_idx182_inb : ∀ (v656 : IVec S16 32) (k1_hw182 : k1_chk182 v656), ∀ a x, ((![v656] : Fin 1 → IVec S16 32) a x).toNat < S32768.size a := fun v656 k1_hw182 => k1_hw182

def k1_chk183 (v659 : IVec S16 32) : Prop :=
  (∀ a x, ((![v659] : Fin 1 → IVec S16 32) a x).toNat < S32768.size a)
theorem k1_idx183_inb : ∀ (v659 : IVec S16 32) (k1_hw183 : k1_chk183 v659), ∀ a x, ((![v659] : Fin 1 → IVec S16 32) a x).toNat < S32768.size a := fun v659 k1_hw183 => k1_hw183

def k1_chk184 (v662 : IVec S16 32) : Prop :=
  (∀ a x, ((![v662] : Fin 1 → IVec S16 32) a x).toNat < S32768.size a)
theorem k1_idx184_inb : ∀ (v662 : IVec S16 32) (k1_hw184 : k1_chk184 v662), ∀ a x, ((![v662] : Fin 1 → IVec S16 32) a x).toNat < S32768.size a := fun v662 k1_hw184 => k1_hw184

def k1_chk185 (v665 : IVec S16 32) : Prop :=
  (∀ a x, ((![v665] : Fin 1 → IVec S16 32) a x).toNat < S32768.size a)
theorem k1_idx185_inb : ∀ (v665 : IVec S16 32) (k1_hw185 : k1_chk185 v665), ∀ a x, ((![v665] : Fin 1 → IVec S16 32) a x).toNat < S32768.size a := fun v665 k1_hw185 => k1_hw185

def k1_chk186 (v668 : IVec S16 32) : Prop :=
  (∀ a x, ((![v668] : Fin 1 → IVec S16 32) a x).toNat < S32768.size a)
theorem k1_idx186_inb : ∀ (v668 : IVec S16 32) (k1_hw186 : k1_chk186 v668), ∀ a x, ((![v668] : Fin 1 → IVec S16 32) a x).toNat < S32768.size a := fun v668 k1_hw186 => k1_hw186

def k1_chk187 (v671 : IVec S16 32) : Prop :=
  (∀ a x, ((![v671] : Fin 1 → IVec S16 32) a x).toNat < S32768.size a)
theorem k1_idx187_inb : ∀ (v671 : IVec S16 32) (k1_hw187 : k1_chk187 v671), ∀ a x, ((![v671] : Fin 1 → IVec S16 32) a x).toNat < S32768.size a := fun v671 k1_hw187 => k1_hw187

def k1_chk188 (v674 : IVec S16 32) : Prop :=
  (∀ a x, ((![v674] : Fin 1 → IVec S16 32) a x).toNat < S32768.size a)
theorem k1_idx188_inb : ∀ (v674 : IVec S16 32) (k1_hw188 : k1_chk188 v674), ∀ a x, ((![v674] : Fin 1 → IVec S16 32) a x).toNat < S32768.size a := fun v674 k1_hw188 => k1_hw188

def k1_chk189 (v677 : IVec S16 32) : Prop :=
  (∀ a x, ((![v677] : Fin 1 → IVec S16 32) a x).toNat < S32768.size a)
theorem k1_idx189_inb : ∀ (v677 : IVec S16 32) (k1_hw189 : k1_chk189 v677), ∀ a x, ((![v677] : Fin 1 → IVec S16 32) a x).toNat < S32768.size a := fun v677 k1_hw189 => k1_hw189

def k1_chk190 (v680 : IVec S16 32) : Prop :=
  (∀ a x, ((![v680] : Fin 1 → IVec S16 32) a x).toNat < S32768.size a)
theorem k1_idx190_inb : ∀ (v680 : IVec S16 32) (k1_hw190 : k1_chk190 v680), ∀ a x, ((![v680] : Fin 1 → IVec S16 32) a x).toNat < S32768.size a := fun v680 k1_hw190 => k1_hw190

def k1_chk191 (v683 : IVec S16 32) : Prop :=
  (∀ a x, ((![v683] : Fin 1 → IVec S16 32) a x).toNat < S32768.size a)
theorem k1_idx191_inb : ∀ (v683 : IVec S16 32) (k1_hw191 : k1_chk191 v683), ∀ a x, ((![v683] : Fin 1 → IVec S16 32) a x).toNat < S32768.size a := fun v683 k1_hw191 => k1_hw191

def k1_chk192 (v686 : IVec S16 32) : Prop :=
  (∀ a x, ((![v686] : Fin 1 → IVec S16 32) a x).toNat < S32768.size a)
theorem k1_idx192_inb : ∀ (v686 : IVec S16 32) (k1_hw192 : k1_chk192 v686), ∀ a x, ((![v686] : Fin 1 → IVec S16 32) a x).toNat < S32768.size a := fun v686 k1_hw192 => k1_hw192
@[reducible] def k1_t14_loop : Scf.Loop 32 :=
  let c0_i32_271 : BitVec 32 := 0#32
  let c16_i32_272 : BitVec 32 := 16#32
  let v281 : BitVec 32 := Scalar.addi c0_i32_271 c16_i32_272
  let c1_i32_273 : BitVec 32 := 1#32
  ⟨c0_i32_271, v281, c1_i32_273⟩
def k1_off15 (k1_t14 : Fin k1_t14_loop.trips) (c0_i32_627 : BitVec 32) : Fin 1 → Nat :=
  let c0_i32_271 : BitVec 32 := 0#32
  let c1_i32_273 : BitVec 32 := 1#32
  let arg16 : BitVec 32 := Scf.iv c0_i32_271 c1_i32_273 k1_t14
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk193 (v641 : IVec S16 32) : Prop :=
  (∀ a x, ((![v641] : Fin 1 → IVec S16 32) a x).toNat < S32768.size a)
theorem k1_idx193_inb : ∀ (v641 : IVec S16 32) (k1_hw193 : k1_chk193 v641), ∀ a x, ((![v641] : Fin 1 → IVec S16 32) a x).toNat < S32768.size a := fun v641 k1_hw193 => k1_hw193

def k1_chk194 (v644 : IVec S16 32) : Prop :=
  (∀ a x, ((![v644] : Fin 1 → IVec S16 32) a x).toNat < S32768.size a)
theorem k1_idx194_inb : ∀ (v644 : IVec S16 32) (k1_hw194 : k1_chk194 v644), ∀ a x, ((![v644] : Fin 1 → IVec S16 32) a x).toNat < S32768.size a := fun v644 k1_hw194 => k1_hw194

def k1_chk195 (v647 : IVec S16 32) : Prop :=
  (∀ a x, ((![v647] : Fin 1 → IVec S16 32) a x).toNat < S32768.size a)
theorem k1_idx195_inb : ∀ (v647 : IVec S16 32) (k1_hw195 : k1_chk195 v647), ∀ a x, ((![v647] : Fin 1 → IVec S16 32) a x).toNat < S32768.size a := fun v647 k1_hw195 => k1_hw195

def k1_chk196 (v650 : IVec S16 32) : Prop :=
  (∀ a x, ((![v650] : Fin 1 → IVec S16 32) a x).toNat < S32768.size a)
theorem k1_idx196_inb : ∀ (v650 : IVec S16 32) (k1_hw196 : k1_chk196 v650), ∀ a x, ((![v650] : Fin 1 → IVec S16 32) a x).toNat < S32768.size a := fun v650 k1_hw196 => k1_hw196

def k1_chk197 (v653 : IVec S16 32) : Prop :=
  (∀ a x, ((![v653] : Fin 1 → IVec S16 32) a x).toNat < S32768.size a)
theorem k1_idx197_inb : ∀ (v653 : IVec S16 32) (k1_hw197 : k1_chk197 v653), ∀ a x, ((![v653] : Fin 1 → IVec S16 32) a x).toNat < S32768.size a := fun v653 k1_hw197 => k1_hw197

def k1_chk198 (v656 : IVec S16 32) : Prop :=
  (∀ a x, ((![v656] : Fin 1 → IVec S16 32) a x).toNat < S32768.size a)
theorem k1_idx198_inb : ∀ (v656 : IVec S16 32) (k1_hw198 : k1_chk198 v656), ∀ a x, ((![v656] : Fin 1 → IVec S16 32) a x).toNat < S32768.size a := fun v656 k1_hw198 => k1_hw198

def k1_chk199 (v659 : IVec S16 32) : Prop :=
  (∀ a x, ((![v659] : Fin 1 → IVec S16 32) a x).toNat < S32768.size a)
theorem k1_idx199_inb : ∀ (v659 : IVec S16 32) (k1_hw199 : k1_chk199 v659), ∀ a x, ((![v659] : Fin 1 → IVec S16 32) a x).toNat < S32768.size a := fun v659 k1_hw199 => k1_hw199

def k1_chk200 (v662 : IVec S16 32) : Prop :=
  (∀ a x, ((![v662] : Fin 1 → IVec S16 32) a x).toNat < S32768.size a)
theorem k1_idx200_inb : ∀ (v662 : IVec S16 32) (k1_hw200 : k1_chk200 v662), ∀ a x, ((![v662] : Fin 1 → IVec S16 32) a x).toNat < S32768.size a := fun v662 k1_hw200 => k1_hw200

def k1_chk201 (v665 : IVec S16 32) : Prop :=
  (∀ a x, ((![v665] : Fin 1 → IVec S16 32) a x).toNat < S32768.size a)
theorem k1_idx201_inb : ∀ (v665 : IVec S16 32) (k1_hw201 : k1_chk201 v665), ∀ a x, ((![v665] : Fin 1 → IVec S16 32) a x).toNat < S32768.size a := fun v665 k1_hw201 => k1_hw201

def k1_chk202 (v668 : IVec S16 32) : Prop :=
  (∀ a x, ((![v668] : Fin 1 → IVec S16 32) a x).toNat < S32768.size a)
theorem k1_idx202_inb : ∀ (v668 : IVec S16 32) (k1_hw202 : k1_chk202 v668), ∀ a x, ((![v668] : Fin 1 → IVec S16 32) a x).toNat < S32768.size a := fun v668 k1_hw202 => k1_hw202

def k1_chk203 (v671 : IVec S16 32) : Prop :=
  (∀ a x, ((![v671] : Fin 1 → IVec S16 32) a x).toNat < S32768.size a)
theorem k1_idx203_inb : ∀ (v671 : IVec S16 32) (k1_hw203 : k1_chk203 v671), ∀ a x, ((![v671] : Fin 1 → IVec S16 32) a x).toNat < S32768.size a := fun v671 k1_hw203 => k1_hw203

def k1_chk204 (v674 : IVec S16 32) : Prop :=
  (∀ a x, ((![v674] : Fin 1 → IVec S16 32) a x).toNat < S32768.size a)
theorem k1_idx204_inb : ∀ (v674 : IVec S16 32) (k1_hw204 : k1_chk204 v674), ∀ a x, ((![v674] : Fin 1 → IVec S16 32) a x).toNat < S32768.size a := fun v674 k1_hw204 => k1_hw204

def k1_chk205 (v677 : IVec S16 32) : Prop :=
  (∀ a x, ((![v677] : Fin 1 → IVec S16 32) a x).toNat < S32768.size a)
theorem k1_idx205_inb : ∀ (v677 : IVec S16 32) (k1_hw205 : k1_chk205 v677), ∀ a x, ((![v677] : Fin 1 → IVec S16 32) a x).toNat < S32768.size a := fun v677 k1_hw205 => k1_hw205

def k1_chk206 (v680 : IVec S16 32) : Prop :=
  (∀ a x, ((![v680] : Fin 1 → IVec S16 32) a x).toNat < S32768.size a)
theorem k1_idx206_inb : ∀ (v680 : IVec S16 32) (k1_hw206 : k1_chk206 v680), ∀ a x, ((![v680] : Fin 1 → IVec S16 32) a x).toNat < S32768.size a := fun v680 k1_hw206 => k1_hw206

def k1_chk207 (v683 : IVec S16 32) : Prop :=
  (∀ a x, ((![v683] : Fin 1 → IVec S16 32) a x).toNat < S32768.size a)
theorem k1_idx207_inb : ∀ (v683 : IVec S16 32) (k1_hw207 : k1_chk207 v683), ∀ a x, ((![v683] : Fin 1 → IVec S16 32) a x).toNat < S32768.size a := fun v683 k1_hw207 => k1_hw207

def k1_chk208 (v686 : IVec S16 32) : Prop :=
  (∀ a x, ((![v686] : Fin 1 → IVec S16 32) a x).toNat < S32768.size a)
theorem k1_idx208_inb : ∀ (v686 : IVec S16 32) (k1_hw208 : k1_chk208 v686), ∀ a x, ((![v686] : Fin 1 → IVec S16 32) a x).toNat < S32768.size a := fun v686 k1_hw208 => k1_hw208
@[reducible] def k1_t15_loop : Scf.Loop 32 :=
  let c0_i32_281 : BitVec 32 := 0#32
  let c16_i32_282 : BitVec 32 := 16#32
  let v291 : BitVec 32 := Scalar.addi c0_i32_281 c16_i32_282
  let c1_i32_283 : BitVec 32 := 1#32
  ⟨c0_i32_281, v291, c1_i32_283⟩
def k1_off16 (k1_t15 : Fin k1_t15_loop.trips) (c0_i32_627 : BitVec 32) : Fin 1 → Nat :=
  let c0_i32_281 : BitVec 32 := 0#32
  let c1_i32_283 : BitVec 32 := 1#32
  let arg16 : BitVec 32 := Scf.iv c0_i32_281 c1_i32_283 k1_t15
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk209 (v641 : IVec S16 32) : Prop :=
  (∀ a x, ((![v641] : Fin 1 → IVec S16 32) a x).toNat < S32768.size a)
theorem k1_idx209_inb : ∀ (v641 : IVec S16 32) (k1_hw209 : k1_chk209 v641), ∀ a x, ((![v641] : Fin 1 → IVec S16 32) a x).toNat < S32768.size a := fun v641 k1_hw209 => k1_hw209

def k1_chk210 (v644 : IVec S16 32) : Prop :=
  (∀ a x, ((![v644] : Fin 1 → IVec S16 32) a x).toNat < S32768.size a)
theorem k1_idx210_inb : ∀ (v644 : IVec S16 32) (k1_hw210 : k1_chk210 v644), ∀ a x, ((![v644] : Fin 1 → IVec S16 32) a x).toNat < S32768.size a := fun v644 k1_hw210 => k1_hw210

def k1_chk211 (v647 : IVec S16 32) : Prop :=
  (∀ a x, ((![v647] : Fin 1 → IVec S16 32) a x).toNat < S32768.size a)
theorem k1_idx211_inb : ∀ (v647 : IVec S16 32) (k1_hw211 : k1_chk211 v647), ∀ a x, ((![v647] : Fin 1 → IVec S16 32) a x).toNat < S32768.size a := fun v647 k1_hw211 => k1_hw211

def k1_chk212 (v650 : IVec S16 32) : Prop :=
  (∀ a x, ((![v650] : Fin 1 → IVec S16 32) a x).toNat < S32768.size a)
theorem k1_idx212_inb : ∀ (v650 : IVec S16 32) (k1_hw212 : k1_chk212 v650), ∀ a x, ((![v650] : Fin 1 → IVec S16 32) a x).toNat < S32768.size a := fun v650 k1_hw212 => k1_hw212

def k1_chk213 (v653 : IVec S16 32) : Prop :=
  (∀ a x, ((![v653] : Fin 1 → IVec S16 32) a x).toNat < S32768.size a)
theorem k1_idx213_inb : ∀ (v653 : IVec S16 32) (k1_hw213 : k1_chk213 v653), ∀ a x, ((![v653] : Fin 1 → IVec S16 32) a x).toNat < S32768.size a := fun v653 k1_hw213 => k1_hw213

def k1_chk214 (v656 : IVec S16 32) : Prop :=
  (∀ a x, ((![v656] : Fin 1 → IVec S16 32) a x).toNat < S32768.size a)
theorem k1_idx214_inb : ∀ (v656 : IVec S16 32) (k1_hw214 : k1_chk214 v656), ∀ a x, ((![v656] : Fin 1 → IVec S16 32) a x).toNat < S32768.size a := fun v656 k1_hw214 => k1_hw214

def k1_chk215 (v659 : IVec S16 32) : Prop :=
  (∀ a x, ((![v659] : Fin 1 → IVec S16 32) a x).toNat < S32768.size a)
theorem k1_idx215_inb : ∀ (v659 : IVec S16 32) (k1_hw215 : k1_chk215 v659), ∀ a x, ((![v659] : Fin 1 → IVec S16 32) a x).toNat < S32768.size a := fun v659 k1_hw215 => k1_hw215

def k1_chk216 (v662 : IVec S16 32) : Prop :=
  (∀ a x, ((![v662] : Fin 1 → IVec S16 32) a x).toNat < S32768.size a)
theorem k1_idx216_inb : ∀ (v662 : IVec S16 32) (k1_hw216 : k1_chk216 v662), ∀ a x, ((![v662] : Fin 1 → IVec S16 32) a x).toNat < S32768.size a := fun v662 k1_hw216 => k1_hw216

def k1_chk217 (v665 : IVec S16 32) : Prop :=
  (∀ a x, ((![v665] : Fin 1 → IVec S16 32) a x).toNat < S32768.size a)
theorem k1_idx217_inb : ∀ (v665 : IVec S16 32) (k1_hw217 : k1_chk217 v665), ∀ a x, ((![v665] : Fin 1 → IVec S16 32) a x).toNat < S32768.size a := fun v665 k1_hw217 => k1_hw217

def k1_chk218 (v668 : IVec S16 32) : Prop :=
  (∀ a x, ((![v668] : Fin 1 → IVec S16 32) a x).toNat < S32768.size a)
theorem k1_idx218_inb : ∀ (v668 : IVec S16 32) (k1_hw218 : k1_chk218 v668), ∀ a x, ((![v668] : Fin 1 → IVec S16 32) a x).toNat < S32768.size a := fun v668 k1_hw218 => k1_hw218

def k1_chk219 (v671 : IVec S16 32) : Prop :=
  (∀ a x, ((![v671] : Fin 1 → IVec S16 32) a x).toNat < S32768.size a)
theorem k1_idx219_inb : ∀ (v671 : IVec S16 32) (k1_hw219 : k1_chk219 v671), ∀ a x, ((![v671] : Fin 1 → IVec S16 32) a x).toNat < S32768.size a := fun v671 k1_hw219 => k1_hw219

def k1_chk220 (v674 : IVec S16 32) : Prop :=
  (∀ a x, ((![v674] : Fin 1 → IVec S16 32) a x).toNat < S32768.size a)
theorem k1_idx220_inb : ∀ (v674 : IVec S16 32) (k1_hw220 : k1_chk220 v674), ∀ a x, ((![v674] : Fin 1 → IVec S16 32) a x).toNat < S32768.size a := fun v674 k1_hw220 => k1_hw220

def k1_chk221 (v677 : IVec S16 32) : Prop :=
  (∀ a x, ((![v677] : Fin 1 → IVec S16 32) a x).toNat < S32768.size a)
theorem k1_idx221_inb : ∀ (v677 : IVec S16 32) (k1_hw221 : k1_chk221 v677), ∀ a x, ((![v677] : Fin 1 → IVec S16 32) a x).toNat < S32768.size a := fun v677 k1_hw221 => k1_hw221

def k1_chk222 (v680 : IVec S16 32) : Prop :=
  (∀ a x, ((![v680] : Fin 1 → IVec S16 32) a x).toNat < S32768.size a)
theorem k1_idx222_inb : ∀ (v680 : IVec S16 32) (k1_hw222 : k1_chk222 v680), ∀ a x, ((![v680] : Fin 1 → IVec S16 32) a x).toNat < S32768.size a := fun v680 k1_hw222 => k1_hw222

def k1_chk223 (v683 : IVec S16 32) : Prop :=
  (∀ a x, ((![v683] : Fin 1 → IVec S16 32) a x).toNat < S32768.size a)
theorem k1_idx223_inb : ∀ (v683 : IVec S16 32) (k1_hw223 : k1_chk223 v683), ∀ a x, ((![v683] : Fin 1 → IVec S16 32) a x).toNat < S32768.size a := fun v683 k1_hw223 => k1_hw223

def k1_chk224 (v686 : IVec S16 32) : Prop :=
  (∀ a x, ((![v686] : Fin 1 → IVec S16 32) a x).toNat < S32768.size a)
theorem k1_idx224_inb : ∀ (v686 : IVec S16 32) (k1_hw224 : k1_chk224 v686), ∀ a x, ((![v686] : Fin 1 → IVec S16 32) a x).toNat < S32768.size a := fun v686 k1_hw224 => k1_hw224
@[reducible] def k1_t16_loop : Scf.Loop 32 :=
  let c0_i32_291 : BitVec 32 := 0#32
  let c16_i32_292 : BitVec 32 := 16#32
  let v301 : BitVec 32 := Scalar.addi c0_i32_291 c16_i32_292
  let c1_i32_293 : BitVec 32 := 1#32
  ⟨c0_i32_291, v301, c1_i32_293⟩
def k1_off17 (k1_t16 : Fin k1_t16_loop.trips) (c0_i32_627 : BitVec 32) : Fin 1 → Nat :=
  let c0_i32_291 : BitVec 32 := 0#32
  let c1_i32_293 : BitVec 32 := 1#32
  let arg16 : BitVec 32 := Scf.iv c0_i32_291 c1_i32_293 k1_t16
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk225 (v641 : IVec S16 32) : Prop :=
  (∀ a x, ((![v641] : Fin 1 → IVec S16 32) a x).toNat < S32768.size a)
theorem k1_idx225_inb : ∀ (v641 : IVec S16 32) (k1_hw225 : k1_chk225 v641), ∀ a x, ((![v641] : Fin 1 → IVec S16 32) a x).toNat < S32768.size a := fun v641 k1_hw225 => k1_hw225

def k1_chk226 (v644 : IVec S16 32) : Prop :=
  (∀ a x, ((![v644] : Fin 1 → IVec S16 32) a x).toNat < S32768.size a)
theorem k1_idx226_inb : ∀ (v644 : IVec S16 32) (k1_hw226 : k1_chk226 v644), ∀ a x, ((![v644] : Fin 1 → IVec S16 32) a x).toNat < S32768.size a := fun v644 k1_hw226 => k1_hw226

def k1_chk227 (v647 : IVec S16 32) : Prop :=
  (∀ a x, ((![v647] : Fin 1 → IVec S16 32) a x).toNat < S32768.size a)
theorem k1_idx227_inb : ∀ (v647 : IVec S16 32) (k1_hw227 : k1_chk227 v647), ∀ a x, ((![v647] : Fin 1 → IVec S16 32) a x).toNat < S32768.size a := fun v647 k1_hw227 => k1_hw227

def k1_chk228 (v650 : IVec S16 32) : Prop :=
  (∀ a x, ((![v650] : Fin 1 → IVec S16 32) a x).toNat < S32768.size a)
theorem k1_idx228_inb : ∀ (v650 : IVec S16 32) (k1_hw228 : k1_chk228 v650), ∀ a x, ((![v650] : Fin 1 → IVec S16 32) a x).toNat < S32768.size a := fun v650 k1_hw228 => k1_hw228

def k1_chk229 (v653 : IVec S16 32) : Prop :=
  (∀ a x, ((![v653] : Fin 1 → IVec S16 32) a x).toNat < S32768.size a)
theorem k1_idx229_inb : ∀ (v653 : IVec S16 32) (k1_hw229 : k1_chk229 v653), ∀ a x, ((![v653] : Fin 1 → IVec S16 32) a x).toNat < S32768.size a := fun v653 k1_hw229 => k1_hw229

def k1_chk230 (v656 : IVec S16 32) : Prop :=
  (∀ a x, ((![v656] : Fin 1 → IVec S16 32) a x).toNat < S32768.size a)
theorem k1_idx230_inb : ∀ (v656 : IVec S16 32) (k1_hw230 : k1_chk230 v656), ∀ a x, ((![v656] : Fin 1 → IVec S16 32) a x).toNat < S32768.size a := fun v656 k1_hw230 => k1_hw230

def k1_chk231 (v659 : IVec S16 32) : Prop :=
  (∀ a x, ((![v659] : Fin 1 → IVec S16 32) a x).toNat < S32768.size a)
theorem k1_idx231_inb : ∀ (v659 : IVec S16 32) (k1_hw231 : k1_chk231 v659), ∀ a x, ((![v659] : Fin 1 → IVec S16 32) a x).toNat < S32768.size a := fun v659 k1_hw231 => k1_hw231

def k1_chk232 (v662 : IVec S16 32) : Prop :=
  (∀ a x, ((![v662] : Fin 1 → IVec S16 32) a x).toNat < S32768.size a)
theorem k1_idx232_inb : ∀ (v662 : IVec S16 32) (k1_hw232 : k1_chk232 v662), ∀ a x, ((![v662] : Fin 1 → IVec S16 32) a x).toNat < S32768.size a := fun v662 k1_hw232 => k1_hw232

def k1_chk233 (v665 : IVec S16 32) : Prop :=
  (∀ a x, ((![v665] : Fin 1 → IVec S16 32) a x).toNat < S32768.size a)
theorem k1_idx233_inb : ∀ (v665 : IVec S16 32) (k1_hw233 : k1_chk233 v665), ∀ a x, ((![v665] : Fin 1 → IVec S16 32) a x).toNat < S32768.size a := fun v665 k1_hw233 => k1_hw233

def k1_chk234 (v668 : IVec S16 32) : Prop :=
  (∀ a x, ((![v668] : Fin 1 → IVec S16 32) a x).toNat < S32768.size a)
theorem k1_idx234_inb : ∀ (v668 : IVec S16 32) (k1_hw234 : k1_chk234 v668), ∀ a x, ((![v668] : Fin 1 → IVec S16 32) a x).toNat < S32768.size a := fun v668 k1_hw234 => k1_hw234

def k1_chk235 (v671 : IVec S16 32) : Prop :=
  (∀ a x, ((![v671] : Fin 1 → IVec S16 32) a x).toNat < S32768.size a)
theorem k1_idx235_inb : ∀ (v671 : IVec S16 32) (k1_hw235 : k1_chk235 v671), ∀ a x, ((![v671] : Fin 1 → IVec S16 32) a x).toNat < S32768.size a := fun v671 k1_hw235 => k1_hw235

def k1_chk236 (v674 : IVec S16 32) : Prop :=
  (∀ a x, ((![v674] : Fin 1 → IVec S16 32) a x).toNat < S32768.size a)
theorem k1_idx236_inb : ∀ (v674 : IVec S16 32) (k1_hw236 : k1_chk236 v674), ∀ a x, ((![v674] : Fin 1 → IVec S16 32) a x).toNat < S32768.size a := fun v674 k1_hw236 => k1_hw236

def k1_chk237 (v677 : IVec S16 32) : Prop :=
  (∀ a x, ((![v677] : Fin 1 → IVec S16 32) a x).toNat < S32768.size a)
theorem k1_idx237_inb : ∀ (v677 : IVec S16 32) (k1_hw237 : k1_chk237 v677), ∀ a x, ((![v677] : Fin 1 → IVec S16 32) a x).toNat < S32768.size a := fun v677 k1_hw237 => k1_hw237

def k1_chk238 (v680 : IVec S16 32) : Prop :=
  (∀ a x, ((![v680] : Fin 1 → IVec S16 32) a x).toNat < S32768.size a)
theorem k1_idx238_inb : ∀ (v680 : IVec S16 32) (k1_hw238 : k1_chk238 v680), ∀ a x, ((![v680] : Fin 1 → IVec S16 32) a x).toNat < S32768.size a := fun v680 k1_hw238 => k1_hw238

def k1_chk239 (v683 : IVec S16 32) : Prop :=
  (∀ a x, ((![v683] : Fin 1 → IVec S16 32) a x).toNat < S32768.size a)
theorem k1_idx239_inb : ∀ (v683 : IVec S16 32) (k1_hw239 : k1_chk239 v683), ∀ a x, ((![v683] : Fin 1 → IVec S16 32) a x).toNat < S32768.size a := fun v683 k1_hw239 => k1_hw239

def k1_chk240 (v686 : IVec S16 32) : Prop :=
  (∀ a x, ((![v686] : Fin 1 → IVec S16 32) a x).toNat < S32768.size a)
theorem k1_idx240_inb : ∀ (v686 : IVec S16 32) (k1_hw240 : k1_chk240 v686), ∀ a x, ((![v686] : Fin 1 → IVec S16 32) a x).toNat < S32768.size a := fun v686 k1_hw240 => k1_hw240
@[reducible] def k1_t17_loop : Scf.Loop 32 :=
  let c0_i32_301 : BitVec 32 := 0#32
  let c16_i32_302 : BitVec 32 := 16#32
  let v311 : BitVec 32 := Scalar.addi c0_i32_301 c16_i32_302
  let c1_i32_303 : BitVec 32 := 1#32
  ⟨c0_i32_301, v311, c1_i32_303⟩
def k1_off18 (k1_t17 : Fin k1_t17_loop.trips) (c0_i32_627 : BitVec 32) : Fin 1 → Nat :=
  let c0_i32_301 : BitVec 32 := 0#32
  let c1_i32_303 : BitVec 32 := 1#32
  let arg16 : BitVec 32 := Scf.iv c0_i32_301 c1_i32_303 k1_t17
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk241 (v641 : IVec S16 32) : Prop :=
  (∀ a x, ((![v641] : Fin 1 → IVec S16 32) a x).toNat < S32768.size a)
theorem k1_idx241_inb : ∀ (v641 : IVec S16 32) (k1_hw241 : k1_chk241 v641), ∀ a x, ((![v641] : Fin 1 → IVec S16 32) a x).toNat < S32768.size a := fun v641 k1_hw241 => k1_hw241

def k1_chk242 (v644 : IVec S16 32) : Prop :=
  (∀ a x, ((![v644] : Fin 1 → IVec S16 32) a x).toNat < S32768.size a)
theorem k1_idx242_inb : ∀ (v644 : IVec S16 32) (k1_hw242 : k1_chk242 v644), ∀ a x, ((![v644] : Fin 1 → IVec S16 32) a x).toNat < S32768.size a := fun v644 k1_hw242 => k1_hw242

def k1_chk243 (v647 : IVec S16 32) : Prop :=
  (∀ a x, ((![v647] : Fin 1 → IVec S16 32) a x).toNat < S32768.size a)
theorem k1_idx243_inb : ∀ (v647 : IVec S16 32) (k1_hw243 : k1_chk243 v647), ∀ a x, ((![v647] : Fin 1 → IVec S16 32) a x).toNat < S32768.size a := fun v647 k1_hw243 => k1_hw243

def k1_chk244 (v650 : IVec S16 32) : Prop :=
  (∀ a x, ((![v650] : Fin 1 → IVec S16 32) a x).toNat < S32768.size a)
theorem k1_idx244_inb : ∀ (v650 : IVec S16 32) (k1_hw244 : k1_chk244 v650), ∀ a x, ((![v650] : Fin 1 → IVec S16 32) a x).toNat < S32768.size a := fun v650 k1_hw244 => k1_hw244

def k1_chk245 (v653 : IVec S16 32) : Prop :=
  (∀ a x, ((![v653] : Fin 1 → IVec S16 32) a x).toNat < S32768.size a)
theorem k1_idx245_inb : ∀ (v653 : IVec S16 32) (k1_hw245 : k1_chk245 v653), ∀ a x, ((![v653] : Fin 1 → IVec S16 32) a x).toNat < S32768.size a := fun v653 k1_hw245 => k1_hw245

def k1_chk246 (v656 : IVec S16 32) : Prop :=
  (∀ a x, ((![v656] : Fin 1 → IVec S16 32) a x).toNat < S32768.size a)
theorem k1_idx246_inb : ∀ (v656 : IVec S16 32) (k1_hw246 : k1_chk246 v656), ∀ a x, ((![v656] : Fin 1 → IVec S16 32) a x).toNat < S32768.size a := fun v656 k1_hw246 => k1_hw246

def k1_chk247 (v659 : IVec S16 32) : Prop :=
  (∀ a x, ((![v659] : Fin 1 → IVec S16 32) a x).toNat < S32768.size a)
theorem k1_idx247_inb : ∀ (v659 : IVec S16 32) (k1_hw247 : k1_chk247 v659), ∀ a x, ((![v659] : Fin 1 → IVec S16 32) a x).toNat < S32768.size a := fun v659 k1_hw247 => k1_hw247

def k1_chk248 (v662 : IVec S16 32) : Prop :=
  (∀ a x, ((![v662] : Fin 1 → IVec S16 32) a x).toNat < S32768.size a)
theorem k1_idx248_inb : ∀ (v662 : IVec S16 32) (k1_hw248 : k1_chk248 v662), ∀ a x, ((![v662] : Fin 1 → IVec S16 32) a x).toNat < S32768.size a := fun v662 k1_hw248 => k1_hw248

def k1_chk249 (v665 : IVec S16 32) : Prop :=
  (∀ a x, ((![v665] : Fin 1 → IVec S16 32) a x).toNat < S32768.size a)
theorem k1_idx249_inb : ∀ (v665 : IVec S16 32) (k1_hw249 : k1_chk249 v665), ∀ a x, ((![v665] : Fin 1 → IVec S16 32) a x).toNat < S32768.size a := fun v665 k1_hw249 => k1_hw249

def k1_chk250 (v668 : IVec S16 32) : Prop :=
  (∀ a x, ((![v668] : Fin 1 → IVec S16 32) a x).toNat < S32768.size a)
theorem k1_idx250_inb : ∀ (v668 : IVec S16 32) (k1_hw250 : k1_chk250 v668), ∀ a x, ((![v668] : Fin 1 → IVec S16 32) a x).toNat < S32768.size a := fun v668 k1_hw250 => k1_hw250

def k1_chk251 (v671 : IVec S16 32) : Prop :=
  (∀ a x, ((![v671] : Fin 1 → IVec S16 32) a x).toNat < S32768.size a)
theorem k1_idx251_inb : ∀ (v671 : IVec S16 32) (k1_hw251 : k1_chk251 v671), ∀ a x, ((![v671] : Fin 1 → IVec S16 32) a x).toNat < S32768.size a := fun v671 k1_hw251 => k1_hw251

def k1_chk252 (v674 : IVec S16 32) : Prop :=
  (∀ a x, ((![v674] : Fin 1 → IVec S16 32) a x).toNat < S32768.size a)
theorem k1_idx252_inb : ∀ (v674 : IVec S16 32) (k1_hw252 : k1_chk252 v674), ∀ a x, ((![v674] : Fin 1 → IVec S16 32) a x).toNat < S32768.size a := fun v674 k1_hw252 => k1_hw252

def k1_chk253 (v677 : IVec S16 32) : Prop :=
  (∀ a x, ((![v677] : Fin 1 → IVec S16 32) a x).toNat < S32768.size a)
theorem k1_idx253_inb : ∀ (v677 : IVec S16 32) (k1_hw253 : k1_chk253 v677), ∀ a x, ((![v677] : Fin 1 → IVec S16 32) a x).toNat < S32768.size a := fun v677 k1_hw253 => k1_hw253

def k1_chk254 (v680 : IVec S16 32) : Prop :=
  (∀ a x, ((![v680] : Fin 1 → IVec S16 32) a x).toNat < S32768.size a)
theorem k1_idx254_inb : ∀ (v680 : IVec S16 32) (k1_hw254 : k1_chk254 v680), ∀ a x, ((![v680] : Fin 1 → IVec S16 32) a x).toNat < S32768.size a := fun v680 k1_hw254 => k1_hw254

def k1_chk255 (v683 : IVec S16 32) : Prop :=
  (∀ a x, ((![v683] : Fin 1 → IVec S16 32) a x).toNat < S32768.size a)
theorem k1_idx255_inb : ∀ (v683 : IVec S16 32) (k1_hw255 : k1_chk255 v683), ∀ a x, ((![v683] : Fin 1 → IVec S16 32) a x).toNat < S32768.size a := fun v683 k1_hw255 => k1_hw255

def k1_chk256 (v686 : IVec S16 32) : Prop :=
  (∀ a x, ((![v686] : Fin 1 → IVec S16 32) a x).toNat < S32768.size a)
theorem k1_idx256_inb : ∀ (v686 : IVec S16 32) (k1_hw256 : k1_chk256 v686), ∀ a x, ((![v686] : Fin 1 → IVec S16 32) a x).toNat < S32768.size a := fun v686 k1_hw256 => k1_hw256
@[reducible] def k1_t18_loop : Scf.Loop 32 :=
  let c0_i32_311 : BitVec 32 := 0#32
  let c16_i32_312 : BitVec 32 := 16#32
  let v321 : BitVec 32 := Scalar.addi c0_i32_311 c16_i32_312
  let c1_i32_313 : BitVec 32 := 1#32
  ⟨c0_i32_311, v321, c1_i32_313⟩
def k1_off19 (k1_t18 : Fin k1_t18_loop.trips) (c0_i32_627 : BitVec 32) : Fin 1 → Nat :=
  let c0_i32_311 : BitVec 32 := 0#32
  let c1_i32_313 : BitVec 32 := 1#32
  let arg16 : BitVec 32 := Scf.iv c0_i32_311 c1_i32_313 k1_t18
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk257 (v641 : IVec S16 32) : Prop :=
  (∀ a x, ((![v641] : Fin 1 → IVec S16 32) a x).toNat < S32768.size a)
theorem k1_idx257_inb : ∀ (v641 : IVec S16 32) (k1_hw257 : k1_chk257 v641), ∀ a x, ((![v641] : Fin 1 → IVec S16 32) a x).toNat < S32768.size a := fun v641 k1_hw257 => k1_hw257

def k1_chk258 (v644 : IVec S16 32) : Prop :=
  (∀ a x, ((![v644] : Fin 1 → IVec S16 32) a x).toNat < S32768.size a)
theorem k1_idx258_inb : ∀ (v644 : IVec S16 32) (k1_hw258 : k1_chk258 v644), ∀ a x, ((![v644] : Fin 1 → IVec S16 32) a x).toNat < S32768.size a := fun v644 k1_hw258 => k1_hw258

def k1_chk259 (v647 : IVec S16 32) : Prop :=
  (∀ a x, ((![v647] : Fin 1 → IVec S16 32) a x).toNat < S32768.size a)
theorem k1_idx259_inb : ∀ (v647 : IVec S16 32) (k1_hw259 : k1_chk259 v647), ∀ a x, ((![v647] : Fin 1 → IVec S16 32) a x).toNat < S32768.size a := fun v647 k1_hw259 => k1_hw259

def k1_chk260 (v650 : IVec S16 32) : Prop :=
  (∀ a x, ((![v650] : Fin 1 → IVec S16 32) a x).toNat < S32768.size a)
theorem k1_idx260_inb : ∀ (v650 : IVec S16 32) (k1_hw260 : k1_chk260 v650), ∀ a x, ((![v650] : Fin 1 → IVec S16 32) a x).toNat < S32768.size a := fun v650 k1_hw260 => k1_hw260

def k1_chk261 (v653 : IVec S16 32) : Prop :=
  (∀ a x, ((![v653] : Fin 1 → IVec S16 32) a x).toNat < S32768.size a)
theorem k1_idx261_inb : ∀ (v653 : IVec S16 32) (k1_hw261 : k1_chk261 v653), ∀ a x, ((![v653] : Fin 1 → IVec S16 32) a x).toNat < S32768.size a := fun v653 k1_hw261 => k1_hw261

def k1_chk262 (v656 : IVec S16 32) : Prop :=
  (∀ a x, ((![v656] : Fin 1 → IVec S16 32) a x).toNat < S32768.size a)
theorem k1_idx262_inb : ∀ (v656 : IVec S16 32) (k1_hw262 : k1_chk262 v656), ∀ a x, ((![v656] : Fin 1 → IVec S16 32) a x).toNat < S32768.size a := fun v656 k1_hw262 => k1_hw262

def k1_chk263 (v659 : IVec S16 32) : Prop :=
  (∀ a x, ((![v659] : Fin 1 → IVec S16 32) a x).toNat < S32768.size a)
theorem k1_idx263_inb : ∀ (v659 : IVec S16 32) (k1_hw263 : k1_chk263 v659), ∀ a x, ((![v659] : Fin 1 → IVec S16 32) a x).toNat < S32768.size a := fun v659 k1_hw263 => k1_hw263

def k1_chk264 (v662 : IVec S16 32) : Prop :=
  (∀ a x, ((![v662] : Fin 1 → IVec S16 32) a x).toNat < S32768.size a)
theorem k1_idx264_inb : ∀ (v662 : IVec S16 32) (k1_hw264 : k1_chk264 v662), ∀ a x, ((![v662] : Fin 1 → IVec S16 32) a x).toNat < S32768.size a := fun v662 k1_hw264 => k1_hw264

def k1_chk265 (v665 : IVec S16 32) : Prop :=
  (∀ a x, ((![v665] : Fin 1 → IVec S16 32) a x).toNat < S32768.size a)
theorem k1_idx265_inb : ∀ (v665 : IVec S16 32) (k1_hw265 : k1_chk265 v665), ∀ a x, ((![v665] : Fin 1 → IVec S16 32) a x).toNat < S32768.size a := fun v665 k1_hw265 => k1_hw265

def k1_chk266 (v668 : IVec S16 32) : Prop :=
  (∀ a x, ((![v668] : Fin 1 → IVec S16 32) a x).toNat < S32768.size a)
theorem k1_idx266_inb : ∀ (v668 : IVec S16 32) (k1_hw266 : k1_chk266 v668), ∀ a x, ((![v668] : Fin 1 → IVec S16 32) a x).toNat < S32768.size a := fun v668 k1_hw266 => k1_hw266

def k1_chk267 (v671 : IVec S16 32) : Prop :=
  (∀ a x, ((![v671] : Fin 1 → IVec S16 32) a x).toNat < S32768.size a)
theorem k1_idx267_inb : ∀ (v671 : IVec S16 32) (k1_hw267 : k1_chk267 v671), ∀ a x, ((![v671] : Fin 1 → IVec S16 32) a x).toNat < S32768.size a := fun v671 k1_hw267 => k1_hw267

def k1_chk268 (v674 : IVec S16 32) : Prop :=
  (∀ a x, ((![v674] : Fin 1 → IVec S16 32) a x).toNat < S32768.size a)
theorem k1_idx268_inb : ∀ (v674 : IVec S16 32) (k1_hw268 : k1_chk268 v674), ∀ a x, ((![v674] : Fin 1 → IVec S16 32) a x).toNat < S32768.size a := fun v674 k1_hw268 => k1_hw268

def k1_chk269 (v677 : IVec S16 32) : Prop :=
  (∀ a x, ((![v677] : Fin 1 → IVec S16 32) a x).toNat < S32768.size a)
theorem k1_idx269_inb : ∀ (v677 : IVec S16 32) (k1_hw269 : k1_chk269 v677), ∀ a x, ((![v677] : Fin 1 → IVec S16 32) a x).toNat < S32768.size a := fun v677 k1_hw269 => k1_hw269

def k1_chk270 (v680 : IVec S16 32) : Prop :=
  (∀ a x, ((![v680] : Fin 1 → IVec S16 32) a x).toNat < S32768.size a)
theorem k1_idx270_inb : ∀ (v680 : IVec S16 32) (k1_hw270 : k1_chk270 v680), ∀ a x, ((![v680] : Fin 1 → IVec S16 32) a x).toNat < S32768.size a := fun v680 k1_hw270 => k1_hw270

def k1_chk271 (v683 : IVec S16 32) : Prop :=
  (∀ a x, ((![v683] : Fin 1 → IVec S16 32) a x).toNat < S32768.size a)
theorem k1_idx271_inb : ∀ (v683 : IVec S16 32) (k1_hw271 : k1_chk271 v683), ∀ a x, ((![v683] : Fin 1 → IVec S16 32) a x).toNat < S32768.size a := fun v683 k1_hw271 => k1_hw271

def k1_chk272 (v686 : IVec S16 32) : Prop :=
  (∀ a x, ((![v686] : Fin 1 → IVec S16 32) a x).toNat < S32768.size a)
theorem k1_idx272_inb : ∀ (v686 : IVec S16 32) (k1_hw272 : k1_chk272 v686), ∀ a x, ((![v686] : Fin 1 → IVec S16 32) a x).toNat < S32768.size a := fun v686 k1_hw272 => k1_hw272
@[reducible] def k1_t19_loop : Scf.Loop 32 :=
  let c0_i32_321 : BitVec 32 := 0#32
  let c16_i32_322 : BitVec 32 := 16#32
  let v331 : BitVec 32 := Scalar.addi c0_i32_321 c16_i32_322
  let c1_i32_323 : BitVec 32 := 1#32
  ⟨c0_i32_321, v331, c1_i32_323⟩
def k1_off20 (k1_t19 : Fin k1_t19_loop.trips) (c0_i32_627 : BitVec 32) : Fin 1 → Nat :=
  let c0_i32_321 : BitVec 32 := 0#32
  let c1_i32_323 : BitVec 32 := 1#32
  let arg16 : BitVec 32 := Scf.iv c0_i32_321 c1_i32_323 k1_t19
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk273 (v641 : IVec S16 32) : Prop :=
  (∀ a x, ((![v641] : Fin 1 → IVec S16 32) a x).toNat < S32768.size a)
theorem k1_idx273_inb : ∀ (v641 : IVec S16 32) (k1_hw273 : k1_chk273 v641), ∀ a x, ((![v641] : Fin 1 → IVec S16 32) a x).toNat < S32768.size a := fun v641 k1_hw273 => k1_hw273

def k1_chk274 (v644 : IVec S16 32) : Prop :=
  (∀ a x, ((![v644] : Fin 1 → IVec S16 32) a x).toNat < S32768.size a)
theorem k1_idx274_inb : ∀ (v644 : IVec S16 32) (k1_hw274 : k1_chk274 v644), ∀ a x, ((![v644] : Fin 1 → IVec S16 32) a x).toNat < S32768.size a := fun v644 k1_hw274 => k1_hw274

def k1_chk275 (v647 : IVec S16 32) : Prop :=
  (∀ a x, ((![v647] : Fin 1 → IVec S16 32) a x).toNat < S32768.size a)
theorem k1_idx275_inb : ∀ (v647 : IVec S16 32) (k1_hw275 : k1_chk275 v647), ∀ a x, ((![v647] : Fin 1 → IVec S16 32) a x).toNat < S32768.size a := fun v647 k1_hw275 => k1_hw275

def k1_chk276 (v650 : IVec S16 32) : Prop :=
  (∀ a x, ((![v650] : Fin 1 → IVec S16 32) a x).toNat < S32768.size a)
theorem k1_idx276_inb : ∀ (v650 : IVec S16 32) (k1_hw276 : k1_chk276 v650), ∀ a x, ((![v650] : Fin 1 → IVec S16 32) a x).toNat < S32768.size a := fun v650 k1_hw276 => k1_hw276

def k1_chk277 (v653 : IVec S16 32) : Prop :=
  (∀ a x, ((![v653] : Fin 1 → IVec S16 32) a x).toNat < S32768.size a)
theorem k1_idx277_inb : ∀ (v653 : IVec S16 32) (k1_hw277 : k1_chk277 v653), ∀ a x, ((![v653] : Fin 1 → IVec S16 32) a x).toNat < S32768.size a := fun v653 k1_hw277 => k1_hw277

def k1_chk278 (v656 : IVec S16 32) : Prop :=
  (∀ a x, ((![v656] : Fin 1 → IVec S16 32) a x).toNat < S32768.size a)
theorem k1_idx278_inb : ∀ (v656 : IVec S16 32) (k1_hw278 : k1_chk278 v656), ∀ a x, ((![v656] : Fin 1 → IVec S16 32) a x).toNat < S32768.size a := fun v656 k1_hw278 => k1_hw278

def k1_chk279 (v659 : IVec S16 32) : Prop :=
  (∀ a x, ((![v659] : Fin 1 → IVec S16 32) a x).toNat < S32768.size a)
theorem k1_idx279_inb : ∀ (v659 : IVec S16 32) (k1_hw279 : k1_chk279 v659), ∀ a x, ((![v659] : Fin 1 → IVec S16 32) a x).toNat < S32768.size a := fun v659 k1_hw279 => k1_hw279

def k1_chk280 (v662 : IVec S16 32) : Prop :=
  (∀ a x, ((![v662] : Fin 1 → IVec S16 32) a x).toNat < S32768.size a)
theorem k1_idx280_inb : ∀ (v662 : IVec S16 32) (k1_hw280 : k1_chk280 v662), ∀ a x, ((![v662] : Fin 1 → IVec S16 32) a x).toNat < S32768.size a := fun v662 k1_hw280 => k1_hw280

def k1_chk281 (v665 : IVec S16 32) : Prop :=
  (∀ a x, ((![v665] : Fin 1 → IVec S16 32) a x).toNat < S32768.size a)
theorem k1_idx281_inb : ∀ (v665 : IVec S16 32) (k1_hw281 : k1_chk281 v665), ∀ a x, ((![v665] : Fin 1 → IVec S16 32) a x).toNat < S32768.size a := fun v665 k1_hw281 => k1_hw281

def k1_chk282 (v668 : IVec S16 32) : Prop :=
  (∀ a x, ((![v668] : Fin 1 → IVec S16 32) a x).toNat < S32768.size a)
theorem k1_idx282_inb : ∀ (v668 : IVec S16 32) (k1_hw282 : k1_chk282 v668), ∀ a x, ((![v668] : Fin 1 → IVec S16 32) a x).toNat < S32768.size a := fun v668 k1_hw282 => k1_hw282

def k1_chk283 (v671 : IVec S16 32) : Prop :=
  (∀ a x, ((![v671] : Fin 1 → IVec S16 32) a x).toNat < S32768.size a)
theorem k1_idx283_inb : ∀ (v671 : IVec S16 32) (k1_hw283 : k1_chk283 v671), ∀ a x, ((![v671] : Fin 1 → IVec S16 32) a x).toNat < S32768.size a := fun v671 k1_hw283 => k1_hw283

def k1_chk284 (v674 : IVec S16 32) : Prop :=
  (∀ a x, ((![v674] : Fin 1 → IVec S16 32) a x).toNat < S32768.size a)
theorem k1_idx284_inb : ∀ (v674 : IVec S16 32) (k1_hw284 : k1_chk284 v674), ∀ a x, ((![v674] : Fin 1 → IVec S16 32) a x).toNat < S32768.size a := fun v674 k1_hw284 => k1_hw284

def k1_chk285 (v677 : IVec S16 32) : Prop :=
  (∀ a x, ((![v677] : Fin 1 → IVec S16 32) a x).toNat < S32768.size a)
theorem k1_idx285_inb : ∀ (v677 : IVec S16 32) (k1_hw285 : k1_chk285 v677), ∀ a x, ((![v677] : Fin 1 → IVec S16 32) a x).toNat < S32768.size a := fun v677 k1_hw285 => k1_hw285

def k1_chk286 (v680 : IVec S16 32) : Prop :=
  (∀ a x, ((![v680] : Fin 1 → IVec S16 32) a x).toNat < S32768.size a)
theorem k1_idx286_inb : ∀ (v680 : IVec S16 32) (k1_hw286 : k1_chk286 v680), ∀ a x, ((![v680] : Fin 1 → IVec S16 32) a x).toNat < S32768.size a := fun v680 k1_hw286 => k1_hw286

def k1_chk287 (v683 : IVec S16 32) : Prop :=
  (∀ a x, ((![v683] : Fin 1 → IVec S16 32) a x).toNat < S32768.size a)
theorem k1_idx287_inb : ∀ (v683 : IVec S16 32) (k1_hw287 : k1_chk287 v683), ∀ a x, ((![v683] : Fin 1 → IVec S16 32) a x).toNat < S32768.size a := fun v683 k1_hw287 => k1_hw287

def k1_chk288 (v686 : IVec S16 32) : Prop :=
  (∀ a x, ((![v686] : Fin 1 → IVec S16 32) a x).toNat < S32768.size a)
theorem k1_idx288_inb : ∀ (v686 : IVec S16 32) (k1_hw288 : k1_chk288 v686), ∀ a x, ((![v686] : Fin 1 → IVec S16 32) a x).toNat < S32768.size a := fun v686 k1_hw288 => k1_hw288
@[reducible] def k1_t20_loop : Scf.Loop 32 :=
  let c0_i32_331 : BitVec 32 := 0#32
  let c16_i32_332 : BitVec 32 := 16#32
  let v341 : BitVec 32 := Scalar.addi c0_i32_331 c16_i32_332
  let c1_i32_333 : BitVec 32 := 1#32
  ⟨c0_i32_331, v341, c1_i32_333⟩
def k1_off21 (k1_t20 : Fin k1_t20_loop.trips) (c0_i32_627 : BitVec 32) : Fin 1 → Nat :=
  let c0_i32_331 : BitVec 32 := 0#32
  let c1_i32_333 : BitVec 32 := 1#32
  let arg16 : BitVec 32 := Scf.iv c0_i32_331 c1_i32_333 k1_t20
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk289 (v641 : IVec S16 32) : Prop :=
  (∀ a x, ((![v641] : Fin 1 → IVec S16 32) a x).toNat < S32768.size a)
theorem k1_idx289_inb : ∀ (v641 : IVec S16 32) (k1_hw289 : k1_chk289 v641), ∀ a x, ((![v641] : Fin 1 → IVec S16 32) a x).toNat < S32768.size a := fun v641 k1_hw289 => k1_hw289

def k1_chk290 (v644 : IVec S16 32) : Prop :=
  (∀ a x, ((![v644] : Fin 1 → IVec S16 32) a x).toNat < S32768.size a)
theorem k1_idx290_inb : ∀ (v644 : IVec S16 32) (k1_hw290 : k1_chk290 v644), ∀ a x, ((![v644] : Fin 1 → IVec S16 32) a x).toNat < S32768.size a := fun v644 k1_hw290 => k1_hw290

def k1_chk291 (v647 : IVec S16 32) : Prop :=
  (∀ a x, ((![v647] : Fin 1 → IVec S16 32) a x).toNat < S32768.size a)
theorem k1_idx291_inb : ∀ (v647 : IVec S16 32) (k1_hw291 : k1_chk291 v647), ∀ a x, ((![v647] : Fin 1 → IVec S16 32) a x).toNat < S32768.size a := fun v647 k1_hw291 => k1_hw291

def k1_chk292 (v650 : IVec S16 32) : Prop :=
  (∀ a x, ((![v650] : Fin 1 → IVec S16 32) a x).toNat < S32768.size a)
theorem k1_idx292_inb : ∀ (v650 : IVec S16 32) (k1_hw292 : k1_chk292 v650), ∀ a x, ((![v650] : Fin 1 → IVec S16 32) a x).toNat < S32768.size a := fun v650 k1_hw292 => k1_hw292

def k1_chk293 (v653 : IVec S16 32) : Prop :=
  (∀ a x, ((![v653] : Fin 1 → IVec S16 32) a x).toNat < S32768.size a)
theorem k1_idx293_inb : ∀ (v653 : IVec S16 32) (k1_hw293 : k1_chk293 v653), ∀ a x, ((![v653] : Fin 1 → IVec S16 32) a x).toNat < S32768.size a := fun v653 k1_hw293 => k1_hw293

def k1_chk294 (v656 : IVec S16 32) : Prop :=
  (∀ a x, ((![v656] : Fin 1 → IVec S16 32) a x).toNat < S32768.size a)
theorem k1_idx294_inb : ∀ (v656 : IVec S16 32) (k1_hw294 : k1_chk294 v656), ∀ a x, ((![v656] : Fin 1 → IVec S16 32) a x).toNat < S32768.size a := fun v656 k1_hw294 => k1_hw294

def k1_chk295 (v659 : IVec S16 32) : Prop :=
  (∀ a x, ((![v659] : Fin 1 → IVec S16 32) a x).toNat < S32768.size a)
theorem k1_idx295_inb : ∀ (v659 : IVec S16 32) (k1_hw295 : k1_chk295 v659), ∀ a x, ((![v659] : Fin 1 → IVec S16 32) a x).toNat < S32768.size a := fun v659 k1_hw295 => k1_hw295

def k1_chk296 (v662 : IVec S16 32) : Prop :=
  (∀ a x, ((![v662] : Fin 1 → IVec S16 32) a x).toNat < S32768.size a)
theorem k1_idx296_inb : ∀ (v662 : IVec S16 32) (k1_hw296 : k1_chk296 v662), ∀ a x, ((![v662] : Fin 1 → IVec S16 32) a x).toNat < S32768.size a := fun v662 k1_hw296 => k1_hw296

def k1_chk297 (v665 : IVec S16 32) : Prop :=
  (∀ a x, ((![v665] : Fin 1 → IVec S16 32) a x).toNat < S32768.size a)
theorem k1_idx297_inb : ∀ (v665 : IVec S16 32) (k1_hw297 : k1_chk297 v665), ∀ a x, ((![v665] : Fin 1 → IVec S16 32) a x).toNat < S32768.size a := fun v665 k1_hw297 => k1_hw297

def k1_chk298 (v668 : IVec S16 32) : Prop :=
  (∀ a x, ((![v668] : Fin 1 → IVec S16 32) a x).toNat < S32768.size a)
theorem k1_idx298_inb : ∀ (v668 : IVec S16 32) (k1_hw298 : k1_chk298 v668), ∀ a x, ((![v668] : Fin 1 → IVec S16 32) a x).toNat < S32768.size a := fun v668 k1_hw298 => k1_hw298

def k1_chk299 (v671 : IVec S16 32) : Prop :=
  (∀ a x, ((![v671] : Fin 1 → IVec S16 32) a x).toNat < S32768.size a)
theorem k1_idx299_inb : ∀ (v671 : IVec S16 32) (k1_hw299 : k1_chk299 v671), ∀ a x, ((![v671] : Fin 1 → IVec S16 32) a x).toNat < S32768.size a := fun v671 k1_hw299 => k1_hw299

def k1_chk300 (v674 : IVec S16 32) : Prop :=
  (∀ a x, ((![v674] : Fin 1 → IVec S16 32) a x).toNat < S32768.size a)
theorem k1_idx300_inb : ∀ (v674 : IVec S16 32) (k1_hw300 : k1_chk300 v674), ∀ a x, ((![v674] : Fin 1 → IVec S16 32) a x).toNat < S32768.size a := fun v674 k1_hw300 => k1_hw300

def k1_chk301 (v677 : IVec S16 32) : Prop :=
  (∀ a x, ((![v677] : Fin 1 → IVec S16 32) a x).toNat < S32768.size a)
theorem k1_idx301_inb : ∀ (v677 : IVec S16 32) (k1_hw301 : k1_chk301 v677), ∀ a x, ((![v677] : Fin 1 → IVec S16 32) a x).toNat < S32768.size a := fun v677 k1_hw301 => k1_hw301

def k1_chk302 (v680 : IVec S16 32) : Prop :=
  (∀ a x, ((![v680] : Fin 1 → IVec S16 32) a x).toNat < S32768.size a)
theorem k1_idx302_inb : ∀ (v680 : IVec S16 32) (k1_hw302 : k1_chk302 v680), ∀ a x, ((![v680] : Fin 1 → IVec S16 32) a x).toNat < S32768.size a := fun v680 k1_hw302 => k1_hw302

def k1_chk303 (v683 : IVec S16 32) : Prop :=
  (∀ a x, ((![v683] : Fin 1 → IVec S16 32) a x).toNat < S32768.size a)
theorem k1_idx303_inb : ∀ (v683 : IVec S16 32) (k1_hw303 : k1_chk303 v683), ∀ a x, ((![v683] : Fin 1 → IVec S16 32) a x).toNat < S32768.size a := fun v683 k1_hw303 => k1_hw303

def k1_chk304 (v686 : IVec S16 32) : Prop :=
  (∀ a x, ((![v686] : Fin 1 → IVec S16 32) a x).toNat < S32768.size a)
theorem k1_idx304_inb : ∀ (v686 : IVec S16 32) (k1_hw304 : k1_chk304 v686), ∀ a x, ((![v686] : Fin 1 → IVec S16 32) a x).toNat < S32768.size a := fun v686 k1_hw304 => k1_hw304
@[reducible] def k1_t21_loop : Scf.Loop 32 :=
  let c0_i32_341 : BitVec 32 := 0#32
  let c16_i32_342 : BitVec 32 := 16#32
  let v351 : BitVec 32 := Scalar.addi c0_i32_341 c16_i32_342
  let c1_i32_343 : BitVec 32 := 1#32
  ⟨c0_i32_341, v351, c1_i32_343⟩
def k1_off22 (k1_t21 : Fin k1_t21_loop.trips) (c0_i32_627 : BitVec 32) : Fin 1 → Nat :=
  let c0_i32_341 : BitVec 32 := 0#32
  let c1_i32_343 : BitVec 32 := 1#32
  let arg16 : BitVec 32 := Scf.iv c0_i32_341 c1_i32_343 k1_t21
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk305 (v641 : IVec S16 32) : Prop :=
  (∀ a x, ((![v641] : Fin 1 → IVec S16 32) a x).toNat < S32768.size a)
theorem k1_idx305_inb : ∀ (v641 : IVec S16 32) (k1_hw305 : k1_chk305 v641), ∀ a x, ((![v641] : Fin 1 → IVec S16 32) a x).toNat < S32768.size a := fun v641 k1_hw305 => k1_hw305

def k1_chk306 (v644 : IVec S16 32) : Prop :=
  (∀ a x, ((![v644] : Fin 1 → IVec S16 32) a x).toNat < S32768.size a)
theorem k1_idx306_inb : ∀ (v644 : IVec S16 32) (k1_hw306 : k1_chk306 v644), ∀ a x, ((![v644] : Fin 1 → IVec S16 32) a x).toNat < S32768.size a := fun v644 k1_hw306 => k1_hw306

def k1_chk307 (v647 : IVec S16 32) : Prop :=
  (∀ a x, ((![v647] : Fin 1 → IVec S16 32) a x).toNat < S32768.size a)
theorem k1_idx307_inb : ∀ (v647 : IVec S16 32) (k1_hw307 : k1_chk307 v647), ∀ a x, ((![v647] : Fin 1 → IVec S16 32) a x).toNat < S32768.size a := fun v647 k1_hw307 => k1_hw307

def k1_chk308 (v650 : IVec S16 32) : Prop :=
  (∀ a x, ((![v650] : Fin 1 → IVec S16 32) a x).toNat < S32768.size a)
theorem k1_idx308_inb : ∀ (v650 : IVec S16 32) (k1_hw308 : k1_chk308 v650), ∀ a x, ((![v650] : Fin 1 → IVec S16 32) a x).toNat < S32768.size a := fun v650 k1_hw308 => k1_hw308

def k1_chk309 (v653 : IVec S16 32) : Prop :=
  (∀ a x, ((![v653] : Fin 1 → IVec S16 32) a x).toNat < S32768.size a)
theorem k1_idx309_inb : ∀ (v653 : IVec S16 32) (k1_hw309 : k1_chk309 v653), ∀ a x, ((![v653] : Fin 1 → IVec S16 32) a x).toNat < S32768.size a := fun v653 k1_hw309 => k1_hw309

def k1_chk310 (v656 : IVec S16 32) : Prop :=
  (∀ a x, ((![v656] : Fin 1 → IVec S16 32) a x).toNat < S32768.size a)
theorem k1_idx310_inb : ∀ (v656 : IVec S16 32) (k1_hw310 : k1_chk310 v656), ∀ a x, ((![v656] : Fin 1 → IVec S16 32) a x).toNat < S32768.size a := fun v656 k1_hw310 => k1_hw310

def k1_chk311 (v659 : IVec S16 32) : Prop :=
  (∀ a x, ((![v659] : Fin 1 → IVec S16 32) a x).toNat < S32768.size a)
theorem k1_idx311_inb : ∀ (v659 : IVec S16 32) (k1_hw311 : k1_chk311 v659), ∀ a x, ((![v659] : Fin 1 → IVec S16 32) a x).toNat < S32768.size a := fun v659 k1_hw311 => k1_hw311

def k1_chk312 (v662 : IVec S16 32) : Prop :=
  (∀ a x, ((![v662] : Fin 1 → IVec S16 32) a x).toNat < S32768.size a)
theorem k1_idx312_inb : ∀ (v662 : IVec S16 32) (k1_hw312 : k1_chk312 v662), ∀ a x, ((![v662] : Fin 1 → IVec S16 32) a x).toNat < S32768.size a := fun v662 k1_hw312 => k1_hw312

def k1_chk313 (v665 : IVec S16 32) : Prop :=
  (∀ a x, ((![v665] : Fin 1 → IVec S16 32) a x).toNat < S32768.size a)
theorem k1_idx313_inb : ∀ (v665 : IVec S16 32) (k1_hw313 : k1_chk313 v665), ∀ a x, ((![v665] : Fin 1 → IVec S16 32) a x).toNat < S32768.size a := fun v665 k1_hw313 => k1_hw313

def k1_chk314 (v668 : IVec S16 32) : Prop :=
  (∀ a x, ((![v668] : Fin 1 → IVec S16 32) a x).toNat < S32768.size a)
theorem k1_idx314_inb : ∀ (v668 : IVec S16 32) (k1_hw314 : k1_chk314 v668), ∀ a x, ((![v668] : Fin 1 → IVec S16 32) a x).toNat < S32768.size a := fun v668 k1_hw314 => k1_hw314

def k1_chk315 (v671 : IVec S16 32) : Prop :=
  (∀ a x, ((![v671] : Fin 1 → IVec S16 32) a x).toNat < S32768.size a)
theorem k1_idx315_inb : ∀ (v671 : IVec S16 32) (k1_hw315 : k1_chk315 v671), ∀ a x, ((![v671] : Fin 1 → IVec S16 32) a x).toNat < S32768.size a := fun v671 k1_hw315 => k1_hw315

def k1_chk316 (v674 : IVec S16 32) : Prop :=
  (∀ a x, ((![v674] : Fin 1 → IVec S16 32) a x).toNat < S32768.size a)
theorem k1_idx316_inb : ∀ (v674 : IVec S16 32) (k1_hw316 : k1_chk316 v674), ∀ a x, ((![v674] : Fin 1 → IVec S16 32) a x).toNat < S32768.size a := fun v674 k1_hw316 => k1_hw316

def k1_chk317 (v677 : IVec S16 32) : Prop :=
  (∀ a x, ((![v677] : Fin 1 → IVec S16 32) a x).toNat < S32768.size a)
theorem k1_idx317_inb : ∀ (v677 : IVec S16 32) (k1_hw317 : k1_chk317 v677), ∀ a x, ((![v677] : Fin 1 → IVec S16 32) a x).toNat < S32768.size a := fun v677 k1_hw317 => k1_hw317

def k1_chk318 (v680 : IVec S16 32) : Prop :=
  (∀ a x, ((![v680] : Fin 1 → IVec S16 32) a x).toNat < S32768.size a)
theorem k1_idx318_inb : ∀ (v680 : IVec S16 32) (k1_hw318 : k1_chk318 v680), ∀ a x, ((![v680] : Fin 1 → IVec S16 32) a x).toNat < S32768.size a := fun v680 k1_hw318 => k1_hw318

def k1_chk319 (v683 : IVec S16 32) : Prop :=
  (∀ a x, ((![v683] : Fin 1 → IVec S16 32) a x).toNat < S32768.size a)
theorem k1_idx319_inb : ∀ (v683 : IVec S16 32) (k1_hw319 : k1_chk319 v683), ∀ a x, ((![v683] : Fin 1 → IVec S16 32) a x).toNat < S32768.size a := fun v683 k1_hw319 => k1_hw319

def k1_chk320 (v686 : IVec S16 32) : Prop :=
  (∀ a x, ((![v686] : Fin 1 → IVec S16 32) a x).toNat < S32768.size a)
theorem k1_idx320_inb : ∀ (v686 : IVec S16 32) (k1_hw320 : k1_chk320 v686), ∀ a x, ((![v686] : Fin 1 → IVec S16 32) a x).toNat < S32768.size a := fun v686 k1_hw320 => k1_hw320
@[reducible] def k1_t22_loop : Scf.Loop 32 :=
  let c0_i32_351 : BitVec 32 := 0#32
  let c16_i32_352 : BitVec 32 := 16#32
  let v361 : BitVec 32 := Scalar.addi c0_i32_351 c16_i32_352
  let c1_i32_353 : BitVec 32 := 1#32
  ⟨c0_i32_351, v361, c1_i32_353⟩
def k1_off23 (k1_t22 : Fin k1_t22_loop.trips) (c0_i32_627 : BitVec 32) : Fin 1 → Nat :=
  let c0_i32_351 : BitVec 32 := 0#32
  let c1_i32_353 : BitVec 32 := 1#32
  let arg16 : BitVec 32 := Scf.iv c0_i32_351 c1_i32_353 k1_t22
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk321 (v641 : IVec S16 32) : Prop :=
  (∀ a x, ((![v641] : Fin 1 → IVec S16 32) a x).toNat < S32768.size a)
theorem k1_idx321_inb : ∀ (v641 : IVec S16 32) (k1_hw321 : k1_chk321 v641), ∀ a x, ((![v641] : Fin 1 → IVec S16 32) a x).toNat < S32768.size a := fun v641 k1_hw321 => k1_hw321

def k1_chk322 (v644 : IVec S16 32) : Prop :=
  (∀ a x, ((![v644] : Fin 1 → IVec S16 32) a x).toNat < S32768.size a)
theorem k1_idx322_inb : ∀ (v644 : IVec S16 32) (k1_hw322 : k1_chk322 v644), ∀ a x, ((![v644] : Fin 1 → IVec S16 32) a x).toNat < S32768.size a := fun v644 k1_hw322 => k1_hw322

def k1_chk323 (v647 : IVec S16 32) : Prop :=
  (∀ a x, ((![v647] : Fin 1 → IVec S16 32) a x).toNat < S32768.size a)
theorem k1_idx323_inb : ∀ (v647 : IVec S16 32) (k1_hw323 : k1_chk323 v647), ∀ a x, ((![v647] : Fin 1 → IVec S16 32) a x).toNat < S32768.size a := fun v647 k1_hw323 => k1_hw323

def k1_chk324 (v650 : IVec S16 32) : Prop :=
  (∀ a x, ((![v650] : Fin 1 → IVec S16 32) a x).toNat < S32768.size a)
theorem k1_idx324_inb : ∀ (v650 : IVec S16 32) (k1_hw324 : k1_chk324 v650), ∀ a x, ((![v650] : Fin 1 → IVec S16 32) a x).toNat < S32768.size a := fun v650 k1_hw324 => k1_hw324

def k1_chk325 (v653 : IVec S16 32) : Prop :=
  (∀ a x, ((![v653] : Fin 1 → IVec S16 32) a x).toNat < S32768.size a)
theorem k1_idx325_inb : ∀ (v653 : IVec S16 32) (k1_hw325 : k1_chk325 v653), ∀ a x, ((![v653] : Fin 1 → IVec S16 32) a x).toNat < S32768.size a := fun v653 k1_hw325 => k1_hw325

def k1_chk326 (v656 : IVec S16 32) : Prop :=
  (∀ a x, ((![v656] : Fin 1 → IVec S16 32) a x).toNat < S32768.size a)
theorem k1_idx326_inb : ∀ (v656 : IVec S16 32) (k1_hw326 : k1_chk326 v656), ∀ a x, ((![v656] : Fin 1 → IVec S16 32) a x).toNat < S32768.size a := fun v656 k1_hw326 => k1_hw326

def k1_chk327 (v659 : IVec S16 32) : Prop :=
  (∀ a x, ((![v659] : Fin 1 → IVec S16 32) a x).toNat < S32768.size a)
theorem k1_idx327_inb : ∀ (v659 : IVec S16 32) (k1_hw327 : k1_chk327 v659), ∀ a x, ((![v659] : Fin 1 → IVec S16 32) a x).toNat < S32768.size a := fun v659 k1_hw327 => k1_hw327

def k1_chk328 (v662 : IVec S16 32) : Prop :=
  (∀ a x, ((![v662] : Fin 1 → IVec S16 32) a x).toNat < S32768.size a)
theorem k1_idx328_inb : ∀ (v662 : IVec S16 32) (k1_hw328 : k1_chk328 v662), ∀ a x, ((![v662] : Fin 1 → IVec S16 32) a x).toNat < S32768.size a := fun v662 k1_hw328 => k1_hw328

def k1_chk329 (v665 : IVec S16 32) : Prop :=
  (∀ a x, ((![v665] : Fin 1 → IVec S16 32) a x).toNat < S32768.size a)
theorem k1_idx329_inb : ∀ (v665 : IVec S16 32) (k1_hw329 : k1_chk329 v665), ∀ a x, ((![v665] : Fin 1 → IVec S16 32) a x).toNat < S32768.size a := fun v665 k1_hw329 => k1_hw329

def k1_chk330 (v668 : IVec S16 32) : Prop :=
  (∀ a x, ((![v668] : Fin 1 → IVec S16 32) a x).toNat < S32768.size a)
theorem k1_idx330_inb : ∀ (v668 : IVec S16 32) (k1_hw330 : k1_chk330 v668), ∀ a x, ((![v668] : Fin 1 → IVec S16 32) a x).toNat < S32768.size a := fun v668 k1_hw330 => k1_hw330

def k1_chk331 (v671 : IVec S16 32) : Prop :=
  (∀ a x, ((![v671] : Fin 1 → IVec S16 32) a x).toNat < S32768.size a)
theorem k1_idx331_inb : ∀ (v671 : IVec S16 32) (k1_hw331 : k1_chk331 v671), ∀ a x, ((![v671] : Fin 1 → IVec S16 32) a x).toNat < S32768.size a := fun v671 k1_hw331 => k1_hw331

def k1_chk332 (v674 : IVec S16 32) : Prop :=
  (∀ a x, ((![v674] : Fin 1 → IVec S16 32) a x).toNat < S32768.size a)
theorem k1_idx332_inb : ∀ (v674 : IVec S16 32) (k1_hw332 : k1_chk332 v674), ∀ a x, ((![v674] : Fin 1 → IVec S16 32) a x).toNat < S32768.size a := fun v674 k1_hw332 => k1_hw332

def k1_chk333 (v677 : IVec S16 32) : Prop :=
  (∀ a x, ((![v677] : Fin 1 → IVec S16 32) a x).toNat < S32768.size a)
theorem k1_idx333_inb : ∀ (v677 : IVec S16 32) (k1_hw333 : k1_chk333 v677), ∀ a x, ((![v677] : Fin 1 → IVec S16 32) a x).toNat < S32768.size a := fun v677 k1_hw333 => k1_hw333

def k1_chk334 (v680 : IVec S16 32) : Prop :=
  (∀ a x, ((![v680] : Fin 1 → IVec S16 32) a x).toNat < S32768.size a)
theorem k1_idx334_inb : ∀ (v680 : IVec S16 32) (k1_hw334 : k1_chk334 v680), ∀ a x, ((![v680] : Fin 1 → IVec S16 32) a x).toNat < S32768.size a := fun v680 k1_hw334 => k1_hw334

def k1_chk335 (v683 : IVec S16 32) : Prop :=
  (∀ a x, ((![v683] : Fin 1 → IVec S16 32) a x).toNat < S32768.size a)
theorem k1_idx335_inb : ∀ (v683 : IVec S16 32) (k1_hw335 : k1_chk335 v683), ∀ a x, ((![v683] : Fin 1 → IVec S16 32) a x).toNat < S32768.size a := fun v683 k1_hw335 => k1_hw335

def k1_chk336 (v686 : IVec S16 32) : Prop :=
  (∀ a x, ((![v686] : Fin 1 → IVec S16 32) a x).toNat < S32768.size a)
theorem k1_idx336_inb : ∀ (v686 : IVec S16 32) (k1_hw336 : k1_chk336 v686), ∀ a x, ((![v686] : Fin 1 → IVec S16 32) a x).toNat < S32768.size a := fun v686 k1_hw336 => k1_hw336
@[reducible] def k1_t23_loop : Scf.Loop 32 :=
  let c0_i32_361 : BitVec 32 := 0#32
  let c16_i32_362 : BitVec 32 := 16#32
  let v371 : BitVec 32 := Scalar.addi c0_i32_361 c16_i32_362
  let c1_i32_363 : BitVec 32 := 1#32
  ⟨c0_i32_361, v371, c1_i32_363⟩
def k1_off24 (k1_t23 : Fin k1_t23_loop.trips) (c0_i32_627 : BitVec 32) : Fin 1 → Nat :=
  let c0_i32_361 : BitVec 32 := 0#32
  let c1_i32_363 : BitVec 32 := 1#32
  let arg16 : BitVec 32 := Scf.iv c0_i32_361 c1_i32_363 k1_t23
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk337 (v641 : IVec S16 32) : Prop :=
  (∀ a x, ((![v641] : Fin 1 → IVec S16 32) a x).toNat < S32768.size a)
theorem k1_idx337_inb : ∀ (v641 : IVec S16 32) (k1_hw337 : k1_chk337 v641), ∀ a x, ((![v641] : Fin 1 → IVec S16 32) a x).toNat < S32768.size a := fun v641 k1_hw337 => k1_hw337

def k1_chk338 (v644 : IVec S16 32) : Prop :=
  (∀ a x, ((![v644] : Fin 1 → IVec S16 32) a x).toNat < S32768.size a)
theorem k1_idx338_inb : ∀ (v644 : IVec S16 32) (k1_hw338 : k1_chk338 v644), ∀ a x, ((![v644] : Fin 1 → IVec S16 32) a x).toNat < S32768.size a := fun v644 k1_hw338 => k1_hw338

def k1_chk339 (v647 : IVec S16 32) : Prop :=
  (∀ a x, ((![v647] : Fin 1 → IVec S16 32) a x).toNat < S32768.size a)
theorem k1_idx339_inb : ∀ (v647 : IVec S16 32) (k1_hw339 : k1_chk339 v647), ∀ a x, ((![v647] : Fin 1 → IVec S16 32) a x).toNat < S32768.size a := fun v647 k1_hw339 => k1_hw339

def k1_chk340 (v650 : IVec S16 32) : Prop :=
  (∀ a x, ((![v650] : Fin 1 → IVec S16 32) a x).toNat < S32768.size a)
theorem k1_idx340_inb : ∀ (v650 : IVec S16 32) (k1_hw340 : k1_chk340 v650), ∀ a x, ((![v650] : Fin 1 → IVec S16 32) a x).toNat < S32768.size a := fun v650 k1_hw340 => k1_hw340

def k1_chk341 (v653 : IVec S16 32) : Prop :=
  (∀ a x, ((![v653] : Fin 1 → IVec S16 32) a x).toNat < S32768.size a)
theorem k1_idx341_inb : ∀ (v653 : IVec S16 32) (k1_hw341 : k1_chk341 v653), ∀ a x, ((![v653] : Fin 1 → IVec S16 32) a x).toNat < S32768.size a := fun v653 k1_hw341 => k1_hw341

def k1_chk342 (v656 : IVec S16 32) : Prop :=
  (∀ a x, ((![v656] : Fin 1 → IVec S16 32) a x).toNat < S32768.size a)
theorem k1_idx342_inb : ∀ (v656 : IVec S16 32) (k1_hw342 : k1_chk342 v656), ∀ a x, ((![v656] : Fin 1 → IVec S16 32) a x).toNat < S32768.size a := fun v656 k1_hw342 => k1_hw342

def k1_chk343 (v659 : IVec S16 32) : Prop :=
  (∀ a x, ((![v659] : Fin 1 → IVec S16 32) a x).toNat < S32768.size a)
theorem k1_idx343_inb : ∀ (v659 : IVec S16 32) (k1_hw343 : k1_chk343 v659), ∀ a x, ((![v659] : Fin 1 → IVec S16 32) a x).toNat < S32768.size a := fun v659 k1_hw343 => k1_hw343

def k1_chk344 (v662 : IVec S16 32) : Prop :=
  (∀ a x, ((![v662] : Fin 1 → IVec S16 32) a x).toNat < S32768.size a)
theorem k1_idx344_inb : ∀ (v662 : IVec S16 32) (k1_hw344 : k1_chk344 v662), ∀ a x, ((![v662] : Fin 1 → IVec S16 32) a x).toNat < S32768.size a := fun v662 k1_hw344 => k1_hw344

def k1_chk345 (v665 : IVec S16 32) : Prop :=
  (∀ a x, ((![v665] : Fin 1 → IVec S16 32) a x).toNat < S32768.size a)
theorem k1_idx345_inb : ∀ (v665 : IVec S16 32) (k1_hw345 : k1_chk345 v665), ∀ a x, ((![v665] : Fin 1 → IVec S16 32) a x).toNat < S32768.size a := fun v665 k1_hw345 => k1_hw345

def k1_chk346 (v668 : IVec S16 32) : Prop :=
  (∀ a x, ((![v668] : Fin 1 → IVec S16 32) a x).toNat < S32768.size a)
theorem k1_idx346_inb : ∀ (v668 : IVec S16 32) (k1_hw346 : k1_chk346 v668), ∀ a x, ((![v668] : Fin 1 → IVec S16 32) a x).toNat < S32768.size a := fun v668 k1_hw346 => k1_hw346

def k1_chk347 (v671 : IVec S16 32) : Prop :=
  (∀ a x, ((![v671] : Fin 1 → IVec S16 32) a x).toNat < S32768.size a)
theorem k1_idx347_inb : ∀ (v671 : IVec S16 32) (k1_hw347 : k1_chk347 v671), ∀ a x, ((![v671] : Fin 1 → IVec S16 32) a x).toNat < S32768.size a := fun v671 k1_hw347 => k1_hw347

def k1_chk348 (v674 : IVec S16 32) : Prop :=
  (∀ a x, ((![v674] : Fin 1 → IVec S16 32) a x).toNat < S32768.size a)
theorem k1_idx348_inb : ∀ (v674 : IVec S16 32) (k1_hw348 : k1_chk348 v674), ∀ a x, ((![v674] : Fin 1 → IVec S16 32) a x).toNat < S32768.size a := fun v674 k1_hw348 => k1_hw348

def k1_chk349 (v677 : IVec S16 32) : Prop :=
  (∀ a x, ((![v677] : Fin 1 → IVec S16 32) a x).toNat < S32768.size a)
theorem k1_idx349_inb : ∀ (v677 : IVec S16 32) (k1_hw349 : k1_chk349 v677), ∀ a x, ((![v677] : Fin 1 → IVec S16 32) a x).toNat < S32768.size a := fun v677 k1_hw349 => k1_hw349

def k1_chk350 (v680 : IVec S16 32) : Prop :=
  (∀ a x, ((![v680] : Fin 1 → IVec S16 32) a x).toNat < S32768.size a)
theorem k1_idx350_inb : ∀ (v680 : IVec S16 32) (k1_hw350 : k1_chk350 v680), ∀ a x, ((![v680] : Fin 1 → IVec S16 32) a x).toNat < S32768.size a := fun v680 k1_hw350 => k1_hw350

def k1_chk351 (v683 : IVec S16 32) : Prop :=
  (∀ a x, ((![v683] : Fin 1 → IVec S16 32) a x).toNat < S32768.size a)
theorem k1_idx351_inb : ∀ (v683 : IVec S16 32) (k1_hw351 : k1_chk351 v683), ∀ a x, ((![v683] : Fin 1 → IVec S16 32) a x).toNat < S32768.size a := fun v683 k1_hw351 => k1_hw351

def k1_chk352 (v686 : IVec S16 32) : Prop :=
  (∀ a x, ((![v686] : Fin 1 → IVec S16 32) a x).toNat < S32768.size a)
theorem k1_idx352_inb : ∀ (v686 : IVec S16 32) (k1_hw352 : k1_chk352 v686), ∀ a x, ((![v686] : Fin 1 → IVec S16 32) a x).toNat < S32768.size a := fun v686 k1_hw352 => k1_hw352
@[reducible] def k1_t24_loop : Scf.Loop 32 :=
  let c0_i32_371 : BitVec 32 := 0#32
  let c16_i32_372 : BitVec 32 := 16#32
  let v381 : BitVec 32 := Scalar.addi c0_i32_371 c16_i32_372
  let c1_i32_373 : BitVec 32 := 1#32
  ⟨c0_i32_371, v381, c1_i32_373⟩
def k1_off25 (k1_t24 : Fin k1_t24_loop.trips) (c0_i32_627 : BitVec 32) : Fin 1 → Nat :=
  let c0_i32_371 : BitVec 32 := 0#32
  let c1_i32_373 : BitVec 32 := 1#32
  let arg16 : BitVec 32 := Scf.iv c0_i32_371 c1_i32_373 k1_t24
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk353 (v641 : IVec S16 32) : Prop :=
  (∀ a x, ((![v641] : Fin 1 → IVec S16 32) a x).toNat < S32768.size a)
theorem k1_idx353_inb : ∀ (v641 : IVec S16 32) (k1_hw353 : k1_chk353 v641), ∀ a x, ((![v641] : Fin 1 → IVec S16 32) a x).toNat < S32768.size a := fun v641 k1_hw353 => k1_hw353

def k1_chk354 (v644 : IVec S16 32) : Prop :=
  (∀ a x, ((![v644] : Fin 1 → IVec S16 32) a x).toNat < S32768.size a)
theorem k1_idx354_inb : ∀ (v644 : IVec S16 32) (k1_hw354 : k1_chk354 v644), ∀ a x, ((![v644] : Fin 1 → IVec S16 32) a x).toNat < S32768.size a := fun v644 k1_hw354 => k1_hw354

def k1_chk355 (v647 : IVec S16 32) : Prop :=
  (∀ a x, ((![v647] : Fin 1 → IVec S16 32) a x).toNat < S32768.size a)
theorem k1_idx355_inb : ∀ (v647 : IVec S16 32) (k1_hw355 : k1_chk355 v647), ∀ a x, ((![v647] : Fin 1 → IVec S16 32) a x).toNat < S32768.size a := fun v647 k1_hw355 => k1_hw355

def k1_chk356 (v650 : IVec S16 32) : Prop :=
  (∀ a x, ((![v650] : Fin 1 → IVec S16 32) a x).toNat < S32768.size a)
theorem k1_idx356_inb : ∀ (v650 : IVec S16 32) (k1_hw356 : k1_chk356 v650), ∀ a x, ((![v650] : Fin 1 → IVec S16 32) a x).toNat < S32768.size a := fun v650 k1_hw356 => k1_hw356

def k1_chk357 (v653 : IVec S16 32) : Prop :=
  (∀ a x, ((![v653] : Fin 1 → IVec S16 32) a x).toNat < S32768.size a)
theorem k1_idx357_inb : ∀ (v653 : IVec S16 32) (k1_hw357 : k1_chk357 v653), ∀ a x, ((![v653] : Fin 1 → IVec S16 32) a x).toNat < S32768.size a := fun v653 k1_hw357 => k1_hw357

def k1_chk358 (v656 : IVec S16 32) : Prop :=
  (∀ a x, ((![v656] : Fin 1 → IVec S16 32) a x).toNat < S32768.size a)
theorem k1_idx358_inb : ∀ (v656 : IVec S16 32) (k1_hw358 : k1_chk358 v656), ∀ a x, ((![v656] : Fin 1 → IVec S16 32) a x).toNat < S32768.size a := fun v656 k1_hw358 => k1_hw358

def k1_chk359 (v659 : IVec S16 32) : Prop :=
  (∀ a x, ((![v659] : Fin 1 → IVec S16 32) a x).toNat < S32768.size a)
theorem k1_idx359_inb : ∀ (v659 : IVec S16 32) (k1_hw359 : k1_chk359 v659), ∀ a x, ((![v659] : Fin 1 → IVec S16 32) a x).toNat < S32768.size a := fun v659 k1_hw359 => k1_hw359

def k1_chk360 (v662 : IVec S16 32) : Prop :=
  (∀ a x, ((![v662] : Fin 1 → IVec S16 32) a x).toNat < S32768.size a)
theorem k1_idx360_inb : ∀ (v662 : IVec S16 32) (k1_hw360 : k1_chk360 v662), ∀ a x, ((![v662] : Fin 1 → IVec S16 32) a x).toNat < S32768.size a := fun v662 k1_hw360 => k1_hw360

def k1_chk361 (v665 : IVec S16 32) : Prop :=
  (∀ a x, ((![v665] : Fin 1 → IVec S16 32) a x).toNat < S32768.size a)
theorem k1_idx361_inb : ∀ (v665 : IVec S16 32) (k1_hw361 : k1_chk361 v665), ∀ a x, ((![v665] : Fin 1 → IVec S16 32) a x).toNat < S32768.size a := fun v665 k1_hw361 => k1_hw361

def k1_chk362 (v668 : IVec S16 32) : Prop :=
  (∀ a x, ((![v668] : Fin 1 → IVec S16 32) a x).toNat < S32768.size a)
theorem k1_idx362_inb : ∀ (v668 : IVec S16 32) (k1_hw362 : k1_chk362 v668), ∀ a x, ((![v668] : Fin 1 → IVec S16 32) a x).toNat < S32768.size a := fun v668 k1_hw362 => k1_hw362

def k1_chk363 (v671 : IVec S16 32) : Prop :=
  (∀ a x, ((![v671] : Fin 1 → IVec S16 32) a x).toNat < S32768.size a)
theorem k1_idx363_inb : ∀ (v671 : IVec S16 32) (k1_hw363 : k1_chk363 v671), ∀ a x, ((![v671] : Fin 1 → IVec S16 32) a x).toNat < S32768.size a := fun v671 k1_hw363 => k1_hw363

def k1_chk364 (v674 : IVec S16 32) : Prop :=
  (∀ a x, ((![v674] : Fin 1 → IVec S16 32) a x).toNat < S32768.size a)
theorem k1_idx364_inb : ∀ (v674 : IVec S16 32) (k1_hw364 : k1_chk364 v674), ∀ a x, ((![v674] : Fin 1 → IVec S16 32) a x).toNat < S32768.size a := fun v674 k1_hw364 => k1_hw364

def k1_chk365 (v677 : IVec S16 32) : Prop :=
  (∀ a x, ((![v677] : Fin 1 → IVec S16 32) a x).toNat < S32768.size a)
theorem k1_idx365_inb : ∀ (v677 : IVec S16 32) (k1_hw365 : k1_chk365 v677), ∀ a x, ((![v677] : Fin 1 → IVec S16 32) a x).toNat < S32768.size a := fun v677 k1_hw365 => k1_hw365

def k1_chk366 (v680 : IVec S16 32) : Prop :=
  (∀ a x, ((![v680] : Fin 1 → IVec S16 32) a x).toNat < S32768.size a)
theorem k1_idx366_inb : ∀ (v680 : IVec S16 32) (k1_hw366 : k1_chk366 v680), ∀ a x, ((![v680] : Fin 1 → IVec S16 32) a x).toNat < S32768.size a := fun v680 k1_hw366 => k1_hw366

def k1_chk367 (v683 : IVec S16 32) : Prop :=
  (∀ a x, ((![v683] : Fin 1 → IVec S16 32) a x).toNat < S32768.size a)
theorem k1_idx367_inb : ∀ (v683 : IVec S16 32) (k1_hw367 : k1_chk367 v683), ∀ a x, ((![v683] : Fin 1 → IVec S16 32) a x).toNat < S32768.size a := fun v683 k1_hw367 => k1_hw367

def k1_chk368 (v686 : IVec S16 32) : Prop :=
  (∀ a x, ((![v686] : Fin 1 → IVec S16 32) a x).toNat < S32768.size a)
theorem k1_idx368_inb : ∀ (v686 : IVec S16 32) (k1_hw368 : k1_chk368 v686), ∀ a x, ((![v686] : Fin 1 → IVec S16 32) a x).toNat < S32768.size a := fun v686 k1_hw368 => k1_hw368
@[reducible] def k1_t25_loop : Scf.Loop 32 :=
  let c0_i32_381 : BitVec 32 := 0#32
  let c16_i32_382 : BitVec 32 := 16#32
  let v391 : BitVec 32 := Scalar.addi c0_i32_381 c16_i32_382
  let c1_i32_383 : BitVec 32 := 1#32
  ⟨c0_i32_381, v391, c1_i32_383⟩
def k1_off26 (k1_t25 : Fin k1_t25_loop.trips) (c0_i32_627 : BitVec 32) : Fin 1 → Nat :=
  let c0_i32_381 : BitVec 32 := 0#32
  let c1_i32_383 : BitVec 32 := 1#32
  let arg16 : BitVec 32 := Scf.iv c0_i32_381 c1_i32_383 k1_t25
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk369 (v641 : IVec S16 32) : Prop :=
  (∀ a x, ((![v641] : Fin 1 → IVec S16 32) a x).toNat < S32768.size a)
theorem k1_idx369_inb : ∀ (v641 : IVec S16 32) (k1_hw369 : k1_chk369 v641), ∀ a x, ((![v641] : Fin 1 → IVec S16 32) a x).toNat < S32768.size a := fun v641 k1_hw369 => k1_hw369

def k1_chk370 (v644 : IVec S16 32) : Prop :=
  (∀ a x, ((![v644] : Fin 1 → IVec S16 32) a x).toNat < S32768.size a)
theorem k1_idx370_inb : ∀ (v644 : IVec S16 32) (k1_hw370 : k1_chk370 v644), ∀ a x, ((![v644] : Fin 1 → IVec S16 32) a x).toNat < S32768.size a := fun v644 k1_hw370 => k1_hw370

def k1_chk371 (v647 : IVec S16 32) : Prop :=
  (∀ a x, ((![v647] : Fin 1 → IVec S16 32) a x).toNat < S32768.size a)
theorem k1_idx371_inb : ∀ (v647 : IVec S16 32) (k1_hw371 : k1_chk371 v647), ∀ a x, ((![v647] : Fin 1 → IVec S16 32) a x).toNat < S32768.size a := fun v647 k1_hw371 => k1_hw371

def k1_chk372 (v650 : IVec S16 32) : Prop :=
  (∀ a x, ((![v650] : Fin 1 → IVec S16 32) a x).toNat < S32768.size a)
theorem k1_idx372_inb : ∀ (v650 : IVec S16 32) (k1_hw372 : k1_chk372 v650), ∀ a x, ((![v650] : Fin 1 → IVec S16 32) a x).toNat < S32768.size a := fun v650 k1_hw372 => k1_hw372

def k1_chk373 (v653 : IVec S16 32) : Prop :=
  (∀ a x, ((![v653] : Fin 1 → IVec S16 32) a x).toNat < S32768.size a)
theorem k1_idx373_inb : ∀ (v653 : IVec S16 32) (k1_hw373 : k1_chk373 v653), ∀ a x, ((![v653] : Fin 1 → IVec S16 32) a x).toNat < S32768.size a := fun v653 k1_hw373 => k1_hw373

def k1_chk374 (v656 : IVec S16 32) : Prop :=
  (∀ a x, ((![v656] : Fin 1 → IVec S16 32) a x).toNat < S32768.size a)
theorem k1_idx374_inb : ∀ (v656 : IVec S16 32) (k1_hw374 : k1_chk374 v656), ∀ a x, ((![v656] : Fin 1 → IVec S16 32) a x).toNat < S32768.size a := fun v656 k1_hw374 => k1_hw374

def k1_chk375 (v659 : IVec S16 32) : Prop :=
  (∀ a x, ((![v659] : Fin 1 → IVec S16 32) a x).toNat < S32768.size a)
theorem k1_idx375_inb : ∀ (v659 : IVec S16 32) (k1_hw375 : k1_chk375 v659), ∀ a x, ((![v659] : Fin 1 → IVec S16 32) a x).toNat < S32768.size a := fun v659 k1_hw375 => k1_hw375

def k1_chk376 (v662 : IVec S16 32) : Prop :=
  (∀ a x, ((![v662] : Fin 1 → IVec S16 32) a x).toNat < S32768.size a)
theorem k1_idx376_inb : ∀ (v662 : IVec S16 32) (k1_hw376 : k1_chk376 v662), ∀ a x, ((![v662] : Fin 1 → IVec S16 32) a x).toNat < S32768.size a := fun v662 k1_hw376 => k1_hw376

def k1_chk377 (v665 : IVec S16 32) : Prop :=
  (∀ a x, ((![v665] : Fin 1 → IVec S16 32) a x).toNat < S32768.size a)
theorem k1_idx377_inb : ∀ (v665 : IVec S16 32) (k1_hw377 : k1_chk377 v665), ∀ a x, ((![v665] : Fin 1 → IVec S16 32) a x).toNat < S32768.size a := fun v665 k1_hw377 => k1_hw377

def k1_chk378 (v668 : IVec S16 32) : Prop :=
  (∀ a x, ((![v668] : Fin 1 → IVec S16 32) a x).toNat < S32768.size a)
theorem k1_idx378_inb : ∀ (v668 : IVec S16 32) (k1_hw378 : k1_chk378 v668), ∀ a x, ((![v668] : Fin 1 → IVec S16 32) a x).toNat < S32768.size a := fun v668 k1_hw378 => k1_hw378

def k1_chk379 (v671 : IVec S16 32) : Prop :=
  (∀ a x, ((![v671] : Fin 1 → IVec S16 32) a x).toNat < S32768.size a)
theorem k1_idx379_inb : ∀ (v671 : IVec S16 32) (k1_hw379 : k1_chk379 v671), ∀ a x, ((![v671] : Fin 1 → IVec S16 32) a x).toNat < S32768.size a := fun v671 k1_hw379 => k1_hw379

def k1_chk380 (v674 : IVec S16 32) : Prop :=
  (∀ a x, ((![v674] : Fin 1 → IVec S16 32) a x).toNat < S32768.size a)
theorem k1_idx380_inb : ∀ (v674 : IVec S16 32) (k1_hw380 : k1_chk380 v674), ∀ a x, ((![v674] : Fin 1 → IVec S16 32) a x).toNat < S32768.size a := fun v674 k1_hw380 => k1_hw380

def k1_chk381 (v677 : IVec S16 32) : Prop :=
  (∀ a x, ((![v677] : Fin 1 → IVec S16 32) a x).toNat < S32768.size a)
theorem k1_idx381_inb : ∀ (v677 : IVec S16 32) (k1_hw381 : k1_chk381 v677), ∀ a x, ((![v677] : Fin 1 → IVec S16 32) a x).toNat < S32768.size a := fun v677 k1_hw381 => k1_hw381

def k1_chk382 (v680 : IVec S16 32) : Prop :=
  (∀ a x, ((![v680] : Fin 1 → IVec S16 32) a x).toNat < S32768.size a)
theorem k1_idx382_inb : ∀ (v680 : IVec S16 32) (k1_hw382 : k1_chk382 v680), ∀ a x, ((![v680] : Fin 1 → IVec S16 32) a x).toNat < S32768.size a := fun v680 k1_hw382 => k1_hw382

def k1_chk383 (v683 : IVec S16 32) : Prop :=
  (∀ a x, ((![v683] : Fin 1 → IVec S16 32) a x).toNat < S32768.size a)
theorem k1_idx383_inb : ∀ (v683 : IVec S16 32) (k1_hw383 : k1_chk383 v683), ∀ a x, ((![v683] : Fin 1 → IVec S16 32) a x).toNat < S32768.size a := fun v683 k1_hw383 => k1_hw383

def k1_chk384 (v686 : IVec S16 32) : Prop :=
  (∀ a x, ((![v686] : Fin 1 → IVec S16 32) a x).toNat < S32768.size a)
theorem k1_idx384_inb : ∀ (v686 : IVec S16 32) (k1_hw384 : k1_chk384 v686), ∀ a x, ((![v686] : Fin 1 → IVec S16 32) a x).toNat < S32768.size a := fun v686 k1_hw384 => k1_hw384
@[reducible] def k1_t26_loop : Scf.Loop 32 :=
  let c0_i32_391 : BitVec 32 := 0#32
  let c16_i32_392 : BitVec 32 := 16#32
  let v401 : BitVec 32 := Scalar.addi c0_i32_391 c16_i32_392
  let c1_i32_393 : BitVec 32 := 1#32
  ⟨c0_i32_391, v401, c1_i32_393⟩
def k1_off27 (k1_t26 : Fin k1_t26_loop.trips) (c0_i32_627 : BitVec 32) : Fin 1 → Nat :=
  let c0_i32_391 : BitVec 32 := 0#32
  let c1_i32_393 : BitVec 32 := 1#32
  let arg16 : BitVec 32 := Scf.iv c0_i32_391 c1_i32_393 k1_t26
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk385 (v641 : IVec S16 32) : Prop :=
  (∀ a x, ((![v641] : Fin 1 → IVec S16 32) a x).toNat < S32768.size a)
theorem k1_idx385_inb : ∀ (v641 : IVec S16 32) (k1_hw385 : k1_chk385 v641), ∀ a x, ((![v641] : Fin 1 → IVec S16 32) a x).toNat < S32768.size a := fun v641 k1_hw385 => k1_hw385

def k1_chk386 (v644 : IVec S16 32) : Prop :=
  (∀ a x, ((![v644] : Fin 1 → IVec S16 32) a x).toNat < S32768.size a)
theorem k1_idx386_inb : ∀ (v644 : IVec S16 32) (k1_hw386 : k1_chk386 v644), ∀ a x, ((![v644] : Fin 1 → IVec S16 32) a x).toNat < S32768.size a := fun v644 k1_hw386 => k1_hw386

def k1_chk387 (v647 : IVec S16 32) : Prop :=
  (∀ a x, ((![v647] : Fin 1 → IVec S16 32) a x).toNat < S32768.size a)
theorem k1_idx387_inb : ∀ (v647 : IVec S16 32) (k1_hw387 : k1_chk387 v647), ∀ a x, ((![v647] : Fin 1 → IVec S16 32) a x).toNat < S32768.size a := fun v647 k1_hw387 => k1_hw387

def k1_chk388 (v650 : IVec S16 32) : Prop :=
  (∀ a x, ((![v650] : Fin 1 → IVec S16 32) a x).toNat < S32768.size a)
theorem k1_idx388_inb : ∀ (v650 : IVec S16 32) (k1_hw388 : k1_chk388 v650), ∀ a x, ((![v650] : Fin 1 → IVec S16 32) a x).toNat < S32768.size a := fun v650 k1_hw388 => k1_hw388

def k1_chk389 (v653 : IVec S16 32) : Prop :=
  (∀ a x, ((![v653] : Fin 1 → IVec S16 32) a x).toNat < S32768.size a)
theorem k1_idx389_inb : ∀ (v653 : IVec S16 32) (k1_hw389 : k1_chk389 v653), ∀ a x, ((![v653] : Fin 1 → IVec S16 32) a x).toNat < S32768.size a := fun v653 k1_hw389 => k1_hw389

def k1_chk390 (v656 : IVec S16 32) : Prop :=
  (∀ a x, ((![v656] : Fin 1 → IVec S16 32) a x).toNat < S32768.size a)
theorem k1_idx390_inb : ∀ (v656 : IVec S16 32) (k1_hw390 : k1_chk390 v656), ∀ a x, ((![v656] : Fin 1 → IVec S16 32) a x).toNat < S32768.size a := fun v656 k1_hw390 => k1_hw390

def k1_chk391 (v659 : IVec S16 32) : Prop :=
  (∀ a x, ((![v659] : Fin 1 → IVec S16 32) a x).toNat < S32768.size a)
theorem k1_idx391_inb : ∀ (v659 : IVec S16 32) (k1_hw391 : k1_chk391 v659), ∀ a x, ((![v659] : Fin 1 → IVec S16 32) a x).toNat < S32768.size a := fun v659 k1_hw391 => k1_hw391

def k1_chk392 (v662 : IVec S16 32) : Prop :=
  (∀ a x, ((![v662] : Fin 1 → IVec S16 32) a x).toNat < S32768.size a)
theorem k1_idx392_inb : ∀ (v662 : IVec S16 32) (k1_hw392 : k1_chk392 v662), ∀ a x, ((![v662] : Fin 1 → IVec S16 32) a x).toNat < S32768.size a := fun v662 k1_hw392 => k1_hw392

def k1_chk393 (v665 : IVec S16 32) : Prop :=
  (∀ a x, ((![v665] : Fin 1 → IVec S16 32) a x).toNat < S32768.size a)
theorem k1_idx393_inb : ∀ (v665 : IVec S16 32) (k1_hw393 : k1_chk393 v665), ∀ a x, ((![v665] : Fin 1 → IVec S16 32) a x).toNat < S32768.size a := fun v665 k1_hw393 => k1_hw393

def k1_chk394 (v668 : IVec S16 32) : Prop :=
  (∀ a x, ((![v668] : Fin 1 → IVec S16 32) a x).toNat < S32768.size a)
theorem k1_idx394_inb : ∀ (v668 : IVec S16 32) (k1_hw394 : k1_chk394 v668), ∀ a x, ((![v668] : Fin 1 → IVec S16 32) a x).toNat < S32768.size a := fun v668 k1_hw394 => k1_hw394

def k1_chk395 (v671 : IVec S16 32) : Prop :=
  (∀ a x, ((![v671] : Fin 1 → IVec S16 32) a x).toNat < S32768.size a)
theorem k1_idx395_inb : ∀ (v671 : IVec S16 32) (k1_hw395 : k1_chk395 v671), ∀ a x, ((![v671] : Fin 1 → IVec S16 32) a x).toNat < S32768.size a := fun v671 k1_hw395 => k1_hw395

def k1_chk396 (v674 : IVec S16 32) : Prop :=
  (∀ a x, ((![v674] : Fin 1 → IVec S16 32) a x).toNat < S32768.size a)
theorem k1_idx396_inb : ∀ (v674 : IVec S16 32) (k1_hw396 : k1_chk396 v674), ∀ a x, ((![v674] : Fin 1 → IVec S16 32) a x).toNat < S32768.size a := fun v674 k1_hw396 => k1_hw396

def k1_chk397 (v677 : IVec S16 32) : Prop :=
  (∀ a x, ((![v677] : Fin 1 → IVec S16 32) a x).toNat < S32768.size a)
theorem k1_idx397_inb : ∀ (v677 : IVec S16 32) (k1_hw397 : k1_chk397 v677), ∀ a x, ((![v677] : Fin 1 → IVec S16 32) a x).toNat < S32768.size a := fun v677 k1_hw397 => k1_hw397

def k1_chk398 (v680 : IVec S16 32) : Prop :=
  (∀ a x, ((![v680] : Fin 1 → IVec S16 32) a x).toNat < S32768.size a)
theorem k1_idx398_inb : ∀ (v680 : IVec S16 32) (k1_hw398 : k1_chk398 v680), ∀ a x, ((![v680] : Fin 1 → IVec S16 32) a x).toNat < S32768.size a := fun v680 k1_hw398 => k1_hw398

def k1_chk399 (v683 : IVec S16 32) : Prop :=
  (∀ a x, ((![v683] : Fin 1 → IVec S16 32) a x).toNat < S32768.size a)
theorem k1_idx399_inb : ∀ (v683 : IVec S16 32) (k1_hw399 : k1_chk399 v683), ∀ a x, ((![v683] : Fin 1 → IVec S16 32) a x).toNat < S32768.size a := fun v683 k1_hw399 => k1_hw399

def k1_chk400 (v686 : IVec S16 32) : Prop :=
  (∀ a x, ((![v686] : Fin 1 → IVec S16 32) a x).toNat < S32768.size a)
theorem k1_idx400_inb : ∀ (v686 : IVec S16 32) (k1_hw400 : k1_chk400 v686), ∀ a x, ((![v686] : Fin 1 → IVec S16 32) a x).toNat < S32768.size a := fun v686 k1_hw400 => k1_hw400
@[reducible] def k1_t27_loop : Scf.Loop 32 :=
  let c0_i32_401 : BitVec 32 := 0#32
  let c16_i32_402 : BitVec 32 := 16#32
  let v411 : BitVec 32 := Scalar.addi c0_i32_401 c16_i32_402
  let c1_i32_403 : BitVec 32 := 1#32
  ⟨c0_i32_401, v411, c1_i32_403⟩
def k1_off28 (k1_t27 : Fin k1_t27_loop.trips) (c0_i32_627 : BitVec 32) : Fin 1 → Nat :=
  let c0_i32_401 : BitVec 32 := 0#32
  let c1_i32_403 : BitVec 32 := 1#32
  let arg16 : BitVec 32 := Scf.iv c0_i32_401 c1_i32_403 k1_t27
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk401 (v641 : IVec S16 32) : Prop :=
  (∀ a x, ((![v641] : Fin 1 → IVec S16 32) a x).toNat < S32768.size a)
theorem k1_idx401_inb : ∀ (v641 : IVec S16 32) (k1_hw401 : k1_chk401 v641), ∀ a x, ((![v641] : Fin 1 → IVec S16 32) a x).toNat < S32768.size a := fun v641 k1_hw401 => k1_hw401

def k1_chk402 (v644 : IVec S16 32) : Prop :=
  (∀ a x, ((![v644] : Fin 1 → IVec S16 32) a x).toNat < S32768.size a)
theorem k1_idx402_inb : ∀ (v644 : IVec S16 32) (k1_hw402 : k1_chk402 v644), ∀ a x, ((![v644] : Fin 1 → IVec S16 32) a x).toNat < S32768.size a := fun v644 k1_hw402 => k1_hw402

def k1_chk403 (v647 : IVec S16 32) : Prop :=
  (∀ a x, ((![v647] : Fin 1 → IVec S16 32) a x).toNat < S32768.size a)
theorem k1_idx403_inb : ∀ (v647 : IVec S16 32) (k1_hw403 : k1_chk403 v647), ∀ a x, ((![v647] : Fin 1 → IVec S16 32) a x).toNat < S32768.size a := fun v647 k1_hw403 => k1_hw403

def k1_chk404 (v650 : IVec S16 32) : Prop :=
  (∀ a x, ((![v650] : Fin 1 → IVec S16 32) a x).toNat < S32768.size a)
theorem k1_idx404_inb : ∀ (v650 : IVec S16 32) (k1_hw404 : k1_chk404 v650), ∀ a x, ((![v650] : Fin 1 → IVec S16 32) a x).toNat < S32768.size a := fun v650 k1_hw404 => k1_hw404

def k1_chk405 (v653 : IVec S16 32) : Prop :=
  (∀ a x, ((![v653] : Fin 1 → IVec S16 32) a x).toNat < S32768.size a)
theorem k1_idx405_inb : ∀ (v653 : IVec S16 32) (k1_hw405 : k1_chk405 v653), ∀ a x, ((![v653] : Fin 1 → IVec S16 32) a x).toNat < S32768.size a := fun v653 k1_hw405 => k1_hw405

def k1_chk406 (v656 : IVec S16 32) : Prop :=
  (∀ a x, ((![v656] : Fin 1 → IVec S16 32) a x).toNat < S32768.size a)
theorem k1_idx406_inb : ∀ (v656 : IVec S16 32) (k1_hw406 : k1_chk406 v656), ∀ a x, ((![v656] : Fin 1 → IVec S16 32) a x).toNat < S32768.size a := fun v656 k1_hw406 => k1_hw406

def k1_chk407 (v659 : IVec S16 32) : Prop :=
  (∀ a x, ((![v659] : Fin 1 → IVec S16 32) a x).toNat < S32768.size a)
theorem k1_idx407_inb : ∀ (v659 : IVec S16 32) (k1_hw407 : k1_chk407 v659), ∀ a x, ((![v659] : Fin 1 → IVec S16 32) a x).toNat < S32768.size a := fun v659 k1_hw407 => k1_hw407

def k1_chk408 (v662 : IVec S16 32) : Prop :=
  (∀ a x, ((![v662] : Fin 1 → IVec S16 32) a x).toNat < S32768.size a)
theorem k1_idx408_inb : ∀ (v662 : IVec S16 32) (k1_hw408 : k1_chk408 v662), ∀ a x, ((![v662] : Fin 1 → IVec S16 32) a x).toNat < S32768.size a := fun v662 k1_hw408 => k1_hw408

def k1_chk409 (v665 : IVec S16 32) : Prop :=
  (∀ a x, ((![v665] : Fin 1 → IVec S16 32) a x).toNat < S32768.size a)
theorem k1_idx409_inb : ∀ (v665 : IVec S16 32) (k1_hw409 : k1_chk409 v665), ∀ a x, ((![v665] : Fin 1 → IVec S16 32) a x).toNat < S32768.size a := fun v665 k1_hw409 => k1_hw409

def k1_chk410 (v668 : IVec S16 32) : Prop :=
  (∀ a x, ((![v668] : Fin 1 → IVec S16 32) a x).toNat < S32768.size a)
theorem k1_idx410_inb : ∀ (v668 : IVec S16 32) (k1_hw410 : k1_chk410 v668), ∀ a x, ((![v668] : Fin 1 → IVec S16 32) a x).toNat < S32768.size a := fun v668 k1_hw410 => k1_hw410

def k1_chk411 (v671 : IVec S16 32) : Prop :=
  (∀ a x, ((![v671] : Fin 1 → IVec S16 32) a x).toNat < S32768.size a)
theorem k1_idx411_inb : ∀ (v671 : IVec S16 32) (k1_hw411 : k1_chk411 v671), ∀ a x, ((![v671] : Fin 1 → IVec S16 32) a x).toNat < S32768.size a := fun v671 k1_hw411 => k1_hw411

def k1_chk412 (v674 : IVec S16 32) : Prop :=
  (∀ a x, ((![v674] : Fin 1 → IVec S16 32) a x).toNat < S32768.size a)
theorem k1_idx412_inb : ∀ (v674 : IVec S16 32) (k1_hw412 : k1_chk412 v674), ∀ a x, ((![v674] : Fin 1 → IVec S16 32) a x).toNat < S32768.size a := fun v674 k1_hw412 => k1_hw412

def k1_chk413 (v677 : IVec S16 32) : Prop :=
  (∀ a x, ((![v677] : Fin 1 → IVec S16 32) a x).toNat < S32768.size a)
theorem k1_idx413_inb : ∀ (v677 : IVec S16 32) (k1_hw413 : k1_chk413 v677), ∀ a x, ((![v677] : Fin 1 → IVec S16 32) a x).toNat < S32768.size a := fun v677 k1_hw413 => k1_hw413

def k1_chk414 (v680 : IVec S16 32) : Prop :=
  (∀ a x, ((![v680] : Fin 1 → IVec S16 32) a x).toNat < S32768.size a)
theorem k1_idx414_inb : ∀ (v680 : IVec S16 32) (k1_hw414 : k1_chk414 v680), ∀ a x, ((![v680] : Fin 1 → IVec S16 32) a x).toNat < S32768.size a := fun v680 k1_hw414 => k1_hw414

def k1_chk415 (v683 : IVec S16 32) : Prop :=
  (∀ a x, ((![v683] : Fin 1 → IVec S16 32) a x).toNat < S32768.size a)
theorem k1_idx415_inb : ∀ (v683 : IVec S16 32) (k1_hw415 : k1_chk415 v683), ∀ a x, ((![v683] : Fin 1 → IVec S16 32) a x).toNat < S32768.size a := fun v683 k1_hw415 => k1_hw415

def k1_chk416 (v686 : IVec S16 32) : Prop :=
  (∀ a x, ((![v686] : Fin 1 → IVec S16 32) a x).toNat < S32768.size a)
theorem k1_idx416_inb : ∀ (v686 : IVec S16 32) (k1_hw416 : k1_chk416 v686), ∀ a x, ((![v686] : Fin 1 → IVec S16 32) a x).toNat < S32768.size a := fun v686 k1_hw416 => k1_hw416
@[reducible] def k1_t28_loop : Scf.Loop 32 :=
  let c0_i32_411 : BitVec 32 := 0#32
  let c16_i32_412 : BitVec 32 := 16#32
  let v421 : BitVec 32 := Scalar.addi c0_i32_411 c16_i32_412
  let c1_i32_413 : BitVec 32 := 1#32
  ⟨c0_i32_411, v421, c1_i32_413⟩
def k1_off29 (k1_t28 : Fin k1_t28_loop.trips) (c0_i32_627 : BitVec 32) : Fin 1 → Nat :=
  let c0_i32_411 : BitVec 32 := 0#32
  let c1_i32_413 : BitVec 32 := 1#32
  let arg16 : BitVec 32 := Scf.iv c0_i32_411 c1_i32_413 k1_t28
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk417 (v641 : IVec S16 32) : Prop :=
  (∀ a x, ((![v641] : Fin 1 → IVec S16 32) a x).toNat < S32768.size a)
theorem k1_idx417_inb : ∀ (v641 : IVec S16 32) (k1_hw417 : k1_chk417 v641), ∀ a x, ((![v641] : Fin 1 → IVec S16 32) a x).toNat < S32768.size a := fun v641 k1_hw417 => k1_hw417

def k1_chk418 (v644 : IVec S16 32) : Prop :=
  (∀ a x, ((![v644] : Fin 1 → IVec S16 32) a x).toNat < S32768.size a)
theorem k1_idx418_inb : ∀ (v644 : IVec S16 32) (k1_hw418 : k1_chk418 v644), ∀ a x, ((![v644] : Fin 1 → IVec S16 32) a x).toNat < S32768.size a := fun v644 k1_hw418 => k1_hw418

def k1_chk419 (v647 : IVec S16 32) : Prop :=
  (∀ a x, ((![v647] : Fin 1 → IVec S16 32) a x).toNat < S32768.size a)
theorem k1_idx419_inb : ∀ (v647 : IVec S16 32) (k1_hw419 : k1_chk419 v647), ∀ a x, ((![v647] : Fin 1 → IVec S16 32) a x).toNat < S32768.size a := fun v647 k1_hw419 => k1_hw419

def k1_chk420 (v650 : IVec S16 32) : Prop :=
  (∀ a x, ((![v650] : Fin 1 → IVec S16 32) a x).toNat < S32768.size a)
theorem k1_idx420_inb : ∀ (v650 : IVec S16 32) (k1_hw420 : k1_chk420 v650), ∀ a x, ((![v650] : Fin 1 → IVec S16 32) a x).toNat < S32768.size a := fun v650 k1_hw420 => k1_hw420

def k1_chk421 (v653 : IVec S16 32) : Prop :=
  (∀ a x, ((![v653] : Fin 1 → IVec S16 32) a x).toNat < S32768.size a)
theorem k1_idx421_inb : ∀ (v653 : IVec S16 32) (k1_hw421 : k1_chk421 v653), ∀ a x, ((![v653] : Fin 1 → IVec S16 32) a x).toNat < S32768.size a := fun v653 k1_hw421 => k1_hw421

def k1_chk422 (v656 : IVec S16 32) : Prop :=
  (∀ a x, ((![v656] : Fin 1 → IVec S16 32) a x).toNat < S32768.size a)
theorem k1_idx422_inb : ∀ (v656 : IVec S16 32) (k1_hw422 : k1_chk422 v656), ∀ a x, ((![v656] : Fin 1 → IVec S16 32) a x).toNat < S32768.size a := fun v656 k1_hw422 => k1_hw422

def k1_chk423 (v659 : IVec S16 32) : Prop :=
  (∀ a x, ((![v659] : Fin 1 → IVec S16 32) a x).toNat < S32768.size a)
theorem k1_idx423_inb : ∀ (v659 : IVec S16 32) (k1_hw423 : k1_chk423 v659), ∀ a x, ((![v659] : Fin 1 → IVec S16 32) a x).toNat < S32768.size a := fun v659 k1_hw423 => k1_hw423

def k1_chk424 (v662 : IVec S16 32) : Prop :=
  (∀ a x, ((![v662] : Fin 1 → IVec S16 32) a x).toNat < S32768.size a)
theorem k1_idx424_inb : ∀ (v662 : IVec S16 32) (k1_hw424 : k1_chk424 v662), ∀ a x, ((![v662] : Fin 1 → IVec S16 32) a x).toNat < S32768.size a := fun v662 k1_hw424 => k1_hw424

def k1_chk425 (v665 : IVec S16 32) : Prop :=
  (∀ a x, ((![v665] : Fin 1 → IVec S16 32) a x).toNat < S32768.size a)
theorem k1_idx425_inb : ∀ (v665 : IVec S16 32) (k1_hw425 : k1_chk425 v665), ∀ a x, ((![v665] : Fin 1 → IVec S16 32) a x).toNat < S32768.size a := fun v665 k1_hw425 => k1_hw425

def k1_chk426 (v668 : IVec S16 32) : Prop :=
  (∀ a x, ((![v668] : Fin 1 → IVec S16 32) a x).toNat < S32768.size a)
theorem k1_idx426_inb : ∀ (v668 : IVec S16 32) (k1_hw426 : k1_chk426 v668), ∀ a x, ((![v668] : Fin 1 → IVec S16 32) a x).toNat < S32768.size a := fun v668 k1_hw426 => k1_hw426

def k1_chk427 (v671 : IVec S16 32) : Prop :=
  (∀ a x, ((![v671] : Fin 1 → IVec S16 32) a x).toNat < S32768.size a)
theorem k1_idx427_inb : ∀ (v671 : IVec S16 32) (k1_hw427 : k1_chk427 v671), ∀ a x, ((![v671] : Fin 1 → IVec S16 32) a x).toNat < S32768.size a := fun v671 k1_hw427 => k1_hw427

def k1_chk428 (v674 : IVec S16 32) : Prop :=
  (∀ a x, ((![v674] : Fin 1 → IVec S16 32) a x).toNat < S32768.size a)
theorem k1_idx428_inb : ∀ (v674 : IVec S16 32) (k1_hw428 : k1_chk428 v674), ∀ a x, ((![v674] : Fin 1 → IVec S16 32) a x).toNat < S32768.size a := fun v674 k1_hw428 => k1_hw428

def k1_chk429 (v677 : IVec S16 32) : Prop :=
  (∀ a x, ((![v677] : Fin 1 → IVec S16 32) a x).toNat < S32768.size a)
theorem k1_idx429_inb : ∀ (v677 : IVec S16 32) (k1_hw429 : k1_chk429 v677), ∀ a x, ((![v677] : Fin 1 → IVec S16 32) a x).toNat < S32768.size a := fun v677 k1_hw429 => k1_hw429

def k1_chk430 (v680 : IVec S16 32) : Prop :=
  (∀ a x, ((![v680] : Fin 1 → IVec S16 32) a x).toNat < S32768.size a)
theorem k1_idx430_inb : ∀ (v680 : IVec S16 32) (k1_hw430 : k1_chk430 v680), ∀ a x, ((![v680] : Fin 1 → IVec S16 32) a x).toNat < S32768.size a := fun v680 k1_hw430 => k1_hw430

def k1_chk431 (v683 : IVec S16 32) : Prop :=
  (∀ a x, ((![v683] : Fin 1 → IVec S16 32) a x).toNat < S32768.size a)
theorem k1_idx431_inb : ∀ (v683 : IVec S16 32) (k1_hw431 : k1_chk431 v683), ∀ a x, ((![v683] : Fin 1 → IVec S16 32) a x).toNat < S32768.size a := fun v683 k1_hw431 => k1_hw431

def k1_chk432 (v686 : IVec S16 32) : Prop :=
  (∀ a x, ((![v686] : Fin 1 → IVec S16 32) a x).toNat < S32768.size a)
theorem k1_idx432_inb : ∀ (v686 : IVec S16 32) (k1_hw432 : k1_chk432 v686), ∀ a x, ((![v686] : Fin 1 → IVec S16 32) a x).toNat < S32768.size a := fun v686 k1_hw432 => k1_hw432
@[reducible] def k1_t29_loop : Scf.Loop 32 :=
  let c0_i32_421 : BitVec 32 := 0#32
  let c16_i32_422 : BitVec 32 := 16#32
  let v431 : BitVec 32 := Scalar.addi c0_i32_421 c16_i32_422
  let c1_i32_423 : BitVec 32 := 1#32
  ⟨c0_i32_421, v431, c1_i32_423⟩
def k1_off30 (k1_t29 : Fin k1_t29_loop.trips) (c0_i32_627 : BitVec 32) : Fin 1 → Nat :=
  let c0_i32_421 : BitVec 32 := 0#32
  let c1_i32_423 : BitVec 32 := 1#32
  let arg16 : BitVec 32 := Scf.iv c0_i32_421 c1_i32_423 k1_t29
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk433 (v641 : IVec S16 32) : Prop :=
  (∀ a x, ((![v641] : Fin 1 → IVec S16 32) a x).toNat < S32768.size a)
theorem k1_idx433_inb : ∀ (v641 : IVec S16 32) (k1_hw433 : k1_chk433 v641), ∀ a x, ((![v641] : Fin 1 → IVec S16 32) a x).toNat < S32768.size a := fun v641 k1_hw433 => k1_hw433

def k1_chk434 (v644 : IVec S16 32) : Prop :=
  (∀ a x, ((![v644] : Fin 1 → IVec S16 32) a x).toNat < S32768.size a)
theorem k1_idx434_inb : ∀ (v644 : IVec S16 32) (k1_hw434 : k1_chk434 v644), ∀ a x, ((![v644] : Fin 1 → IVec S16 32) a x).toNat < S32768.size a := fun v644 k1_hw434 => k1_hw434

def k1_chk435 (v647 : IVec S16 32) : Prop :=
  (∀ a x, ((![v647] : Fin 1 → IVec S16 32) a x).toNat < S32768.size a)
theorem k1_idx435_inb : ∀ (v647 : IVec S16 32) (k1_hw435 : k1_chk435 v647), ∀ a x, ((![v647] : Fin 1 → IVec S16 32) a x).toNat < S32768.size a := fun v647 k1_hw435 => k1_hw435

def k1_chk436 (v650 : IVec S16 32) : Prop :=
  (∀ a x, ((![v650] : Fin 1 → IVec S16 32) a x).toNat < S32768.size a)
theorem k1_idx436_inb : ∀ (v650 : IVec S16 32) (k1_hw436 : k1_chk436 v650), ∀ a x, ((![v650] : Fin 1 → IVec S16 32) a x).toNat < S32768.size a := fun v650 k1_hw436 => k1_hw436

def k1_chk437 (v653 : IVec S16 32) : Prop :=
  (∀ a x, ((![v653] : Fin 1 → IVec S16 32) a x).toNat < S32768.size a)
theorem k1_idx437_inb : ∀ (v653 : IVec S16 32) (k1_hw437 : k1_chk437 v653), ∀ a x, ((![v653] : Fin 1 → IVec S16 32) a x).toNat < S32768.size a := fun v653 k1_hw437 => k1_hw437

def k1_chk438 (v656 : IVec S16 32) : Prop :=
  (∀ a x, ((![v656] : Fin 1 → IVec S16 32) a x).toNat < S32768.size a)
theorem k1_idx438_inb : ∀ (v656 : IVec S16 32) (k1_hw438 : k1_chk438 v656), ∀ a x, ((![v656] : Fin 1 → IVec S16 32) a x).toNat < S32768.size a := fun v656 k1_hw438 => k1_hw438

def k1_chk439 (v659 : IVec S16 32) : Prop :=
  (∀ a x, ((![v659] : Fin 1 → IVec S16 32) a x).toNat < S32768.size a)
theorem k1_idx439_inb : ∀ (v659 : IVec S16 32) (k1_hw439 : k1_chk439 v659), ∀ a x, ((![v659] : Fin 1 → IVec S16 32) a x).toNat < S32768.size a := fun v659 k1_hw439 => k1_hw439

def k1_chk440 (v662 : IVec S16 32) : Prop :=
  (∀ a x, ((![v662] : Fin 1 → IVec S16 32) a x).toNat < S32768.size a)
theorem k1_idx440_inb : ∀ (v662 : IVec S16 32) (k1_hw440 : k1_chk440 v662), ∀ a x, ((![v662] : Fin 1 → IVec S16 32) a x).toNat < S32768.size a := fun v662 k1_hw440 => k1_hw440

def k1_chk441 (v665 : IVec S16 32) : Prop :=
  (∀ a x, ((![v665] : Fin 1 → IVec S16 32) a x).toNat < S32768.size a)
theorem k1_idx441_inb : ∀ (v665 : IVec S16 32) (k1_hw441 : k1_chk441 v665), ∀ a x, ((![v665] : Fin 1 → IVec S16 32) a x).toNat < S32768.size a := fun v665 k1_hw441 => k1_hw441

def k1_chk442 (v668 : IVec S16 32) : Prop :=
  (∀ a x, ((![v668] : Fin 1 → IVec S16 32) a x).toNat < S32768.size a)
theorem k1_idx442_inb : ∀ (v668 : IVec S16 32) (k1_hw442 : k1_chk442 v668), ∀ a x, ((![v668] : Fin 1 → IVec S16 32) a x).toNat < S32768.size a := fun v668 k1_hw442 => k1_hw442

def k1_chk443 (v671 : IVec S16 32) : Prop :=
  (∀ a x, ((![v671] : Fin 1 → IVec S16 32) a x).toNat < S32768.size a)
theorem k1_idx443_inb : ∀ (v671 : IVec S16 32) (k1_hw443 : k1_chk443 v671), ∀ a x, ((![v671] : Fin 1 → IVec S16 32) a x).toNat < S32768.size a := fun v671 k1_hw443 => k1_hw443

def k1_chk444 (v674 : IVec S16 32) : Prop :=
  (∀ a x, ((![v674] : Fin 1 → IVec S16 32) a x).toNat < S32768.size a)
theorem k1_idx444_inb : ∀ (v674 : IVec S16 32) (k1_hw444 : k1_chk444 v674), ∀ a x, ((![v674] : Fin 1 → IVec S16 32) a x).toNat < S32768.size a := fun v674 k1_hw444 => k1_hw444

def k1_chk445 (v677 : IVec S16 32) : Prop :=
  (∀ a x, ((![v677] : Fin 1 → IVec S16 32) a x).toNat < S32768.size a)
theorem k1_idx445_inb : ∀ (v677 : IVec S16 32) (k1_hw445 : k1_chk445 v677), ∀ a x, ((![v677] : Fin 1 → IVec S16 32) a x).toNat < S32768.size a := fun v677 k1_hw445 => k1_hw445

def k1_chk446 (v680 : IVec S16 32) : Prop :=
  (∀ a x, ((![v680] : Fin 1 → IVec S16 32) a x).toNat < S32768.size a)
theorem k1_idx446_inb : ∀ (v680 : IVec S16 32) (k1_hw446 : k1_chk446 v680), ∀ a x, ((![v680] : Fin 1 → IVec S16 32) a x).toNat < S32768.size a := fun v680 k1_hw446 => k1_hw446

def k1_chk447 (v683 : IVec S16 32) : Prop :=
  (∀ a x, ((![v683] : Fin 1 → IVec S16 32) a x).toNat < S32768.size a)
theorem k1_idx447_inb : ∀ (v683 : IVec S16 32) (k1_hw447 : k1_chk447 v683), ∀ a x, ((![v683] : Fin 1 → IVec S16 32) a x).toNat < S32768.size a := fun v683 k1_hw447 => k1_hw447

def k1_chk448 (v686 : IVec S16 32) : Prop :=
  (∀ a x, ((![v686] : Fin 1 → IVec S16 32) a x).toNat < S32768.size a)
theorem k1_idx448_inb : ∀ (v686 : IVec S16 32) (k1_hw448 : k1_chk448 v686), ∀ a x, ((![v686] : Fin 1 → IVec S16 32) a x).toNat < S32768.size a := fun v686 k1_hw448 => k1_hw448
@[reducible] def k1_t30_loop : Scf.Loop 32 :=
  let c0_i32_431 : BitVec 32 := 0#32
  let c16_i32_432 : BitVec 32 := 16#32
  let v441 : BitVec 32 := Scalar.addi c0_i32_431 c16_i32_432
  let c1_i32_433 : BitVec 32 := 1#32
  ⟨c0_i32_431, v441, c1_i32_433⟩
def k1_off31 (k1_t30 : Fin k1_t30_loop.trips) (c0_i32_627 : BitVec 32) : Fin 1 → Nat :=
  let c0_i32_431 : BitVec 32 := 0#32
  let c1_i32_433 : BitVec 32 := 1#32
  let arg16 : BitVec 32 := Scf.iv c0_i32_431 c1_i32_433 k1_t30
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk449 (v641 : IVec S16 32) : Prop :=
  (∀ a x, ((![v641] : Fin 1 → IVec S16 32) a x).toNat < S32768.size a)
theorem k1_idx449_inb : ∀ (v641 : IVec S16 32) (k1_hw449 : k1_chk449 v641), ∀ a x, ((![v641] : Fin 1 → IVec S16 32) a x).toNat < S32768.size a := fun v641 k1_hw449 => k1_hw449

def k1_chk450 (v644 : IVec S16 32) : Prop :=
  (∀ a x, ((![v644] : Fin 1 → IVec S16 32) a x).toNat < S32768.size a)
theorem k1_idx450_inb : ∀ (v644 : IVec S16 32) (k1_hw450 : k1_chk450 v644), ∀ a x, ((![v644] : Fin 1 → IVec S16 32) a x).toNat < S32768.size a := fun v644 k1_hw450 => k1_hw450

def k1_chk451 (v647 : IVec S16 32) : Prop :=
  (∀ a x, ((![v647] : Fin 1 → IVec S16 32) a x).toNat < S32768.size a)
theorem k1_idx451_inb : ∀ (v647 : IVec S16 32) (k1_hw451 : k1_chk451 v647), ∀ a x, ((![v647] : Fin 1 → IVec S16 32) a x).toNat < S32768.size a := fun v647 k1_hw451 => k1_hw451

def k1_chk452 (v650 : IVec S16 32) : Prop :=
  (∀ a x, ((![v650] : Fin 1 → IVec S16 32) a x).toNat < S32768.size a)
theorem k1_idx452_inb : ∀ (v650 : IVec S16 32) (k1_hw452 : k1_chk452 v650), ∀ a x, ((![v650] : Fin 1 → IVec S16 32) a x).toNat < S32768.size a := fun v650 k1_hw452 => k1_hw452

def k1_chk453 (v653 : IVec S16 32) : Prop :=
  (∀ a x, ((![v653] : Fin 1 → IVec S16 32) a x).toNat < S32768.size a)
theorem k1_idx453_inb : ∀ (v653 : IVec S16 32) (k1_hw453 : k1_chk453 v653), ∀ a x, ((![v653] : Fin 1 → IVec S16 32) a x).toNat < S32768.size a := fun v653 k1_hw453 => k1_hw453

def k1_chk454 (v656 : IVec S16 32) : Prop :=
  (∀ a x, ((![v656] : Fin 1 → IVec S16 32) a x).toNat < S32768.size a)
theorem k1_idx454_inb : ∀ (v656 : IVec S16 32) (k1_hw454 : k1_chk454 v656), ∀ a x, ((![v656] : Fin 1 → IVec S16 32) a x).toNat < S32768.size a := fun v656 k1_hw454 => k1_hw454

def k1_chk455 (v659 : IVec S16 32) : Prop :=
  (∀ a x, ((![v659] : Fin 1 → IVec S16 32) a x).toNat < S32768.size a)
theorem k1_idx455_inb : ∀ (v659 : IVec S16 32) (k1_hw455 : k1_chk455 v659), ∀ a x, ((![v659] : Fin 1 → IVec S16 32) a x).toNat < S32768.size a := fun v659 k1_hw455 => k1_hw455

def k1_chk456 (v662 : IVec S16 32) : Prop :=
  (∀ a x, ((![v662] : Fin 1 → IVec S16 32) a x).toNat < S32768.size a)
theorem k1_idx456_inb : ∀ (v662 : IVec S16 32) (k1_hw456 : k1_chk456 v662), ∀ a x, ((![v662] : Fin 1 → IVec S16 32) a x).toNat < S32768.size a := fun v662 k1_hw456 => k1_hw456

def k1_chk457 (v665 : IVec S16 32) : Prop :=
  (∀ a x, ((![v665] : Fin 1 → IVec S16 32) a x).toNat < S32768.size a)
theorem k1_idx457_inb : ∀ (v665 : IVec S16 32) (k1_hw457 : k1_chk457 v665), ∀ a x, ((![v665] : Fin 1 → IVec S16 32) a x).toNat < S32768.size a := fun v665 k1_hw457 => k1_hw457

def k1_chk458 (v668 : IVec S16 32) : Prop :=
  (∀ a x, ((![v668] : Fin 1 → IVec S16 32) a x).toNat < S32768.size a)
theorem k1_idx458_inb : ∀ (v668 : IVec S16 32) (k1_hw458 : k1_chk458 v668), ∀ a x, ((![v668] : Fin 1 → IVec S16 32) a x).toNat < S32768.size a := fun v668 k1_hw458 => k1_hw458

def k1_chk459 (v671 : IVec S16 32) : Prop :=
  (∀ a x, ((![v671] : Fin 1 → IVec S16 32) a x).toNat < S32768.size a)
theorem k1_idx459_inb : ∀ (v671 : IVec S16 32) (k1_hw459 : k1_chk459 v671), ∀ a x, ((![v671] : Fin 1 → IVec S16 32) a x).toNat < S32768.size a := fun v671 k1_hw459 => k1_hw459

def k1_chk460 (v674 : IVec S16 32) : Prop :=
  (∀ a x, ((![v674] : Fin 1 → IVec S16 32) a x).toNat < S32768.size a)
theorem k1_idx460_inb : ∀ (v674 : IVec S16 32) (k1_hw460 : k1_chk460 v674), ∀ a x, ((![v674] : Fin 1 → IVec S16 32) a x).toNat < S32768.size a := fun v674 k1_hw460 => k1_hw460

def k1_chk461 (v677 : IVec S16 32) : Prop :=
  (∀ a x, ((![v677] : Fin 1 → IVec S16 32) a x).toNat < S32768.size a)
theorem k1_idx461_inb : ∀ (v677 : IVec S16 32) (k1_hw461 : k1_chk461 v677), ∀ a x, ((![v677] : Fin 1 → IVec S16 32) a x).toNat < S32768.size a := fun v677 k1_hw461 => k1_hw461

def k1_chk462 (v680 : IVec S16 32) : Prop :=
  (∀ a x, ((![v680] : Fin 1 → IVec S16 32) a x).toNat < S32768.size a)
theorem k1_idx462_inb : ∀ (v680 : IVec S16 32) (k1_hw462 : k1_chk462 v680), ∀ a x, ((![v680] : Fin 1 → IVec S16 32) a x).toNat < S32768.size a := fun v680 k1_hw462 => k1_hw462

def k1_chk463 (v683 : IVec S16 32) : Prop :=
  (∀ a x, ((![v683] : Fin 1 → IVec S16 32) a x).toNat < S32768.size a)
theorem k1_idx463_inb : ∀ (v683 : IVec S16 32) (k1_hw463 : k1_chk463 v683), ∀ a x, ((![v683] : Fin 1 → IVec S16 32) a x).toNat < S32768.size a := fun v683 k1_hw463 => k1_hw463

def k1_chk464 (v686 : IVec S16 32) : Prop :=
  (∀ a x, ((![v686] : Fin 1 → IVec S16 32) a x).toNat < S32768.size a)
theorem k1_idx464_inb : ∀ (v686 : IVec S16 32) (k1_hw464 : k1_chk464 v686), ∀ a x, ((![v686] : Fin 1 → IVec S16 32) a x).toNat < S32768.size a := fun v686 k1_hw464 => k1_hw464
@[reducible] def k1_t31_loop : Scf.Loop 32 :=
  let c0_i32_441 : BitVec 32 := 0#32
  let c16_i32_442 : BitVec 32 := 16#32
  let v451 : BitVec 32 := Scalar.addi c0_i32_441 c16_i32_442
  let c1_i32_443 : BitVec 32 := 1#32
  ⟨c0_i32_441, v451, c1_i32_443⟩
def k1_off32 (k1_t31 : Fin k1_t31_loop.trips) (c0_i32_627 : BitVec 32) : Fin 1 → Nat :=
  let c0_i32_441 : BitVec 32 := 0#32
  let c1_i32_443 : BitVec 32 := 1#32
  let arg16 : BitVec 32 := Scf.iv c0_i32_441 c1_i32_443 k1_t31
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk465 (v641 : IVec S16 32) : Prop :=
  (∀ a x, ((![v641] : Fin 1 → IVec S16 32) a x).toNat < S32768.size a)
theorem k1_idx465_inb : ∀ (v641 : IVec S16 32) (k1_hw465 : k1_chk465 v641), ∀ a x, ((![v641] : Fin 1 → IVec S16 32) a x).toNat < S32768.size a := fun v641 k1_hw465 => k1_hw465

def k1_chk466 (v644 : IVec S16 32) : Prop :=
  (∀ a x, ((![v644] : Fin 1 → IVec S16 32) a x).toNat < S32768.size a)
theorem k1_idx466_inb : ∀ (v644 : IVec S16 32) (k1_hw466 : k1_chk466 v644), ∀ a x, ((![v644] : Fin 1 → IVec S16 32) a x).toNat < S32768.size a := fun v644 k1_hw466 => k1_hw466

def k1_chk467 (v647 : IVec S16 32) : Prop :=
  (∀ a x, ((![v647] : Fin 1 → IVec S16 32) a x).toNat < S32768.size a)
theorem k1_idx467_inb : ∀ (v647 : IVec S16 32) (k1_hw467 : k1_chk467 v647), ∀ a x, ((![v647] : Fin 1 → IVec S16 32) a x).toNat < S32768.size a := fun v647 k1_hw467 => k1_hw467

def k1_chk468 (v650 : IVec S16 32) : Prop :=
  (∀ a x, ((![v650] : Fin 1 → IVec S16 32) a x).toNat < S32768.size a)
theorem k1_idx468_inb : ∀ (v650 : IVec S16 32) (k1_hw468 : k1_chk468 v650), ∀ a x, ((![v650] : Fin 1 → IVec S16 32) a x).toNat < S32768.size a := fun v650 k1_hw468 => k1_hw468

def k1_chk469 (v653 : IVec S16 32) : Prop :=
  (∀ a x, ((![v653] : Fin 1 → IVec S16 32) a x).toNat < S32768.size a)
theorem k1_idx469_inb : ∀ (v653 : IVec S16 32) (k1_hw469 : k1_chk469 v653), ∀ a x, ((![v653] : Fin 1 → IVec S16 32) a x).toNat < S32768.size a := fun v653 k1_hw469 => k1_hw469

def k1_chk470 (v656 : IVec S16 32) : Prop :=
  (∀ a x, ((![v656] : Fin 1 → IVec S16 32) a x).toNat < S32768.size a)
theorem k1_idx470_inb : ∀ (v656 : IVec S16 32) (k1_hw470 : k1_chk470 v656), ∀ a x, ((![v656] : Fin 1 → IVec S16 32) a x).toNat < S32768.size a := fun v656 k1_hw470 => k1_hw470

def k1_chk471 (v659 : IVec S16 32) : Prop :=
  (∀ a x, ((![v659] : Fin 1 → IVec S16 32) a x).toNat < S32768.size a)
theorem k1_idx471_inb : ∀ (v659 : IVec S16 32) (k1_hw471 : k1_chk471 v659), ∀ a x, ((![v659] : Fin 1 → IVec S16 32) a x).toNat < S32768.size a := fun v659 k1_hw471 => k1_hw471

def k1_chk472 (v662 : IVec S16 32) : Prop :=
  (∀ a x, ((![v662] : Fin 1 → IVec S16 32) a x).toNat < S32768.size a)
theorem k1_idx472_inb : ∀ (v662 : IVec S16 32) (k1_hw472 : k1_chk472 v662), ∀ a x, ((![v662] : Fin 1 → IVec S16 32) a x).toNat < S32768.size a := fun v662 k1_hw472 => k1_hw472

def k1_chk473 (v665 : IVec S16 32) : Prop :=
  (∀ a x, ((![v665] : Fin 1 → IVec S16 32) a x).toNat < S32768.size a)
theorem k1_idx473_inb : ∀ (v665 : IVec S16 32) (k1_hw473 : k1_chk473 v665), ∀ a x, ((![v665] : Fin 1 → IVec S16 32) a x).toNat < S32768.size a := fun v665 k1_hw473 => k1_hw473

def k1_chk474 (v668 : IVec S16 32) : Prop :=
  (∀ a x, ((![v668] : Fin 1 → IVec S16 32) a x).toNat < S32768.size a)
theorem k1_idx474_inb : ∀ (v668 : IVec S16 32) (k1_hw474 : k1_chk474 v668), ∀ a x, ((![v668] : Fin 1 → IVec S16 32) a x).toNat < S32768.size a := fun v668 k1_hw474 => k1_hw474

def k1_chk475 (v671 : IVec S16 32) : Prop :=
  (∀ a x, ((![v671] : Fin 1 → IVec S16 32) a x).toNat < S32768.size a)
theorem k1_idx475_inb : ∀ (v671 : IVec S16 32) (k1_hw475 : k1_chk475 v671), ∀ a x, ((![v671] : Fin 1 → IVec S16 32) a x).toNat < S32768.size a := fun v671 k1_hw475 => k1_hw475

def k1_chk476 (v674 : IVec S16 32) : Prop :=
  (∀ a x, ((![v674] : Fin 1 → IVec S16 32) a x).toNat < S32768.size a)
theorem k1_idx476_inb : ∀ (v674 : IVec S16 32) (k1_hw476 : k1_chk476 v674), ∀ a x, ((![v674] : Fin 1 → IVec S16 32) a x).toNat < S32768.size a := fun v674 k1_hw476 => k1_hw476

def k1_chk477 (v677 : IVec S16 32) : Prop :=
  (∀ a x, ((![v677] : Fin 1 → IVec S16 32) a x).toNat < S32768.size a)
theorem k1_idx477_inb : ∀ (v677 : IVec S16 32) (k1_hw477 : k1_chk477 v677), ∀ a x, ((![v677] : Fin 1 → IVec S16 32) a x).toNat < S32768.size a := fun v677 k1_hw477 => k1_hw477

def k1_chk478 (v680 : IVec S16 32) : Prop :=
  (∀ a x, ((![v680] : Fin 1 → IVec S16 32) a x).toNat < S32768.size a)
theorem k1_idx478_inb : ∀ (v680 : IVec S16 32) (k1_hw478 : k1_chk478 v680), ∀ a x, ((![v680] : Fin 1 → IVec S16 32) a x).toNat < S32768.size a := fun v680 k1_hw478 => k1_hw478

def k1_chk479 (v683 : IVec S16 32) : Prop :=
  (∀ a x, ((![v683] : Fin 1 → IVec S16 32) a x).toNat < S32768.size a)
theorem k1_idx479_inb : ∀ (v683 : IVec S16 32) (k1_hw479 : k1_chk479 v683), ∀ a x, ((![v683] : Fin 1 → IVec S16 32) a x).toNat < S32768.size a := fun v683 k1_hw479 => k1_hw479

def k1_chk480 (v686 : IVec S16 32) : Prop :=
  (∀ a x, ((![v686] : Fin 1 → IVec S16 32) a x).toNat < S32768.size a)
theorem k1_idx480_inb : ∀ (v686 : IVec S16 32) (k1_hw480 : k1_chk480 v686), ∀ a x, ((![v686] : Fin 1 → IVec S16 32) a x).toNat < S32768.size a := fun v686 k1_hw480 => k1_hw480
@[reducible] def k1_t32_loop : Scf.Loop 32 :=
  let c0_i32_451 : BitVec 32 := 0#32
  let c16_i32_452 : BitVec 32 := 16#32
  let v461 : BitVec 32 := Scalar.addi c0_i32_451 c16_i32_452
  let c1_i32_453 : BitVec 32 := 1#32
  ⟨c0_i32_451, v461, c1_i32_453⟩
def k1_off33 (k1_t32 : Fin k1_t32_loop.trips) (c0_i32_627 : BitVec 32) : Fin 1 → Nat :=
  let c0_i32_451 : BitVec 32 := 0#32
  let c1_i32_453 : BitVec 32 := 1#32
  let arg16 : BitVec 32 := Scf.iv c0_i32_451 c1_i32_453 k1_t32
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk481 (v641 : IVec S16 32) : Prop :=
  (∀ a x, ((![v641] : Fin 1 → IVec S16 32) a x).toNat < S32768.size a)
theorem k1_idx481_inb : ∀ (v641 : IVec S16 32) (k1_hw481 : k1_chk481 v641), ∀ a x, ((![v641] : Fin 1 → IVec S16 32) a x).toNat < S32768.size a := fun v641 k1_hw481 => k1_hw481

def k1_chk482 (v644 : IVec S16 32) : Prop :=
  (∀ a x, ((![v644] : Fin 1 → IVec S16 32) a x).toNat < S32768.size a)
theorem k1_idx482_inb : ∀ (v644 : IVec S16 32) (k1_hw482 : k1_chk482 v644), ∀ a x, ((![v644] : Fin 1 → IVec S16 32) a x).toNat < S32768.size a := fun v644 k1_hw482 => k1_hw482

def k1_chk483 (v647 : IVec S16 32) : Prop :=
  (∀ a x, ((![v647] : Fin 1 → IVec S16 32) a x).toNat < S32768.size a)
theorem k1_idx483_inb : ∀ (v647 : IVec S16 32) (k1_hw483 : k1_chk483 v647), ∀ a x, ((![v647] : Fin 1 → IVec S16 32) a x).toNat < S32768.size a := fun v647 k1_hw483 => k1_hw483

def k1_chk484 (v650 : IVec S16 32) : Prop :=
  (∀ a x, ((![v650] : Fin 1 → IVec S16 32) a x).toNat < S32768.size a)
theorem k1_idx484_inb : ∀ (v650 : IVec S16 32) (k1_hw484 : k1_chk484 v650), ∀ a x, ((![v650] : Fin 1 → IVec S16 32) a x).toNat < S32768.size a := fun v650 k1_hw484 => k1_hw484

def k1_chk485 (v653 : IVec S16 32) : Prop :=
  (∀ a x, ((![v653] : Fin 1 → IVec S16 32) a x).toNat < S32768.size a)
theorem k1_idx485_inb : ∀ (v653 : IVec S16 32) (k1_hw485 : k1_chk485 v653), ∀ a x, ((![v653] : Fin 1 → IVec S16 32) a x).toNat < S32768.size a := fun v653 k1_hw485 => k1_hw485

def k1_chk486 (v656 : IVec S16 32) : Prop :=
  (∀ a x, ((![v656] : Fin 1 → IVec S16 32) a x).toNat < S32768.size a)
theorem k1_idx486_inb : ∀ (v656 : IVec S16 32) (k1_hw486 : k1_chk486 v656), ∀ a x, ((![v656] : Fin 1 → IVec S16 32) a x).toNat < S32768.size a := fun v656 k1_hw486 => k1_hw486

def k1_chk487 (v659 : IVec S16 32) : Prop :=
  (∀ a x, ((![v659] : Fin 1 → IVec S16 32) a x).toNat < S32768.size a)
theorem k1_idx487_inb : ∀ (v659 : IVec S16 32) (k1_hw487 : k1_chk487 v659), ∀ a x, ((![v659] : Fin 1 → IVec S16 32) a x).toNat < S32768.size a := fun v659 k1_hw487 => k1_hw487

def k1_chk488 (v662 : IVec S16 32) : Prop :=
  (∀ a x, ((![v662] : Fin 1 → IVec S16 32) a x).toNat < S32768.size a)
theorem k1_idx488_inb : ∀ (v662 : IVec S16 32) (k1_hw488 : k1_chk488 v662), ∀ a x, ((![v662] : Fin 1 → IVec S16 32) a x).toNat < S32768.size a := fun v662 k1_hw488 => k1_hw488

def k1_chk489 (v665 : IVec S16 32) : Prop :=
  (∀ a x, ((![v665] : Fin 1 → IVec S16 32) a x).toNat < S32768.size a)
theorem k1_idx489_inb : ∀ (v665 : IVec S16 32) (k1_hw489 : k1_chk489 v665), ∀ a x, ((![v665] : Fin 1 → IVec S16 32) a x).toNat < S32768.size a := fun v665 k1_hw489 => k1_hw489

def k1_chk490 (v668 : IVec S16 32) : Prop :=
  (∀ a x, ((![v668] : Fin 1 → IVec S16 32) a x).toNat < S32768.size a)
theorem k1_idx490_inb : ∀ (v668 : IVec S16 32) (k1_hw490 : k1_chk490 v668), ∀ a x, ((![v668] : Fin 1 → IVec S16 32) a x).toNat < S32768.size a := fun v668 k1_hw490 => k1_hw490

def k1_chk491 (v671 : IVec S16 32) : Prop :=
  (∀ a x, ((![v671] : Fin 1 → IVec S16 32) a x).toNat < S32768.size a)
theorem k1_idx491_inb : ∀ (v671 : IVec S16 32) (k1_hw491 : k1_chk491 v671), ∀ a x, ((![v671] : Fin 1 → IVec S16 32) a x).toNat < S32768.size a := fun v671 k1_hw491 => k1_hw491

def k1_chk492 (v674 : IVec S16 32) : Prop :=
  (∀ a x, ((![v674] : Fin 1 → IVec S16 32) a x).toNat < S32768.size a)
theorem k1_idx492_inb : ∀ (v674 : IVec S16 32) (k1_hw492 : k1_chk492 v674), ∀ a x, ((![v674] : Fin 1 → IVec S16 32) a x).toNat < S32768.size a := fun v674 k1_hw492 => k1_hw492

def k1_chk493 (v677 : IVec S16 32) : Prop :=
  (∀ a x, ((![v677] : Fin 1 → IVec S16 32) a x).toNat < S32768.size a)
theorem k1_idx493_inb : ∀ (v677 : IVec S16 32) (k1_hw493 : k1_chk493 v677), ∀ a x, ((![v677] : Fin 1 → IVec S16 32) a x).toNat < S32768.size a := fun v677 k1_hw493 => k1_hw493

def k1_chk494 (v680 : IVec S16 32) : Prop :=
  (∀ a x, ((![v680] : Fin 1 → IVec S16 32) a x).toNat < S32768.size a)
theorem k1_idx494_inb : ∀ (v680 : IVec S16 32) (k1_hw494 : k1_chk494 v680), ∀ a x, ((![v680] : Fin 1 → IVec S16 32) a x).toNat < S32768.size a := fun v680 k1_hw494 => k1_hw494

def k1_chk495 (v683 : IVec S16 32) : Prop :=
  (∀ a x, ((![v683] : Fin 1 → IVec S16 32) a x).toNat < S32768.size a)
theorem k1_idx495_inb : ∀ (v683 : IVec S16 32) (k1_hw495 : k1_chk495 v683), ∀ a x, ((![v683] : Fin 1 → IVec S16 32) a x).toNat < S32768.size a := fun v683 k1_hw495 => k1_hw495

def k1_chk496 (v686 : IVec S16 32) : Prop :=
  (∀ a x, ((![v686] : Fin 1 → IVec S16 32) a x).toNat < S32768.size a)
theorem k1_idx496_inb : ∀ (v686 : IVec S16 32) (k1_hw496 : k1_chk496 v686), ∀ a x, ((![v686] : Fin 1 → IVec S16 32) a x).toNat < S32768.size a := fun v686 k1_hw496 => k1_hw496
@[reducible] def k1_t33_loop : Scf.Loop 32 :=
  let c0_i32_461 : BitVec 32 := 0#32
  let c16_i32_462 : BitVec 32 := 16#32
  let v471 : BitVec 32 := Scalar.addi c0_i32_461 c16_i32_462
  let c1_i32_463 : BitVec 32 := 1#32
  ⟨c0_i32_461, v471, c1_i32_463⟩
def k1_off34 (k1_t33 : Fin k1_t33_loop.trips) (c0_i32_627 : BitVec 32) : Fin 1 → Nat :=
  let c0_i32_461 : BitVec 32 := 0#32
  let c1_i32_463 : BitVec 32 := 1#32
  let arg16 : BitVec 32 := Scf.iv c0_i32_461 c1_i32_463 k1_t33
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk497 (v641 : IVec S16 32) : Prop :=
  (∀ a x, ((![v641] : Fin 1 → IVec S16 32) a x).toNat < S32768.size a)
theorem k1_idx497_inb : ∀ (v641 : IVec S16 32) (k1_hw497 : k1_chk497 v641), ∀ a x, ((![v641] : Fin 1 → IVec S16 32) a x).toNat < S32768.size a := fun v641 k1_hw497 => k1_hw497

def k1_chk498 (v644 : IVec S16 32) : Prop :=
  (∀ a x, ((![v644] : Fin 1 → IVec S16 32) a x).toNat < S32768.size a)
theorem k1_idx498_inb : ∀ (v644 : IVec S16 32) (k1_hw498 : k1_chk498 v644), ∀ a x, ((![v644] : Fin 1 → IVec S16 32) a x).toNat < S32768.size a := fun v644 k1_hw498 => k1_hw498

def k1_chk499 (v647 : IVec S16 32) : Prop :=
  (∀ a x, ((![v647] : Fin 1 → IVec S16 32) a x).toNat < S32768.size a)
theorem k1_idx499_inb : ∀ (v647 : IVec S16 32) (k1_hw499 : k1_chk499 v647), ∀ a x, ((![v647] : Fin 1 → IVec S16 32) a x).toNat < S32768.size a := fun v647 k1_hw499 => k1_hw499

def k1_chk500 (v650 : IVec S16 32) : Prop :=
  (∀ a x, ((![v650] : Fin 1 → IVec S16 32) a x).toNat < S32768.size a)
theorem k1_idx500_inb : ∀ (v650 : IVec S16 32) (k1_hw500 : k1_chk500 v650), ∀ a x, ((![v650] : Fin 1 → IVec S16 32) a x).toNat < S32768.size a := fun v650 k1_hw500 => k1_hw500

def k1_chk501 (v653 : IVec S16 32) : Prop :=
  (∀ a x, ((![v653] : Fin 1 → IVec S16 32) a x).toNat < S32768.size a)
theorem k1_idx501_inb : ∀ (v653 : IVec S16 32) (k1_hw501 : k1_chk501 v653), ∀ a x, ((![v653] : Fin 1 → IVec S16 32) a x).toNat < S32768.size a := fun v653 k1_hw501 => k1_hw501

def k1_chk502 (v656 : IVec S16 32) : Prop :=
  (∀ a x, ((![v656] : Fin 1 → IVec S16 32) a x).toNat < S32768.size a)
theorem k1_idx502_inb : ∀ (v656 : IVec S16 32) (k1_hw502 : k1_chk502 v656), ∀ a x, ((![v656] : Fin 1 → IVec S16 32) a x).toNat < S32768.size a := fun v656 k1_hw502 => k1_hw502

def k1_chk503 (v659 : IVec S16 32) : Prop :=
  (∀ a x, ((![v659] : Fin 1 → IVec S16 32) a x).toNat < S32768.size a)
theorem k1_idx503_inb : ∀ (v659 : IVec S16 32) (k1_hw503 : k1_chk503 v659), ∀ a x, ((![v659] : Fin 1 → IVec S16 32) a x).toNat < S32768.size a := fun v659 k1_hw503 => k1_hw503

def k1_chk504 (v662 : IVec S16 32) : Prop :=
  (∀ a x, ((![v662] : Fin 1 → IVec S16 32) a x).toNat < S32768.size a)
theorem k1_idx504_inb : ∀ (v662 : IVec S16 32) (k1_hw504 : k1_chk504 v662), ∀ a x, ((![v662] : Fin 1 → IVec S16 32) a x).toNat < S32768.size a := fun v662 k1_hw504 => k1_hw504

def k1_chk505 (v665 : IVec S16 32) : Prop :=
  (∀ a x, ((![v665] : Fin 1 → IVec S16 32) a x).toNat < S32768.size a)
theorem k1_idx505_inb : ∀ (v665 : IVec S16 32) (k1_hw505 : k1_chk505 v665), ∀ a x, ((![v665] : Fin 1 → IVec S16 32) a x).toNat < S32768.size a := fun v665 k1_hw505 => k1_hw505

def k1_chk506 (v668 : IVec S16 32) : Prop :=
  (∀ a x, ((![v668] : Fin 1 → IVec S16 32) a x).toNat < S32768.size a)
theorem k1_idx506_inb : ∀ (v668 : IVec S16 32) (k1_hw506 : k1_chk506 v668), ∀ a x, ((![v668] : Fin 1 → IVec S16 32) a x).toNat < S32768.size a := fun v668 k1_hw506 => k1_hw506

def k1_chk507 (v671 : IVec S16 32) : Prop :=
  (∀ a x, ((![v671] : Fin 1 → IVec S16 32) a x).toNat < S32768.size a)
theorem k1_idx507_inb : ∀ (v671 : IVec S16 32) (k1_hw507 : k1_chk507 v671), ∀ a x, ((![v671] : Fin 1 → IVec S16 32) a x).toNat < S32768.size a := fun v671 k1_hw507 => k1_hw507

def k1_chk508 (v674 : IVec S16 32) : Prop :=
  (∀ a x, ((![v674] : Fin 1 → IVec S16 32) a x).toNat < S32768.size a)
theorem k1_idx508_inb : ∀ (v674 : IVec S16 32) (k1_hw508 : k1_chk508 v674), ∀ a x, ((![v674] : Fin 1 → IVec S16 32) a x).toNat < S32768.size a := fun v674 k1_hw508 => k1_hw508

def k1_chk509 (v677 : IVec S16 32) : Prop :=
  (∀ a x, ((![v677] : Fin 1 → IVec S16 32) a x).toNat < S32768.size a)
theorem k1_idx509_inb : ∀ (v677 : IVec S16 32) (k1_hw509 : k1_chk509 v677), ∀ a x, ((![v677] : Fin 1 → IVec S16 32) a x).toNat < S32768.size a := fun v677 k1_hw509 => k1_hw509

def k1_chk510 (v680 : IVec S16 32) : Prop :=
  (∀ a x, ((![v680] : Fin 1 → IVec S16 32) a x).toNat < S32768.size a)
theorem k1_idx510_inb : ∀ (v680 : IVec S16 32) (k1_hw510 : k1_chk510 v680), ∀ a x, ((![v680] : Fin 1 → IVec S16 32) a x).toNat < S32768.size a := fun v680 k1_hw510 => k1_hw510

def k1_chk511 (v683 : IVec S16 32) : Prop :=
  (∀ a x, ((![v683] : Fin 1 → IVec S16 32) a x).toNat < S32768.size a)
theorem k1_idx511_inb : ∀ (v683 : IVec S16 32) (k1_hw511 : k1_chk511 v683), ∀ a x, ((![v683] : Fin 1 → IVec S16 32) a x).toNat < S32768.size a := fun v683 k1_hw511 => k1_hw511

def k1_chk512 (v686 : IVec S16 32) : Prop :=
  (∀ a x, ((![v686] : Fin 1 → IVec S16 32) a x).toNat < S32768.size a)
theorem k1_idx512_inb : ∀ (v686 : IVec S16 32) (k1_hw512 : k1_chk512 v686), ∀ a x, ((![v686] : Fin 1 → IVec S16 32) a x).toNat < S32768.size a := fun v686 k1_hw512 => k1_hw512
@[reducible] def k1_t34_loop : Scf.Loop 32 :=
  let c0_i32_471 : BitVec 32 := 0#32
  let c16_i32_472 : BitVec 32 := 16#32
  let v481 : BitVec 32 := Scalar.addi c0_i32_471 c16_i32_472
  let c1_i32_473 : BitVec 32 := 1#32
  ⟨c0_i32_471, v481, c1_i32_473⟩
def k1_off35 (k1_t34 : Fin k1_t34_loop.trips) (c0_i32_627 : BitVec 32) : Fin 1 → Nat :=
  let c0_i32_471 : BitVec 32 := 0#32
  let c1_i32_473 : BitVec 32 := 1#32
  let arg16 : BitVec 32 := Scf.iv c0_i32_471 c1_i32_473 k1_t34
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk513 (v641 : IVec S16 32) : Prop :=
  (∀ a x, ((![v641] : Fin 1 → IVec S16 32) a x).toNat < S32768.size a)
theorem k1_idx513_inb : ∀ (v641 : IVec S16 32) (k1_hw513 : k1_chk513 v641), ∀ a x, ((![v641] : Fin 1 → IVec S16 32) a x).toNat < S32768.size a := fun v641 k1_hw513 => k1_hw513

def k1_chk514 (v644 : IVec S16 32) : Prop :=
  (∀ a x, ((![v644] : Fin 1 → IVec S16 32) a x).toNat < S32768.size a)
theorem k1_idx514_inb : ∀ (v644 : IVec S16 32) (k1_hw514 : k1_chk514 v644), ∀ a x, ((![v644] : Fin 1 → IVec S16 32) a x).toNat < S32768.size a := fun v644 k1_hw514 => k1_hw514

def k1_chk515 (v647 : IVec S16 32) : Prop :=
  (∀ a x, ((![v647] : Fin 1 → IVec S16 32) a x).toNat < S32768.size a)
theorem k1_idx515_inb : ∀ (v647 : IVec S16 32) (k1_hw515 : k1_chk515 v647), ∀ a x, ((![v647] : Fin 1 → IVec S16 32) a x).toNat < S32768.size a := fun v647 k1_hw515 => k1_hw515

def k1_chk516 (v650 : IVec S16 32) : Prop :=
  (∀ a x, ((![v650] : Fin 1 → IVec S16 32) a x).toNat < S32768.size a)
theorem k1_idx516_inb : ∀ (v650 : IVec S16 32) (k1_hw516 : k1_chk516 v650), ∀ a x, ((![v650] : Fin 1 → IVec S16 32) a x).toNat < S32768.size a := fun v650 k1_hw516 => k1_hw516

def k1_chk517 (v653 : IVec S16 32) : Prop :=
  (∀ a x, ((![v653] : Fin 1 → IVec S16 32) a x).toNat < S32768.size a)
theorem k1_idx517_inb : ∀ (v653 : IVec S16 32) (k1_hw517 : k1_chk517 v653), ∀ a x, ((![v653] : Fin 1 → IVec S16 32) a x).toNat < S32768.size a := fun v653 k1_hw517 => k1_hw517

def k1_chk518 (v656 : IVec S16 32) : Prop :=
  (∀ a x, ((![v656] : Fin 1 → IVec S16 32) a x).toNat < S32768.size a)
theorem k1_idx518_inb : ∀ (v656 : IVec S16 32) (k1_hw518 : k1_chk518 v656), ∀ a x, ((![v656] : Fin 1 → IVec S16 32) a x).toNat < S32768.size a := fun v656 k1_hw518 => k1_hw518

def k1_chk519 (v659 : IVec S16 32) : Prop :=
  (∀ a x, ((![v659] : Fin 1 → IVec S16 32) a x).toNat < S32768.size a)
theorem k1_idx519_inb : ∀ (v659 : IVec S16 32) (k1_hw519 : k1_chk519 v659), ∀ a x, ((![v659] : Fin 1 → IVec S16 32) a x).toNat < S32768.size a := fun v659 k1_hw519 => k1_hw519

def k1_chk520 (v662 : IVec S16 32) : Prop :=
  (∀ a x, ((![v662] : Fin 1 → IVec S16 32) a x).toNat < S32768.size a)
theorem k1_idx520_inb : ∀ (v662 : IVec S16 32) (k1_hw520 : k1_chk520 v662), ∀ a x, ((![v662] : Fin 1 → IVec S16 32) a x).toNat < S32768.size a := fun v662 k1_hw520 => k1_hw520

def k1_chk521 (v665 : IVec S16 32) : Prop :=
  (∀ a x, ((![v665] : Fin 1 → IVec S16 32) a x).toNat < S32768.size a)
theorem k1_idx521_inb : ∀ (v665 : IVec S16 32) (k1_hw521 : k1_chk521 v665), ∀ a x, ((![v665] : Fin 1 → IVec S16 32) a x).toNat < S32768.size a := fun v665 k1_hw521 => k1_hw521

def k1_chk522 (v668 : IVec S16 32) : Prop :=
  (∀ a x, ((![v668] : Fin 1 → IVec S16 32) a x).toNat < S32768.size a)
theorem k1_idx522_inb : ∀ (v668 : IVec S16 32) (k1_hw522 : k1_chk522 v668), ∀ a x, ((![v668] : Fin 1 → IVec S16 32) a x).toNat < S32768.size a := fun v668 k1_hw522 => k1_hw522

def k1_chk523 (v671 : IVec S16 32) : Prop :=
  (∀ a x, ((![v671] : Fin 1 → IVec S16 32) a x).toNat < S32768.size a)
theorem k1_idx523_inb : ∀ (v671 : IVec S16 32) (k1_hw523 : k1_chk523 v671), ∀ a x, ((![v671] : Fin 1 → IVec S16 32) a x).toNat < S32768.size a := fun v671 k1_hw523 => k1_hw523

def k1_chk524 (v674 : IVec S16 32) : Prop :=
  (∀ a x, ((![v674] : Fin 1 → IVec S16 32) a x).toNat < S32768.size a)
theorem k1_idx524_inb : ∀ (v674 : IVec S16 32) (k1_hw524 : k1_chk524 v674), ∀ a x, ((![v674] : Fin 1 → IVec S16 32) a x).toNat < S32768.size a := fun v674 k1_hw524 => k1_hw524

def k1_chk525 (v677 : IVec S16 32) : Prop :=
  (∀ a x, ((![v677] : Fin 1 → IVec S16 32) a x).toNat < S32768.size a)
theorem k1_idx525_inb : ∀ (v677 : IVec S16 32) (k1_hw525 : k1_chk525 v677), ∀ a x, ((![v677] : Fin 1 → IVec S16 32) a x).toNat < S32768.size a := fun v677 k1_hw525 => k1_hw525

def k1_chk526 (v680 : IVec S16 32) : Prop :=
  (∀ a x, ((![v680] : Fin 1 → IVec S16 32) a x).toNat < S32768.size a)
theorem k1_idx526_inb : ∀ (v680 : IVec S16 32) (k1_hw526 : k1_chk526 v680), ∀ a x, ((![v680] : Fin 1 → IVec S16 32) a x).toNat < S32768.size a := fun v680 k1_hw526 => k1_hw526

def k1_chk527 (v683 : IVec S16 32) : Prop :=
  (∀ a x, ((![v683] : Fin 1 → IVec S16 32) a x).toNat < S32768.size a)
theorem k1_idx527_inb : ∀ (v683 : IVec S16 32) (k1_hw527 : k1_chk527 v683), ∀ a x, ((![v683] : Fin 1 → IVec S16 32) a x).toNat < S32768.size a := fun v683 k1_hw527 => k1_hw527

def k1_chk528 (v686 : IVec S16 32) : Prop :=
  (∀ a x, ((![v686] : Fin 1 → IVec S16 32) a x).toNat < S32768.size a)
theorem k1_idx528_inb : ∀ (v686 : IVec S16 32) (k1_hw528 : k1_chk528 v686), ∀ a x, ((![v686] : Fin 1 → IVec S16 32) a x).toNat < S32768.size a := fun v686 k1_hw528 => k1_hw528
@[reducible] def k1_t35_loop : Scf.Loop 32 :=
  let c0_i32_481 : BitVec 32 := 0#32
  let c16_i32_482 : BitVec 32 := 16#32
  let v491 : BitVec 32 := Scalar.addi c0_i32_481 c16_i32_482
  let c1_i32_483 : BitVec 32 := 1#32
  ⟨c0_i32_481, v491, c1_i32_483⟩
def k1_off36 (k1_t35 : Fin k1_t35_loop.trips) (c0_i32_627 : BitVec 32) : Fin 1 → Nat :=
  let c0_i32_481 : BitVec 32 := 0#32
  let c1_i32_483 : BitVec 32 := 1#32
  let arg16 : BitVec 32 := Scf.iv c0_i32_481 c1_i32_483 k1_t35
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk529 (v641 : IVec S16 32) : Prop :=
  (∀ a x, ((![v641] : Fin 1 → IVec S16 32) a x).toNat < S32768.size a)
theorem k1_idx529_inb : ∀ (v641 : IVec S16 32) (k1_hw529 : k1_chk529 v641), ∀ a x, ((![v641] : Fin 1 → IVec S16 32) a x).toNat < S32768.size a := fun v641 k1_hw529 => k1_hw529

def k1_chk530 (v644 : IVec S16 32) : Prop :=
  (∀ a x, ((![v644] : Fin 1 → IVec S16 32) a x).toNat < S32768.size a)
theorem k1_idx530_inb : ∀ (v644 : IVec S16 32) (k1_hw530 : k1_chk530 v644), ∀ a x, ((![v644] : Fin 1 → IVec S16 32) a x).toNat < S32768.size a := fun v644 k1_hw530 => k1_hw530

def k1_chk531 (v647 : IVec S16 32) : Prop :=
  (∀ a x, ((![v647] : Fin 1 → IVec S16 32) a x).toNat < S32768.size a)
theorem k1_idx531_inb : ∀ (v647 : IVec S16 32) (k1_hw531 : k1_chk531 v647), ∀ a x, ((![v647] : Fin 1 → IVec S16 32) a x).toNat < S32768.size a := fun v647 k1_hw531 => k1_hw531

def k1_chk532 (v650 : IVec S16 32) : Prop :=
  (∀ a x, ((![v650] : Fin 1 → IVec S16 32) a x).toNat < S32768.size a)
theorem k1_idx532_inb : ∀ (v650 : IVec S16 32) (k1_hw532 : k1_chk532 v650), ∀ a x, ((![v650] : Fin 1 → IVec S16 32) a x).toNat < S32768.size a := fun v650 k1_hw532 => k1_hw532

def k1_chk533 (v653 : IVec S16 32) : Prop :=
  (∀ a x, ((![v653] : Fin 1 → IVec S16 32) a x).toNat < S32768.size a)
theorem k1_idx533_inb : ∀ (v653 : IVec S16 32) (k1_hw533 : k1_chk533 v653), ∀ a x, ((![v653] : Fin 1 → IVec S16 32) a x).toNat < S32768.size a := fun v653 k1_hw533 => k1_hw533

def k1_chk534 (v656 : IVec S16 32) : Prop :=
  (∀ a x, ((![v656] : Fin 1 → IVec S16 32) a x).toNat < S32768.size a)
theorem k1_idx534_inb : ∀ (v656 : IVec S16 32) (k1_hw534 : k1_chk534 v656), ∀ a x, ((![v656] : Fin 1 → IVec S16 32) a x).toNat < S32768.size a := fun v656 k1_hw534 => k1_hw534

def k1_chk535 (v659 : IVec S16 32) : Prop :=
  (∀ a x, ((![v659] : Fin 1 → IVec S16 32) a x).toNat < S32768.size a)
theorem k1_idx535_inb : ∀ (v659 : IVec S16 32) (k1_hw535 : k1_chk535 v659), ∀ a x, ((![v659] : Fin 1 → IVec S16 32) a x).toNat < S32768.size a := fun v659 k1_hw535 => k1_hw535

def k1_chk536 (v662 : IVec S16 32) : Prop :=
  (∀ a x, ((![v662] : Fin 1 → IVec S16 32) a x).toNat < S32768.size a)
theorem k1_idx536_inb : ∀ (v662 : IVec S16 32) (k1_hw536 : k1_chk536 v662), ∀ a x, ((![v662] : Fin 1 → IVec S16 32) a x).toNat < S32768.size a := fun v662 k1_hw536 => k1_hw536

def k1_chk537 (v665 : IVec S16 32) : Prop :=
  (∀ a x, ((![v665] : Fin 1 → IVec S16 32) a x).toNat < S32768.size a)
theorem k1_idx537_inb : ∀ (v665 : IVec S16 32) (k1_hw537 : k1_chk537 v665), ∀ a x, ((![v665] : Fin 1 → IVec S16 32) a x).toNat < S32768.size a := fun v665 k1_hw537 => k1_hw537

def k1_chk538 (v668 : IVec S16 32) : Prop :=
  (∀ a x, ((![v668] : Fin 1 → IVec S16 32) a x).toNat < S32768.size a)
theorem k1_idx538_inb : ∀ (v668 : IVec S16 32) (k1_hw538 : k1_chk538 v668), ∀ a x, ((![v668] : Fin 1 → IVec S16 32) a x).toNat < S32768.size a := fun v668 k1_hw538 => k1_hw538

def k1_chk539 (v671 : IVec S16 32) : Prop :=
  (∀ a x, ((![v671] : Fin 1 → IVec S16 32) a x).toNat < S32768.size a)
theorem k1_idx539_inb : ∀ (v671 : IVec S16 32) (k1_hw539 : k1_chk539 v671), ∀ a x, ((![v671] : Fin 1 → IVec S16 32) a x).toNat < S32768.size a := fun v671 k1_hw539 => k1_hw539

def k1_chk540 (v674 : IVec S16 32) : Prop :=
  (∀ a x, ((![v674] : Fin 1 → IVec S16 32) a x).toNat < S32768.size a)
theorem k1_idx540_inb : ∀ (v674 : IVec S16 32) (k1_hw540 : k1_chk540 v674), ∀ a x, ((![v674] : Fin 1 → IVec S16 32) a x).toNat < S32768.size a := fun v674 k1_hw540 => k1_hw540

def k1_chk541 (v677 : IVec S16 32) : Prop :=
  (∀ a x, ((![v677] : Fin 1 → IVec S16 32) a x).toNat < S32768.size a)
theorem k1_idx541_inb : ∀ (v677 : IVec S16 32) (k1_hw541 : k1_chk541 v677), ∀ a x, ((![v677] : Fin 1 → IVec S16 32) a x).toNat < S32768.size a := fun v677 k1_hw541 => k1_hw541

def k1_chk542 (v680 : IVec S16 32) : Prop :=
  (∀ a x, ((![v680] : Fin 1 → IVec S16 32) a x).toNat < S32768.size a)
theorem k1_idx542_inb : ∀ (v680 : IVec S16 32) (k1_hw542 : k1_chk542 v680), ∀ a x, ((![v680] : Fin 1 → IVec S16 32) a x).toNat < S32768.size a := fun v680 k1_hw542 => k1_hw542

def k1_chk543 (v683 : IVec S16 32) : Prop :=
  (∀ a x, ((![v683] : Fin 1 → IVec S16 32) a x).toNat < S32768.size a)
theorem k1_idx543_inb : ∀ (v683 : IVec S16 32) (k1_hw543 : k1_chk543 v683), ∀ a x, ((![v683] : Fin 1 → IVec S16 32) a x).toNat < S32768.size a := fun v683 k1_hw543 => k1_hw543

def k1_chk544 (v686 : IVec S16 32) : Prop :=
  (∀ a x, ((![v686] : Fin 1 → IVec S16 32) a x).toNat < S32768.size a)
theorem k1_idx544_inb : ∀ (v686 : IVec S16 32) (k1_hw544 : k1_chk544 v686), ∀ a x, ((![v686] : Fin 1 → IVec S16 32) a x).toNat < S32768.size a := fun v686 k1_hw544 => k1_hw544
@[reducible] def k1_t36_loop : Scf.Loop 32 :=
  let c0_i32_491 : BitVec 32 := 0#32
  let c16_i32_492 : BitVec 32 := 16#32
  let v501 : BitVec 32 := Scalar.addi c0_i32_491 c16_i32_492
  let c1_i32_493 : BitVec 32 := 1#32
  ⟨c0_i32_491, v501, c1_i32_493⟩
def k1_off37 (k1_t36 : Fin k1_t36_loop.trips) (c0_i32_627 : BitVec 32) : Fin 1 → Nat :=
  let c0_i32_491 : BitVec 32 := 0#32
  let c1_i32_493 : BitVec 32 := 1#32
  let arg16 : BitVec 32 := Scf.iv c0_i32_491 c1_i32_493 k1_t36
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk545 (v641 : IVec S16 32) : Prop :=
  (∀ a x, ((![v641] : Fin 1 → IVec S16 32) a x).toNat < S32768.size a)
theorem k1_idx545_inb : ∀ (v641 : IVec S16 32) (k1_hw545 : k1_chk545 v641), ∀ a x, ((![v641] : Fin 1 → IVec S16 32) a x).toNat < S32768.size a := fun v641 k1_hw545 => k1_hw545

def k1_chk546 (v644 : IVec S16 32) : Prop :=
  (∀ a x, ((![v644] : Fin 1 → IVec S16 32) a x).toNat < S32768.size a)
theorem k1_idx546_inb : ∀ (v644 : IVec S16 32) (k1_hw546 : k1_chk546 v644), ∀ a x, ((![v644] : Fin 1 → IVec S16 32) a x).toNat < S32768.size a := fun v644 k1_hw546 => k1_hw546

def k1_chk547 (v647 : IVec S16 32) : Prop :=
  (∀ a x, ((![v647] : Fin 1 → IVec S16 32) a x).toNat < S32768.size a)
theorem k1_idx547_inb : ∀ (v647 : IVec S16 32) (k1_hw547 : k1_chk547 v647), ∀ a x, ((![v647] : Fin 1 → IVec S16 32) a x).toNat < S32768.size a := fun v647 k1_hw547 => k1_hw547

def k1_chk548 (v650 : IVec S16 32) : Prop :=
  (∀ a x, ((![v650] : Fin 1 → IVec S16 32) a x).toNat < S32768.size a)
theorem k1_idx548_inb : ∀ (v650 : IVec S16 32) (k1_hw548 : k1_chk548 v650), ∀ a x, ((![v650] : Fin 1 → IVec S16 32) a x).toNat < S32768.size a := fun v650 k1_hw548 => k1_hw548

def k1_chk549 (v653 : IVec S16 32) : Prop :=
  (∀ a x, ((![v653] : Fin 1 → IVec S16 32) a x).toNat < S32768.size a)
theorem k1_idx549_inb : ∀ (v653 : IVec S16 32) (k1_hw549 : k1_chk549 v653), ∀ a x, ((![v653] : Fin 1 → IVec S16 32) a x).toNat < S32768.size a := fun v653 k1_hw549 => k1_hw549

def k1_chk550 (v656 : IVec S16 32) : Prop :=
  (∀ a x, ((![v656] : Fin 1 → IVec S16 32) a x).toNat < S32768.size a)
theorem k1_idx550_inb : ∀ (v656 : IVec S16 32) (k1_hw550 : k1_chk550 v656), ∀ a x, ((![v656] : Fin 1 → IVec S16 32) a x).toNat < S32768.size a := fun v656 k1_hw550 => k1_hw550

def k1_chk551 (v659 : IVec S16 32) : Prop :=
  (∀ a x, ((![v659] : Fin 1 → IVec S16 32) a x).toNat < S32768.size a)
theorem k1_idx551_inb : ∀ (v659 : IVec S16 32) (k1_hw551 : k1_chk551 v659), ∀ a x, ((![v659] : Fin 1 → IVec S16 32) a x).toNat < S32768.size a := fun v659 k1_hw551 => k1_hw551

def k1_chk552 (v662 : IVec S16 32) : Prop :=
  (∀ a x, ((![v662] : Fin 1 → IVec S16 32) a x).toNat < S32768.size a)
theorem k1_idx552_inb : ∀ (v662 : IVec S16 32) (k1_hw552 : k1_chk552 v662), ∀ a x, ((![v662] : Fin 1 → IVec S16 32) a x).toNat < S32768.size a := fun v662 k1_hw552 => k1_hw552

def k1_chk553 (v665 : IVec S16 32) : Prop :=
  (∀ a x, ((![v665] : Fin 1 → IVec S16 32) a x).toNat < S32768.size a)
theorem k1_idx553_inb : ∀ (v665 : IVec S16 32) (k1_hw553 : k1_chk553 v665), ∀ a x, ((![v665] : Fin 1 → IVec S16 32) a x).toNat < S32768.size a := fun v665 k1_hw553 => k1_hw553

def k1_chk554 (v668 : IVec S16 32) : Prop :=
  (∀ a x, ((![v668] : Fin 1 → IVec S16 32) a x).toNat < S32768.size a)
theorem k1_idx554_inb : ∀ (v668 : IVec S16 32) (k1_hw554 : k1_chk554 v668), ∀ a x, ((![v668] : Fin 1 → IVec S16 32) a x).toNat < S32768.size a := fun v668 k1_hw554 => k1_hw554

def k1_chk555 (v671 : IVec S16 32) : Prop :=
  (∀ a x, ((![v671] : Fin 1 → IVec S16 32) a x).toNat < S32768.size a)
theorem k1_idx555_inb : ∀ (v671 : IVec S16 32) (k1_hw555 : k1_chk555 v671), ∀ a x, ((![v671] : Fin 1 → IVec S16 32) a x).toNat < S32768.size a := fun v671 k1_hw555 => k1_hw555

def k1_chk556 (v674 : IVec S16 32) : Prop :=
  (∀ a x, ((![v674] : Fin 1 → IVec S16 32) a x).toNat < S32768.size a)
theorem k1_idx556_inb : ∀ (v674 : IVec S16 32) (k1_hw556 : k1_chk556 v674), ∀ a x, ((![v674] : Fin 1 → IVec S16 32) a x).toNat < S32768.size a := fun v674 k1_hw556 => k1_hw556

def k1_chk557 (v677 : IVec S16 32) : Prop :=
  (∀ a x, ((![v677] : Fin 1 → IVec S16 32) a x).toNat < S32768.size a)
theorem k1_idx557_inb : ∀ (v677 : IVec S16 32) (k1_hw557 : k1_chk557 v677), ∀ a x, ((![v677] : Fin 1 → IVec S16 32) a x).toNat < S32768.size a := fun v677 k1_hw557 => k1_hw557

def k1_chk558 (v680 : IVec S16 32) : Prop :=
  (∀ a x, ((![v680] : Fin 1 → IVec S16 32) a x).toNat < S32768.size a)
theorem k1_idx558_inb : ∀ (v680 : IVec S16 32) (k1_hw558 : k1_chk558 v680), ∀ a x, ((![v680] : Fin 1 → IVec S16 32) a x).toNat < S32768.size a := fun v680 k1_hw558 => k1_hw558

def k1_chk559 (v683 : IVec S16 32) : Prop :=
  (∀ a x, ((![v683] : Fin 1 → IVec S16 32) a x).toNat < S32768.size a)
theorem k1_idx559_inb : ∀ (v683 : IVec S16 32) (k1_hw559 : k1_chk559 v683), ∀ a x, ((![v683] : Fin 1 → IVec S16 32) a x).toNat < S32768.size a := fun v683 k1_hw559 => k1_hw559

def k1_chk560 (v686 : IVec S16 32) : Prop :=
  (∀ a x, ((![v686] : Fin 1 → IVec S16 32) a x).toNat < S32768.size a)
theorem k1_idx560_inb : ∀ (v686 : IVec S16 32) (k1_hw560 : k1_chk560 v686), ∀ a x, ((![v686] : Fin 1 → IVec S16 32) a x).toNat < S32768.size a := fun v686 k1_hw560 => k1_hw560
@[reducible] def k1_t37_loop : Scf.Loop 32 :=
  let c0_i32_501 : BitVec 32 := 0#32
  let c16_i32_502 : BitVec 32 := 16#32
  let v511 : BitVec 32 := Scalar.addi c0_i32_501 c16_i32_502
  let c1_i32_503 : BitVec 32 := 1#32
  ⟨c0_i32_501, v511, c1_i32_503⟩
def k1_off38 (k1_t37 : Fin k1_t37_loop.trips) (c0_i32_627 : BitVec 32) : Fin 1 → Nat :=
  let c0_i32_501 : BitVec 32 := 0#32
  let c1_i32_503 : BitVec 32 := 1#32
  let arg16 : BitVec 32 := Scf.iv c0_i32_501 c1_i32_503 k1_t37
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk561 (v641 : IVec S16 32) : Prop :=
  (∀ a x, ((![v641] : Fin 1 → IVec S16 32) a x).toNat < S32768.size a)
theorem k1_idx561_inb : ∀ (v641 : IVec S16 32) (k1_hw561 : k1_chk561 v641), ∀ a x, ((![v641] : Fin 1 → IVec S16 32) a x).toNat < S32768.size a := fun v641 k1_hw561 => k1_hw561

def k1_chk562 (v644 : IVec S16 32) : Prop :=
  (∀ a x, ((![v644] : Fin 1 → IVec S16 32) a x).toNat < S32768.size a)
theorem k1_idx562_inb : ∀ (v644 : IVec S16 32) (k1_hw562 : k1_chk562 v644), ∀ a x, ((![v644] : Fin 1 → IVec S16 32) a x).toNat < S32768.size a := fun v644 k1_hw562 => k1_hw562

def k1_chk563 (v647 : IVec S16 32) : Prop :=
  (∀ a x, ((![v647] : Fin 1 → IVec S16 32) a x).toNat < S32768.size a)
theorem k1_idx563_inb : ∀ (v647 : IVec S16 32) (k1_hw563 : k1_chk563 v647), ∀ a x, ((![v647] : Fin 1 → IVec S16 32) a x).toNat < S32768.size a := fun v647 k1_hw563 => k1_hw563

def k1_chk564 (v650 : IVec S16 32) : Prop :=
  (∀ a x, ((![v650] : Fin 1 → IVec S16 32) a x).toNat < S32768.size a)
theorem k1_idx564_inb : ∀ (v650 : IVec S16 32) (k1_hw564 : k1_chk564 v650), ∀ a x, ((![v650] : Fin 1 → IVec S16 32) a x).toNat < S32768.size a := fun v650 k1_hw564 => k1_hw564

def k1_chk565 (v653 : IVec S16 32) : Prop :=
  (∀ a x, ((![v653] : Fin 1 → IVec S16 32) a x).toNat < S32768.size a)
theorem k1_idx565_inb : ∀ (v653 : IVec S16 32) (k1_hw565 : k1_chk565 v653), ∀ a x, ((![v653] : Fin 1 → IVec S16 32) a x).toNat < S32768.size a := fun v653 k1_hw565 => k1_hw565

def k1_chk566 (v656 : IVec S16 32) : Prop :=
  (∀ a x, ((![v656] : Fin 1 → IVec S16 32) a x).toNat < S32768.size a)
theorem k1_idx566_inb : ∀ (v656 : IVec S16 32) (k1_hw566 : k1_chk566 v656), ∀ a x, ((![v656] : Fin 1 → IVec S16 32) a x).toNat < S32768.size a := fun v656 k1_hw566 => k1_hw566

def k1_chk567 (v659 : IVec S16 32) : Prop :=
  (∀ a x, ((![v659] : Fin 1 → IVec S16 32) a x).toNat < S32768.size a)
theorem k1_idx567_inb : ∀ (v659 : IVec S16 32) (k1_hw567 : k1_chk567 v659), ∀ a x, ((![v659] : Fin 1 → IVec S16 32) a x).toNat < S32768.size a := fun v659 k1_hw567 => k1_hw567

def k1_chk568 (v662 : IVec S16 32) : Prop :=
  (∀ a x, ((![v662] : Fin 1 → IVec S16 32) a x).toNat < S32768.size a)
theorem k1_idx568_inb : ∀ (v662 : IVec S16 32) (k1_hw568 : k1_chk568 v662), ∀ a x, ((![v662] : Fin 1 → IVec S16 32) a x).toNat < S32768.size a := fun v662 k1_hw568 => k1_hw568

def k1_chk569 (v665 : IVec S16 32) : Prop :=
  (∀ a x, ((![v665] : Fin 1 → IVec S16 32) a x).toNat < S32768.size a)
theorem k1_idx569_inb : ∀ (v665 : IVec S16 32) (k1_hw569 : k1_chk569 v665), ∀ a x, ((![v665] : Fin 1 → IVec S16 32) a x).toNat < S32768.size a := fun v665 k1_hw569 => k1_hw569

def k1_chk570 (v668 : IVec S16 32) : Prop :=
  (∀ a x, ((![v668] : Fin 1 → IVec S16 32) a x).toNat < S32768.size a)
theorem k1_idx570_inb : ∀ (v668 : IVec S16 32) (k1_hw570 : k1_chk570 v668), ∀ a x, ((![v668] : Fin 1 → IVec S16 32) a x).toNat < S32768.size a := fun v668 k1_hw570 => k1_hw570

def k1_chk571 (v671 : IVec S16 32) : Prop :=
  (∀ a x, ((![v671] : Fin 1 → IVec S16 32) a x).toNat < S32768.size a)
theorem k1_idx571_inb : ∀ (v671 : IVec S16 32) (k1_hw571 : k1_chk571 v671), ∀ a x, ((![v671] : Fin 1 → IVec S16 32) a x).toNat < S32768.size a := fun v671 k1_hw571 => k1_hw571

def k1_chk572 (v674 : IVec S16 32) : Prop :=
  (∀ a x, ((![v674] : Fin 1 → IVec S16 32) a x).toNat < S32768.size a)
theorem k1_idx572_inb : ∀ (v674 : IVec S16 32) (k1_hw572 : k1_chk572 v674), ∀ a x, ((![v674] : Fin 1 → IVec S16 32) a x).toNat < S32768.size a := fun v674 k1_hw572 => k1_hw572

def k1_chk573 (v677 : IVec S16 32) : Prop :=
  (∀ a x, ((![v677] : Fin 1 → IVec S16 32) a x).toNat < S32768.size a)
theorem k1_idx573_inb : ∀ (v677 : IVec S16 32) (k1_hw573 : k1_chk573 v677), ∀ a x, ((![v677] : Fin 1 → IVec S16 32) a x).toNat < S32768.size a := fun v677 k1_hw573 => k1_hw573

def k1_chk574 (v680 : IVec S16 32) : Prop :=
  (∀ a x, ((![v680] : Fin 1 → IVec S16 32) a x).toNat < S32768.size a)
theorem k1_idx574_inb : ∀ (v680 : IVec S16 32) (k1_hw574 : k1_chk574 v680), ∀ a x, ((![v680] : Fin 1 → IVec S16 32) a x).toNat < S32768.size a := fun v680 k1_hw574 => k1_hw574

def k1_chk575 (v683 : IVec S16 32) : Prop :=
  (∀ a x, ((![v683] : Fin 1 → IVec S16 32) a x).toNat < S32768.size a)
theorem k1_idx575_inb : ∀ (v683 : IVec S16 32) (k1_hw575 : k1_chk575 v683), ∀ a x, ((![v683] : Fin 1 → IVec S16 32) a x).toNat < S32768.size a := fun v683 k1_hw575 => k1_hw575

def k1_chk576 (v686 : IVec S16 32) : Prop :=
  (∀ a x, ((![v686] : Fin 1 → IVec S16 32) a x).toNat < S32768.size a)
theorem k1_idx576_inb : ∀ (v686 : IVec S16 32) (k1_hw576 : k1_chk576 v686), ∀ a x, ((![v686] : Fin 1 → IVec S16 32) a x).toNat < S32768.size a := fun v686 k1_hw576 => k1_hw576
@[reducible] def k1_t38_loop : Scf.Loop 32 :=
  let c0_i32_511 : BitVec 32 := 0#32
  let c16_i32_512 : BitVec 32 := 16#32
  let v521 : BitVec 32 := Scalar.addi c0_i32_511 c16_i32_512
  let c1_i32_513 : BitVec 32 := 1#32
  ⟨c0_i32_511, v521, c1_i32_513⟩
def k1_off39 (k1_t38 : Fin k1_t38_loop.trips) (c0_i32_627 : BitVec 32) : Fin 1 → Nat :=
  let c0_i32_511 : BitVec 32 := 0#32
  let c1_i32_513 : BitVec 32 := 1#32
  let arg16 : BitVec 32 := Scf.iv c0_i32_511 c1_i32_513 k1_t38
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk577 (v641 : IVec S16 32) : Prop :=
  (∀ a x, ((![v641] : Fin 1 → IVec S16 32) a x).toNat < S32768.size a)
theorem k1_idx577_inb : ∀ (v641 : IVec S16 32) (k1_hw577 : k1_chk577 v641), ∀ a x, ((![v641] : Fin 1 → IVec S16 32) a x).toNat < S32768.size a := fun v641 k1_hw577 => k1_hw577

def k1_chk578 (v644 : IVec S16 32) : Prop :=
  (∀ a x, ((![v644] : Fin 1 → IVec S16 32) a x).toNat < S32768.size a)
theorem k1_idx578_inb : ∀ (v644 : IVec S16 32) (k1_hw578 : k1_chk578 v644), ∀ a x, ((![v644] : Fin 1 → IVec S16 32) a x).toNat < S32768.size a := fun v644 k1_hw578 => k1_hw578

def k1_chk579 (v647 : IVec S16 32) : Prop :=
  (∀ a x, ((![v647] : Fin 1 → IVec S16 32) a x).toNat < S32768.size a)
theorem k1_idx579_inb : ∀ (v647 : IVec S16 32) (k1_hw579 : k1_chk579 v647), ∀ a x, ((![v647] : Fin 1 → IVec S16 32) a x).toNat < S32768.size a := fun v647 k1_hw579 => k1_hw579

def k1_chk580 (v650 : IVec S16 32) : Prop :=
  (∀ a x, ((![v650] : Fin 1 → IVec S16 32) a x).toNat < S32768.size a)
theorem k1_idx580_inb : ∀ (v650 : IVec S16 32) (k1_hw580 : k1_chk580 v650), ∀ a x, ((![v650] : Fin 1 → IVec S16 32) a x).toNat < S32768.size a := fun v650 k1_hw580 => k1_hw580

def k1_chk581 (v653 : IVec S16 32) : Prop :=
  (∀ a x, ((![v653] : Fin 1 → IVec S16 32) a x).toNat < S32768.size a)
theorem k1_idx581_inb : ∀ (v653 : IVec S16 32) (k1_hw581 : k1_chk581 v653), ∀ a x, ((![v653] : Fin 1 → IVec S16 32) a x).toNat < S32768.size a := fun v653 k1_hw581 => k1_hw581

def k1_chk582 (v656 : IVec S16 32) : Prop :=
  (∀ a x, ((![v656] : Fin 1 → IVec S16 32) a x).toNat < S32768.size a)
theorem k1_idx582_inb : ∀ (v656 : IVec S16 32) (k1_hw582 : k1_chk582 v656), ∀ a x, ((![v656] : Fin 1 → IVec S16 32) a x).toNat < S32768.size a := fun v656 k1_hw582 => k1_hw582

def k1_chk583 (v659 : IVec S16 32) : Prop :=
  (∀ a x, ((![v659] : Fin 1 → IVec S16 32) a x).toNat < S32768.size a)
theorem k1_idx583_inb : ∀ (v659 : IVec S16 32) (k1_hw583 : k1_chk583 v659), ∀ a x, ((![v659] : Fin 1 → IVec S16 32) a x).toNat < S32768.size a := fun v659 k1_hw583 => k1_hw583

def k1_chk584 (v662 : IVec S16 32) : Prop :=
  (∀ a x, ((![v662] : Fin 1 → IVec S16 32) a x).toNat < S32768.size a)
theorem k1_idx584_inb : ∀ (v662 : IVec S16 32) (k1_hw584 : k1_chk584 v662), ∀ a x, ((![v662] : Fin 1 → IVec S16 32) a x).toNat < S32768.size a := fun v662 k1_hw584 => k1_hw584

def k1_chk585 (v665 : IVec S16 32) : Prop :=
  (∀ a x, ((![v665] : Fin 1 → IVec S16 32) a x).toNat < S32768.size a)
theorem k1_idx585_inb : ∀ (v665 : IVec S16 32) (k1_hw585 : k1_chk585 v665), ∀ a x, ((![v665] : Fin 1 → IVec S16 32) a x).toNat < S32768.size a := fun v665 k1_hw585 => k1_hw585

def k1_chk586 (v668 : IVec S16 32) : Prop :=
  (∀ a x, ((![v668] : Fin 1 → IVec S16 32) a x).toNat < S32768.size a)
theorem k1_idx586_inb : ∀ (v668 : IVec S16 32) (k1_hw586 : k1_chk586 v668), ∀ a x, ((![v668] : Fin 1 → IVec S16 32) a x).toNat < S32768.size a := fun v668 k1_hw586 => k1_hw586

def k1_chk587 (v671 : IVec S16 32) : Prop :=
  (∀ a x, ((![v671] : Fin 1 → IVec S16 32) a x).toNat < S32768.size a)
theorem k1_idx587_inb : ∀ (v671 : IVec S16 32) (k1_hw587 : k1_chk587 v671), ∀ a x, ((![v671] : Fin 1 → IVec S16 32) a x).toNat < S32768.size a := fun v671 k1_hw587 => k1_hw587

def k1_chk588 (v674 : IVec S16 32) : Prop :=
  (∀ a x, ((![v674] : Fin 1 → IVec S16 32) a x).toNat < S32768.size a)
theorem k1_idx588_inb : ∀ (v674 : IVec S16 32) (k1_hw588 : k1_chk588 v674), ∀ a x, ((![v674] : Fin 1 → IVec S16 32) a x).toNat < S32768.size a := fun v674 k1_hw588 => k1_hw588

def k1_chk589 (v677 : IVec S16 32) : Prop :=
  (∀ a x, ((![v677] : Fin 1 → IVec S16 32) a x).toNat < S32768.size a)
theorem k1_idx589_inb : ∀ (v677 : IVec S16 32) (k1_hw589 : k1_chk589 v677), ∀ a x, ((![v677] : Fin 1 → IVec S16 32) a x).toNat < S32768.size a := fun v677 k1_hw589 => k1_hw589

def k1_chk590 (v680 : IVec S16 32) : Prop :=
  (∀ a x, ((![v680] : Fin 1 → IVec S16 32) a x).toNat < S32768.size a)
theorem k1_idx590_inb : ∀ (v680 : IVec S16 32) (k1_hw590 : k1_chk590 v680), ∀ a x, ((![v680] : Fin 1 → IVec S16 32) a x).toNat < S32768.size a := fun v680 k1_hw590 => k1_hw590

def k1_chk591 (v683 : IVec S16 32) : Prop :=
  (∀ a x, ((![v683] : Fin 1 → IVec S16 32) a x).toNat < S32768.size a)
theorem k1_idx591_inb : ∀ (v683 : IVec S16 32) (k1_hw591 : k1_chk591 v683), ∀ a x, ((![v683] : Fin 1 → IVec S16 32) a x).toNat < S32768.size a := fun v683 k1_hw591 => k1_hw591

def k1_chk592 (v686 : IVec S16 32) : Prop :=
  (∀ a x, ((![v686] : Fin 1 → IVec S16 32) a x).toNat < S32768.size a)
theorem k1_idx592_inb : ∀ (v686 : IVec S16 32) (k1_hw592 : k1_chk592 v686), ∀ a x, ((![v686] : Fin 1 → IVec S16 32) a x).toNat < S32768.size a := fun v686 k1_hw592 => k1_hw592
@[reducible] def k1_t39_loop : Scf.Loop 32 :=
  let c0_i32_521 : BitVec 32 := 0#32
  let c16_i32_522 : BitVec 32 := 16#32
  let v531 : BitVec 32 := Scalar.addi c0_i32_521 c16_i32_522
  let c1_i32_523 : BitVec 32 := 1#32
  ⟨c0_i32_521, v531, c1_i32_523⟩
def k1_off40 (k1_t39 : Fin k1_t39_loop.trips) (c0_i32_627 : BitVec 32) : Fin 1 → Nat :=
  let c0_i32_521 : BitVec 32 := 0#32
  let c1_i32_523 : BitVec 32 := 1#32
  let arg16 : BitVec 32 := Scf.iv c0_i32_521 c1_i32_523 k1_t39
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk593 (v641 : IVec S16 32) : Prop :=
  (∀ a x, ((![v641] : Fin 1 → IVec S16 32) a x).toNat < S32768.size a)
theorem k1_idx593_inb : ∀ (v641 : IVec S16 32) (k1_hw593 : k1_chk593 v641), ∀ a x, ((![v641] : Fin 1 → IVec S16 32) a x).toNat < S32768.size a := fun v641 k1_hw593 => k1_hw593

def k1_chk594 (v644 : IVec S16 32) : Prop :=
  (∀ a x, ((![v644] : Fin 1 → IVec S16 32) a x).toNat < S32768.size a)
theorem k1_idx594_inb : ∀ (v644 : IVec S16 32) (k1_hw594 : k1_chk594 v644), ∀ a x, ((![v644] : Fin 1 → IVec S16 32) a x).toNat < S32768.size a := fun v644 k1_hw594 => k1_hw594

def k1_chk595 (v647 : IVec S16 32) : Prop :=
  (∀ a x, ((![v647] : Fin 1 → IVec S16 32) a x).toNat < S32768.size a)
theorem k1_idx595_inb : ∀ (v647 : IVec S16 32) (k1_hw595 : k1_chk595 v647), ∀ a x, ((![v647] : Fin 1 → IVec S16 32) a x).toNat < S32768.size a := fun v647 k1_hw595 => k1_hw595

def k1_chk596 (v650 : IVec S16 32) : Prop :=
  (∀ a x, ((![v650] : Fin 1 → IVec S16 32) a x).toNat < S32768.size a)
theorem k1_idx596_inb : ∀ (v650 : IVec S16 32) (k1_hw596 : k1_chk596 v650), ∀ a x, ((![v650] : Fin 1 → IVec S16 32) a x).toNat < S32768.size a := fun v650 k1_hw596 => k1_hw596

def k1_chk597 (v653 : IVec S16 32) : Prop :=
  (∀ a x, ((![v653] : Fin 1 → IVec S16 32) a x).toNat < S32768.size a)
theorem k1_idx597_inb : ∀ (v653 : IVec S16 32) (k1_hw597 : k1_chk597 v653), ∀ a x, ((![v653] : Fin 1 → IVec S16 32) a x).toNat < S32768.size a := fun v653 k1_hw597 => k1_hw597

def k1_chk598 (v656 : IVec S16 32) : Prop :=
  (∀ a x, ((![v656] : Fin 1 → IVec S16 32) a x).toNat < S32768.size a)
theorem k1_idx598_inb : ∀ (v656 : IVec S16 32) (k1_hw598 : k1_chk598 v656), ∀ a x, ((![v656] : Fin 1 → IVec S16 32) a x).toNat < S32768.size a := fun v656 k1_hw598 => k1_hw598

def k1_chk599 (v659 : IVec S16 32) : Prop :=
  (∀ a x, ((![v659] : Fin 1 → IVec S16 32) a x).toNat < S32768.size a)
theorem k1_idx599_inb : ∀ (v659 : IVec S16 32) (k1_hw599 : k1_chk599 v659), ∀ a x, ((![v659] : Fin 1 → IVec S16 32) a x).toNat < S32768.size a := fun v659 k1_hw599 => k1_hw599

def k1_chk600 (v662 : IVec S16 32) : Prop :=
  (∀ a x, ((![v662] : Fin 1 → IVec S16 32) a x).toNat < S32768.size a)
theorem k1_idx600_inb : ∀ (v662 : IVec S16 32) (k1_hw600 : k1_chk600 v662), ∀ a x, ((![v662] : Fin 1 → IVec S16 32) a x).toNat < S32768.size a := fun v662 k1_hw600 => k1_hw600

def k1_chk601 (v665 : IVec S16 32) : Prop :=
  (∀ a x, ((![v665] : Fin 1 → IVec S16 32) a x).toNat < S32768.size a)
theorem k1_idx601_inb : ∀ (v665 : IVec S16 32) (k1_hw601 : k1_chk601 v665), ∀ a x, ((![v665] : Fin 1 → IVec S16 32) a x).toNat < S32768.size a := fun v665 k1_hw601 => k1_hw601

def k1_chk602 (v668 : IVec S16 32) : Prop :=
  (∀ a x, ((![v668] : Fin 1 → IVec S16 32) a x).toNat < S32768.size a)
theorem k1_idx602_inb : ∀ (v668 : IVec S16 32) (k1_hw602 : k1_chk602 v668), ∀ a x, ((![v668] : Fin 1 → IVec S16 32) a x).toNat < S32768.size a := fun v668 k1_hw602 => k1_hw602

def k1_chk603 (v671 : IVec S16 32) : Prop :=
  (∀ a x, ((![v671] : Fin 1 → IVec S16 32) a x).toNat < S32768.size a)
theorem k1_idx603_inb : ∀ (v671 : IVec S16 32) (k1_hw603 : k1_chk603 v671), ∀ a x, ((![v671] : Fin 1 → IVec S16 32) a x).toNat < S32768.size a := fun v671 k1_hw603 => k1_hw603

def k1_chk604 (v674 : IVec S16 32) : Prop :=
  (∀ a x, ((![v674] : Fin 1 → IVec S16 32) a x).toNat < S32768.size a)
theorem k1_idx604_inb : ∀ (v674 : IVec S16 32) (k1_hw604 : k1_chk604 v674), ∀ a x, ((![v674] : Fin 1 → IVec S16 32) a x).toNat < S32768.size a := fun v674 k1_hw604 => k1_hw604

def k1_chk605 (v677 : IVec S16 32) : Prop :=
  (∀ a x, ((![v677] : Fin 1 → IVec S16 32) a x).toNat < S32768.size a)
theorem k1_idx605_inb : ∀ (v677 : IVec S16 32) (k1_hw605 : k1_chk605 v677), ∀ a x, ((![v677] : Fin 1 → IVec S16 32) a x).toNat < S32768.size a := fun v677 k1_hw605 => k1_hw605

def k1_chk606 (v680 : IVec S16 32) : Prop :=
  (∀ a x, ((![v680] : Fin 1 → IVec S16 32) a x).toNat < S32768.size a)
theorem k1_idx606_inb : ∀ (v680 : IVec S16 32) (k1_hw606 : k1_chk606 v680), ∀ a x, ((![v680] : Fin 1 → IVec S16 32) a x).toNat < S32768.size a := fun v680 k1_hw606 => k1_hw606

def k1_chk607 (v683 : IVec S16 32) : Prop :=
  (∀ a x, ((![v683] : Fin 1 → IVec S16 32) a x).toNat < S32768.size a)
theorem k1_idx607_inb : ∀ (v683 : IVec S16 32) (k1_hw607 : k1_chk607 v683), ∀ a x, ((![v683] : Fin 1 → IVec S16 32) a x).toNat < S32768.size a := fun v683 k1_hw607 => k1_hw607

def k1_chk608 (v686 : IVec S16 32) : Prop :=
  (∀ a x, ((![v686] : Fin 1 → IVec S16 32) a x).toNat < S32768.size a)
theorem k1_idx608_inb : ∀ (v686 : IVec S16 32) (k1_hw608 : k1_chk608 v686), ∀ a x, ((![v686] : Fin 1 → IVec S16 32) a x).toNat < S32768.size a := fun v686 k1_hw608 => k1_hw608
@[reducible] def k1_t40_loop : Scf.Loop 32 :=
  let c0_i32_531 : BitVec 32 := 0#32
  let c16_i32_532 : BitVec 32 := 16#32
  let v541 : BitVec 32 := Scalar.addi c0_i32_531 c16_i32_532
  let c1_i32_533 : BitVec 32 := 1#32
  ⟨c0_i32_531, v541, c1_i32_533⟩
def k1_off41 (k1_t40 : Fin k1_t40_loop.trips) (c0_i32_627 : BitVec 32) : Fin 1 → Nat :=
  let c0_i32_531 : BitVec 32 := 0#32
  let c1_i32_533 : BitVec 32 := 1#32
  let arg16 : BitVec 32 := Scf.iv c0_i32_531 c1_i32_533 k1_t40
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk609 (v641 : IVec S16 32) : Prop :=
  (∀ a x, ((![v641] : Fin 1 → IVec S16 32) a x).toNat < S32768.size a)
theorem k1_idx609_inb : ∀ (v641 : IVec S16 32) (k1_hw609 : k1_chk609 v641), ∀ a x, ((![v641] : Fin 1 → IVec S16 32) a x).toNat < S32768.size a := fun v641 k1_hw609 => k1_hw609

def k1_chk610 (v644 : IVec S16 32) : Prop :=
  (∀ a x, ((![v644] : Fin 1 → IVec S16 32) a x).toNat < S32768.size a)
theorem k1_idx610_inb : ∀ (v644 : IVec S16 32) (k1_hw610 : k1_chk610 v644), ∀ a x, ((![v644] : Fin 1 → IVec S16 32) a x).toNat < S32768.size a := fun v644 k1_hw610 => k1_hw610

def k1_chk611 (v647 : IVec S16 32) : Prop :=
  (∀ a x, ((![v647] : Fin 1 → IVec S16 32) a x).toNat < S32768.size a)
theorem k1_idx611_inb : ∀ (v647 : IVec S16 32) (k1_hw611 : k1_chk611 v647), ∀ a x, ((![v647] : Fin 1 → IVec S16 32) a x).toNat < S32768.size a := fun v647 k1_hw611 => k1_hw611

def k1_chk612 (v650 : IVec S16 32) : Prop :=
  (∀ a x, ((![v650] : Fin 1 → IVec S16 32) a x).toNat < S32768.size a)
theorem k1_idx612_inb : ∀ (v650 : IVec S16 32) (k1_hw612 : k1_chk612 v650), ∀ a x, ((![v650] : Fin 1 → IVec S16 32) a x).toNat < S32768.size a := fun v650 k1_hw612 => k1_hw612

def k1_chk613 (v653 : IVec S16 32) : Prop :=
  (∀ a x, ((![v653] : Fin 1 → IVec S16 32) a x).toNat < S32768.size a)
theorem k1_idx613_inb : ∀ (v653 : IVec S16 32) (k1_hw613 : k1_chk613 v653), ∀ a x, ((![v653] : Fin 1 → IVec S16 32) a x).toNat < S32768.size a := fun v653 k1_hw613 => k1_hw613

def k1_chk614 (v656 : IVec S16 32) : Prop :=
  (∀ a x, ((![v656] : Fin 1 → IVec S16 32) a x).toNat < S32768.size a)
theorem k1_idx614_inb : ∀ (v656 : IVec S16 32) (k1_hw614 : k1_chk614 v656), ∀ a x, ((![v656] : Fin 1 → IVec S16 32) a x).toNat < S32768.size a := fun v656 k1_hw614 => k1_hw614

def k1_chk615 (v659 : IVec S16 32) : Prop :=
  (∀ a x, ((![v659] : Fin 1 → IVec S16 32) a x).toNat < S32768.size a)
theorem k1_idx615_inb : ∀ (v659 : IVec S16 32) (k1_hw615 : k1_chk615 v659), ∀ a x, ((![v659] : Fin 1 → IVec S16 32) a x).toNat < S32768.size a := fun v659 k1_hw615 => k1_hw615

def k1_chk616 (v662 : IVec S16 32) : Prop :=
  (∀ a x, ((![v662] : Fin 1 → IVec S16 32) a x).toNat < S32768.size a)
theorem k1_idx616_inb : ∀ (v662 : IVec S16 32) (k1_hw616 : k1_chk616 v662), ∀ a x, ((![v662] : Fin 1 → IVec S16 32) a x).toNat < S32768.size a := fun v662 k1_hw616 => k1_hw616

def k1_chk617 (v665 : IVec S16 32) : Prop :=
  (∀ a x, ((![v665] : Fin 1 → IVec S16 32) a x).toNat < S32768.size a)
theorem k1_idx617_inb : ∀ (v665 : IVec S16 32) (k1_hw617 : k1_chk617 v665), ∀ a x, ((![v665] : Fin 1 → IVec S16 32) a x).toNat < S32768.size a := fun v665 k1_hw617 => k1_hw617

def k1_chk618 (v668 : IVec S16 32) : Prop :=
  (∀ a x, ((![v668] : Fin 1 → IVec S16 32) a x).toNat < S32768.size a)
theorem k1_idx618_inb : ∀ (v668 : IVec S16 32) (k1_hw618 : k1_chk618 v668), ∀ a x, ((![v668] : Fin 1 → IVec S16 32) a x).toNat < S32768.size a := fun v668 k1_hw618 => k1_hw618

def k1_chk619 (v671 : IVec S16 32) : Prop :=
  (∀ a x, ((![v671] : Fin 1 → IVec S16 32) a x).toNat < S32768.size a)
theorem k1_idx619_inb : ∀ (v671 : IVec S16 32) (k1_hw619 : k1_chk619 v671), ∀ a x, ((![v671] : Fin 1 → IVec S16 32) a x).toNat < S32768.size a := fun v671 k1_hw619 => k1_hw619

def k1_chk620 (v674 : IVec S16 32) : Prop :=
  (∀ a x, ((![v674] : Fin 1 → IVec S16 32) a x).toNat < S32768.size a)
theorem k1_idx620_inb : ∀ (v674 : IVec S16 32) (k1_hw620 : k1_chk620 v674), ∀ a x, ((![v674] : Fin 1 → IVec S16 32) a x).toNat < S32768.size a := fun v674 k1_hw620 => k1_hw620

def k1_chk621 (v677 : IVec S16 32) : Prop :=
  (∀ a x, ((![v677] : Fin 1 → IVec S16 32) a x).toNat < S32768.size a)
theorem k1_idx621_inb : ∀ (v677 : IVec S16 32) (k1_hw621 : k1_chk621 v677), ∀ a x, ((![v677] : Fin 1 → IVec S16 32) a x).toNat < S32768.size a := fun v677 k1_hw621 => k1_hw621

def k1_chk622 (v680 : IVec S16 32) : Prop :=
  (∀ a x, ((![v680] : Fin 1 → IVec S16 32) a x).toNat < S32768.size a)
theorem k1_idx622_inb : ∀ (v680 : IVec S16 32) (k1_hw622 : k1_chk622 v680), ∀ a x, ((![v680] : Fin 1 → IVec S16 32) a x).toNat < S32768.size a := fun v680 k1_hw622 => k1_hw622

def k1_chk623 (v683 : IVec S16 32) : Prop :=
  (∀ a x, ((![v683] : Fin 1 → IVec S16 32) a x).toNat < S32768.size a)
theorem k1_idx623_inb : ∀ (v683 : IVec S16 32) (k1_hw623 : k1_chk623 v683), ∀ a x, ((![v683] : Fin 1 → IVec S16 32) a x).toNat < S32768.size a := fun v683 k1_hw623 => k1_hw623

def k1_chk624 (v686 : IVec S16 32) : Prop :=
  (∀ a x, ((![v686] : Fin 1 → IVec S16 32) a x).toNat < S32768.size a)
theorem k1_idx624_inb : ∀ (v686 : IVec S16 32) (k1_hw624 : k1_chk624 v686), ∀ a x, ((![v686] : Fin 1 → IVec S16 32) a x).toNat < S32768.size a := fun v686 k1_hw624 => k1_hw624
@[reducible] def k1_t41_loop : Scf.Loop 32 :=
  let c0_i32_541 : BitVec 32 := 0#32
  let c16_i32_542 : BitVec 32 := 16#32
  let v551 : BitVec 32 := Scalar.addi c0_i32_541 c16_i32_542
  let c1_i32_543 : BitVec 32 := 1#32
  ⟨c0_i32_541, v551, c1_i32_543⟩
def k1_off42 (k1_t41 : Fin k1_t41_loop.trips) (c0_i32_627 : BitVec 32) : Fin 1 → Nat :=
  let c0_i32_541 : BitVec 32 := 0#32
  let c1_i32_543 : BitVec 32 := 1#32
  let arg16 : BitVec 32 := Scf.iv c0_i32_541 c1_i32_543 k1_t41
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk625 (v641 : IVec S16 32) : Prop :=
  (∀ a x, ((![v641] : Fin 1 → IVec S16 32) a x).toNat < S32768.size a)
theorem k1_idx625_inb : ∀ (v641 : IVec S16 32) (k1_hw625 : k1_chk625 v641), ∀ a x, ((![v641] : Fin 1 → IVec S16 32) a x).toNat < S32768.size a := fun v641 k1_hw625 => k1_hw625

def k1_chk626 (v644 : IVec S16 32) : Prop :=
  (∀ a x, ((![v644] : Fin 1 → IVec S16 32) a x).toNat < S32768.size a)
theorem k1_idx626_inb : ∀ (v644 : IVec S16 32) (k1_hw626 : k1_chk626 v644), ∀ a x, ((![v644] : Fin 1 → IVec S16 32) a x).toNat < S32768.size a := fun v644 k1_hw626 => k1_hw626

def k1_chk627 (v647 : IVec S16 32) : Prop :=
  (∀ a x, ((![v647] : Fin 1 → IVec S16 32) a x).toNat < S32768.size a)
theorem k1_idx627_inb : ∀ (v647 : IVec S16 32) (k1_hw627 : k1_chk627 v647), ∀ a x, ((![v647] : Fin 1 → IVec S16 32) a x).toNat < S32768.size a := fun v647 k1_hw627 => k1_hw627

def k1_chk628 (v650 : IVec S16 32) : Prop :=
  (∀ a x, ((![v650] : Fin 1 → IVec S16 32) a x).toNat < S32768.size a)
theorem k1_idx628_inb : ∀ (v650 : IVec S16 32) (k1_hw628 : k1_chk628 v650), ∀ a x, ((![v650] : Fin 1 → IVec S16 32) a x).toNat < S32768.size a := fun v650 k1_hw628 => k1_hw628

def k1_chk629 (v653 : IVec S16 32) : Prop :=
  (∀ a x, ((![v653] : Fin 1 → IVec S16 32) a x).toNat < S32768.size a)
theorem k1_idx629_inb : ∀ (v653 : IVec S16 32) (k1_hw629 : k1_chk629 v653), ∀ a x, ((![v653] : Fin 1 → IVec S16 32) a x).toNat < S32768.size a := fun v653 k1_hw629 => k1_hw629

def k1_chk630 (v656 : IVec S16 32) : Prop :=
  (∀ a x, ((![v656] : Fin 1 → IVec S16 32) a x).toNat < S32768.size a)
theorem k1_idx630_inb : ∀ (v656 : IVec S16 32) (k1_hw630 : k1_chk630 v656), ∀ a x, ((![v656] : Fin 1 → IVec S16 32) a x).toNat < S32768.size a := fun v656 k1_hw630 => k1_hw630

def k1_chk631 (v659 : IVec S16 32) : Prop :=
  (∀ a x, ((![v659] : Fin 1 → IVec S16 32) a x).toNat < S32768.size a)
theorem k1_idx631_inb : ∀ (v659 : IVec S16 32) (k1_hw631 : k1_chk631 v659), ∀ a x, ((![v659] : Fin 1 → IVec S16 32) a x).toNat < S32768.size a := fun v659 k1_hw631 => k1_hw631

def k1_chk632 (v662 : IVec S16 32) : Prop :=
  (∀ a x, ((![v662] : Fin 1 → IVec S16 32) a x).toNat < S32768.size a)
theorem k1_idx632_inb : ∀ (v662 : IVec S16 32) (k1_hw632 : k1_chk632 v662), ∀ a x, ((![v662] : Fin 1 → IVec S16 32) a x).toNat < S32768.size a := fun v662 k1_hw632 => k1_hw632

def k1_chk633 (v665 : IVec S16 32) : Prop :=
  (∀ a x, ((![v665] : Fin 1 → IVec S16 32) a x).toNat < S32768.size a)
theorem k1_idx633_inb : ∀ (v665 : IVec S16 32) (k1_hw633 : k1_chk633 v665), ∀ a x, ((![v665] : Fin 1 → IVec S16 32) a x).toNat < S32768.size a := fun v665 k1_hw633 => k1_hw633

def k1_chk634 (v668 : IVec S16 32) : Prop :=
  (∀ a x, ((![v668] : Fin 1 → IVec S16 32) a x).toNat < S32768.size a)
theorem k1_idx634_inb : ∀ (v668 : IVec S16 32) (k1_hw634 : k1_chk634 v668), ∀ a x, ((![v668] : Fin 1 → IVec S16 32) a x).toNat < S32768.size a := fun v668 k1_hw634 => k1_hw634

def k1_chk635 (v671 : IVec S16 32) : Prop :=
  (∀ a x, ((![v671] : Fin 1 → IVec S16 32) a x).toNat < S32768.size a)
theorem k1_idx635_inb : ∀ (v671 : IVec S16 32) (k1_hw635 : k1_chk635 v671), ∀ a x, ((![v671] : Fin 1 → IVec S16 32) a x).toNat < S32768.size a := fun v671 k1_hw635 => k1_hw635

def k1_chk636 (v674 : IVec S16 32) : Prop :=
  (∀ a x, ((![v674] : Fin 1 → IVec S16 32) a x).toNat < S32768.size a)
theorem k1_idx636_inb : ∀ (v674 : IVec S16 32) (k1_hw636 : k1_chk636 v674), ∀ a x, ((![v674] : Fin 1 → IVec S16 32) a x).toNat < S32768.size a := fun v674 k1_hw636 => k1_hw636

def k1_chk637 (v677 : IVec S16 32) : Prop :=
  (∀ a x, ((![v677] : Fin 1 → IVec S16 32) a x).toNat < S32768.size a)
theorem k1_idx637_inb : ∀ (v677 : IVec S16 32) (k1_hw637 : k1_chk637 v677), ∀ a x, ((![v677] : Fin 1 → IVec S16 32) a x).toNat < S32768.size a := fun v677 k1_hw637 => k1_hw637

def k1_chk638 (v680 : IVec S16 32) : Prop :=
  (∀ a x, ((![v680] : Fin 1 → IVec S16 32) a x).toNat < S32768.size a)
theorem k1_idx638_inb : ∀ (v680 : IVec S16 32) (k1_hw638 : k1_chk638 v680), ∀ a x, ((![v680] : Fin 1 → IVec S16 32) a x).toNat < S32768.size a := fun v680 k1_hw638 => k1_hw638

def k1_chk639 (v683 : IVec S16 32) : Prop :=
  (∀ a x, ((![v683] : Fin 1 → IVec S16 32) a x).toNat < S32768.size a)
theorem k1_idx639_inb : ∀ (v683 : IVec S16 32) (k1_hw639 : k1_chk639 v683), ∀ a x, ((![v683] : Fin 1 → IVec S16 32) a x).toNat < S32768.size a := fun v683 k1_hw639 => k1_hw639

def k1_chk640 (v686 : IVec S16 32) : Prop :=
  (∀ a x, ((![v686] : Fin 1 → IVec S16 32) a x).toNat < S32768.size a)
theorem k1_idx640_inb : ∀ (v686 : IVec S16 32) (k1_hw640 : k1_chk640 v686), ∀ a x, ((![v686] : Fin 1 → IVec S16 32) a x).toNat < S32768.size a := fun v686 k1_hw640 => k1_hw640
@[reducible] def k1_t42_loop : Scf.Loop 32 :=
  let c0_i32_551 : BitVec 32 := 0#32
  let c16_i32_552 : BitVec 32 := 16#32
  let v561 : BitVec 32 := Scalar.addi c0_i32_551 c16_i32_552
  let c1_i32_553 : BitVec 32 := 1#32
  ⟨c0_i32_551, v561, c1_i32_553⟩
def k1_off43 (k1_t42 : Fin k1_t42_loop.trips) (c0_i32_627 : BitVec 32) : Fin 1 → Nat :=
  let c0_i32_551 : BitVec 32 := 0#32
  let c1_i32_553 : BitVec 32 := 1#32
  let arg16 : BitVec 32 := Scf.iv c0_i32_551 c1_i32_553 k1_t42
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk641 (v641 : IVec S16 32) : Prop :=
  (∀ a x, ((![v641] : Fin 1 → IVec S16 32) a x).toNat < S32768.size a)
theorem k1_idx641_inb : ∀ (v641 : IVec S16 32) (k1_hw641 : k1_chk641 v641), ∀ a x, ((![v641] : Fin 1 → IVec S16 32) a x).toNat < S32768.size a := fun v641 k1_hw641 => k1_hw641

def k1_chk642 (v644 : IVec S16 32) : Prop :=
  (∀ a x, ((![v644] : Fin 1 → IVec S16 32) a x).toNat < S32768.size a)
theorem k1_idx642_inb : ∀ (v644 : IVec S16 32) (k1_hw642 : k1_chk642 v644), ∀ a x, ((![v644] : Fin 1 → IVec S16 32) a x).toNat < S32768.size a := fun v644 k1_hw642 => k1_hw642

def k1_chk643 (v647 : IVec S16 32) : Prop :=
  (∀ a x, ((![v647] : Fin 1 → IVec S16 32) a x).toNat < S32768.size a)
theorem k1_idx643_inb : ∀ (v647 : IVec S16 32) (k1_hw643 : k1_chk643 v647), ∀ a x, ((![v647] : Fin 1 → IVec S16 32) a x).toNat < S32768.size a := fun v647 k1_hw643 => k1_hw643

def k1_chk644 (v650 : IVec S16 32) : Prop :=
  (∀ a x, ((![v650] : Fin 1 → IVec S16 32) a x).toNat < S32768.size a)
theorem k1_idx644_inb : ∀ (v650 : IVec S16 32) (k1_hw644 : k1_chk644 v650), ∀ a x, ((![v650] : Fin 1 → IVec S16 32) a x).toNat < S32768.size a := fun v650 k1_hw644 => k1_hw644

def k1_chk645 (v653 : IVec S16 32) : Prop :=
  (∀ a x, ((![v653] : Fin 1 → IVec S16 32) a x).toNat < S32768.size a)
theorem k1_idx645_inb : ∀ (v653 : IVec S16 32) (k1_hw645 : k1_chk645 v653), ∀ a x, ((![v653] : Fin 1 → IVec S16 32) a x).toNat < S32768.size a := fun v653 k1_hw645 => k1_hw645

def k1_chk646 (v656 : IVec S16 32) : Prop :=
  (∀ a x, ((![v656] : Fin 1 → IVec S16 32) a x).toNat < S32768.size a)
theorem k1_idx646_inb : ∀ (v656 : IVec S16 32) (k1_hw646 : k1_chk646 v656), ∀ a x, ((![v656] : Fin 1 → IVec S16 32) a x).toNat < S32768.size a := fun v656 k1_hw646 => k1_hw646

def k1_chk647 (v659 : IVec S16 32) : Prop :=
  (∀ a x, ((![v659] : Fin 1 → IVec S16 32) a x).toNat < S32768.size a)
theorem k1_idx647_inb : ∀ (v659 : IVec S16 32) (k1_hw647 : k1_chk647 v659), ∀ a x, ((![v659] : Fin 1 → IVec S16 32) a x).toNat < S32768.size a := fun v659 k1_hw647 => k1_hw647

def k1_chk648 (v662 : IVec S16 32) : Prop :=
  (∀ a x, ((![v662] : Fin 1 → IVec S16 32) a x).toNat < S32768.size a)
theorem k1_idx648_inb : ∀ (v662 : IVec S16 32) (k1_hw648 : k1_chk648 v662), ∀ a x, ((![v662] : Fin 1 → IVec S16 32) a x).toNat < S32768.size a := fun v662 k1_hw648 => k1_hw648

def k1_chk649 (v665 : IVec S16 32) : Prop :=
  (∀ a x, ((![v665] : Fin 1 → IVec S16 32) a x).toNat < S32768.size a)
theorem k1_idx649_inb : ∀ (v665 : IVec S16 32) (k1_hw649 : k1_chk649 v665), ∀ a x, ((![v665] : Fin 1 → IVec S16 32) a x).toNat < S32768.size a := fun v665 k1_hw649 => k1_hw649

def k1_chk650 (v668 : IVec S16 32) : Prop :=
  (∀ a x, ((![v668] : Fin 1 → IVec S16 32) a x).toNat < S32768.size a)
theorem k1_idx650_inb : ∀ (v668 : IVec S16 32) (k1_hw650 : k1_chk650 v668), ∀ a x, ((![v668] : Fin 1 → IVec S16 32) a x).toNat < S32768.size a := fun v668 k1_hw650 => k1_hw650

def k1_chk651 (v671 : IVec S16 32) : Prop :=
  (∀ a x, ((![v671] : Fin 1 → IVec S16 32) a x).toNat < S32768.size a)
theorem k1_idx651_inb : ∀ (v671 : IVec S16 32) (k1_hw651 : k1_chk651 v671), ∀ a x, ((![v671] : Fin 1 → IVec S16 32) a x).toNat < S32768.size a := fun v671 k1_hw651 => k1_hw651

def k1_chk652 (v674 : IVec S16 32) : Prop :=
  (∀ a x, ((![v674] : Fin 1 → IVec S16 32) a x).toNat < S32768.size a)
theorem k1_idx652_inb : ∀ (v674 : IVec S16 32) (k1_hw652 : k1_chk652 v674), ∀ a x, ((![v674] : Fin 1 → IVec S16 32) a x).toNat < S32768.size a := fun v674 k1_hw652 => k1_hw652

def k1_chk653 (v677 : IVec S16 32) : Prop :=
  (∀ a x, ((![v677] : Fin 1 → IVec S16 32) a x).toNat < S32768.size a)
theorem k1_idx653_inb : ∀ (v677 : IVec S16 32) (k1_hw653 : k1_chk653 v677), ∀ a x, ((![v677] : Fin 1 → IVec S16 32) a x).toNat < S32768.size a := fun v677 k1_hw653 => k1_hw653

def k1_chk654 (v680 : IVec S16 32) : Prop :=
  (∀ a x, ((![v680] : Fin 1 → IVec S16 32) a x).toNat < S32768.size a)
theorem k1_idx654_inb : ∀ (v680 : IVec S16 32) (k1_hw654 : k1_chk654 v680), ∀ a x, ((![v680] : Fin 1 → IVec S16 32) a x).toNat < S32768.size a := fun v680 k1_hw654 => k1_hw654

def k1_chk655 (v683 : IVec S16 32) : Prop :=
  (∀ a x, ((![v683] : Fin 1 → IVec S16 32) a x).toNat < S32768.size a)
theorem k1_idx655_inb : ∀ (v683 : IVec S16 32) (k1_hw655 : k1_chk655 v683), ∀ a x, ((![v683] : Fin 1 → IVec S16 32) a x).toNat < S32768.size a := fun v683 k1_hw655 => k1_hw655

def k1_chk656 (v686 : IVec S16 32) : Prop :=
  (∀ a x, ((![v686] : Fin 1 → IVec S16 32) a x).toNat < S32768.size a)
theorem k1_idx656_inb : ∀ (v686 : IVec S16 32) (k1_hw656 : k1_chk656 v686), ∀ a x, ((![v686] : Fin 1 → IVec S16 32) a x).toNat < S32768.size a := fun v686 k1_hw656 => k1_hw656
@[reducible] def k1_t43_loop : Scf.Loop 32 :=
  let c0_i32_561 : BitVec 32 := 0#32
  let c16_i32_562 : BitVec 32 := 16#32
  let v571 : BitVec 32 := Scalar.addi c0_i32_561 c16_i32_562
  let c1_i32_563 : BitVec 32 := 1#32
  ⟨c0_i32_561, v571, c1_i32_563⟩
def k1_off44 (k1_t43 : Fin k1_t43_loop.trips) (c0_i32_627 : BitVec 32) : Fin 1 → Nat :=
  let c0_i32_561 : BitVec 32 := 0#32
  let c1_i32_563 : BitVec 32 := 1#32
  let arg16 : BitVec 32 := Scf.iv c0_i32_561 c1_i32_563 k1_t43
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk657 (v641 : IVec S16 32) : Prop :=
  (∀ a x, ((![v641] : Fin 1 → IVec S16 32) a x).toNat < S32768.size a)
theorem k1_idx657_inb : ∀ (v641 : IVec S16 32) (k1_hw657 : k1_chk657 v641), ∀ a x, ((![v641] : Fin 1 → IVec S16 32) a x).toNat < S32768.size a := fun v641 k1_hw657 => k1_hw657

def k1_chk658 (v644 : IVec S16 32) : Prop :=
  (∀ a x, ((![v644] : Fin 1 → IVec S16 32) a x).toNat < S32768.size a)
theorem k1_idx658_inb : ∀ (v644 : IVec S16 32) (k1_hw658 : k1_chk658 v644), ∀ a x, ((![v644] : Fin 1 → IVec S16 32) a x).toNat < S32768.size a := fun v644 k1_hw658 => k1_hw658

def k1_chk659 (v647 : IVec S16 32) : Prop :=
  (∀ a x, ((![v647] : Fin 1 → IVec S16 32) a x).toNat < S32768.size a)
theorem k1_idx659_inb : ∀ (v647 : IVec S16 32) (k1_hw659 : k1_chk659 v647), ∀ a x, ((![v647] : Fin 1 → IVec S16 32) a x).toNat < S32768.size a := fun v647 k1_hw659 => k1_hw659

def k1_chk660 (v650 : IVec S16 32) : Prop :=
  (∀ a x, ((![v650] : Fin 1 → IVec S16 32) a x).toNat < S32768.size a)
theorem k1_idx660_inb : ∀ (v650 : IVec S16 32) (k1_hw660 : k1_chk660 v650), ∀ a x, ((![v650] : Fin 1 → IVec S16 32) a x).toNat < S32768.size a := fun v650 k1_hw660 => k1_hw660

def k1_chk661 (v653 : IVec S16 32) : Prop :=
  (∀ a x, ((![v653] : Fin 1 → IVec S16 32) a x).toNat < S32768.size a)
theorem k1_idx661_inb : ∀ (v653 : IVec S16 32) (k1_hw661 : k1_chk661 v653), ∀ a x, ((![v653] : Fin 1 → IVec S16 32) a x).toNat < S32768.size a := fun v653 k1_hw661 => k1_hw661

def k1_chk662 (v656 : IVec S16 32) : Prop :=
  (∀ a x, ((![v656] : Fin 1 → IVec S16 32) a x).toNat < S32768.size a)
theorem k1_idx662_inb : ∀ (v656 : IVec S16 32) (k1_hw662 : k1_chk662 v656), ∀ a x, ((![v656] : Fin 1 → IVec S16 32) a x).toNat < S32768.size a := fun v656 k1_hw662 => k1_hw662

def k1_chk663 (v659 : IVec S16 32) : Prop :=
  (∀ a x, ((![v659] : Fin 1 → IVec S16 32) a x).toNat < S32768.size a)
theorem k1_idx663_inb : ∀ (v659 : IVec S16 32) (k1_hw663 : k1_chk663 v659), ∀ a x, ((![v659] : Fin 1 → IVec S16 32) a x).toNat < S32768.size a := fun v659 k1_hw663 => k1_hw663

def k1_chk664 (v662 : IVec S16 32) : Prop :=
  (∀ a x, ((![v662] : Fin 1 → IVec S16 32) a x).toNat < S32768.size a)
theorem k1_idx664_inb : ∀ (v662 : IVec S16 32) (k1_hw664 : k1_chk664 v662), ∀ a x, ((![v662] : Fin 1 → IVec S16 32) a x).toNat < S32768.size a := fun v662 k1_hw664 => k1_hw664

def k1_chk665 (v665 : IVec S16 32) : Prop :=
  (∀ a x, ((![v665] : Fin 1 → IVec S16 32) a x).toNat < S32768.size a)
theorem k1_idx665_inb : ∀ (v665 : IVec S16 32) (k1_hw665 : k1_chk665 v665), ∀ a x, ((![v665] : Fin 1 → IVec S16 32) a x).toNat < S32768.size a := fun v665 k1_hw665 => k1_hw665

def k1_chk666 (v668 : IVec S16 32) : Prop :=
  (∀ a x, ((![v668] : Fin 1 → IVec S16 32) a x).toNat < S32768.size a)
theorem k1_idx666_inb : ∀ (v668 : IVec S16 32) (k1_hw666 : k1_chk666 v668), ∀ a x, ((![v668] : Fin 1 → IVec S16 32) a x).toNat < S32768.size a := fun v668 k1_hw666 => k1_hw666

def k1_chk667 (v671 : IVec S16 32) : Prop :=
  (∀ a x, ((![v671] : Fin 1 → IVec S16 32) a x).toNat < S32768.size a)
theorem k1_idx667_inb : ∀ (v671 : IVec S16 32) (k1_hw667 : k1_chk667 v671), ∀ a x, ((![v671] : Fin 1 → IVec S16 32) a x).toNat < S32768.size a := fun v671 k1_hw667 => k1_hw667

def k1_chk668 (v674 : IVec S16 32) : Prop :=
  (∀ a x, ((![v674] : Fin 1 → IVec S16 32) a x).toNat < S32768.size a)
theorem k1_idx668_inb : ∀ (v674 : IVec S16 32) (k1_hw668 : k1_chk668 v674), ∀ a x, ((![v674] : Fin 1 → IVec S16 32) a x).toNat < S32768.size a := fun v674 k1_hw668 => k1_hw668

def k1_chk669 (v677 : IVec S16 32) : Prop :=
  (∀ a x, ((![v677] : Fin 1 → IVec S16 32) a x).toNat < S32768.size a)
theorem k1_idx669_inb : ∀ (v677 : IVec S16 32) (k1_hw669 : k1_chk669 v677), ∀ a x, ((![v677] : Fin 1 → IVec S16 32) a x).toNat < S32768.size a := fun v677 k1_hw669 => k1_hw669

def k1_chk670 (v680 : IVec S16 32) : Prop :=
  (∀ a x, ((![v680] : Fin 1 → IVec S16 32) a x).toNat < S32768.size a)
theorem k1_idx670_inb : ∀ (v680 : IVec S16 32) (k1_hw670 : k1_chk670 v680), ∀ a x, ((![v680] : Fin 1 → IVec S16 32) a x).toNat < S32768.size a := fun v680 k1_hw670 => k1_hw670

def k1_chk671 (v683 : IVec S16 32) : Prop :=
  (∀ a x, ((![v683] : Fin 1 → IVec S16 32) a x).toNat < S32768.size a)
theorem k1_idx671_inb : ∀ (v683 : IVec S16 32) (k1_hw671 : k1_chk671 v683), ∀ a x, ((![v683] : Fin 1 → IVec S16 32) a x).toNat < S32768.size a := fun v683 k1_hw671 => k1_hw671

def k1_chk672 (v686 : IVec S16 32) : Prop :=
  (∀ a x, ((![v686] : Fin 1 → IVec S16 32) a x).toNat < S32768.size a)
theorem k1_idx672_inb : ∀ (v686 : IVec S16 32) (k1_hw672 : k1_chk672 v686), ∀ a x, ((![v686] : Fin 1 → IVec S16 32) a x).toNat < S32768.size a := fun v686 k1_hw672 => k1_hw672
@[reducible] def k1_t44_loop : Scf.Loop 32 :=
  let c0_i32_571 : BitVec 32 := 0#32
  let c16_i32_572 : BitVec 32 := 16#32
  let v581 : BitVec 32 := Scalar.addi c0_i32_571 c16_i32_572
  let c1_i32_573 : BitVec 32 := 1#32
  ⟨c0_i32_571, v581, c1_i32_573⟩
def k1_off45 (k1_t44 : Fin k1_t44_loop.trips) (c0_i32_627 : BitVec 32) : Fin 1 → Nat :=
  let c0_i32_571 : BitVec 32 := 0#32
  let c1_i32_573 : BitVec 32 := 1#32
  let arg16 : BitVec 32 := Scf.iv c0_i32_571 c1_i32_573 k1_t44
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk673 (v641 : IVec S16 32) : Prop :=
  (∀ a x, ((![v641] : Fin 1 → IVec S16 32) a x).toNat < S32768.size a)
theorem k1_idx673_inb : ∀ (v641 : IVec S16 32) (k1_hw673 : k1_chk673 v641), ∀ a x, ((![v641] : Fin 1 → IVec S16 32) a x).toNat < S32768.size a := fun v641 k1_hw673 => k1_hw673

def k1_chk674 (v644 : IVec S16 32) : Prop :=
  (∀ a x, ((![v644] : Fin 1 → IVec S16 32) a x).toNat < S32768.size a)
theorem k1_idx674_inb : ∀ (v644 : IVec S16 32) (k1_hw674 : k1_chk674 v644), ∀ a x, ((![v644] : Fin 1 → IVec S16 32) a x).toNat < S32768.size a := fun v644 k1_hw674 => k1_hw674

def k1_chk675 (v647 : IVec S16 32) : Prop :=
  (∀ a x, ((![v647] : Fin 1 → IVec S16 32) a x).toNat < S32768.size a)
theorem k1_idx675_inb : ∀ (v647 : IVec S16 32) (k1_hw675 : k1_chk675 v647), ∀ a x, ((![v647] : Fin 1 → IVec S16 32) a x).toNat < S32768.size a := fun v647 k1_hw675 => k1_hw675

def k1_chk676 (v650 : IVec S16 32) : Prop :=
  (∀ a x, ((![v650] : Fin 1 → IVec S16 32) a x).toNat < S32768.size a)
theorem k1_idx676_inb : ∀ (v650 : IVec S16 32) (k1_hw676 : k1_chk676 v650), ∀ a x, ((![v650] : Fin 1 → IVec S16 32) a x).toNat < S32768.size a := fun v650 k1_hw676 => k1_hw676

def k1_chk677 (v653 : IVec S16 32) : Prop :=
  (∀ a x, ((![v653] : Fin 1 → IVec S16 32) a x).toNat < S32768.size a)
theorem k1_idx677_inb : ∀ (v653 : IVec S16 32) (k1_hw677 : k1_chk677 v653), ∀ a x, ((![v653] : Fin 1 → IVec S16 32) a x).toNat < S32768.size a := fun v653 k1_hw677 => k1_hw677

def k1_chk678 (v656 : IVec S16 32) : Prop :=
  (∀ a x, ((![v656] : Fin 1 → IVec S16 32) a x).toNat < S32768.size a)
theorem k1_idx678_inb : ∀ (v656 : IVec S16 32) (k1_hw678 : k1_chk678 v656), ∀ a x, ((![v656] : Fin 1 → IVec S16 32) a x).toNat < S32768.size a := fun v656 k1_hw678 => k1_hw678

def k1_chk679 (v659 : IVec S16 32) : Prop :=
  (∀ a x, ((![v659] : Fin 1 → IVec S16 32) a x).toNat < S32768.size a)
theorem k1_idx679_inb : ∀ (v659 : IVec S16 32) (k1_hw679 : k1_chk679 v659), ∀ a x, ((![v659] : Fin 1 → IVec S16 32) a x).toNat < S32768.size a := fun v659 k1_hw679 => k1_hw679

def k1_chk680 (v662 : IVec S16 32) : Prop :=
  (∀ a x, ((![v662] : Fin 1 → IVec S16 32) a x).toNat < S32768.size a)
theorem k1_idx680_inb : ∀ (v662 : IVec S16 32) (k1_hw680 : k1_chk680 v662), ∀ a x, ((![v662] : Fin 1 → IVec S16 32) a x).toNat < S32768.size a := fun v662 k1_hw680 => k1_hw680

def k1_chk681 (v665 : IVec S16 32) : Prop :=
  (∀ a x, ((![v665] : Fin 1 → IVec S16 32) a x).toNat < S32768.size a)
theorem k1_idx681_inb : ∀ (v665 : IVec S16 32) (k1_hw681 : k1_chk681 v665), ∀ a x, ((![v665] : Fin 1 → IVec S16 32) a x).toNat < S32768.size a := fun v665 k1_hw681 => k1_hw681

def k1_chk682 (v668 : IVec S16 32) : Prop :=
  (∀ a x, ((![v668] : Fin 1 → IVec S16 32) a x).toNat < S32768.size a)
theorem k1_idx682_inb : ∀ (v668 : IVec S16 32) (k1_hw682 : k1_chk682 v668), ∀ a x, ((![v668] : Fin 1 → IVec S16 32) a x).toNat < S32768.size a := fun v668 k1_hw682 => k1_hw682

def k1_chk683 (v671 : IVec S16 32) : Prop :=
  (∀ a x, ((![v671] : Fin 1 → IVec S16 32) a x).toNat < S32768.size a)
theorem k1_idx683_inb : ∀ (v671 : IVec S16 32) (k1_hw683 : k1_chk683 v671), ∀ a x, ((![v671] : Fin 1 → IVec S16 32) a x).toNat < S32768.size a := fun v671 k1_hw683 => k1_hw683

def k1_chk684 (v674 : IVec S16 32) : Prop :=
  (∀ a x, ((![v674] : Fin 1 → IVec S16 32) a x).toNat < S32768.size a)
theorem k1_idx684_inb : ∀ (v674 : IVec S16 32) (k1_hw684 : k1_chk684 v674), ∀ a x, ((![v674] : Fin 1 → IVec S16 32) a x).toNat < S32768.size a := fun v674 k1_hw684 => k1_hw684

def k1_chk685 (v677 : IVec S16 32) : Prop :=
  (∀ a x, ((![v677] : Fin 1 → IVec S16 32) a x).toNat < S32768.size a)
theorem k1_idx685_inb : ∀ (v677 : IVec S16 32) (k1_hw685 : k1_chk685 v677), ∀ a x, ((![v677] : Fin 1 → IVec S16 32) a x).toNat < S32768.size a := fun v677 k1_hw685 => k1_hw685

def k1_chk686 (v680 : IVec S16 32) : Prop :=
  (∀ a x, ((![v680] : Fin 1 → IVec S16 32) a x).toNat < S32768.size a)
theorem k1_idx686_inb : ∀ (v680 : IVec S16 32) (k1_hw686 : k1_chk686 v680), ∀ a x, ((![v680] : Fin 1 → IVec S16 32) a x).toNat < S32768.size a := fun v680 k1_hw686 => k1_hw686

def k1_chk687 (v683 : IVec S16 32) : Prop :=
  (∀ a x, ((![v683] : Fin 1 → IVec S16 32) a x).toNat < S32768.size a)
theorem k1_idx687_inb : ∀ (v683 : IVec S16 32) (k1_hw687 : k1_chk687 v683), ∀ a x, ((![v683] : Fin 1 → IVec S16 32) a x).toNat < S32768.size a := fun v683 k1_hw687 => k1_hw687

def k1_chk688 (v686 : IVec S16 32) : Prop :=
  (∀ a x, ((![v686] : Fin 1 → IVec S16 32) a x).toNat < S32768.size a)
theorem k1_idx688_inb : ∀ (v686 : IVec S16 32) (k1_hw688 : k1_chk688 v686), ∀ a x, ((![v686] : Fin 1 → IVec S16 32) a x).toNat < S32768.size a := fun v686 k1_hw688 => k1_hw688
@[reducible] def k1_t45_loop : Scf.Loop 32 :=
  let c0_i32_581 : BitVec 32 := 0#32
  let c16_i32_582 : BitVec 32 := 16#32
  let v591 : BitVec 32 := Scalar.addi c0_i32_581 c16_i32_582
  let c1_i32_583 : BitVec 32 := 1#32
  ⟨c0_i32_581, v591, c1_i32_583⟩
def k1_off46 (k1_t45 : Fin k1_t45_loop.trips) (c0_i32_627 : BitVec 32) : Fin 1 → Nat :=
  let c0_i32_581 : BitVec 32 := 0#32
  let c1_i32_583 : BitVec 32 := 1#32
  let arg16 : BitVec 32 := Scf.iv c0_i32_581 c1_i32_583 k1_t45
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk689 (v641 : IVec S16 32) : Prop :=
  (∀ a x, ((![v641] : Fin 1 → IVec S16 32) a x).toNat < S32768.size a)
theorem k1_idx689_inb : ∀ (v641 : IVec S16 32) (k1_hw689 : k1_chk689 v641), ∀ a x, ((![v641] : Fin 1 → IVec S16 32) a x).toNat < S32768.size a := fun v641 k1_hw689 => k1_hw689

def k1_chk690 (v644 : IVec S16 32) : Prop :=
  (∀ a x, ((![v644] : Fin 1 → IVec S16 32) a x).toNat < S32768.size a)
theorem k1_idx690_inb : ∀ (v644 : IVec S16 32) (k1_hw690 : k1_chk690 v644), ∀ a x, ((![v644] : Fin 1 → IVec S16 32) a x).toNat < S32768.size a := fun v644 k1_hw690 => k1_hw690

def k1_chk691 (v647 : IVec S16 32) : Prop :=
  (∀ a x, ((![v647] : Fin 1 → IVec S16 32) a x).toNat < S32768.size a)
theorem k1_idx691_inb : ∀ (v647 : IVec S16 32) (k1_hw691 : k1_chk691 v647), ∀ a x, ((![v647] : Fin 1 → IVec S16 32) a x).toNat < S32768.size a := fun v647 k1_hw691 => k1_hw691

def k1_chk692 (v650 : IVec S16 32) : Prop :=
  (∀ a x, ((![v650] : Fin 1 → IVec S16 32) a x).toNat < S32768.size a)
theorem k1_idx692_inb : ∀ (v650 : IVec S16 32) (k1_hw692 : k1_chk692 v650), ∀ a x, ((![v650] : Fin 1 → IVec S16 32) a x).toNat < S32768.size a := fun v650 k1_hw692 => k1_hw692

def k1_chk693 (v653 : IVec S16 32) : Prop :=
  (∀ a x, ((![v653] : Fin 1 → IVec S16 32) a x).toNat < S32768.size a)
theorem k1_idx693_inb : ∀ (v653 : IVec S16 32) (k1_hw693 : k1_chk693 v653), ∀ a x, ((![v653] : Fin 1 → IVec S16 32) a x).toNat < S32768.size a := fun v653 k1_hw693 => k1_hw693

def k1_chk694 (v656 : IVec S16 32) : Prop :=
  (∀ a x, ((![v656] : Fin 1 → IVec S16 32) a x).toNat < S32768.size a)
theorem k1_idx694_inb : ∀ (v656 : IVec S16 32) (k1_hw694 : k1_chk694 v656), ∀ a x, ((![v656] : Fin 1 → IVec S16 32) a x).toNat < S32768.size a := fun v656 k1_hw694 => k1_hw694

def k1_chk695 (v659 : IVec S16 32) : Prop :=
  (∀ a x, ((![v659] : Fin 1 → IVec S16 32) a x).toNat < S32768.size a)
theorem k1_idx695_inb : ∀ (v659 : IVec S16 32) (k1_hw695 : k1_chk695 v659), ∀ a x, ((![v659] : Fin 1 → IVec S16 32) a x).toNat < S32768.size a := fun v659 k1_hw695 => k1_hw695

def k1_chk696 (v662 : IVec S16 32) : Prop :=
  (∀ a x, ((![v662] : Fin 1 → IVec S16 32) a x).toNat < S32768.size a)
theorem k1_idx696_inb : ∀ (v662 : IVec S16 32) (k1_hw696 : k1_chk696 v662), ∀ a x, ((![v662] : Fin 1 → IVec S16 32) a x).toNat < S32768.size a := fun v662 k1_hw696 => k1_hw696

def k1_chk697 (v665 : IVec S16 32) : Prop :=
  (∀ a x, ((![v665] : Fin 1 → IVec S16 32) a x).toNat < S32768.size a)
theorem k1_idx697_inb : ∀ (v665 : IVec S16 32) (k1_hw697 : k1_chk697 v665), ∀ a x, ((![v665] : Fin 1 → IVec S16 32) a x).toNat < S32768.size a := fun v665 k1_hw697 => k1_hw697

def k1_chk698 (v668 : IVec S16 32) : Prop :=
  (∀ a x, ((![v668] : Fin 1 → IVec S16 32) a x).toNat < S32768.size a)
theorem k1_idx698_inb : ∀ (v668 : IVec S16 32) (k1_hw698 : k1_chk698 v668), ∀ a x, ((![v668] : Fin 1 → IVec S16 32) a x).toNat < S32768.size a := fun v668 k1_hw698 => k1_hw698

def k1_chk699 (v671 : IVec S16 32) : Prop :=
  (∀ a x, ((![v671] : Fin 1 → IVec S16 32) a x).toNat < S32768.size a)
theorem k1_idx699_inb : ∀ (v671 : IVec S16 32) (k1_hw699 : k1_chk699 v671), ∀ a x, ((![v671] : Fin 1 → IVec S16 32) a x).toNat < S32768.size a := fun v671 k1_hw699 => k1_hw699

def k1_chk700 (v674 : IVec S16 32) : Prop :=
  (∀ a x, ((![v674] : Fin 1 → IVec S16 32) a x).toNat < S32768.size a)
theorem k1_idx700_inb : ∀ (v674 : IVec S16 32) (k1_hw700 : k1_chk700 v674), ∀ a x, ((![v674] : Fin 1 → IVec S16 32) a x).toNat < S32768.size a := fun v674 k1_hw700 => k1_hw700

def k1_chk701 (v677 : IVec S16 32) : Prop :=
  (∀ a x, ((![v677] : Fin 1 → IVec S16 32) a x).toNat < S32768.size a)
theorem k1_idx701_inb : ∀ (v677 : IVec S16 32) (k1_hw701 : k1_chk701 v677), ∀ a x, ((![v677] : Fin 1 → IVec S16 32) a x).toNat < S32768.size a := fun v677 k1_hw701 => k1_hw701

def k1_chk702 (v680 : IVec S16 32) : Prop :=
  (∀ a x, ((![v680] : Fin 1 → IVec S16 32) a x).toNat < S32768.size a)
theorem k1_idx702_inb : ∀ (v680 : IVec S16 32) (k1_hw702 : k1_chk702 v680), ∀ a x, ((![v680] : Fin 1 → IVec S16 32) a x).toNat < S32768.size a := fun v680 k1_hw702 => k1_hw702

def k1_chk703 (v683 : IVec S16 32) : Prop :=
  (∀ a x, ((![v683] : Fin 1 → IVec S16 32) a x).toNat < S32768.size a)
theorem k1_idx703_inb : ∀ (v683 : IVec S16 32) (k1_hw703 : k1_chk703 v683), ∀ a x, ((![v683] : Fin 1 → IVec S16 32) a x).toNat < S32768.size a := fun v683 k1_hw703 => k1_hw703

def k1_chk704 (v686 : IVec S16 32) : Prop :=
  (∀ a x, ((![v686] : Fin 1 → IVec S16 32) a x).toNat < S32768.size a)
theorem k1_idx704_inb : ∀ (v686 : IVec S16 32) (k1_hw704 : k1_chk704 v686), ∀ a x, ((![v686] : Fin 1 → IVec S16 32) a x).toNat < S32768.size a := fun v686 k1_hw704 => k1_hw704
@[reducible] def k1_t46_loop : Scf.Loop 32 :=
  let c0_i32_591 : BitVec 32 := 0#32
  let c16_i32_592 : BitVec 32 := 16#32
  let v601 : BitVec 32 := Scalar.addi c0_i32_591 c16_i32_592
  let c1_i32_593 : BitVec 32 := 1#32
  ⟨c0_i32_591, v601, c1_i32_593⟩
def k1_off47 (k1_t46 : Fin k1_t46_loop.trips) (c0_i32_627 : BitVec 32) : Fin 1 → Nat :=
  let c0_i32_591 : BitVec 32 := 0#32
  let c1_i32_593 : BitVec 32 := 1#32
  let arg16 : BitVec 32 := Scf.iv c0_i32_591 c1_i32_593 k1_t46
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk705 (v641 : IVec S16 32) : Prop :=
  (∀ a x, ((![v641] : Fin 1 → IVec S16 32) a x).toNat < S32768.size a)
theorem k1_idx705_inb : ∀ (v641 : IVec S16 32) (k1_hw705 : k1_chk705 v641), ∀ a x, ((![v641] : Fin 1 → IVec S16 32) a x).toNat < S32768.size a := fun v641 k1_hw705 => k1_hw705

def k1_chk706 (v644 : IVec S16 32) : Prop :=
  (∀ a x, ((![v644] : Fin 1 → IVec S16 32) a x).toNat < S32768.size a)
theorem k1_idx706_inb : ∀ (v644 : IVec S16 32) (k1_hw706 : k1_chk706 v644), ∀ a x, ((![v644] : Fin 1 → IVec S16 32) a x).toNat < S32768.size a := fun v644 k1_hw706 => k1_hw706

def k1_chk707 (v647 : IVec S16 32) : Prop :=
  (∀ a x, ((![v647] : Fin 1 → IVec S16 32) a x).toNat < S32768.size a)
theorem k1_idx707_inb : ∀ (v647 : IVec S16 32) (k1_hw707 : k1_chk707 v647), ∀ a x, ((![v647] : Fin 1 → IVec S16 32) a x).toNat < S32768.size a := fun v647 k1_hw707 => k1_hw707

def k1_chk708 (v650 : IVec S16 32) : Prop :=
  (∀ a x, ((![v650] : Fin 1 → IVec S16 32) a x).toNat < S32768.size a)
theorem k1_idx708_inb : ∀ (v650 : IVec S16 32) (k1_hw708 : k1_chk708 v650), ∀ a x, ((![v650] : Fin 1 → IVec S16 32) a x).toNat < S32768.size a := fun v650 k1_hw708 => k1_hw708

def k1_chk709 (v653 : IVec S16 32) : Prop :=
  (∀ a x, ((![v653] : Fin 1 → IVec S16 32) a x).toNat < S32768.size a)
theorem k1_idx709_inb : ∀ (v653 : IVec S16 32) (k1_hw709 : k1_chk709 v653), ∀ a x, ((![v653] : Fin 1 → IVec S16 32) a x).toNat < S32768.size a := fun v653 k1_hw709 => k1_hw709

def k1_chk710 (v656 : IVec S16 32) : Prop :=
  (∀ a x, ((![v656] : Fin 1 → IVec S16 32) a x).toNat < S32768.size a)
theorem k1_idx710_inb : ∀ (v656 : IVec S16 32) (k1_hw710 : k1_chk710 v656), ∀ a x, ((![v656] : Fin 1 → IVec S16 32) a x).toNat < S32768.size a := fun v656 k1_hw710 => k1_hw710

def k1_chk711 (v659 : IVec S16 32) : Prop :=
  (∀ a x, ((![v659] : Fin 1 → IVec S16 32) a x).toNat < S32768.size a)
theorem k1_idx711_inb : ∀ (v659 : IVec S16 32) (k1_hw711 : k1_chk711 v659), ∀ a x, ((![v659] : Fin 1 → IVec S16 32) a x).toNat < S32768.size a := fun v659 k1_hw711 => k1_hw711

def k1_chk712 (v662 : IVec S16 32) : Prop :=
  (∀ a x, ((![v662] : Fin 1 → IVec S16 32) a x).toNat < S32768.size a)
theorem k1_idx712_inb : ∀ (v662 : IVec S16 32) (k1_hw712 : k1_chk712 v662), ∀ a x, ((![v662] : Fin 1 → IVec S16 32) a x).toNat < S32768.size a := fun v662 k1_hw712 => k1_hw712

def k1_chk713 (v665 : IVec S16 32) : Prop :=
  (∀ a x, ((![v665] : Fin 1 → IVec S16 32) a x).toNat < S32768.size a)
theorem k1_idx713_inb : ∀ (v665 : IVec S16 32) (k1_hw713 : k1_chk713 v665), ∀ a x, ((![v665] : Fin 1 → IVec S16 32) a x).toNat < S32768.size a := fun v665 k1_hw713 => k1_hw713

def k1_chk714 (v668 : IVec S16 32) : Prop :=
  (∀ a x, ((![v668] : Fin 1 → IVec S16 32) a x).toNat < S32768.size a)
theorem k1_idx714_inb : ∀ (v668 : IVec S16 32) (k1_hw714 : k1_chk714 v668), ∀ a x, ((![v668] : Fin 1 → IVec S16 32) a x).toNat < S32768.size a := fun v668 k1_hw714 => k1_hw714

def k1_chk715 (v671 : IVec S16 32) : Prop :=
  (∀ a x, ((![v671] : Fin 1 → IVec S16 32) a x).toNat < S32768.size a)
theorem k1_idx715_inb : ∀ (v671 : IVec S16 32) (k1_hw715 : k1_chk715 v671), ∀ a x, ((![v671] : Fin 1 → IVec S16 32) a x).toNat < S32768.size a := fun v671 k1_hw715 => k1_hw715

def k1_chk716 (v674 : IVec S16 32) : Prop :=
  (∀ a x, ((![v674] : Fin 1 → IVec S16 32) a x).toNat < S32768.size a)
theorem k1_idx716_inb : ∀ (v674 : IVec S16 32) (k1_hw716 : k1_chk716 v674), ∀ a x, ((![v674] : Fin 1 → IVec S16 32) a x).toNat < S32768.size a := fun v674 k1_hw716 => k1_hw716

def k1_chk717 (v677 : IVec S16 32) : Prop :=
  (∀ a x, ((![v677] : Fin 1 → IVec S16 32) a x).toNat < S32768.size a)
theorem k1_idx717_inb : ∀ (v677 : IVec S16 32) (k1_hw717 : k1_chk717 v677), ∀ a x, ((![v677] : Fin 1 → IVec S16 32) a x).toNat < S32768.size a := fun v677 k1_hw717 => k1_hw717

def k1_chk718 (v680 : IVec S16 32) : Prop :=
  (∀ a x, ((![v680] : Fin 1 → IVec S16 32) a x).toNat < S32768.size a)
theorem k1_idx718_inb : ∀ (v680 : IVec S16 32) (k1_hw718 : k1_chk718 v680), ∀ a x, ((![v680] : Fin 1 → IVec S16 32) a x).toNat < S32768.size a := fun v680 k1_hw718 => k1_hw718

def k1_chk719 (v683 : IVec S16 32) : Prop :=
  (∀ a x, ((![v683] : Fin 1 → IVec S16 32) a x).toNat < S32768.size a)
theorem k1_idx719_inb : ∀ (v683 : IVec S16 32) (k1_hw719 : k1_chk719 v683), ∀ a x, ((![v683] : Fin 1 → IVec S16 32) a x).toNat < S32768.size a := fun v683 k1_hw719 => k1_hw719

def k1_chk720 (v686 : IVec S16 32) : Prop :=
  (∀ a x, ((![v686] : Fin 1 → IVec S16 32) a x).toNat < S32768.size a)
theorem k1_idx720_inb : ∀ (v686 : IVec S16 32) (k1_hw720 : k1_chk720 v686), ∀ a x, ((![v686] : Fin 1 → IVec S16 32) a x).toNat < S32768.size a := fun v686 k1_hw720 => k1_hw720
@[reducible] def k1_t47_loop : Scf.Loop 32 :=
  let c0_i32_601 : BitVec 32 := 0#32
  let c16_i32_602 : BitVec 32 := 16#32
  let v611 : BitVec 32 := Scalar.addi c0_i32_601 c16_i32_602
  let c1_i32_603 : BitVec 32 := 1#32
  ⟨c0_i32_601, v611, c1_i32_603⟩
def k1_off48 (k1_t47 : Fin k1_t47_loop.trips) (c0_i32_627 : BitVec 32) : Fin 1 → Nat :=
  let c0_i32_601 : BitVec 32 := 0#32
  let c1_i32_603 : BitVec 32 := 1#32
  let arg16 : BitVec 32 := Scf.iv c0_i32_601 c1_i32_603 k1_t47
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk721 (v641 : IVec S16 32) : Prop :=
  (∀ a x, ((![v641] : Fin 1 → IVec S16 32) a x).toNat < S32768.size a)
theorem k1_idx721_inb : ∀ (v641 : IVec S16 32) (k1_hw721 : k1_chk721 v641), ∀ a x, ((![v641] : Fin 1 → IVec S16 32) a x).toNat < S32768.size a := fun v641 k1_hw721 => k1_hw721

def k1_chk722 (v644 : IVec S16 32) : Prop :=
  (∀ a x, ((![v644] : Fin 1 → IVec S16 32) a x).toNat < S32768.size a)
theorem k1_idx722_inb : ∀ (v644 : IVec S16 32) (k1_hw722 : k1_chk722 v644), ∀ a x, ((![v644] : Fin 1 → IVec S16 32) a x).toNat < S32768.size a := fun v644 k1_hw722 => k1_hw722

def k1_chk723 (v647 : IVec S16 32) : Prop :=
  (∀ a x, ((![v647] : Fin 1 → IVec S16 32) a x).toNat < S32768.size a)
theorem k1_idx723_inb : ∀ (v647 : IVec S16 32) (k1_hw723 : k1_chk723 v647), ∀ a x, ((![v647] : Fin 1 → IVec S16 32) a x).toNat < S32768.size a := fun v647 k1_hw723 => k1_hw723

def k1_chk724 (v650 : IVec S16 32) : Prop :=
  (∀ a x, ((![v650] : Fin 1 → IVec S16 32) a x).toNat < S32768.size a)
theorem k1_idx724_inb : ∀ (v650 : IVec S16 32) (k1_hw724 : k1_chk724 v650), ∀ a x, ((![v650] : Fin 1 → IVec S16 32) a x).toNat < S32768.size a := fun v650 k1_hw724 => k1_hw724

def k1_chk725 (v653 : IVec S16 32) : Prop :=
  (∀ a x, ((![v653] : Fin 1 → IVec S16 32) a x).toNat < S32768.size a)
theorem k1_idx725_inb : ∀ (v653 : IVec S16 32) (k1_hw725 : k1_chk725 v653), ∀ a x, ((![v653] : Fin 1 → IVec S16 32) a x).toNat < S32768.size a := fun v653 k1_hw725 => k1_hw725

def k1_chk726 (v656 : IVec S16 32) : Prop :=
  (∀ a x, ((![v656] : Fin 1 → IVec S16 32) a x).toNat < S32768.size a)
theorem k1_idx726_inb : ∀ (v656 : IVec S16 32) (k1_hw726 : k1_chk726 v656), ∀ a x, ((![v656] : Fin 1 → IVec S16 32) a x).toNat < S32768.size a := fun v656 k1_hw726 => k1_hw726

def k1_chk727 (v659 : IVec S16 32) : Prop :=
  (∀ a x, ((![v659] : Fin 1 → IVec S16 32) a x).toNat < S32768.size a)
theorem k1_idx727_inb : ∀ (v659 : IVec S16 32) (k1_hw727 : k1_chk727 v659), ∀ a x, ((![v659] : Fin 1 → IVec S16 32) a x).toNat < S32768.size a := fun v659 k1_hw727 => k1_hw727

def k1_chk728 (v662 : IVec S16 32) : Prop :=
  (∀ a x, ((![v662] : Fin 1 → IVec S16 32) a x).toNat < S32768.size a)
theorem k1_idx728_inb : ∀ (v662 : IVec S16 32) (k1_hw728 : k1_chk728 v662), ∀ a x, ((![v662] : Fin 1 → IVec S16 32) a x).toNat < S32768.size a := fun v662 k1_hw728 => k1_hw728

def k1_chk729 (v665 : IVec S16 32) : Prop :=
  (∀ a x, ((![v665] : Fin 1 → IVec S16 32) a x).toNat < S32768.size a)
theorem k1_idx729_inb : ∀ (v665 : IVec S16 32) (k1_hw729 : k1_chk729 v665), ∀ a x, ((![v665] : Fin 1 → IVec S16 32) a x).toNat < S32768.size a := fun v665 k1_hw729 => k1_hw729

def k1_chk730 (v668 : IVec S16 32) : Prop :=
  (∀ a x, ((![v668] : Fin 1 → IVec S16 32) a x).toNat < S32768.size a)
theorem k1_idx730_inb : ∀ (v668 : IVec S16 32) (k1_hw730 : k1_chk730 v668), ∀ a x, ((![v668] : Fin 1 → IVec S16 32) a x).toNat < S32768.size a := fun v668 k1_hw730 => k1_hw730

def k1_chk731 (v671 : IVec S16 32) : Prop :=
  (∀ a x, ((![v671] : Fin 1 → IVec S16 32) a x).toNat < S32768.size a)
theorem k1_idx731_inb : ∀ (v671 : IVec S16 32) (k1_hw731 : k1_chk731 v671), ∀ a x, ((![v671] : Fin 1 → IVec S16 32) a x).toNat < S32768.size a := fun v671 k1_hw731 => k1_hw731

def k1_chk732 (v674 : IVec S16 32) : Prop :=
  (∀ a x, ((![v674] : Fin 1 → IVec S16 32) a x).toNat < S32768.size a)
theorem k1_idx732_inb : ∀ (v674 : IVec S16 32) (k1_hw732 : k1_chk732 v674), ∀ a x, ((![v674] : Fin 1 → IVec S16 32) a x).toNat < S32768.size a := fun v674 k1_hw732 => k1_hw732

def k1_chk733 (v677 : IVec S16 32) : Prop :=
  (∀ a x, ((![v677] : Fin 1 → IVec S16 32) a x).toNat < S32768.size a)
theorem k1_idx733_inb : ∀ (v677 : IVec S16 32) (k1_hw733 : k1_chk733 v677), ∀ a x, ((![v677] : Fin 1 → IVec S16 32) a x).toNat < S32768.size a := fun v677 k1_hw733 => k1_hw733

def k1_chk734 (v680 : IVec S16 32) : Prop :=
  (∀ a x, ((![v680] : Fin 1 → IVec S16 32) a x).toNat < S32768.size a)
theorem k1_idx734_inb : ∀ (v680 : IVec S16 32) (k1_hw734 : k1_chk734 v680), ∀ a x, ((![v680] : Fin 1 → IVec S16 32) a x).toNat < S32768.size a := fun v680 k1_hw734 => k1_hw734

def k1_chk735 (v683 : IVec S16 32) : Prop :=
  (∀ a x, ((![v683] : Fin 1 → IVec S16 32) a x).toNat < S32768.size a)
theorem k1_idx735_inb : ∀ (v683 : IVec S16 32) (k1_hw735 : k1_chk735 v683), ∀ a x, ((![v683] : Fin 1 → IVec S16 32) a x).toNat < S32768.size a := fun v683 k1_hw735 => k1_hw735

def k1_chk736 (v686 : IVec S16 32) : Prop :=
  (∀ a x, ((![v686] : Fin 1 → IVec S16 32) a x).toNat < S32768.size a)
theorem k1_idx736_inb : ∀ (v686 : IVec S16 32) (k1_hw736 : k1_chk736 v686), ∀ a x, ((![v686] : Fin 1 → IVec S16 32) a x).toNat < S32768.size a := fun v686 k1_hw736 => k1_hw736
@[reducible] def k1_t48_loop : Scf.Loop 32 :=
  let c0_i32_611 : BitVec 32 := 0#32
  let c16_i32_612 : BitVec 32 := 16#32
  let v621 : BitVec 32 := Scalar.addi c0_i32_611 c16_i32_612
  let c1_i32_613 : BitVec 32 := 1#32
  ⟨c0_i32_611, v621, c1_i32_613⟩
def k1_off49 (k1_t48 : Fin k1_t48_loop.trips) (c0_i32_627 : BitVec 32) : Fin 1 → Nat :=
  let c0_i32_611 : BitVec 32 := 0#32
  let c1_i32_613 : BitVec 32 := 1#32
  let arg16 : BitVec 32 := Scf.iv c0_i32_611 c1_i32_613 k1_t48
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk737 (v641 : IVec S16 32) : Prop :=
  (∀ a x, ((![v641] : Fin 1 → IVec S16 32) a x).toNat < S32768.size a)
theorem k1_idx737_inb : ∀ (v641 : IVec S16 32) (k1_hw737 : k1_chk737 v641), ∀ a x, ((![v641] : Fin 1 → IVec S16 32) a x).toNat < S32768.size a := fun v641 k1_hw737 => k1_hw737

def k1_chk738 (v644 : IVec S16 32) : Prop :=
  (∀ a x, ((![v644] : Fin 1 → IVec S16 32) a x).toNat < S32768.size a)
theorem k1_idx738_inb : ∀ (v644 : IVec S16 32) (k1_hw738 : k1_chk738 v644), ∀ a x, ((![v644] : Fin 1 → IVec S16 32) a x).toNat < S32768.size a := fun v644 k1_hw738 => k1_hw738

def k1_chk739 (v647 : IVec S16 32) : Prop :=
  (∀ a x, ((![v647] : Fin 1 → IVec S16 32) a x).toNat < S32768.size a)
theorem k1_idx739_inb : ∀ (v647 : IVec S16 32) (k1_hw739 : k1_chk739 v647), ∀ a x, ((![v647] : Fin 1 → IVec S16 32) a x).toNat < S32768.size a := fun v647 k1_hw739 => k1_hw739

def k1_chk740 (v650 : IVec S16 32) : Prop :=
  (∀ a x, ((![v650] : Fin 1 → IVec S16 32) a x).toNat < S32768.size a)
theorem k1_idx740_inb : ∀ (v650 : IVec S16 32) (k1_hw740 : k1_chk740 v650), ∀ a x, ((![v650] : Fin 1 → IVec S16 32) a x).toNat < S32768.size a := fun v650 k1_hw740 => k1_hw740

def k1_chk741 (v653 : IVec S16 32) : Prop :=
  (∀ a x, ((![v653] : Fin 1 → IVec S16 32) a x).toNat < S32768.size a)
theorem k1_idx741_inb : ∀ (v653 : IVec S16 32) (k1_hw741 : k1_chk741 v653), ∀ a x, ((![v653] : Fin 1 → IVec S16 32) a x).toNat < S32768.size a := fun v653 k1_hw741 => k1_hw741

def k1_chk742 (v656 : IVec S16 32) : Prop :=
  (∀ a x, ((![v656] : Fin 1 → IVec S16 32) a x).toNat < S32768.size a)
theorem k1_idx742_inb : ∀ (v656 : IVec S16 32) (k1_hw742 : k1_chk742 v656), ∀ a x, ((![v656] : Fin 1 → IVec S16 32) a x).toNat < S32768.size a := fun v656 k1_hw742 => k1_hw742

def k1_chk743 (v659 : IVec S16 32) : Prop :=
  (∀ a x, ((![v659] : Fin 1 → IVec S16 32) a x).toNat < S32768.size a)
theorem k1_idx743_inb : ∀ (v659 : IVec S16 32) (k1_hw743 : k1_chk743 v659), ∀ a x, ((![v659] : Fin 1 → IVec S16 32) a x).toNat < S32768.size a := fun v659 k1_hw743 => k1_hw743

def k1_chk744 (v662 : IVec S16 32) : Prop :=
  (∀ a x, ((![v662] : Fin 1 → IVec S16 32) a x).toNat < S32768.size a)
theorem k1_idx744_inb : ∀ (v662 : IVec S16 32) (k1_hw744 : k1_chk744 v662), ∀ a x, ((![v662] : Fin 1 → IVec S16 32) a x).toNat < S32768.size a := fun v662 k1_hw744 => k1_hw744

def k1_chk745 (v665 : IVec S16 32) : Prop :=
  (∀ a x, ((![v665] : Fin 1 → IVec S16 32) a x).toNat < S32768.size a)
theorem k1_idx745_inb : ∀ (v665 : IVec S16 32) (k1_hw745 : k1_chk745 v665), ∀ a x, ((![v665] : Fin 1 → IVec S16 32) a x).toNat < S32768.size a := fun v665 k1_hw745 => k1_hw745

def k1_chk746 (v668 : IVec S16 32) : Prop :=
  (∀ a x, ((![v668] : Fin 1 → IVec S16 32) a x).toNat < S32768.size a)
theorem k1_idx746_inb : ∀ (v668 : IVec S16 32) (k1_hw746 : k1_chk746 v668), ∀ a x, ((![v668] : Fin 1 → IVec S16 32) a x).toNat < S32768.size a := fun v668 k1_hw746 => k1_hw746

def k1_chk747 (v671 : IVec S16 32) : Prop :=
  (∀ a x, ((![v671] : Fin 1 → IVec S16 32) a x).toNat < S32768.size a)
theorem k1_idx747_inb : ∀ (v671 : IVec S16 32) (k1_hw747 : k1_chk747 v671), ∀ a x, ((![v671] : Fin 1 → IVec S16 32) a x).toNat < S32768.size a := fun v671 k1_hw747 => k1_hw747

def k1_chk748 (v674 : IVec S16 32) : Prop :=
  (∀ a x, ((![v674] : Fin 1 → IVec S16 32) a x).toNat < S32768.size a)
theorem k1_idx748_inb : ∀ (v674 : IVec S16 32) (k1_hw748 : k1_chk748 v674), ∀ a x, ((![v674] : Fin 1 → IVec S16 32) a x).toNat < S32768.size a := fun v674 k1_hw748 => k1_hw748

def k1_chk749 (v677 : IVec S16 32) : Prop :=
  (∀ a x, ((![v677] : Fin 1 → IVec S16 32) a x).toNat < S32768.size a)
theorem k1_idx749_inb : ∀ (v677 : IVec S16 32) (k1_hw749 : k1_chk749 v677), ∀ a x, ((![v677] : Fin 1 → IVec S16 32) a x).toNat < S32768.size a := fun v677 k1_hw749 => k1_hw749

def k1_chk750 (v680 : IVec S16 32) : Prop :=
  (∀ a x, ((![v680] : Fin 1 → IVec S16 32) a x).toNat < S32768.size a)
theorem k1_idx750_inb : ∀ (v680 : IVec S16 32) (k1_hw750 : k1_chk750 v680), ∀ a x, ((![v680] : Fin 1 → IVec S16 32) a x).toNat < S32768.size a := fun v680 k1_hw750 => k1_hw750

def k1_chk751 (v683 : IVec S16 32) : Prop :=
  (∀ a x, ((![v683] : Fin 1 → IVec S16 32) a x).toNat < S32768.size a)
theorem k1_idx751_inb : ∀ (v683 : IVec S16 32) (k1_hw751 : k1_chk751 v683), ∀ a x, ((![v683] : Fin 1 → IVec S16 32) a x).toNat < S32768.size a := fun v683 k1_hw751 => k1_hw751

def k1_chk752 (v686 : IVec S16 32) : Prop :=
  (∀ a x, ((![v686] : Fin 1 → IVec S16 32) a x).toNat < S32768.size a)
theorem k1_idx752_inb : ∀ (v686 : IVec S16 32) (k1_hw752 : k1_chk752 v686), ∀ a x, ((![v686] : Fin 1 → IVec S16 32) a x).toNat < S32768.size a := fun v686 k1_hw752 => k1_hw752
@[reducible] def k1_t49_loop : Scf.Loop 32 :=
  let c0_i32_619 : BitVec 32 := 0#32
  let c16_i32_620 : BitVec 32 := 16#32
  let v627 : BitVec 32 := Scalar.addi c0_i32_619 c16_i32_620
  let c1_i32_621 : BitVec 32 := 1#32
  ⟨c0_i32_619, v627, c1_i32_621⟩
def k1_off50 (k1_t49 : Fin k1_t49_loop.trips) (c0_i32_627 : BitVec 32) : Fin 1 → Nat :=
  let c0_i32_619 : BitVec 32 := 0#32
  let c1_i32_621 : BitVec 32 := 1#32
  let arg16 : BitVec 32 := Scf.iv c0_i32_619 c1_i32_621 k1_t49
  let c256_i32_626 : BitVec 32 := 256#32
  let v638 : BitVec 32 := Scalar.muli arg16 c256_i32_626
  let v639 : BitVec 32 := Scalar.addi v638 c0_i32_627
  let v640 : Index := Scalar.indexCast v639
  ![v640.toNat]

def k1_chk753 (v641 : IVec S16 32) : Prop :=
  (∀ a x, ((![v641] : Fin 1 → IVec S16 32) a x).toNat < S32768.size a)
theorem k1_idx753_inb : ∀ (v641 : IVec S16 32) (k1_hw753 : k1_chk753 v641), ∀ a x, ((![v641] : Fin 1 → IVec S16 32) a x).toNat < S32768.size a := fun v641 k1_hw753 => k1_hw753

def k1_chk754 (v644 : IVec S16 32) : Prop :=
  (∀ a x, ((![v644] : Fin 1 → IVec S16 32) a x).toNat < S32768.size a)
theorem k1_idx754_inb : ∀ (v644 : IVec S16 32) (k1_hw754 : k1_chk754 v644), ∀ a x, ((![v644] : Fin 1 → IVec S16 32) a x).toNat < S32768.size a := fun v644 k1_hw754 => k1_hw754

def k1_chk755 (v647 : IVec S16 32) : Prop :=
  (∀ a x, ((![v647] : Fin 1 → IVec S16 32) a x).toNat < S32768.size a)
theorem k1_idx755_inb : ∀ (v647 : IVec S16 32) (k1_hw755 : k1_chk755 v647), ∀ a x, ((![v647] : Fin 1 → IVec S16 32) a x).toNat < S32768.size a := fun v647 k1_hw755 => k1_hw755

def k1_chk756 (v650 : IVec S16 32) : Prop :=
  (∀ a x, ((![v650] : Fin 1 → IVec S16 32) a x).toNat < S32768.size a)
theorem k1_idx756_inb : ∀ (v650 : IVec S16 32) (k1_hw756 : k1_chk756 v650), ∀ a x, ((![v650] : Fin 1 → IVec S16 32) a x).toNat < S32768.size a := fun v650 k1_hw756 => k1_hw756

def k1_chk757 (v653 : IVec S16 32) : Prop :=
  (∀ a x, ((![v653] : Fin 1 → IVec S16 32) a x).toNat < S32768.size a)
theorem k1_idx757_inb : ∀ (v653 : IVec S16 32) (k1_hw757 : k1_chk757 v653), ∀ a x, ((![v653] : Fin 1 → IVec S16 32) a x).toNat < S32768.size a := fun v653 k1_hw757 => k1_hw757

def k1_chk758 (v656 : IVec S16 32) : Prop :=
  (∀ a x, ((![v656] : Fin 1 → IVec S16 32) a x).toNat < S32768.size a)
theorem k1_idx758_inb : ∀ (v656 : IVec S16 32) (k1_hw758 : k1_chk758 v656), ∀ a x, ((![v656] : Fin 1 → IVec S16 32) a x).toNat < S32768.size a := fun v656 k1_hw758 => k1_hw758

def k1_chk759 (v659 : IVec S16 32) : Prop :=
  (∀ a x, ((![v659] : Fin 1 → IVec S16 32) a x).toNat < S32768.size a)
theorem k1_idx759_inb : ∀ (v659 : IVec S16 32) (k1_hw759 : k1_chk759 v659), ∀ a x, ((![v659] : Fin 1 → IVec S16 32) a x).toNat < S32768.size a := fun v659 k1_hw759 => k1_hw759

def k1_chk760 (v662 : IVec S16 32) : Prop :=
  (∀ a x, ((![v662] : Fin 1 → IVec S16 32) a x).toNat < S32768.size a)
theorem k1_idx760_inb : ∀ (v662 : IVec S16 32) (k1_hw760 : k1_chk760 v662), ∀ a x, ((![v662] : Fin 1 → IVec S16 32) a x).toNat < S32768.size a := fun v662 k1_hw760 => k1_hw760

def k1_chk761 (v665 : IVec S16 32) : Prop :=
  (∀ a x, ((![v665] : Fin 1 → IVec S16 32) a x).toNat < S32768.size a)
theorem k1_idx761_inb : ∀ (v665 : IVec S16 32) (k1_hw761 : k1_chk761 v665), ∀ a x, ((![v665] : Fin 1 → IVec S16 32) a x).toNat < S32768.size a := fun v665 k1_hw761 => k1_hw761

def k1_chk762 (v668 : IVec S16 32) : Prop :=
  (∀ a x, ((![v668] : Fin 1 → IVec S16 32) a x).toNat < S32768.size a)
theorem k1_idx762_inb : ∀ (v668 : IVec S16 32) (k1_hw762 : k1_chk762 v668), ∀ a x, ((![v668] : Fin 1 → IVec S16 32) a x).toNat < S32768.size a := fun v668 k1_hw762 => k1_hw762

def k1_chk763 (v671 : IVec S16 32) : Prop :=
  (∀ a x, ((![v671] : Fin 1 → IVec S16 32) a x).toNat < S32768.size a)
theorem k1_idx763_inb : ∀ (v671 : IVec S16 32) (k1_hw763 : k1_chk763 v671), ∀ a x, ((![v671] : Fin 1 → IVec S16 32) a x).toNat < S32768.size a := fun v671 k1_hw763 => k1_hw763

def k1_chk764 (v674 : IVec S16 32) : Prop :=
  (∀ a x, ((![v674] : Fin 1 → IVec S16 32) a x).toNat < S32768.size a)
theorem k1_idx764_inb : ∀ (v674 : IVec S16 32) (k1_hw764 : k1_chk764 v674), ∀ a x, ((![v674] : Fin 1 → IVec S16 32) a x).toNat < S32768.size a := fun v674 k1_hw764 => k1_hw764

def k1_chk765 (v677 : IVec S16 32) : Prop :=
  (∀ a x, ((![v677] : Fin 1 → IVec S16 32) a x).toNat < S32768.size a)
theorem k1_idx765_inb : ∀ (v677 : IVec S16 32) (k1_hw765 : k1_chk765 v677), ∀ a x, ((![v677] : Fin 1 → IVec S16 32) a x).toNat < S32768.size a := fun v677 k1_hw765 => k1_hw765

def k1_chk766 (v680 : IVec S16 32) : Prop :=
  (∀ a x, ((![v680] : Fin 1 → IVec S16 32) a x).toNat < S32768.size a)
theorem k1_idx766_inb : ∀ (v680 : IVec S16 32) (k1_hw766 : k1_chk766 v680), ∀ a x, ((![v680] : Fin 1 → IVec S16 32) a x).toNat < S32768.size a := fun v680 k1_hw766 => k1_hw766

def k1_chk767 (v683 : IVec S16 32) : Prop :=
  (∀ a x, ((![v683] : Fin 1 → IVec S16 32) a x).toNat < S32768.size a)
theorem k1_idx767_inb : ∀ (v683 : IVec S16 32) (k1_hw767 : k1_chk767 v683), ∀ a x, ((![v683] : Fin 1 → IVec S16 32) a x).toNat < S32768.size a := fun v683 k1_hw767 => k1_hw767

def k1_chk768 (v686 : IVec S16 32) : Prop :=
  (∀ a x, ((![v686] : Fin 1 → IVec S16 32) a x).toNat < S32768.size a)
theorem k1_idx768_inb : ∀ (v686 : IVec S16 32) (k1_hw768 : k1_chk768 v686), ∀ a x, ((![v686] : Fin 1 → IVec S16 32) a x).toNat < S32768.size a := fun v686 k1_hw768 => k1_hw768
@[reducible] def k1_t50_loop : Scf.Loop 32 :=
  let c0_i32_623 : BitVec 32 := 0#32
  let c256_i32 : BitVec 32 := 256#32
  let v628 : BitVec 32 := Scalar.addi c0_i32_623 c256_i32
  let c1_i32_624 : BitVec 32 := 1#32
  ⟨c0_i32_623, v628, c1_i32_624⟩
def k1_off51 (k1_t50 : Fin k1_t50_loop.trips) (c0_i32_627 : BitVec 32) : Fin 1 → Nat :=
  let c0_i32_623 : BitVec 32 := 0#32
  let c1_i32_624 : BitVec 32 := 1#32
  let arg16 : BitVec 32 := Scf.iv c0_i32_623 c1_i32_624 k1_t50
  let c128_i32_626 : BitVec 32 := 128#32
  let v638 : BitVec 32 := Scalar.muli arg16 c128_i32_626
  let v639 : BitVec 32 := Scalar.addi v638 c0_i32_627
  let v640 : Index := Scalar.indexCast v639
  ![v640.toNat]
def k1_off52 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_626_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1x512x512 : Shape := ⟨4, ![4, 1, 512, 512]⟩
abbrev S_ : Shape := ⟨0, ![]⟩
abbrev S4x1x64x8x64x8 : Shape := ⟨6, ![4, 1, 64, 8, 64, 8]⟩
abbrev S64x64x4x1x8x8 : Shape := ⟨6, ![64, 64, 4, 1, 8, 8]⟩
abbrev S64x64x256 : Shape := ⟨3, ![64, 64, 256]⟩
abbrev S4096 : Shape := ⟨1, ![4096]⟩
abbrev S64x64x1 : Shape := ⟨3, ![64, 64, 1]⟩
abbrev S1048576 : Shape := ⟨1, ![1048576]⟩
abbrev S1048576x1 : Shape := ⟨2, ![1048576, 1]⟩
abbrev S1x64x64x256 : Shape := ⟨4, ![1, 64, 64, 256]⟩
abbrev S4x64x64x256 : Shape := ⟨4, ![4, 64, 64, 256]⟩
abbrev S4x1x514x514 : Shape := ⟨4, ![4, 1, 514, 514]⟩

abbrev nBuf : Space → Nat
  | .hbm => 549
  | .vmem => 0
  | .smem => 0
  | _ => 0

abbrev hbmTy0_0 (i : Nat) : BufTy := match i % 128 with
  | 0 => ⟨S4x1x512x512, .f32⟩
  | 1 => ⟨S4x1x512x512, .f32⟩
  | 2 => ⟨S_, .f32⟩
  | 3 => ⟨S_, .f32⟩
  | 4 => ⟨S_, .f32⟩
  | 5 => ⟨S_, .f32⟩
  | 6 => ⟨S4x1x64x8x64x8, .f32⟩
  | 7 => ⟨S64x64x4x1x8x8, .f32⟩
  | 8 => ⟨S64x64x256, .f32⟩
  | 9 => ⟨S_, .f32⟩
  | 10 => ⟨S_, .f32⟩
  | 11 => ⟨S_, .f32⟩
  | 12 => ⟨S_, .f32⟩
  | 13 => ⟨S_, .i1⟩
  | 14 => ⟨S_, .f32⟩
  | 15 => ⟨S_, .f32⟩
  | 16 => ⟨S_, .f32⟩
  | 17 => ⟨S64x64x256, .f32⟩
  | 18 => ⟨S64x64x256, .f32⟩
  | 19 => ⟨S64x64x256, .f32⟩
  | 20 => ⟨S64x64x256, .f32⟩
  | 21 => ⟨S64x64x256, .f32⟩
  | 22 => ⟨S64x64x256, .i32⟩
  | 23 => ⟨S_, .i32⟩
  | 24 => ⟨S64x64x256, .i32⟩
  | 25 => ⟨S64x64x256, .i32⟩
  | 26 => ⟨S_, .i32⟩
  | 27 => ⟨S64x64x256, .i32⟩
  | 28 => ⟨S64x64x256, .i32⟩
  | 29 => ⟨S4096, .i32⟩
  | 30 => ⟨S_, .i32⟩
  | 31 => ⟨S4096, .i32⟩
  | 32 => ⟨S4096, .i32⟩
  | 33 => ⟨S64x64x1, .i32⟩
  | 34 => ⟨S64x64x256, .i32⟩
  | 35 => ⟨S64x64x256, .i32⟩
  | 36 => ⟨S1048576, .i32⟩
  | 37 => ⟨S_, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i32⟩
  | 45 => ⟨S1048576, .i32⟩
  | 46 => ⟨S1048576x1, .i32⟩
  | 47 => ⟨S_, .i32⟩
  | 48 => ⟨S1048576, .i32⟩
  | 49 => ⟨S1048576, .i32⟩
  | 50 => ⟨S1048576, .f32⟩
  | 51 => ⟨S64x64x256, .f32⟩
  | 52 => ⟨S1x64x64x256, .f32⟩
  | 53 => ⟨S4x64x64x256, .f32⟩
  | 54 => ⟨S_, .f32⟩
  | 55 => ⟨S_, .f32⟩
  | 56 => ⟨S_, .f32⟩
  | 57 => ⟨S_, .f32⟩
  | 58 => ⟨S4x1x64x8x64x8, .f32⟩
  | 59 => ⟨S64x64x4x1x8x8, .f32⟩
  | 60 => ⟨S64x64x256, .f32⟩
  | 61 => ⟨S_, .f32⟩
  | 62 => ⟨S_, .f32⟩
  | 63 => ⟨S_, .f32⟩
  | 64 => ⟨S_, .f32⟩
  | 65 => ⟨S_, .i1⟩
  | 66 => ⟨S_, .f32⟩
  | 67 => ⟨S_, .f32⟩
  | 68 => ⟨S_, .f32⟩
  | 69 => ⟨S64x64x256, .f32⟩
  | 70 => ⟨S64x64x256, .f32⟩
  | 71 => ⟨S64x64x256, .f32⟩
  | 72 => ⟨S64x64x256, .f32⟩
  | 73 => ⟨S64x64x256, .f32⟩
  | 74 => ⟨S64x64x256, .i32⟩
  | 75 => ⟨S_, .i32⟩
  | 76 => ⟨S64x64x256, .i32⟩
  | 77 => ⟨S64x64x256, .i32⟩
  | 78 => ⟨S_, .i32⟩
  | 79 => ⟨S64x64x256, .i32⟩
  | 80 => ⟨S64x64x256, .i32⟩
  | 81 => ⟨S4096, .i32⟩
  | 82 => ⟨S_, .i32⟩
  | 83 => ⟨S4096, .i32⟩
  | 84 => ⟨S4096, .i32⟩
  | 85 => ⟨S64x64x1, .i32⟩
  | 86 => ⟨S64x64x256, .i32⟩
  | 87 => ⟨S64x64x256, .i32⟩
  | 88 => ⟨S1048576, .i32⟩
  | 89 => ⟨S_, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S1048576x1, .i32⟩
  | 99 => ⟨S_, .i32⟩
  | 100 => ⟨S1048576, .i32⟩
  | 101 => ⟨S1048576, .i32⟩
  | 102 => ⟨S1048576, .f32⟩
  | 103 => ⟨S64x64x256, .f32⟩
  | 104 => ⟨S1x64x64x256, .f32⟩
  | 105 => ⟨S4x64x64x256, .f32⟩
  | 106 => ⟨S_, .i32⟩
  | 107 => ⟨S_, .f32⟩
  | 108 => ⟨S4x1x514x514, .f32⟩
  | 109 => ⟨S4x1x512x512, .f32⟩
  | 110 => ⟨S4x1x512x512, .f32⟩
  | 111 => ⟨S_, .f32⟩
  | 112 => ⟨S4x1x512x512, .f32⟩
  | 113 => ⟨S4x1x512x512, .f32⟩
  | 114 => ⟨S4x1x512x512, .f32⟩
  | 115 => ⟨S4x1x512x512, .f32⟩
  | 116 => ⟨S4x1x512x512, .f32⟩
  | 117 => ⟨S4x1x512x512, .f32⟩
  | 118 => ⟨S4x1x512x512, .f32⟩
  | 119 => ⟨S_, .f32⟩
  | 120 => ⟨S4x1x512x512, .f32⟩
  | 121 => ⟨S4x1x512x512, .f32⟩
  | 122 => ⟨S4x1x512x512, .f32⟩
  | 123 => ⟨S4x1x512x512, .f32⟩
  | 124 => ⟨S4x1x512x512, .f32⟩
  | 125 => ⟨S4x1x512x512, .f32⟩
  | 126 => ⟨S4x1x512x512, .f32⟩
  | 127 => ⟨S4x1x512x512, .f32⟩
  | _ => ⟨S4x1x512x512, .f32⟩

abbrev hbmTy0_1 (i : Nat) : BufTy := match i % 128 with
  | 0 => ⟨S_, .f32⟩
  | 1 => ⟨S4x1x512x512, .f32⟩
  | 2 => ⟨S4x1x512x512, .f32⟩
  | 3 => ⟨S4x1x512x512, .f32⟩
  | 4 => ⟨S4x1x512x512, .f32⟩
  | 5 => ⟨S4x1x512x512, .f32⟩
  | 6 => ⟨S4x1x512x512, .f32⟩
  | 7 => ⟨S4x1x512x512, .f32⟩
  | 8 => ⟨S_, .f32⟩
  | 9 => ⟨S4x1x512x512, .f32⟩
  | 10 => ⟨S4x1x512x512, .f32⟩
  | 11 => ⟨S4x1x512x512, .f32⟩
  | 12 => ⟨S4x1x512x512, .f32⟩
  | 13 => ⟨S4x1x512x512, .f32⟩
  | 14 => ⟨S4x1x512x512, .f32⟩
  | 15 => ⟨S4x1x512x512, .f32⟩
  | 16 => ⟨S4x1x512x512, .f32⟩
  | 17 => ⟨S4x1x512x512, .f32⟩
  | 18 => ⟨S4x1x512x512, .f32⟩
  | 19 => ⟨S4x1x512x512, .f32⟩
  | 20 => ⟨S4x1x512x512, .f32⟩
  | 21 => ⟨S4x1x512x512, .f32⟩
  | 22 => ⟨S4x1x512x512, .f32⟩
  | 23 => ⟨S4x1x512x512, .f32⟩
  | 24 => ⟨S4x1x512x512, .f32⟩
  | 25 => ⟨S_, .f32⟩
  | 26 => ⟨S4x1x512x512, .f32⟩
  | 27 => ⟨S4x1x512x512, .i1⟩
  | 28 => ⟨S_, .f32⟩
  | 29 => ⟨S_, .f32⟩
  | 30 => ⟨S4x1x512x512, .f32⟩
  | 31 => ⟨S4x1x512x512, .f32⟩
  | 32 => ⟨S4x1x512x512, .f32⟩
  | 33 => ⟨S4x1x512x512, .f32⟩
  | 34 => ⟨S_, .f32⟩
  | 35 => ⟨S4x1x512x512, .f32⟩
  | 36 => ⟨S4x1x512x512, .f32⟩
  | 37 => ⟨S_, .f32⟩
  | 38 => ⟨S4x1x512x512, .f32⟩
  | 39 => ⟨S4x1x512x512, .f32⟩
  | 40 => ⟨S4x1x512x512, .f32⟩
  | 41 => ⟨S_, .f32⟩
  | 42 => ⟨S4x1x512x512, .f32⟩
  | 43 => ⟨S4x1x512x512, .f32⟩
  | 44 => ⟨S4x1x512x512, .f32⟩
  | 45 => ⟨S_, .f32⟩
  | 46 => ⟨S4x1x512x512, .f32⟩
  | 47 => ⟨S4x1x512x512, .f32⟩
  | 48 => ⟨S4x1x512x512, .f32⟩
  | 49 => ⟨S_, .f32⟩
  | 50 => ⟨S4x1x512x512, .f32⟩
  | 51 => ⟨S4x1x512x512, .f32⟩
  | 52 => ⟨S4x1x512x512, .f32⟩
  | 53 => ⟨S_, .f32⟩
  | 54 => ⟨S4x1x512x512, .f32⟩
  | 55 => ⟨S4x1x512x512, .f32⟩
  | 56 => ⟨S4x1x512x512, .f32⟩
  | 57 => ⟨S_, .f32⟩
  | 58 => ⟨S4x1x512x512, .f32⟩
  | 59 => ⟨S4x1x512x512, .f32⟩
  | 60 => ⟨S4x1x512x512, .f32⟩
  | 61 => ⟨S_, .f32⟩
  | 62 => ⟨S4x1x512x512, .f32⟩
  | 63 => ⟨S4x1x512x512, .f32⟩
  | 64 => ⟨S4x1x512x512, .f32⟩
  | 65 => ⟨S_, .f32⟩
  | 66 => ⟨S4x1x512x512, .f32⟩
  | 67 => ⟨S4x1x512x512, .f32⟩
  | 68 => ⟨S4x1x512x512, .f32⟩
  | 69 => ⟨S4x1x512x512, .f32⟩
  | 70 => ⟨S4x1x512x512, .f32⟩
  | 71 => ⟨S4x1x512x512, .i1⟩
  | 72 => ⟨S_, .f32⟩
  | 73 => ⟨S4x1x512x512, .f32⟩
  | 74 => ⟨S4x1x512x512, .f32⟩
  | 75 => ⟨S4x1x512x512, .f32⟩
  | 76 => ⟨S_, .f32⟩
  | 77 => ⟨S4x1x512x512, .f32⟩
  | 78 => ⟨S4x1x512x512, .i1⟩
  | 79 => ⟨S_, .f32⟩
  | 80 => ⟨S4x1x512x512, .f32⟩
  | 81 => ⟨S4x1x512x512, .f32⟩
  | 82 => ⟨S4x1x512x512, .f32⟩
  | 83 => ⟨S_, .f32⟩
  | 84 => ⟨S4x1x512x512, .f32⟩
  | 85 => ⟨S4x1x512x512, .i1⟩
  | 86 => ⟨S4x1x512x512, .f32⟩
  | 87 => ⟨S4x1x512x512, .f32⟩
  | 88 => ⟨S_, .f32⟩
  | 89 => ⟨S_, .f32⟩
  | 90 => ⟨S_, .f32⟩
  | 91 => ⟨S_, .f32⟩
  | 92 => ⟨S4x1x64x8x64x8, .f32⟩
  | 93 => ⟨S64x64x4x1x8x8, .f32⟩
  | 94 => ⟨S64x64x256, .f32⟩
  | 95 => ⟨S_, .f32⟩
  | 96 => ⟨S_, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S64x64x256, .f32⟩
  | 104 => ⟨S64x64x256, .f32⟩
  | 105 => ⟨S64x64x256, .f32⟩
  | 106 => ⟨S64x64x256, .f32⟩
  | 107 => ⟨S64x64x256, .f32⟩
  | 108 => ⟨S64x64x256, .i32⟩
  | 109 => ⟨S_, .i32⟩
  | 110 => ⟨S64x64x256, .i32⟩
  | 111 => ⟨S64x64x256, .i32⟩
  | 112 => ⟨S_, .i32⟩
  | 113 => ⟨S64x64x256, .i32⟩
  | 114 => ⟨S64x64x256, .i32⟩
  | 115 => ⟨S4096, .i32⟩
  | 116 => ⟨S_, .i32⟩
  | 117 => ⟨S4096, .i32⟩
  | 118 => ⟨S4096, .i32⟩
  | 119 => ⟨S64x64x1, .i32⟩
  | 120 => ⟨S64x64x256, .i32⟩
  | 121 => ⟨S64x64x256, .i32⟩
  | 122 => ⟨S1048576, .i32⟩
  | 123 => ⟨S_, .i32⟩
  | 124 => ⟨S1048576, .i32⟩
  | 125 => ⟨S_, .i32⟩
  | 126 => ⟨S1048576, .i32⟩
  | 127 => ⟨S1048576, .i1⟩
  | _ => ⟨S4x1x512x512, .f32⟩

abbrev hbmTy0_2 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S_, .i32⟩
  | 6 => ⟨S1048576, .i32⟩
  | 7 => ⟨S1048576, .i32⟩
  | 8 => ⟨S1048576, .f32⟩
  | 9 => ⟨S64x64x256, .f32⟩
  | 10 => ⟨S1x64x64x256, .f32⟩
  | 11 => ⟨S4x64x64x256, .f32⟩
  | 12 => ⟨S_, .f32⟩
  | 13 => ⟨S_, .f32⟩
  | 14 => ⟨S_, .f32⟩
  | 15 => ⟨S_, .f32⟩
  | 16 => ⟨S4x1x64x8x64x8, .f32⟩
  | 17 => ⟨S64x64x4x1x8x8, .f32⟩
  | 18 => ⟨S64x64x256, .f32⟩
  | 19 => ⟨S_, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S64x64x256, .f32⟩
  | 28 => ⟨S64x64x256, .f32⟩
  | 29 => ⟨S64x64x256, .f32⟩
  | 30 => ⟨S64x64x256, .f32⟩
  | 31 => ⟨S64x64x256, .f32⟩
  | 32 => ⟨S64x64x256, .i32⟩
  | 33 => ⟨S_, .i32⟩
  | 34 => ⟨S64x64x256, .i32⟩
  | 35 => ⟨S64x64x256, .i32⟩
  | 36 => ⟨S_, .i32⟩
  | 37 => ⟨S64x64x256, .i32⟩
  | 38 => ⟨S64x64x256, .i32⟩
  | 39 => ⟨S4096, .i32⟩
  | 40 => ⟨S_, .i32⟩
  | 41 => ⟨S4096, .i32⟩
  | 42 => ⟨S4096, .i32⟩
  | 43 => ⟨S64x64x1, .i32⟩
  | 44 => ⟨S64x64x256, .i32⟩
  | 45 => ⟨S64x64x256, .i32⟩
  | 46 => ⟨S1048576, .i32⟩
  | 47 => ⟨S_, .i32⟩
  | 48 => ⟨S1048576, .i32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S1048576x1, .i32⟩
  | 57 => ⟨S_, .i32⟩
  | 58 => ⟨S1048576, .i32⟩
  | 59 => ⟨S1048576, .i32⟩
  | 60 => ⟨S1048576, .f32⟩
  | 61 => ⟨S64x64x256, .f32⟩
  | 62 => ⟨S1x64x64x256, .f32⟩
  | 63 => ⟨S4x64x64x256, .f32⟩
  | 64 => ⟨S4x64x64x256, .f32⟩
  | 65 => ⟨S_, .i32⟩
  | 66 => ⟨S_, .f32⟩
  | 67 => ⟨S4x1x514x514, .f32⟩
  | 68 => ⟨S4x1x512x512, .f32⟩
  | 69 => ⟨S4x1x512x512, .f32⟩
  | 70 => ⟨S_, .f32⟩
  | 71 => ⟨S4x1x512x512, .f32⟩
  | 72 => ⟨S4x1x512x512, .f32⟩
  | 73 => ⟨S4x1x512x512, .f32⟩
  | 74 => ⟨S4x1x512x512, .f32⟩
  | 75 => ⟨S4x1x512x512, .f32⟩
  | 76 => ⟨S4x1x512x512, .f32⟩
  | 77 => ⟨S4x1x512x512, .f32⟩
  | 78 => ⟨S_, .f32⟩
  | 79 => ⟨S4x1x512x512, .f32⟩
  | 80 => ⟨S4x1x512x512, .f32⟩
  | 81 => ⟨S4x1x512x512, .f32⟩
  | 82 => ⟨S4x1x512x512, .f32⟩
  | 83 => ⟨S4x1x512x512, .f32⟩
  | 84 => ⟨S4x1x512x512, .f32⟩
  | 85 => ⟨S4x1x512x512, .f32⟩
  | 86 => ⟨S4x1x512x512, .f32⟩
  | 87 => ⟨S_, .f32⟩
  | 88 => ⟨S4x1x512x512, .f32⟩
  | 89 => ⟨S4x1x512x512, .f32⟩
  | 90 => ⟨S4x1x512x512, .f32⟩
  | 91 => ⟨S4x1x512x512, .f32⟩
  | 92 => ⟨S4x1x512x512, .f32⟩
  | 93 => ⟨S4x1x512x512, .f32⟩
  | 94 => ⟨S4x1x512x512, .f32⟩
  | 95 => ⟨S_, .f32⟩
  | 96 => ⟨S4x1x512x512, .f32⟩
  | 97 => ⟨S4x1x512x512, .f32⟩
  | 98 => ⟨S4x1x512x512, .f32⟩
  | 99 => ⟨S4x1x512x512, .f32⟩
  | 100 => ⟨S4x1x512x512, .f32⟩
  | 101 => ⟨S4x1x512x512, .f32⟩
  | 102 => ⟨S4x1x512x512, .f32⟩
  | 103 => ⟨S4x1x512x512, .f32⟩
  | 104 => ⟨S4x1x512x512, .f32⟩
  | 105 => ⟨S4x1x512x512, .f32⟩
  | 106 => ⟨S4x1x512x512, .f32⟩
  | 107 => ⟨S4x1x512x512, .f32⟩
  | 108 => ⟨S4x1x512x512, .f32⟩
  | 109 => ⟨S4x1x512x512, .f32⟩
  | 110 => ⟨S4x1x512x512, .f32⟩
  | 111 => ⟨S4x1x512x512, .f32⟩
  | 112 => ⟨S_, .f32⟩
  | 113 => ⟨S4x1x512x512, .f32⟩
  | 114 => ⟨S4x1x512x512, .i1⟩
  | 115 => ⟨S_, .f32⟩
  | 116 => ⟨S_, .f32⟩
  | 117 => ⟨S4x1x512x512, .f32⟩
  | 118 => ⟨S4x1x512x512, .f32⟩
  | 119 => ⟨S4x1x512x512, .f32⟩
  | 120 => ⟨S4x1x512x512, .f32⟩
  | 121 => ⟨S_, .f32⟩
  | 122 => ⟨S4x1x512x512, .f32⟩
  | 123 => ⟨S4x1x512x512, .f32⟩
  | 124 => ⟨S_, .f32⟩
  | 125 => ⟨S4x1x512x512, .f32⟩
  | 126 => ⟨S4x1x512x512, .f32⟩
  | 127 => ⟨S4x1x512x512, .f32⟩
  | _ => ⟨S4x1x512x512, .f32⟩

abbrev hbmTy0_3 (i : Nat) : BufTy := match i % 128 with
  | 0 => ⟨S_, .f32⟩
  | 1 => ⟨S4x1x512x512, .f32⟩
  | 2 => ⟨S4x1x512x512, .f32⟩
  | 3 => ⟨S4x1x512x512, .f32⟩
  | 4 => ⟨S_, .f32⟩
  | 5 => ⟨S4x1x512x512, .f32⟩
  | 6 => ⟨S4x1x512x512, .f32⟩
  | 7 => ⟨S4x1x512x512, .f32⟩
  | 8 => ⟨S_, .f32⟩
  | 9 => ⟨S4x1x512x512, .f32⟩
  | 10 => ⟨S4x1x512x512, .f32⟩
  | 11 => ⟨S4x1x512x512, .f32⟩
  | 12 => ⟨S_, .f32⟩
  | 13 => ⟨S4x1x512x512, .f32⟩
  | 14 => ⟨S4x1x512x512, .f32⟩
  | 15 => ⟨S4x1x512x512, .f32⟩
  | 16 => ⟨S_, .f32⟩
  | 17 => ⟨S4x1x512x512, .f32⟩
  | 18 => ⟨S4x1x512x512, .f32⟩
  | 19 => ⟨S4x1x512x512, .f32⟩
  | 20 => ⟨S_, .f32⟩
  | 21 => ⟨S4x1x512x512, .f32⟩
  | 22 => ⟨S4x1x512x512, .f32⟩
  | 23 => ⟨S4x1x512x512, .f32⟩
  | 24 => ⟨S_, .f32⟩
  | 25 => ⟨S4x1x512x512, .f32⟩
  | 26 => ⟨S4x1x512x512, .f32⟩
  | 27 => ⟨S4x1x512x512, .f32⟩
  | 28 => ⟨S4x1x512x512, .f32⟩
  | 29 => ⟨S4x1x512x512, .f32⟩
  | 30 => ⟨S4x1x512x512, .i1⟩
  | 31 => ⟨S_, .f32⟩
  | 32 => ⟨S4x1x512x512, .f32⟩
  | 33 => ⟨S4x1x512x512, .f32⟩
  | 34 => ⟨S4x1x512x512, .f32⟩
  | 35 => ⟨S_, .f32⟩
  | 36 => ⟨S4x1x512x512, .f32⟩
  | 37 => ⟨S4x1x512x512, .i1⟩
  | 38 => ⟨S_, .f32⟩
  | 39 => ⟨S4x1x512x512, .f32⟩
  | 40 => ⟨S4x1x512x512, .f32⟩
  | 41 => ⟨S4x1x512x512, .f32⟩
  | 42 => ⟨S_, .f32⟩
  | 43 => ⟨S4x1x512x512, .f32⟩
  | 44 => ⟨S4x1x512x512, .i1⟩
  | 45 => ⟨S4x1x512x512, .f32⟩
  | 46 => ⟨S4x1x512x512, .f32⟩
  | 47 => ⟨S_, .f32⟩
  | 48 => ⟨S_, .f32⟩
  | 49 => ⟨S_, .f32⟩
  | 50 => ⟨S_, .f32⟩
  | 51 => ⟨S4x1x64x8x64x8, .f32⟩
  | 52 => ⟨S64x64x4x1x8x8, .f32⟩
  | 53 => ⟨S64x64x256, .f32⟩
  | 54 => ⟨S_, .f32⟩
  | 55 => ⟨S_, .f32⟩
  | 56 => ⟨S_, .f32⟩
  | 57 => ⟨S_, .f32⟩
  | 58 => ⟨S_, .i1⟩
  | 59 => ⟨S_, .f32⟩
  | 60 => ⟨S_, .f32⟩
  | 61 => ⟨S_, .f32⟩
  | 62 => ⟨S64x64x256, .f32⟩
  | 63 => ⟨S64x64x256, .f32⟩
  | 64 => ⟨S64x64x256, .f32⟩
  | 65 => ⟨S64x64x256, .f32⟩
  | 66 => ⟨S64x64x256, .f32⟩
  | 67 => ⟨S64x64x256, .i32⟩
  | 68 => ⟨S_, .i32⟩
  | 69 => ⟨S64x64x256, .i32⟩
  | 70 => ⟨S64x64x256, .i32⟩
  | 71 => ⟨S_, .i32⟩
  | 72 => ⟨S64x64x256, .i32⟩
  | 73 => ⟨S64x64x256, .i32⟩
  | 74 => ⟨S4096, .i32⟩
  | 75 => ⟨S_, .i32⟩
  | 76 => ⟨S4096, .i32⟩
  | 77 => ⟨S4096, .i32⟩
  | 78 => ⟨S64x64x1, .i32⟩
  | 79 => ⟨S64x64x256, .i32⟩
  | 80 => ⟨S64x64x256, .i32⟩
  | 81 => ⟨S1048576, .i32⟩
  | 82 => ⟨S_, .i32⟩
  | 83 => ⟨S1048576, .i32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S_, .i32⟩
  | 93 => ⟨S1048576, .i32⟩
  | 94 => ⟨S1048576, .i32⟩
  | 95 => ⟨S1048576, .f32⟩
  | 96 => ⟨S64x64x256, .f32⟩
  | 97 => ⟨S1x64x64x256, .f32⟩
  | 98 => ⟨S4x64x64x256, .f32⟩
  | 99 => ⟨S_, .f32⟩
  | 100 => ⟨S_, .f32⟩
  | 101 => ⟨S_, .f32⟩
  | 102 => ⟨S_, .f32⟩
  | 103 => ⟨S4x1x64x8x64x8, .f32⟩
  | 104 => ⟨S64x64x4x1x8x8, .f32⟩
  | 105 => ⟨S64x64x256, .f32⟩
  | 106 => ⟨S_, .f32⟩
  | 107 => ⟨S_, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S64x64x256, .f32⟩
  | 115 => ⟨S64x64x256, .f32⟩
  | 116 => ⟨S64x64x256, .f32⟩
  | 117 => ⟨S64x64x256, .f32⟩
  | 118 => ⟨S64x64x256, .f32⟩
  | 119 => ⟨S64x64x256, .i32⟩
  | 120 => ⟨S_, .i32⟩
  | 121 => ⟨S64x64x256, .i32⟩
  | 122 => ⟨S64x64x256, .i32⟩
  | 123 => ⟨S_, .i32⟩
  | 124 => ⟨S64x64x256, .i32⟩
  | 125 => ⟨S64x64x256, .i32⟩
  | 126 => ⟨S4096, .i32⟩
  | 127 => ⟨S_, .i32⟩
  | _ => ⟨S4x1x512x512, .f32⟩

abbrev hbmTy0_4 (i : Nat) : BufTy := match i % 128 with
  | 0 => ⟨S4096, .i32⟩
  | 1 => ⟨S4096, .i32⟩
  | 2 => ⟨S64x64x1, .i32⟩
  | 3 => ⟨S64x64x256, .i32⟩
  | 4 => ⟨S64x64x256, .i32⟩
  | 5 => ⟨S1048576, .i32⟩
  | 6 => ⟨S_, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S1048576x1, .i32⟩
  | 16 => ⟨S_, .i32⟩
  | 17 => ⟨S1048576, .i32⟩
  | 18 => ⟨S1048576, .i32⟩
  | 19 => ⟨S1048576, .f32⟩
  | 20 => ⟨S64x64x256, .f32⟩
  | 21 => ⟨S1x64x64x256, .f32⟩
  | 22 => ⟨S4x64x64x256, .f32⟩
  | 23 => ⟨S4x64x64x256, .f32⟩
  | 24 => ⟨S4x64x64x256, .f32⟩
  | 25 => ⟨S4x64x64x256, .f32⟩
  | 26 => ⟨S_, .f32⟩
  | 27 => ⟨S_, .f32⟩
  | 28 => ⟨S_, .f32⟩
  | 29 => ⟨S_, .f32⟩
  | 30 => ⟨S4x64x64x256, .f32⟩
  | 31 => ⟨S4x64x64x256, .f32⟩
  | 32 => ⟨S_, .f32⟩
  | 33 => ⟨S_, .f32⟩
  | 34 => ⟨S_, .f32⟩
  | 35 => ⟨S_, .f32⟩
  | 36 => ⟨S_, .f32⟩
  | _ => ⟨S4x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_c_7 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_cst_13 : Ref sig .tc := ⟨.hbm, 64, rfl⟩
abbrev main_v46 : Ref sig .tc := ⟨.hbm, 65, rfl⟩
abbrev main_cst_14 : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_v55 : Ref sig .tc := ⟨.hbm, 77, rfl⟩
abbrev main_c_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_17 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_18 : Ref sig .tc := ⟨.hbm, 89, rfl⟩
abbrev main_v65 : Ref sig .tc := ⟨.hbm, 90, rfl⟩
abbrev main_c_19 : Ref sig .tc := ⟨.hbm, 91, rfl⟩
abbrev main_v66 : Ref sig .tc := ⟨.hbm, 92, rfl⟩
abbrev main_v67 : Ref sig .tc := ⟨.hbm, 93, rfl⟩
abbrev main_c_20 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_21 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_22 : Ref sig .tc := ⟨.hbm, 106, rfl⟩
abbrev main_call2_v0 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_23 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_24 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_25 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_26 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_27 : Ref sig .tc := ⟨.hbm, 153, rfl⟩
abbrev main_v119 : Ref sig .tc := ⟨.hbm, 154, rfl⟩
abbrev main_v120 : Ref sig .tc := ⟨.hbm, 155, rfl⟩
abbrev main_cst_28 : Ref sig .tc := ⟨.hbm, 156, rfl⟩
abbrev main_call3_v0 : Ref sig .tc := ⟨.hbm, 157, rfl⟩
abbrev main_call3_v1 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_cst_29 : Ref sig .tc := ⟨.hbm, 162, rfl⟩
abbrev main_v124 : Ref sig .tc := ⟨.hbm, 163, rfl⟩
abbrev main_v125 : Ref sig .tc := ⟨.hbm, 164, rfl⟩
abbrev main_cst_30 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_31 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_32 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_33 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_34 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_35 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_36 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_37 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_38 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_39 : Ref sig .tc := ⟨.hbm, 204, rfl⟩
abbrev main_v156 : Ref sig .tc := ⟨.hbm, 205, rfl⟩
abbrev main_v157 : Ref sig .tc := ⟨.hbm, 206, rfl⟩
abbrev main_cst_40 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_41 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_cst_42 : Ref sig .tc := ⟨.hbm, 216, rfl⟩
abbrev main_v165 : Ref sig .tc := ⟨.hbm, 217, rfl⟩
abbrev main_cst_43 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_44 : Ref sig .tc := ⟨.hbm, 224, rfl⟩
abbrev main_v171 : Ref sig .tc := ⟨.hbm, 225, rfl⟩
abbrev main_cst_45 : Ref sig .tc := ⟨.hbm, 226, rfl⟩
abbrev main_v172 : Ref sig .tc := ⟨.hbm, 227, rfl⟩
abbrev main_cst_46 : Ref sig .tc := ⟨.hbm, 228, rfl⟩
abbrev main_call7_v0 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_c_47 : Ref sig .tc := ⟨.hbm, 237, rfl⟩
abbrev main_v180 : Ref sig .tc := ⟨.hbm, 238, rfl⟩
abbrev main_v181 : Ref sig .tc := ⟨.hbm, 239, rfl⟩
abbrev main_c_48 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_c_49 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_c_50 : Ref sig .tc := ⟨.hbm, 251, rfl⟩
abbrev main_v191 : Ref sig .tc := ⟨.hbm, 252, rfl⟩
abbrev main_c_51 : Ref sig .tc := ⟨.hbm, 253, rfl⟩
abbrev main_v192 : Ref sig .tc := ⟨.hbm, 254, rfl⟩
abbrev main_v193 : Ref sig .tc := ⟨.hbm, 255, rfl⟩
abbrev main_c_52 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_53 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_cst_54 : Ref sig .tc := ⟨.hbm, 268, rfl⟩
abbrev main_v204 : Ref sig .tc := ⟨.hbm, 269, rfl⟩
abbrev main_cst_55 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_56 : Ref sig .tc := ⟨.hbm, 276, rfl⟩
abbrev main_v210 : Ref sig .tc := ⟨.hbm, 277, rfl⟩
abbrev main_cst_57 : Ref sig .tc := ⟨.hbm, 278, rfl⟩
abbrev main_v211 : Ref sig .tc := ⟨.hbm, 279, rfl⟩
abbrev main_cst_58 : Ref sig .tc := ⟨.hbm, 280, rfl⟩
abbrev main_call8_v0 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_59 : Ref sig .tc := ⟨.hbm, 289, rfl⟩
abbrev main_v219 : Ref sig .tc := ⟨.hbm, 290, rfl⟩
abbrev main_v220 : Ref sig .tc := ⟨.hbm, 291, rfl⟩
abbrev main_c_60 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_c_61 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_c_62 : Ref sig .tc := ⟨.hbm, 303, rfl⟩
abbrev main_v230 : Ref sig .tc := ⟨.hbm, 304, rfl⟩
abbrev main_c_63 : Ref sig .tc := ⟨.hbm, 305, rfl⟩
abbrev main_v231 : Ref sig .tc := ⟨.hbm, 306, rfl⟩
abbrev main_v232 : Ref sig .tc := ⟨.hbm, 307, rfl⟩
abbrev main_c_64 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_c_65 : Ref sig .tc := ⟨.hbm, 313, rfl⟩
abbrev main_v237 : Ref sig .tc := ⟨.hbm, 314, rfl⟩
abbrev main_v238 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_c_66 : Ref sig .tc := ⟨.hbm, 321, rfl⟩
abbrev main_call9_v0 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_cst_67 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_cst_68 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_cst_69 : Ref sig .tc := ⟨.hbm, 343, rfl⟩
abbrev main_v262 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_cst_70 : Ref sig .tc := ⟨.hbm, 351, rfl⟩
abbrev main_v269 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_v273 : Ref sig .tc := ⟨.hbm, 356, rfl⟩
abbrev main_v274 : Ref sig .tc := ⟨.hbm, 357, rfl⟩
abbrev main_v275 : Ref sig .tc := ⟨.hbm, 358, rfl⟩
abbrev main_v276 : Ref sig .tc := ⟨.hbm, 359, rfl⟩
abbrev main_v277 : Ref sig .tc := ⟨.hbm, 360, rfl⟩
abbrev main_v278 : Ref sig .tc := ⟨.hbm, 361, rfl⟩
abbrev main_v279 : Ref sig .tc := ⟨.hbm, 362, rfl⟩
abbrev main_v280 : Ref sig .tc := ⟨.hbm, 363, rfl⟩
abbrev main_v281 : Ref sig .tc := ⟨.hbm, 364, rfl⟩
abbrev main_v282 : Ref sig .tc := ⟨.hbm, 365, rfl⟩
abbrev main_v283 : Ref sig .tc := ⟨.hbm, 366, rfl⟩
abbrev main_v284 : Ref sig .tc := ⟨.hbm, 367, rfl⟩
abbrev main_cst_71 : Ref sig .tc := ⟨.hbm, 368, rfl⟩
abbrev main_v285 : Ref sig .tc := ⟨.hbm, 369, rfl⟩
abbrev main_v286 : Ref sig .tc := ⟨.hbm, 370, rfl⟩
abbrev main_cst_72 : Ref sig .tc := ⟨.hbm, 371, rfl⟩
abbrev main_call10_v0 : Ref sig .tc := ⟨.hbm, 372, rfl⟩
abbrev main_call10_v1 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_cst_73 : Ref sig .tc := ⟨.hbm, 377, rfl⟩
abbrev main_v290 : Ref sig .tc := ⟨.hbm, 378, rfl⟩
abbrev main_v291 : Ref sig .tc := ⟨.hbm, 379, rfl⟩
abbrev main_cst_74 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_cst_75 : Ref sig .tc := ⟨.hbm, 384, rfl⟩
abbrev main_v295 : Ref sig .tc := ⟨.hbm, 385, rfl⟩
abbrev main_v296 : Ref sig .tc := ⟨.hbm, 386, rfl⟩
abbrev main_v297 : Ref sig .tc := ⟨.hbm, 387, rfl⟩
abbrev main_cst_76 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_cst_77 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_cst_78 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_cst_79 : Ref sig .tc := ⟨.hbm, 400, rfl⟩
abbrev main_v307 : Ref sig .tc := ⟨.hbm, 401, rfl⟩
abbrev main_v308 : Ref sig .tc := ⟨.hbm, 402, rfl⟩
abbrev main_v309 : Ref sig .tc := ⟨.hbm, 403, rfl⟩
abbrev main_cst_80 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_cst_81 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_v318 : Ref sig .tc := ⟨.hbm, 414, rfl⟩
abbrev main_cst_82 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_cst_83 : Ref sig .tc := ⟨.hbm, 419, rfl⟩
abbrev main_v322 : Ref sig .tc := ⟨.hbm, 420, rfl⟩
abbrev main_v323 : Ref sig .tc := ⟨.hbm, 421, rfl⟩
abbrev main_cst_84 : Ref sig .tc := ⟨.hbm, 422, rfl⟩
abbrev main_v324 : Ref sig .tc := ⟨.hbm, 423, rfl⟩
abbrev main_v325 : Ref sig .tc := ⟨.hbm, 424, rfl⟩
abbrev main_v326 : Ref sig .tc := ⟨.hbm, 425, rfl⟩
abbrev main_cst_85 : Ref sig .tc := ⟨.hbm, 426, rfl⟩
abbrev main_v327 : Ref sig .tc := ⟨.hbm, 427, rfl⟩
abbrev main_v328 : Ref sig .tc := ⟨.hbm, 428, rfl⟩
abbrev main_v329 : Ref sig .tc := ⟨.hbm, 429, rfl⟩
abbrev main_v330 : Ref sig .tc := ⟨.hbm, 430, rfl⟩
abbrev main_cst_86 : Ref sig .tc := ⟨.hbm, 431, rfl⟩
abbrev main_v331 : Ref sig .tc := ⟨.hbm, 432, rfl⟩
abbrev main_cst_87 : Ref sig .tc := ⟨.hbm, 433, rfl⟩
abbrev main_v332 : Ref sig .tc := ⟨.hbm, 434, rfl⟩
abbrev main_v333 : Ref sig .tc := ⟨.hbm, 435, rfl⟩
abbrev main_v334 : Ref sig .tc := ⟨.hbm, 436, rfl⟩
abbrev main_v335 : Ref sig .tc := ⟨.hbm, 437, rfl⟩
abbrev main_v336 : Ref sig .tc := ⟨.hbm, 438, rfl⟩
abbrev main_cst_88 : Ref sig .tc := ⟨.hbm, 439, rfl⟩
abbrev main_v337 : Ref sig .tc := ⟨.hbm, 440, rfl⟩
abbrev main_cst_89 : Ref sig .tc := ⟨.hbm, 441, rfl⟩
abbrev main_v338 : Ref sig .tc := ⟨.hbm, 442, rfl⟩
abbrev main_cst_90 : Ref sig .tc := ⟨.hbm, 443, rfl⟩
abbrev main_call14_v0 : Ref sig .tc := ⟨.hbm, 444, rfl⟩
abbrev main_v339 : Ref sig .tc := ⟨.hbm, 445, rfl⟩
abbrev main_v340 : Ref sig .tc := ⟨.hbm, 446, rfl⟩
abbrev main_v341 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_c_91 : Ref sig .tc := ⟨.hbm, 452, rfl⟩
abbrev main_v346 : Ref sig .tc := ⟨.hbm, 453, rfl⟩
abbrev main_v347 : Ref sig .tc := ⟨.hbm, 454, rfl⟩
abbrev main_c_92 : Ref sig .tc := ⟨.hbm, 455, rfl⟩
abbrev main_v348 : Ref sig .tc := ⟨.hbm, 456, rfl⟩
abbrev main_v349 : Ref sig .tc := ⟨.hbm, 457, rfl⟩
abbrev main_v350 : Ref sig .tc := ⟨.hbm, 458, rfl⟩
abbrev main_c_93 : Ref sig .tc := ⟨.hbm, 459, rfl⟩
abbrev main_v351 : Ref sig .tc := ⟨.hbm, 460, rfl⟩
abbrev main_v352 : Ref sig .tc := ⟨.hbm, 461, rfl⟩
abbrev main_v353 : Ref sig .tc := ⟨.hbm, 462, rfl⟩
abbrev main_v354 : Ref sig .tc := ⟨.hbm, 463, rfl⟩
abbrev main_v355 : Ref sig .tc := ⟨.hbm, 464, rfl⟩
abbrev main_v356 : Ref sig .tc := ⟨.hbm, 465, rfl⟩
abbrev main_c_94 : Ref sig .tc := ⟨.hbm, 466, rfl⟩
abbrev main_v357 : Ref sig .tc := ⟨.hbm, 467, rfl⟩
abbrev main_c_95 : Ref sig .tc := ⟨.hbm, 468, rfl⟩
abbrev main_v358 : Ref sig .tc := ⟨.hbm, 469, rfl⟩
abbrev main_v359 : Ref sig .tc := ⟨.hbm, 470, rfl⟩
abbrev main_c_96 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_c_97 : Ref sig .tc := ⟨.hbm, 476, rfl⟩
abbrev main_v364 : Ref sig .tc := ⟨.hbm, 477, rfl⟩
abbrev main_v365 : Ref sig .tc := ⟨.hbm, 478, rfl⟩
abbrev main_v366 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_cst_98 : Ref sig .tc := ⟨.hbm, 483, rfl⟩
abbrev main_v370 : Ref sig .tc := ⟨.hbm, 484, rfl⟩
abbrev main_cst_99 : Ref sig .tc := ⟨.hbm, 485, rfl⟩
abbrev main_v371 : Ref sig .tc := ⟨.hbm, 486, rfl⟩
abbrev main_v372 : Ref sig .tc := ⟨.hbm, 487, rfl⟩
abbrev main_v373 : Ref sig .tc := ⟨.hbm, 488, rfl⟩
abbrev main_v374 : Ref sig .tc := ⟨.hbm, 489, rfl⟩
abbrev main_v375 : Ref sig .tc := ⟨.hbm, 490, rfl⟩
abbrev main_cst_100 : Ref sig .tc := ⟨.hbm, 491, rfl⟩
abbrev main_v376 : Ref sig .tc := ⟨.hbm, 492, rfl⟩
abbrev main_cst_101 : Ref sig .tc := ⟨.hbm, 493, rfl⟩
abbrev main_v377 : Ref sig .tc := ⟨.hbm, 494, rfl⟩
abbrev main_cst_102 : Ref sig .tc := ⟨.hbm, 495, rfl⟩
abbrev main_call15_v0 : Ref sig .tc := ⟨.hbm, 496, rfl⟩
abbrev main_v378 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_v384 : Ref sig .tc := ⟨.hbm, 503, rfl⟩
abbrev main_c_103 : Ref sig .tc := ⟨.hbm, 504, rfl⟩
abbrev main_v385 : Ref sig .tc := ⟨.hbm, 505, rfl⟩
abbrev main_v386 : Ref sig .tc := ⟨.hbm, 506, rfl⟩
abbrev main_c_104 : Ref sig .tc := ⟨.hbm, 507, rfl⟩
abbrev main_v387 : Ref sig .tc := ⟨.hbm, 508, rfl⟩
abbrev main_v388 : Ref sig .tc := ⟨.hbm, 509, rfl⟩
abbrev main_v389 : Ref sig .tc := ⟨.hbm, 510, rfl⟩
abbrev main_c_105 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_c_106 : Ref sig .tc := ⟨.hbm, 518, rfl⟩
abbrev main_v396 : Ref sig .tc := ⟨.hbm, 519, rfl⟩
abbrev main_c_107 : Ref sig .tc := ⟨.hbm, 520, rfl⟩
abbrev main_v397 : Ref sig .tc := ⟨.hbm, 521, rfl⟩
abbrev main_v398 : Ref sig .tc := ⟨.hbm, 522, rfl⟩
abbrev main_c_108 : Ref sig .tc := ⟨.hbm, 523, rfl⟩
abbrev main_v399 : Ref sig .tc := ⟨.hbm, 524, rfl⟩
abbrev main_v400 : Ref sig .tc := ⟨.hbm, 525, rfl⟩
abbrev main_v401 : Ref sig .tc := ⟨.hbm, 526, rfl⟩
abbrev main_v402 : Ref sig .tc := ⟨.hbm, 527, rfl⟩
abbrev main_c_109 : Ref sig .tc := ⟨.hbm, 528, rfl⟩
abbrev main_v403 : Ref sig .tc := ⟨.hbm, 529, rfl⟩
abbrev main_v404 : Ref sig .tc := ⟨.hbm, 530, rfl⟩
abbrev main_v405 : Ref sig .tc := ⟨.hbm, 531, rfl⟩
abbrev main_v406 : Ref sig .tc := ⟨.hbm, 532, rfl⟩
abbrev main_v407 : Ref sig .tc := ⟨.hbm, 533, rfl⟩
abbrev main_v408 : Ref sig .tc := ⟨.hbm, 534, rfl⟩
abbrev main_v409 : Ref sig .tc := ⟨.hbm, 535, rfl⟩
abbrev main_v410 : Ref sig .tc := ⟨.hbm, 536, rfl⟩
abbrev main_v411 : Ref sig .tc := ⟨.hbm, 537, rfl⟩
abbrev main_cst_110 : Ref sig .tc := ⟨.hbm, 538, rfl⟩
abbrev main_v412 : Ref sig .tc := ⟨.hbm, 539, rfl⟩
abbrev main_cst_111 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_cst_112 : Ref sig .tc := ⟨.hbm, 544, rfl⟩
abbrev main_v416 : Ref sig .tc := ⟨.hbm, 545, rfl⟩
abbrev main_cst_113 : Ref sig .tc := ⟨.hbm, 546, rfl⟩
abbrev main_v417 : Ref sig .tc := ⟨.hbm, 547, rfl⟩
abbrev main_v418 : Ref sig .tc := ⟨.hbm, 548, rfl⟩

abbrev nD : Nat := 1
abbrev τ : Topo := Topo.v7x

variable {F : FTy → Type} [FloatOps F]
-- ==== Proof.KI.Prog.lean ====
/-
  The SparseCore task's text brought into one regular shape: forty-eight items, each one row copied into one of two
  staging buffers and scattered into one of two accumulators. The printed body is cut into windows at arbitrary
  statements; each window is, by unfolding, its run of the three kinds of piece (`enq`, `wt`, `lp`), and the windows
  together are `prog`, which a proof can run by induction on the item.
-/
module

public import proofs.«01_k».proof.Defs
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic Idealize.SL Idealize.SL.Sem

variable {F : FTy → Type} [FloatOps F]

/-- A program of the task at grid point `i`. -/
abbrev PT (F : FTy → Type) (i : grid1.Coords) (α : Type) : Type 1 :=
  Prog (TpuEff nD τ sig (Elt F) Λ₀ (.scVector ((i 0).castLE hcore1) ((i 1).castLE hsub1))) α

/-- One trip of an item's loop: sixteen index vectors loaded from the staging buffer, each with its bound, then
    sixteen scattered additions of the item's sign into the accumulator. -/
def trip (i : grid1.Coords) (buf : Memref sig .scVector .vmem S4096 .i32) (acc : Memref sig .scVector .vmem S32768 .f32) (sgn : FVec F S16 .f32)
    (t : Fin k1_t2_loop.trips) : PT F i Unit := do
  let v0 : Vec F S16 .i32 ← Prog.lift (.load buf (Rect.unit (s := S4096) (k1_off3 t 0#32) S16.size (k1_off3_inb t 0)).toLoadRect (View.loadsAt_vmem h_S16))
  have h0 : k1_chk1 v0 := (← Prog.lift (TpuEff.assume (k1_chk1 v0) (k1_chk1.dec v0))).down
  let v1 : Vec F S16 .i32 ← Prog.lift (.load buf (Rect.unit (s := S4096) (k1_off3 t 16#32) S16.size (k1_off3_inb t 1)).toLoadRect (View.loadsAt_vmem h_S16))
  have h1 : k1_chk1 v1 := (← Prog.lift (TpuEff.assume (k1_chk1 v1) (k1_chk1.dec v1))).down
  let v2 : Vec F S16 .i32 ← Prog.lift (.load buf (Rect.unit (s := S4096) (k1_off3 t 32#32) S16.size (k1_off3_inb t 2)).toLoadRect (View.loadsAt_vmem h_S16))
  have h2 : k1_chk1 v2 := (← Prog.lift (TpuEff.assume (k1_chk1 v2) (k1_chk1.dec v2))).down
  let v3 : Vec F S16 .i32 ← Prog.lift (.load buf (Rect.unit (s := S4096) (k1_off3 t 48#32) S16.size (k1_off3_inb t 3)).toLoadRect (View.loadsAt_vmem h_S16))
  have h3 : k1_chk1 v3 := (← Prog.lift (TpuEff.assume (k1_chk1 v3) (k1_chk1.dec v3))).down
  let v4 : Vec F S16 .i32 ← Prog.lift (.load buf (Rect.unit (s := S4096) (k1_off3 t 64#32) S16.size (k1_off3_inb t 4)).toLoadRect (View.loadsAt_vmem h_S16))
  have h4 : k1_chk1 v4 := (← Prog.lift (TpuEff.assume (k1_chk1 v4) (k1_chk1.dec v4))).down
  let v5 : Vec F S16 .i32 ← Prog.lift (.load buf (Rect.unit (s := S4096) (k1_off3 t 80#32) S16.size (k1_off3_inb t 5)).toLoadRect (View.loadsAt_vmem h_S16))
  have h5 : k1_chk1 v5 := (← Prog.lift (TpuEff.assume (k1_chk1 v5) (k1_chk1.dec v5))).down
  let v6 : Vec F S16 .i32 ← Prog.lift (.load buf (Rect.unit (s := S4096) (k1_off3 t 96#32) S16.size (k1_off3_inb t 6)).toLoadRect (View.loadsAt_vmem h_S16))
  have h6 : k1_chk1 v6 := (← Prog.lift (TpuEff.assume (k1_chk1 v6) (k1_chk1.dec v6))).down
  let v7 : Vec F S16 .i32 ← Prog.lift (.load buf (Rect.unit (s := S4096) (k1_off3 t 112#32) S16.size (k1_off3_inb t 7)).toLoadRect (View.loadsAt_vmem h_S16))
  have h7 : k1_chk1 v7 := (← Prog.lift (TpuEff.assume (k1_chk1 v7) (k1_chk1.dec v7))).down
  let v8 : Vec F S16 .i32 ← Prog.lift (.load buf (Rect.unit (s := S4096) (k1_off3 t 128#32) S16.size (k1_off3_inb t 8)).toLoadRect (View.loadsAt_vmem h_S16))
  have h8 : k1_chk1 v8 := (← Prog.lift (TpuEff.assume (k1_chk1 v8) (k1_chk1.dec v8))).down
  let v9 : Vec F S16 .i32 ← Prog.lift (.load buf (Rect.unit (s := S4096) (k1_off3 t 144#32) S16.size (k1_off3_inb t 9)).toLoadRect (View.loadsAt_vmem h_S16))
  have h9 : k1_chk1 v9 := (← Prog.lift (TpuEff.assume (k1_chk1 v9) (k1_chk1.dec v9))).down
  let v10 : Vec F S16 .i32 ← Prog.lift (.load buf (Rect.unit (s := S4096) (k1_off3 t 160#32) S16.size (k1_off3_inb t 10)).toLoadRect (View.loadsAt_vmem h_S16))
  have h10 : k1_chk1 v10 := (← Prog.lift (TpuEff.assume (k1_chk1 v10) (k1_chk1.dec v10))).down
  let v11 : Vec F S16 .i32 ← Prog.lift (.load buf (Rect.unit (s := S4096) (k1_off3 t 176#32) S16.size (k1_off3_inb t 11)).toLoadRect (View.loadsAt_vmem h_S16))
  have h11 : k1_chk1 v11 := (← Prog.lift (TpuEff.assume (k1_chk1 v11) (k1_chk1.dec v11))).down
  let v12 : Vec F S16 .i32 ← Prog.lift (.load buf (Rect.unit (s := S4096) (k1_off3 t 192#32) S16.size (k1_off3_inb t 12)).toLoadRect (View.loadsAt_vmem h_S16))
  have h12 : k1_chk1 v12 := (← Prog.lift (TpuEff.assume (k1_chk1 v12) (k1_chk1.dec v12))).down
  let v13 : Vec F S16 .i32 ← Prog.lift (.load buf (Rect.unit (s := S4096) (k1_off3 t 208#32) S16.size (k1_off3_inb t 13)).toLoadRect (View.loadsAt_vmem h_S16))
  have h13 : k1_chk1 v13 := (← Prog.lift (TpuEff.assume (k1_chk1 v13) (k1_chk1.dec v13))).down
  let v14 : Vec F S16 .i32 ← Prog.lift (.load buf (Rect.unit (s := S4096) (k1_off3 t 224#32) S16.size (k1_off3_inb t 14)).toLoadRect (View.loadsAt_vmem h_S16))
  have h14 : k1_chk1 v14 := (← Prog.lift (TpuEff.assume (k1_chk1 v14) (k1_chk1.dec v14))).down
  let v15 : Vec F S16 .i32 ← Prog.lift (.load buf (Rect.unit (s := S4096) (k1_off3 t 240#32) S16.size (k1_off3_inb t 15)).toLoadRect (View.loadsAt_vmem h_S16))
  have h15 : k1_chk1 v15 := (← Prog.lift (TpuEff.assume (k1_chk1 v15) (k1_chk1.dec v15))).down
  SparseCore.vectorStoreIdx acc ![v0] sgn (fun _ => 1#1) true (k1_idx1_inb v0 h0) (View.stores_vmem_bits_univ h_S32768 rfl)
  SparseCore.vectorStoreIdx acc ![v1] sgn (fun _ => 1#1) true (k1_idx1_inb v1 h1) (View.stores_vmem_bits_univ h_S32768 rfl)
  SparseCore.vectorStoreIdx acc ![v2] sgn (fun _ => 1#1) true (k1_idx1_inb v2 h2) (View.stores_vmem_bits_univ h_S32768 rfl)
  SparseCore.vectorStoreIdx acc ![v3] sgn (fun _ => 1#1) true (k1_idx1_inb v3 h3) (View.stores_vmem_bits_univ h_S32768 rfl)
  SparseCore.vectorStoreIdx acc ![v4] sgn (fun _ => 1#1) true (k1_idx1_inb v4 h4) (View.stores_vmem_bits_univ h_S32768 rfl)
  SparseCore.vectorStoreIdx acc ![v5] sgn (fun _ => 1#1) true (k1_idx1_inb v5 h5) (View.stores_vmem_bits_univ h_S32768 rfl)
  SparseCore.vectorStoreIdx acc ![v6] sgn (fun _ => 1#1) true (k1_idx1_inb v6 h6) (View.stores_vmem_bits_univ h_S32768 rfl)
  SparseCore.vectorStoreIdx acc ![v7] sgn (fun _ => 1#1) true (k1_idx1_inb v7 h7) (View.stores_vmem_bits_univ h_S32768 rfl)
  SparseCore.vectorStoreIdx acc ![v8] sgn (fun _ => 1#1) true (k1_idx1_inb v8 h8) (View.stores_vmem_bits_univ h_S32768 rfl)
  SparseCore.vectorStoreIdx acc ![v9] sgn (fun _ => 1#1) true (k1_idx1_inb v9 h9) (View.stores_vmem_bits_univ h_S32768 rfl)
  SparseCore.vectorStoreIdx acc ![v10] sgn (fun _ => 1#1) true (k1_idx1_inb v10 h10) (View.stores_vmem_bits_univ h_S32768 rfl)
  SparseCore.vectorStoreIdx acc ![v11] sgn (fun _ => 1#1) true (k1_idx1_inb v11 h11) (View.stores_vmem_bits_univ h_S32768 rfl)
  SparseCore.vectorStoreIdx acc ![v12] sgn (fun _ => 1#1) true (k1_idx1_inb v12 h12) (View.stores_vmem_bits_univ h_S32768 rfl)
  SparseCore.vectorStoreIdx acc ![v13] sgn (fun _ => 1#1) true (k1_idx1_inb v13 h13) (View.stores_vmem_bits_univ h_S32768 rfl)
  SparseCore.vectorStoreIdx acc ![v14] sgn (fun _ => 1#1) true (k1_idx1_inb v14 h14) (View.stores_vmem_bits_univ h_S32768 rfl)
  SparseCore.vectorStoreIdx acc ![v15] sgn (fun _ => 1#1) true (k1_idx1_inb v15 h15) (View.stores_vmem_bits_univ h_S32768 rfl)
  pure ⟨⟩

/-- The field of item `k` (which of the six index arrays), its batch and its band of the tile's two. -/
abbrev fld (k : Nat) : Fin 6 := ⟨k / 8 % 6, Nat.mod_lt _ (by decide)⟩
abbrev bat (k : Nat) : Fin 4 := ⟨k % 4, Nat.mod_lt _ (by decide)⟩
abbrev bnd (k : Nat) : Fin 2 := ⟨k / 4 % 2, Nat.mod_lt _ (by decide)⟩

/-- Choice of one of six by the field. -/
def pick {α : Type} (a b c d e f : α) : Fin 6 → α
  | 0 => a | 1 => b | 2 => c | 3 => d | 4 => e | 5 => f

/-- Choice of one of two by an item's parity. -/
def par {α : Type} (a b : α) (k : Nat) : α := match k % 2 with | 0 => a | _ => b

theorem par_whole {a b : Memref sig .scVector .vmem S4096 .i32} (ha : a.IsWhole) (hb : b.IsWhole) (k : Nat) : (par a b k).IsWhole := by
  unfold par; split <;> assumption

/-- The sign with which field `f`'s words count: the real image's against the fake one's. -/
def sg (f : Fin 6) : F .f32 :=
  match f with
  | 0 | 2 | 3 => Scalar.ofBits .f32 0x3F800000#32
  | _ => Scalar.ofBits .f32 0xBF800000#32
def sgnOf (f : Fin 6) : FVec F S16 .f32 := broadcast S16 (sg f)

/-- Row of an index array that band `r₂` of the tile at `i` takes in batch `r₁`, as the copy addresses it. -/
abbrev rowM (i : grid1.Coords) (src : Memref sig .scVector .hbm S256x4096 .i32) (r₁ : Fin 4) (r₂ : Fin 2) : Memref sig .scVector .hbm S4096 .i32 :=
  (src.slice (Rect.unit (s := S256x4096) (k1_off2 i (BitVec.ofNat 32 (64 * r₁.val)) (BitVec.ofNat 32 r₂.val)) S1x4096.size (k1_off2_inb i r₁ r₂)) (fun _ => rfl)).squeeze
    S4096 squeezes_S1x4096_S4096

section Pieces

variable (i : grid1.Coords) (arg2 arg3 arg4 arg5 arg6 arg7 : Memref sig .scVector .hbm S256x4096 .i32)
  (arg9 arg10 : Memref sig .scVector .vmem S32768 .f32)
  (arg11 : Memref sig .scVector .vmem S4096 .i32) (harg11 : arg11.IsWhole) (arg12 : Memref sig .scVector .vmem S4096 .i32) (harg12 : arg12.IsWhole)
  (arg14 arg15 : DmaSems sig S_)

/-- Item `k`'s copy issued. -/
def enq (k : Nat) : PT F i PUnit :=
  Prog.lift (.enqueueDma (rowM i (pick arg2 arg3 arg4 arg5 arg6 arg7 (fld k)) (bat k) (bnd k)) (.here (par arg11 arg12 k)) (.dma (par arg14 arg15 k).sem)
    ((View.wordExact_bits rfl).reshape _ _) (par_whole harg11 harg12 k).wordExact ⟨Or.inl rfl, trivial⟩)

/-- Item `k`'s copy waited for. -/
def wt (k : Nat) : PT F i PUnit :=
  Prog.lift (.waitDma2 (par arg14 arg15 k).sem (rowM i (pick arg2 arg3 arg4 arg5 arg6 arg7 (fld k)) (bat k) (bnd k)) (par arg11 arg12 k)
    ((View.wordExact_bits rfl).reshape _ _) (par_whole harg11 harg12 k).wordExact)

/-- Item `k`'s loop: the staged row scattered into the field's accumulator. -/
def lp (k : Nat) : PT F i Unit :=
  Scf.Loop.for k1_t2_loop k1_t2_ok ⟨⟩ fun t _ =>
    trip i (par arg11 arg12 k) (pick arg9 arg9 arg10 arg10 arg10 arg10 (fld k)) (sgnOf (fld k)) t

/-- `n` items from the `j`-th, each after the next one's copy is issued, and then `k`. -/
def items : Nat → Nat → PT F i PUnit → PT F i PUnit
  | 0, _, k => k
  | n + 1, j, k => do
      enq i arg2 arg3 arg4 arg5 arg6 arg7 arg11 harg11 arg12 harg12 arg14 arg15 (j + 1)
      wt i arg2 arg3 arg4 arg5 arg6 arg7 arg11 harg11 arg12 harg12 arg14 arg15 j
      lp i arg9 arg10 arg11 arg12 j
      items n (j + 1) k

end Pieces

section Windows

variable (i : grid1.Coords) (arg2 : Memref sig .scVector .hbm S256x4096 .i32) (harg2 : arg2.IsWhole) (arg3 : Memref sig .scVector .hbm S256x4096 .i32) (harg3 : arg3.IsWhole) (arg4 : Memref sig .scVector .hbm S256x4096 .i32) (harg4 : arg4.IsWhole) (arg5 : Memref sig .scVector .hbm S256x4096 .i32) (harg5 : arg5.IsWhole) (arg6 : Memref sig .scVector .hbm S256x4096 .i32) (harg6 : arg6.IsWhole) (arg7 : Memref sig .scVector .hbm S256x4096 .i32) (harg7 : arg7.IsWhole) (arg8 : Memref sig .scVector .hbm S32x32 .f32) (harg8 : arg8.IsWhole) (arg9 : Memref sig .scVector .vmem S32768 .f32) (harg9 : arg9.IsWhole) (arg10 : Memref sig .scVector .vmem S32768 .f32) (harg10 : arg10.IsWhole) (arg11 : Memref sig .scVector .vmem S4096 .i32) (harg11 : arg11.IsWhole) (arg12 : Memref sig .scVector .vmem S4096 .i32) (harg12 : arg12.IsWhole) (arg13 : Memref sig .scVector .vmem S32 .f32) (harg13 : arg13.IsWhole) (arg14 arg15 v638_r0 : DmaSems sig S_)

set_option maxRecDepth 100000 in
theorem k1_part57_eq (v146 : BitVec 32) : k1_part57 (F := F) i arg2 harg2 arg3 harg3 arg4 harg4 arg5 harg5 arg6 harg6 arg7 harg7 arg8 harg8 arg9 harg9 arg10 harg10 arg11 harg11 arg12 harg12 arg13 harg13 arg14 arg15 v638_r0 v146 = (do
    enq i arg2 arg3 arg4 arg5 arg6 arg7 arg11 harg11 arg12 harg12 arg14 arg15 0
    enq i arg2 arg3 arg4 arg5 arg6 arg7 arg11 harg11 arg12 harg12 arg14 arg15 1
    wt i arg2 arg3 arg4 arg5 arg6 arg7 arg11 harg11 arg12 harg12 arg14 arg15 0
    lp i arg9 arg10 arg11 arg12 0
    enq i arg2 arg3 arg4 arg5 arg6 arg7 arg11 harg11 arg12 harg12 arg14 arg15 2
    wt i arg2 arg3 arg4 arg5 arg6 arg7 arg11 harg11 arg12 harg12 arg14 arg15 1
    lp i arg9 arg10 arg11 arg12 1
    pure ⟨⟩) := rfl

set_option maxRecDepth 100000 in
theorem k1_part58_eq : k1_part58 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 3
    wt i arg2 arg3 arg4 arg5 arg6 arg7 arg11 harg11 arg12 harg12 arg14 arg15 2
    lp i arg9 arg10 arg11 arg12 2
    enq i arg2 arg3 arg4 arg5 arg6 arg7 arg11 harg11 arg12 harg12 arg14 arg15 4
    wt i arg2 arg3 arg4 arg5 arg6 arg7 arg11 harg11 arg12 harg12 arg14 arg15 3
    lp i arg9 arg10 arg11 arg12 3
    enq i arg2 arg3 arg4 arg5 arg6 arg7 arg11 harg11 arg12 harg12 arg14 arg15 5
    wt i arg2 arg3 arg4 arg5 arg6 arg7 arg11 harg11 arg12 harg12 arg14 arg15 4
    pure ⟨k1_pay7 (F := F), 0#32, 16#32⟩) := rfl

set_option maxRecDepth 100000 in
theorem k1_part59_eq : k1_part59 (F := F) i arg2 harg2 arg3 harg3 arg4 harg4 arg5 harg5 arg6 harg6 arg7 harg7 arg8 harg8 arg9 harg9 arg10 harg10 arg11 harg11 arg12 harg12 arg13 harg13 arg14 arg15 v638_r0 (k1_pay7 (F := F)) 0#32 16#32 = (do
    lp i arg9 arg10 arg11 arg12 4
    enq i arg2 arg3 arg4 arg5 arg6 arg7 arg11 harg11 arg12 harg12 arg14 arg15 6
    wt i arg2 arg3 arg4 arg5 arg6 arg7 arg11 harg11 arg12 harg12 arg14 arg15 5
    lp i arg9 arg10 arg11 arg12 5
    enq i arg2 arg3 arg4 arg5 arg6 arg7 arg11 harg11 arg12 harg12 arg14 arg15 7
    wt i arg2 arg3 arg4 arg5 arg6 arg7 arg11 harg11 arg12 harg12 arg14 arg15 6
    lp i arg9 arg10 arg11 arg12 6
    enq i arg2 arg3 arg4 arg5 arg6 arg7 arg11 harg11 arg12 harg12 arg14 arg15 8
    pure ⟨⟩) := rfl

set_option maxRecDepth 100000 in
theorem k1_part60_eq : k1_part60 (F := F) i arg2 harg2 arg3 harg3 arg4 harg4 arg5 harg5 arg6 harg6 arg7 harg7 arg8 harg8 arg9 harg9 arg10 harg10 arg11 harg11 arg12 harg12 arg13 harg13 arg14 arg15 v638_r0 = (do
    wt i arg2 arg3 arg4 arg5 arg6 arg7 arg11 harg11 arg12 harg12 arg14 arg15 7
    lp i arg9 arg10 arg11 arg12 7
    enq i arg2 arg3 arg4 arg5 arg6 arg7 arg11 harg11 arg12 harg12 arg14 arg15 9
    wt i arg2 arg3 arg4 arg5 arg6 arg7 arg11 harg11 arg12 harg12 arg14 arg15 8
    lp i arg9 arg10 arg11 arg12 8
    enq i arg2 arg3 arg4 arg5 arg6 arg7 arg11 harg11 arg12 harg12 arg14 arg15 10
    wt i arg2 arg3 arg4 arg5 arg6 arg7 arg11 harg11 arg12 harg12 arg14 arg15 9
    lp i arg9 arg10 arg11 arg12 9
    pure ⟨⟩) := rfl

set_option maxRecDepth 100000 in
theorem k1_part61_eq : k1_part61 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 11
    wt i arg2 arg3 arg4 arg5 arg6 arg7 arg11 harg11 arg12 harg12 arg14 arg15 10
    lp i arg9 arg10 arg11 arg12 10
    enq i arg2 arg3 arg4 arg5 arg6 arg7 arg11 harg11 arg12 harg12 arg14 arg15 12
    wt i arg2 arg3 arg4 arg5 arg6 arg7 arg11 harg11 arg12 harg12 arg14 arg15 11
    lp i arg9 arg10 arg11 arg12 11
    enq i arg2 arg3 arg4 arg5 arg6 arg7 arg11 harg11 arg12 harg12 arg14 arg15 13
    wt i arg2 arg3 arg4 arg5 arg6 arg7 arg11 harg11 arg12 harg12 arg14 arg15 12
    pure (Scalar.ofBits .f32 0xBF800000#32)) := rfl

set_option maxRecDepth 100000 in
theorem k1_part62_eq : k1_part62 (F := F) i arg2 harg2 arg3 harg3 arg4 harg4 arg5 harg5 arg6 harg6 arg7 harg7 arg8 harg8 arg9 harg9 arg10 harg10 arg11 harg11 arg12 harg12 arg13 harg13 arg14 arg15 v638_r0 (Scalar.ofBits .f32 0xBF800000#32) = (do
    lp i arg9 arg10 arg11 arg12 12
    enq i arg2 arg3 arg4 arg5 arg6 arg7 arg11 harg11 arg12 harg12 arg14 arg15 14
    wt i arg2 arg3 arg4 arg5 arg6 arg7 arg11 harg11 arg12 harg12 arg14 arg15 13
    lp i arg9 arg10 arg11 arg12 13
    enq i arg2 arg3 arg4 arg5 arg6 arg7 arg11 harg11 arg12 harg12 arg14 arg15 15
    wt i arg2 arg3 arg4 arg5 arg6 arg7 arg11 harg11 arg12 harg12 arg14 arg15 14
    lp i arg9 arg10 arg11 arg12 14
    pure ⟨⟩) := rfl

set_option maxRecDepth 100000 in
theorem k1_part63_eq : k1_part63 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 16
    wt i arg2 arg3 arg4 arg5 arg6 arg7 arg11 harg11 arg12 harg12 arg14 arg15 15
    lp i arg9 arg10 arg11 arg12 15
    enq i arg2 arg3 arg4 arg5 arg6 arg7 arg11 harg11 arg12 harg12 arg14 arg15 17
    wt i arg2 arg3 arg4 arg5 arg6 arg7 arg11 harg11 arg12 harg12 arg14 arg15 16
    lp i arg9 arg10 arg11 arg12 16
    enq i arg2 arg3 arg4 arg5 arg6 arg7 arg11 harg11 arg12 harg12 arg14 arg15 18
    wt i arg2 arg3 arg4 arg5 arg6 arg7 arg11 harg11 arg12 harg12 arg14 arg15 17
    pure ⟨k1_pay20 (F := F), 0#32⟩) := rfl

set_option maxRecDepth 100000 in
theorem k1_part64_eq : k1_part64 (F := F) i arg2 harg2 arg3 harg3 arg4 harg4 arg5 harg5 arg6 harg6 arg7 harg7 arg8 harg8 arg9 harg9 arg10 harg10 arg11 harg11 arg12 harg12 arg13 harg13 arg14 arg15 v638_r0 (k1_pay20 (F := F)) 0#32 = (do
    lp i arg9 arg10 arg11 arg12 17
    enq i arg2 arg3 arg4 arg5 arg6 arg7 arg11 harg11 arg12 harg12 arg14 arg15 19
    wt i arg2 arg3 arg4 arg5 arg6 arg7 arg11 harg11 arg12 harg12 arg14 arg15 18
    lp i arg9 arg10 arg11 arg12 18
    enq i arg2 arg3 arg4 arg5 arg6 arg7 arg11 harg11 arg12 harg12 arg14 arg15 20
    wt i arg2 arg3 arg4 arg5 arg6 arg7 arg11 harg11 arg12 harg12 arg14 arg15 19
    lp i arg9 arg10 arg11 arg12 19
    enq i arg2 arg3 arg4 arg5 arg6 arg7 arg11 harg11 arg12 harg12 arg14 arg15 21
    pure ⟨⟩) := rfl

set_option maxRecDepth 100000 in
theorem k1_part65_eq : k1_part65 (F := F) i arg2 harg2 arg3 harg3 arg4 harg4 arg5 harg5 arg6 harg6 arg7 harg7 arg8 harg8 arg9 harg9 arg10 harg10 arg11 harg11 arg12 harg12 arg13 harg13 arg14 arg15 v638_r0 = (do
    wt i arg2 arg3 arg4 arg5 arg6 arg7 arg11 harg11 arg12 harg12 arg14 arg15 20
    lp i arg9 arg10 arg11 arg12 20
    enq i arg2 arg3 arg4 arg5 arg6 arg7 arg11 harg11 arg12 harg12 arg14 arg15 22
    wt i arg2 arg3 arg4 arg5 arg6 arg7 arg11 harg11 arg12 harg12 arg14 arg15 21
    lp i arg9 arg10 arg11 arg12 21
    enq i arg2 arg3 arg4 arg5 arg6 arg7 arg11 harg11 arg12 harg12 arg14 arg15 23
    wt i arg2 arg3 arg4 arg5 arg6 arg7 arg11 harg11 arg12 harg12 arg14 arg15 22
    lp i arg9 arg10 arg11 arg12 22
    pure ⟨⟩) := rfl

set_option maxRecDepth 100000 in
theorem k1_part66_eq : k1_part66 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 24
    wt i arg2 arg3 arg4 arg5 arg6 arg7 arg11 harg11 arg12 harg12 arg14 arg15 23
    lp i arg9 arg10 arg11 arg12 23
    enq i arg2 arg3 arg4 arg5 arg6 arg7 arg11 harg11 arg12 harg12 arg14 arg15 25
    wt i arg2 arg3 arg4 arg5 arg6 arg7 arg11 harg11 arg12 harg12 arg14 arg15 24
    lp i arg9 arg10 arg11 arg12 24
    enq i arg2 arg3 arg4 arg5 arg6 arg7 arg11 harg11 arg12 harg12 arg14 arg15 26
    wt i arg2 arg3 arg4 arg5 arg6 arg7 arg11 harg11 arg12 harg12 arg14 arg15 25
    pure (k1_pay28 (F := F))) := rfl

set_option maxRecDepth 100000 in
theorem k1_part67_eq : k1_part67 (F := F) i arg2 harg2 arg3 harg3 arg4 harg4 arg5 harg5 arg6 harg6 arg7 harg7 arg8 harg8 arg9 harg9 arg10 harg10 arg11 harg11 arg12 harg12 arg13 harg13 arg14 arg15 v638_r0 (k1_pay28 (F := F)) = (do
    lp i arg9 arg10 arg11 arg12 25
    enq i arg2 arg3 arg4 arg5 arg6 arg7 arg11 harg11 arg12 harg12 arg14 arg15 27
    wt i arg2 arg3 arg4 arg5 arg6 arg7 arg11 harg11 arg12 harg12 arg14 arg15 26
    lp i arg9 arg10 arg11 arg12 26
    enq i arg2 arg3 arg4 arg5 arg6 arg7 arg11 harg11 arg12 harg12 arg14 arg15 28
    wt i arg2 arg3 arg4 arg5 arg6 arg7 arg11 harg11 arg12 harg12 arg14 arg15 27
    lp i arg9 arg10 arg11 arg12 27
    enq i arg2 arg3 arg4 arg5 arg6 arg7 arg11 harg11 arg12 harg12 arg14 arg15 29
    pure ⟨⟩) := rfl

set_option maxRecDepth 100000 in
theorem k1_part68_eq : k1_part68 (F := F) i arg2 harg2 arg3 harg3 arg4 harg4 arg5 harg5 arg6 harg6 arg7 harg7 arg8 harg8 arg9 harg9 arg10 harg10 arg11 harg11 arg12 harg12 arg13 harg13 arg14 arg15 v638_r0 = (do
    wt i arg2 arg3 arg4 arg5 arg6 arg7 arg11 harg11 arg12 harg12 arg14 arg15 28
    lp i arg9 arg10 arg11 arg12 28
    enq i arg2 arg3 arg4 arg5 arg6 arg7 arg11 harg11 arg12 harg12 arg14 arg15 30
    wt i arg2 arg3 arg4 arg5 arg6 arg7 arg11 harg11 arg12 harg12 arg14 arg15 29
    lp i arg9 arg10 arg11 arg12 29
    enq i arg2 arg3 arg4 arg5 arg6 arg7 arg11 harg11 arg12 harg12 arg14 arg15 31
    wt i arg2 arg3 arg4 arg5 arg6 arg7 arg11 harg11 arg12 harg12 arg14 arg15 30
    pure ⟨k1_pay33 (F := F), 0#32, 1#32⟩) := rfl

set_option maxRecDepth 100000 in
theorem k1_part69_eq : k1_part69 (F := F) i arg2 harg2 arg3 harg3 arg4 harg4 arg5 harg5 arg6 harg6 arg7 harg7 arg8 harg8 arg9 harg9 arg10 harg10 arg11 harg11 arg12 harg12 arg13 harg13 arg14 arg15 v638_r0 (k1_pay33 (F := F)) 0#32 1#32 = (do
    lp i arg9 arg10 arg11 arg12 30
    enq i arg2 arg3 arg4 arg5 arg6 arg7 arg11 harg11 arg12 harg12 arg14 arg15 32
    wt i arg2 arg3 arg4 arg5 arg6 arg7 arg11 harg11 arg12 harg12 arg14 arg15 31
    lp i arg9 arg10 arg11 arg12 31
    enq i arg2 arg3 arg4 arg5 arg6 arg7 arg11 harg11 arg12 harg12 arg14 arg15 33
    wt i arg2 arg3 arg4 arg5 arg6 arg7 arg11 harg11 arg12 harg12 arg14 arg15 32
    lp i arg9 arg10 arg11 arg12 32
    enq i arg2 arg3 arg4 arg5 arg6 arg7 arg11 harg11 arg12 harg12 arg14 arg15 34
    pure ⟨⟩) := rfl

set_option maxRecDepth 100000 in
theorem k1_part70_eq : k1_part70 (F := F) i arg2 harg2 arg3 harg3 arg4 harg4 arg5 harg5 arg6 harg6 arg7 harg7 arg8 harg8 arg9 harg9 arg10 harg10 arg11 harg11 arg12 harg12 arg13 harg13 arg14 arg15 v638_r0 = (do
    wt i arg2 arg3 arg4 arg5 arg6 arg7 arg11 harg11 arg12 harg12 arg14 arg15 33
    lp i arg9 arg10 arg11 arg12 33
    enq i arg2 arg3 arg4 arg5 arg6 arg7 arg11 harg11 arg12 harg12 arg14 arg15 35
    wt i arg2 arg3 arg4 arg5 arg6 arg7 arg11 harg11 arg12 harg12 arg14 arg15 34
    lp i arg9 arg10 arg11 arg12 34
    enq i arg2 arg3 arg4 arg5 arg6 arg7 arg11 harg11 arg12 harg12 arg14 arg15 36
    wt i arg2 arg3 arg4 arg5 arg6 arg7 arg11 harg11 arg12 harg12 arg14 arg15 35
    lp i arg9 arg10 arg11 arg12 35
    pure ⟨⟩) := rfl

set_option maxRecDepth 100000 in
theorem k1_part71_eq : k1_part71 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 37
    wt i arg2 arg3 arg4 arg5 arg6 arg7 arg11 harg11 arg12 harg12 arg14 arg15 36
    lp i arg9 arg10 arg11 arg12 36
    enq i arg2 arg3 arg4 arg5 arg6 arg7 arg11 harg11 arg12 harg12 arg14 arg15 38
    wt i arg2 arg3 arg4 arg5 arg6 arg7 arg11 harg11 arg12 harg12 arg14 arg15 37
    lp i arg9 arg10 arg11 arg12 37
    enq i arg2 arg3 arg4 arg5 arg6 arg7 arg11 harg11 arg12 harg12 arg14 arg15 39
    wt i arg2 arg3 arg4 arg5 arg6 arg7 arg11 harg11 arg12 harg12 arg14 arg15 38
    pure (k1_pay41 (F := F))) := rfl

set_option maxRecDepth 100000 in
theorem k1_part72_eq : k1_part72 (F := F) i arg2 harg2 arg3 harg3 arg4 harg4 arg5 harg5 arg6 harg6 arg7 harg7 arg8 harg8 arg9 harg9 arg10 harg10 arg11 harg11 arg12 harg12 arg13 harg13 arg14 arg15 v638_r0 (k1_pay41 (F := F)) = (do
    lp i arg9 arg10 arg11 arg12 38
    enq i arg2 arg3 arg4 arg5 arg6 arg7 arg11 harg11 arg12 harg12 arg14 arg15 40
    wt i arg2 arg3 arg4 arg5 arg6 arg7 arg11 harg11 arg12 harg12 arg14 arg15 39
    lp i arg9 arg10 arg11 arg12 39
    enq i arg2 arg3 arg4 arg5 arg6 arg7 arg11 harg11 arg12 harg12 arg14 arg15 41
    wt i arg2 arg3 arg4 arg5 arg6 arg7 arg11 harg11 arg12 harg12 arg14 arg15 40
    lp i arg9 arg10 arg11 arg12 40
    enq i arg2 arg3 arg4 arg5 arg6 arg7 arg11 harg11 arg12 harg12 arg14 arg15 42
    pure ⟨⟩) := rfl

set_option maxRecDepth 100000 in
theorem k1_part73_eq : k1_part73 (F := F) i arg2 harg2 arg3 harg3 arg4 harg4 arg5 harg5 arg6 harg6 arg7 harg7 arg8 harg8 arg9 harg9 arg10 harg10 arg11 harg11 arg12 harg12 arg13 harg13 arg14 arg15 v638_r0 = (do
    wt i arg2 arg3 arg4 arg5 arg6 arg7 arg11 harg11 arg12 harg12 arg14 arg15 41
    lp i arg9 arg10 arg11 arg12 41
    enq i arg2 arg3 arg4 arg5 arg6 arg7 arg11 harg11 arg12 harg12 arg14 arg15 43
    wt i arg2 arg3 arg4 arg5 arg6 arg7 arg11 harg11 arg12 harg12 arg14 arg15 42
    lp i arg9 arg10 arg11 arg12 42
    enq i arg2 arg3 arg4 arg5 arg6 arg7 arg11 harg11 arg12 harg12 arg14 arg15 44
    wt i arg2 arg3 arg4 arg5 arg6 arg7 arg11 harg11 arg12 harg12 arg14 arg15 43
    lp i arg9 arg10 arg11 arg12 43
    pure ⟨⟩) := rfl

set_option maxRecDepth 100000 in
theorem k1_part74_eq : k1_part74 (F := F) i arg2 harg2 arg3 harg3 arg4 harg4 arg5 harg5 arg6 harg6 arg7 harg7 arg8 harg8 arg9 harg9 arg10 harg10 arg11 harg11 arg12 harg12 arg13 harg13 arg14 arg15 v638_r0 = (do
    enq i arg2 arg3 arg4 arg5 arg6 arg7 arg11 harg11 arg12 harg12 arg14 arg15 45
    wt i arg2 arg3 arg4 arg5 arg6 arg7 arg11 harg11 arg12 harg12 arg14 arg15 44
    lp i arg9 arg10 arg11 arg12 44
    enq i arg2 arg3 arg4 arg5 arg6 arg7 arg11 harg11 arg12 harg12 arg14 arg15 46
    wt i arg2 arg3 arg4 arg5 arg6 arg7 arg11 harg11 arg12 harg12 arg14 arg15 45
    lp i arg9 arg10 arg11 arg12 45
    enq i arg2 arg3 arg4 arg5 arg6 arg7 arg11 harg11 arg12 harg12 arg14 arg15 47
    pure ⟨⟩) := rfl

/-- What follows the items: the two accumulators' absolute values summed, and the tile's row of the result written. -/
def tailP : PT F i PUnit := do
  let (v629_0, v629_1, v629_2, v629_3, v629_4, v629_5, v629_6, v629_7) ← Scf.Loop.for k1_t50_loop k1_t50_ok
    (k1_pay2 (F := F), k1_pay2 (F := F), k1_pay2 (F := F), k1_pay2 (F := F), k1_pay2 (F := F), k1_pay2 (F := F), k1_pay2 (F := F), k1_pay2 (F := F)) (k1_t50_body i arg2 harg2 arg3 harg3 arg4 harg4 arg5 harg5 arg6 harg6 arg7 harg7 arg8 harg8 arg9 harg9 arg10 harg10 arg11 harg11 arg12 harg12 arg13 harg13 arg14 arg15 v638_r0)
  let v633 : Vec F S16 .f32 ← Prog.lift (.load arg13 (Rect.unit (s := S32) ![0] S16.size inb_S32_S16_0).toLoadRect (View.loadsAt_vmem h_S16))
  Prog.lift (.store arg13 (Rect.unit (s := S32) ![0] S16.size inb_S32_S16_0) (k1_pay59 v629_0 v629_1 v629_2 v629_3) Finset.univ (View.stores_vmem_bits_univ h_S16 rfl) (.inl rfl))
  let v637 : Vec F S16 .f32 ← Prog.lift (.load arg13 (Rect.unit (s := S32) ![16] S16.size inb_S32_S16_16).toLoadRect (View.loadsAt_vmem h_S16))
  Prog.lift (.store arg13 (Rect.unit (s := S32) ![16] S16.size inb_S32_S16_16) (k1_pay1 v629_4 v629_5 v629_6 v629_7) Finset.univ (View.stores_vmem_bits_univ h_S16 rfl) (.inl rfl))
  let v641_r0 : Memref sig .scVector .hbm S1x32 .f32 := arg8.slice (Rect.unit (s := S32x32) (k1_off52 i) S1x32.size (k1_off52_inb i)) (fun _ => rfl)
  let v642_r0 : Memref sig .scVector .hbm S32 .f32 := v641_r0.squeeze S32 squeezes_S1x32_S32
  Prog.lift (.enqueueDma arg13 (.here v642_r0) (.dma v638_r0.sem) harg13.wordExact ((View.wordExact_bits rfl).reshape _ _) ⟨Or.inl rfl, trivial⟩)
  Prog.lift (.waitDma2 v638_r0.sem arg13 v642_r0 harg13.wordExact ((View.wordExact_bits rfl).reshape _ _))
  pure ⟨⟩

/-- The whole task: both accumulators zeroed, item 0's copy issued, the items, the sums. -/
def prog : PT F i PUnit := do
  Scf.Loop.for k1_t1_loop k1_t1_ok ⟨⟩ (k1_t1_body i arg2 harg2 arg3 harg3 arg4 harg4 arg5 harg5 arg6 harg6 arg7 harg7 arg8 harg8 arg9 harg9 arg10 harg10 arg11 harg11 arg12 harg12 arg13 harg13 arg14 arg15 v638_r0)
  enq i arg2 arg3 arg4 arg5 arg6 arg7 arg11 harg11 arg12 harg12 arg14 arg15 0
  items i arg2 arg3 arg4 arg5 arg6 arg7 arg9 arg10 arg11 harg11 arg12 harg12 arg14 arg15 47 0 (do
    wt i arg2 arg3 arg4 arg5 arg6 arg7 arg11 harg11 arg12 harg12 arg14 arg15 47
    lp i arg9 arg10 arg11 arg12 47
    tailP i arg2 harg2 arg3 harg3 arg4 harg4 arg5 harg5 arg6 harg6 arg7 harg7 arg8 harg8 arg9 harg9 arg10 harg10 arg11 harg11 arg12 harg12 arg13 harg13 arg14 arg15 v638_r0)

set_option maxRecDepth 100000 in
theorem part52_eq : ∃ a b, k1_part52 (F := F) i arg2 harg2 arg3 harg3 arg4 harg4 arg5 harg5 arg6 harg6 arg7 harg7 arg8 harg8 arg9 harg9 arg10 harg10 arg11 harg11 arg12 harg12 arg13 harg13 arg14 arg15 v638_r0 = (do
    Scf.Loop.for k1_t1_loop k1_t1_ok ⟨⟩ (k1_t1_body i arg2 harg2 arg3 harg3 arg4 harg4 arg5 harg5 arg6 harg6 arg7 harg7 arg8 harg8 arg9 harg9 arg10 harg10 arg11 harg11 arg12 harg12 arg13 harg13 arg14 arg15 v638_r0)
    pure ⟨a, k1_pay2 (F := F), b⟩) := ⟨_, _, rfl⟩
theorem part53_eq (x y : BitVec 32) : ∃ a, k1_part53 (F := F) i arg2 harg2 arg3 harg3 arg4 harg4 arg5 harg5 arg6 harg6 arg7 harg7 arg8 harg8 arg9 harg9 arg10 harg10 arg11 harg11 arg12 harg12 arg13 harg13 arg14 arg15 v638_r0 x y = pure a := ⟨_, rfl⟩
theorem part54_eq (x y : BitVec 32) : ∃ a, k1_part54 (F := F) i arg2 harg2 arg3 harg3 arg4 harg4 arg5 harg5 arg6 harg6 arg7 harg7 arg8 harg8 arg9 harg9 arg10 harg10 arg11 harg11 arg12 harg12 arg13 harg13 arg14 arg15 v638_r0 x y = pure a := ⟨_, rfl⟩
theorem part55_eq (x y : BitVec 32) : ∃ a, k1_part55 (F := F) i arg2 harg2 arg3 harg3 arg4 harg4 arg5 harg5 arg6 harg6 arg7 harg7 arg8 harg8 arg9 harg9 arg10 harg10 arg11 harg11 arg12 harg12 arg13 harg13 arg14 arg15 v638_r0 x y = pure a := ⟨_, rfl⟩
theorem part56_eq (x y : BitVec 32) : ∃ a, k1_part56 (F := F) i arg2 harg2 arg3 harg3 arg4 harg4 arg5 harg5 arg6 harg6 arg7 harg7 arg8 harg8 arg9 harg9 arg10 harg10 arg11 harg11 arg12 harg12 arg13 harg13 arg14 arg15 v638_r0 x y = pure a := ⟨_, rfl⟩

set_option maxRecDepth 100000 in
set_option maxHeartbeats 4000000 in
/-- The two last items, as the last window has them. -/
theorem last46 : (Scf.Loop.for k1_t48_loop k1_t48_ok ⟨⟩ (k1_t48_body (F := F) i arg2 harg2 arg3 harg3 arg4 harg4 arg5 harg5 arg6 harg6 arg7 harg7 arg8 harg8 arg9 harg9 arg10 harg10 arg11 harg11 arg12 harg12 arg13 harg13 arg14 arg15 v638_r0) : PT F i Unit) = lp i arg9 arg10 arg11 arg12 46 := rfl
set_option maxRecDepth 100000 in
theorem last47 : (Scf.Loop.for k1_t49_loop k1_t49_ok ⟨⟩ (k1_t49_body (F := F) i arg2 harg2 arg3 harg3 arg4 harg4 arg5 harg5 arg6 harg6 arg7 harg7 arg8 harg8 arg9 harg9 arg10 harg10 arg11 harg11 arg12 harg12 arg13 harg13 arg14 arg15 v638_r0) : PT F i Unit) = lp i arg9 arg10 arg11 arg12 47 := rfl

set_option maxRecDepth 100000 in
set_option maxHeartbeats 4000000 in
/-- The printed task is the regular one. -/
theorem cc1_eq : cc1_sc (F := F) i arg2 harg2 arg3 harg3 arg4 harg4 arg5 harg5 arg6 harg6 arg7 harg7 arg8 harg8 arg9 harg9 arg10 harg10 arg11 harg11 arg12 harg12 arg13 harg13 arg14 arg15 v638_r0 = prog i arg2 harg2 arg3 harg3 arg4 harg4 arg5 harg5 arg6 harg6 arg7 harg7 arg8 harg8 arg9 harg9 arg10 harg10 arg11 harg11 arg12 harg12 arg13 harg13 arg14 arg15 v638_r0 := by
  obtain ⟨a, b, h52⟩ := part52_eq (F := F) i arg2 harg2 arg3 harg3 arg4 harg4 arg5 harg5 arg6 harg6 arg7 harg7 arg8 harg8 arg9 harg9 arg10 harg10 arg11 harg11 arg12 harg12 arg13 harg13 arg14 arg15 v638_r0
  obtain ⟨a53, h53⟩ := part53_eq (F := F) i arg2 harg2 arg3 harg3 arg4 harg4 arg5 harg5 arg6 harg6 arg7 harg7 arg8 harg8 arg9 harg9 arg10 harg10 arg11 harg11 arg12 harg12 arg13 harg13 arg14 arg15 v638_r0 a b
  obtain ⟨a54, h54⟩ := part54_eq (F := F) i arg2 harg2 arg3 harg3 arg4 harg4 arg5 harg5 arg6 harg6 arg7 harg7 arg8 harg8 arg9 harg9 arg10 harg10 arg11 harg11 arg12 harg12 arg13 harg13 arg14 arg15 v638_r0 a a53
  obtain ⟨a55, h55⟩ := part55_eq (F := F) i arg2 harg2 arg3 harg3 arg4 harg4 arg5 harg5 arg6 harg6 arg7 harg7 arg8 harg8 arg9 harg9 arg10 harg10 arg11 harg11 arg12 harg12 arg13 harg13 arg14 arg15 v638_r0 a a54
  obtain ⟨a56, h56⟩ := part56_eq (F := F) i arg2 harg2 arg3 harg3 arg4 harg4 arg5 harg5 arg6 harg6 arg7 harg7 arg8 harg8 arg9 harg9 arg10 harg10 arg11 harg11 arg12 harg12 arg13 harg13 arg14 arg15 v638_r0 a a55
  rw [cc1_sc_eq_skeleton]
  unfold cc1_sc_skel
  rw [k1_part75_eq_skeleton]
  unfold k1_part75_skel
  simp only [h52, h53, h54, h55, h56, bind_assoc, pure_bind, last46, last47, k1_part57_eq, k1_part58_eq, k1_part59_eq, k1_part60_eq, k1_part61_eq, k1_part62_eq, k1_part63_eq, k1_part64_eq, k1_part65_eq, k1_part66_eq, k1_part67_eq, k1_part68_eq, k1_part69_eq, k1_part70_eq, k1_part71_eq, k1_part72_eq, k1_part73_eq, k1_part74_eq]
  unfold prog tailP
  simp only [items, bind_assoc, pure_bind, Nat.reduceAdd]
  rfl

end Windows

end Cert.Proof.KI

end
-- ==== Proof.KI.Rules.lean ====
/-
  What a tile's memory holds, stated by what a memref READS: `holds thr m g` is a buffer whole in the tile's hands whose
  memref `m` reads `g`. The load, the store through a rectangle, the scattered addition and the copy, each as a rule
  between such statements, for any memref that is a whole buffer.
-/
module

public import proofs.«01_k».proof.Proof.KI.Prog
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

abbrev 𝒱₀ : Variants := Variants.none

section Holds

variable (thr : Thread nD τ) {sp : Space} {s : Shape} {e : EltTy}

/-- The memref's buffer whole, at contents the memref reads as `g`. -/
def holds (m : Memref sig thr.2.kind sp s e) (g : Vec F s e) : sProp 𝕄 :=
  iprop(∃ f : Buf (Elt F) (m.view.loc thr), ⌜m.view.read (Elt F) f = g⌝ ∗ (m.view.loc thr ↦{fullShare} f))

/-- Held at whatever it holds. -/
def some_ (m : Memref sig thr.2.kind sp s e) : sProp 𝕄 := iprop(∃ g : Vec F s e, holds (U := U) thr m g)

theorem holds_some (m : Memref sig thr.2.kind sp s e) (g : Vec F s e) : (holds (U := U) thr m g : sProp 𝕄) ⊢ some_ (U := U) thr m := by
  unfold some_
  iintro H
  iexists g; iexact H

end Holds

section Rules

variable (thr : Thread nD τ) {s : Shape} {e : EltTy} {α : Type}

/-- A load reads off the held contents. -/
theorem load_holds {m : Memref sig thr.2.kind .vmem s e} {r : LoadRect s} {hl : m.view.LoadsAt r}
    {k : (r.shape.Idx → Elt F e) → Prog (TpuEff nD τ sig (Elt F) Λ₀ thr.2) α} {g : Vec F s e} {Q : α → sProp 𝕄} :
    (holds (U := U) thr m g : sProp 𝕄)
      ⊢ iprop((holds (U := U) thr m g -∗ wp frame (wpE (defs₀ (F := F)) 𝒱₀ thr none) Set.univ (k (fun x => g (r.idx x))) Q)
        -∗ wp frame (wpE (defs₀ (F := F)) 𝒱₀ thr none) Set.univ (.op (.load m r hl) k) Q) := by
  unfold holds
  iintro ⟨%f, %hf, H⟩ Hk
  iapply (wp_load 𝒱₀ thr none Set.univ (m := m) (S := Finset.univ) (Finset.subset_univ _)) $$ H
  iintro H
  rw [show m.view.readAt (Elt F) r f = fun x => g (r.idx x) from funext fun x => by rw [View.readAt_apply, hf]]
  iapply Hk
  iexists f; isplitr; · ipureintro; exact hf
  iexact H

/-- A store through a rectangle rewrites the contents under it. -/
theorem store_holds {m : Memref sig thr.2.kind .vmem s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ thr.2) α} {g : Vec F s e} {Q : α → sProp 𝕄} :
    (holds (U := U) thr m g : sProp 𝕄)
      ⊢ iprop((∀ g' : Vec F s e, ⌜(∀ x, g' (r.emb x) = w x) ∧ ∀ y, y ∉ r.set → g' y = g y⌝ -∗ holds (U := U) thr m g'
          -∗ wp frame (wpE (defs₀ (F := F)) 𝒱₀ thr none) Set.univ (k ⟨⟩) Q)
        -∗ wp frame (wpE (defs₀ (F := F)) 𝒱₀ thr none) Set.univ (.op (.store m r w Finset.univ hx hm) k) Q) := by
  unfold holds
  iintro ⟨%f, %hf, H⟩ Hk
  iapply (wp_store 𝒱₀ thr none Set.univ (m := m) (r := r) (Mk := Finset.univ) (S := Finset.univ) (f := f) (Finset.subset_univ _)) $$ H
  iintro H
  iapply Hk $$ %(m.view.read (Elt F) ((m.access r).write (Elt F) f w Finset.univ))
  · ipureintro
    constructor
    · intro x
      exact congrFun (View.read_write_univ (v := m.access r) (Val := Elt F) f w) x
    · intro y hy
      rw [← hf, View.read_apply, View.read_apply, View.write_of_not_mem]
      intro hmem
      have h' : m.view.emb y ∈ (r.set).map m.view.emb := by
        rw [← View.set_slice]; exact hmem
      exact hy ((Finset.mem_map' m.view.emb).mp h')
  · iexists _; isplitr; · ipureintro; rfl
    iexact H

/-- The whole-rectangle access of a memref reads what the memref does, -/
theorem read_access_whole' {κ : Kind} {sp : Space} (m : Memref sig κ sp s e) (f : m.view.ty.Contents (Elt F)) :
    (m.access (.whole s)).read (Elt F) f = m.view.read (Elt F) f := by
  funext x
  show m.view.read (Elt F) f ((Rect.whole s).emb x) = _
  rw [Rect.emb_whole_apply]

/-- and covers it. -/
theorem set_access_whole' {κ : Kind} {sp : Space} {m : Memref sig κ sp s e} (h : m.IsWhole) : (m.access (.whole s)).set = Finset.univ := by
  rw [View.set_slice, Rect.set_whole]; exact h.set_eq_univ

/-- A scattered addition. -/
theorem scatter_holds {d : Fin 1 → Nat} {m : Memref sig thr.2.kind .vmem s e} (hw : m.IsWhole) {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ₀ thr.2) α} {g : Vec F s e} {Q : α → sProp 𝕄} :
    (holds (U := U) thr m g : sProp 𝕄)
      ⊢ iprop((holds (U := U) thr m (storeIdx g idxs v mask add h) -∗ wp frame (wpE (defs₀ (F := F)) 𝒱₀ thr none) Set.univ (k ⟨⟩) Q)
        -∗ wp frame (wpE (defs₀ (F := F)) 𝒱₀ thr none) Set.univ (SparseCore.vectorStoreIdx m idxs v mask add h hs >>= k) Q) := by
  unfold holds
  iintro ⟨%f, %hf, H⟩ Hk
  iapply (SparseCore.wp_vectorStoreIdx 𝒱₀ thr none Set.univ (base := m) (f := f)) $$ [H]
  · rw [set_access_whole' hw]; iexact H
  iintro H
  iapply Hk
  iexists _; isplitr
  rotate_left
  · rw [set_access_whole' hw]; iexact H
  · ipureintro
    rw [read_access_whole', hf]
    exact (read_access_whole' m _).symm.trans (View.read_write_univ _ _)

end Rules

end Cert.Proof.KI

end
-- ==== Proof.KI.Scat.lean ====
/-
  One item's work on its accumulator, as a value and as a proof of the loop: the words of the staged row taken in
  order, each adding the item's sign at the place it names (`scat`).
-/
module

public import proofs.«01_k».proof.Proof.KI.Rules

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

/-- One word counted: `c` added at the place it names. -/
def bump (c : F .f32) (w : BitVec 32) (g : Vec F S32768 .f32) : Vec F S32768 .f32 :=
  fun j => if (j 0).val = w.toNat then Elt.idxAdd .f32 (g j) c else g j

/-- The `n`-th word of a row (0 past its end). -/
def rowAt (row : Vec F S4096 .i32) (n : Nat) : BitVec 32 :=
  if h : n < 4096 then row (Shape.ofLane (d := ![4096]) ⟨n, h⟩) else 0#32

/-- The accumulator after the first `n` words of a row. -/
def scat (c : F .f32) (row : Vec F S4096 .i32) (g : Vec F S32768 .f32) : Nat → Vec F S32768 .f32
  | 0 => g
  | n + 1 => bump c (rowAt (F := F) row n) (scat c row g n)

theorem scat_add (c : F .f32) (row : Vec F S4096 .i32) (g : Vec F S32768 .f32) (n : Nat) : ∀ m : Nat,
    (List.finRange m).foldl (fun a (k : Fin m) => bump c (rowAt (F := F) row (n + k.val)) a) (scat c row g n) = scat c row g (n + m)
  | 0 => rfl
  | m + 1 => by
    rw [List.finRange_succ_last, List.foldl_append, List.foldl_map]
    have h := scat_add c row g n m
    simp only [Fin.val_castSucc] at *
    rw [h]
    rfl

theorem ofLane_eq (y : S4096.Idx) (n : Nat) (h : n < 4096) (hy : (y 0).val = n) : Shape.ofLane (d := ![4096]) ⟨n, h⟩ = y := by
  funext a
  obtain rfl : a = 0 := Subsingleton.elim _ _
  exact Fin.ext hy.symm

/-- Sixteen words scattered by the machine's one instruction are the next sixteen words of the row. -/
theorem storeIdx_scat (c : F .f32) (row : Vec F S4096 .i32) (g : Vec F S32768 .f32) (n : Nat) {off : Fin 1 → Nat}
    (inb : ∀ a, off a + S16.size a ≤ S4096.size a) (hn : off 0 = n)
    (h : ∀ a x, ((![fun x => row ((Rect.unit (s := S4096) off S16.size inb).toLoadRect.idx x)] : Fin 1 → IVec S16 32) a x).toNat < S32768.size a) :
    storeIdx (scat c row g n) (![fun x => row ((Rect.unit (s := S4096) off S16.size inb).toLoadRect.idx x)] : Fin 1 → IVec S16 32)
      (broadcast S16 c : FVec F S16 .f32) (fun _ => 1#1) true h = scat c row g (n + 16) := by
  rw [← scat_add c row g n 16]
  unfold storeIdx
  show List.foldl _ _ (List.finRange 16) = _
  congr 1
  funext a k
  have hb : n + k.val < 4096 := by
    have := inb 0
    have h16 : S16.size 0 = 16 := rfl
    have h4 : S4096.size 0 = 4096 := rfl
    have hk : k.val < 16 := k.isLt
    omega
  have hr : row ((Rect.unit (s := S4096) off S16.size inb).toLoadRect.idx (Shape.ofLane (d := ![16]) k)) = rowAt (F := F) row (n + k.val) := by
    rw [rowAt, dif_pos hb]
    congr 1
    refine (ofLane_eq _ _ hb ?_).symm
    show off 0 + 1 * k.val = _
    rw [hn, Nat.one_mul]
  show (if (1#1 : BitVec 1) = 1 then _ else _) = _
  rw [if_pos (show (1#1 : BitVec 1) = 1 from rfl)]
  funext j
  unfold bump
  have hi : ∀ b : Fin 1, (idxAt (s := S32768) (![fun x => row ((Rect.unit (s := S4096) off S16.size inb).toLoadRect.idx x)] : Fin 1 → IVec S16 32) h (Shape.ofLane (d := ![16]) k) b).val
      = (rowAt (F := F) row (n + k.val)).toNat := by
    intro b
    obtain rfl : b = 0 := Subsingleton.elim _ _
    rw [← hr]; rfl
  by_cases hj : (j 0).val = (rowAt (F := F) row (n + k.val)).toNat
  · rw [if_pos hj, if_pos]
    · refine congrArg (fun z => Elt.idxAdd .f32 (a z) c) ?_
      funext b
      obtain rfl : b = 0 := Subsingleton.elim _ _
      exact Fin.ext (by rw [hj]; exact hi 0)
    · intro b
      obtain rfl : b = 0 := Subsingleton.elim _ _
      rw [hj]; exact (hi 0).symm
  · rw [if_neg hj, if_neg]
    intro hall
    exact hj ((hall 0).trans (hi 0))

theorem chk_of {row : Vec F S4096 .i32} (hrow : ∀ y, (row y).toNat < 32768) (r : S16.Idx → S4096.Idx) : k1_chk1 (fun x => row (r x)) := by
  intro a x
  obtain rfl : a = 0 := Subsingleton.elim _ _
  exact hrow _

section Loop

variable (d : Dev nD) (i : grid1.Coords)

/-- The tile's thread. -/
abbrev thrV : Thread nD τ := V d ((i 0).castLE hcore1) ((i 1).castLE hsub1)

theorem off3 (t : Fin k1_t2_loop.trips) (r : Fin 16) : k1_off3 t (BitVec.ofNat 32 (16 * r.val)) 0 = 256 * t.val + 16 * r.val := by
  rw [k1_off3_eq]; rfl

/-- One of a trip's sixteen scattered additions. -/
theorem scat_step {acc : Memref sig .scVector .vmem S32768 .f32} (hacc : acc.IsWhole) (c : F .f32) (row : Vec F S4096 .i32) (g : Vec F S32768 .f32)
    (n : Nat) {off : Fin 1 → Nat} (hn : off 0 = n) {inb : ∀ a, off a + S16.size a ≤ S4096.size a}
    {h : ∀ a x, ((![fun x => row ((Rect.unit (s := S4096) off S16.size inb).toLoadRect.idx x)] : Fin 1 → IVec S16 32) a x).toNat < S32768.size a}
    {hs : (acc.access (.whole S32768)).Stores Finset.univ} {α : Type} {k : PUnit → PT F i α} {Q : α → sProp 𝕄} :
    (holds (U := U) (thrV d i) acc (scat c row g n) : sProp 𝕄)
      ⊢ iprop((holds (U := U) (thrV d i) acc (scat c row g (n + 16)) -∗ wp frame (wpE (defs₀ (F := F)) 𝒱₀ (thrV d i) none) Set.univ (k ⟨⟩) Q)
        -∗ wp frame (wpE (defs₀ (F := F)) 𝒱₀ (thrV d i) none) Set.univ
            (SparseCore.vectorStoreIdx acc ![fun x => row ((Rect.unit (s := S4096) off S16.size inb).toLoadRect.idx x)] (broadcast S16 c : FVec F S16 .f32)
              (fun _ => 1#1) true h hs >>= k) Q) := by
  rw [← storeIdx_scat c row g n inb hn h]
  exact scatter_holds (thrV d i) hacc

/-- The bound a body assumes of the words it loaded, when every word of the row has it. -/
theorem assume_step {row : Vec F S4096 .i32} (hrow : ∀ y, (row y).toNat < 32768) {r : S16.Idx → S4096.Idx} {dec : Decidable (k1_chk1 (fun x => row (r x)))}
    {α : Type} {k : PLift (k1_chk1 (fun x => row (r x))) → PT F i α} {Q : α → sProp 𝕄} :
    (wp frame (wpE (defs₀ (F := F)) 𝒱₀ (thrV d i) none) Set.univ (k ⟨chk_of hrow r⟩) Q : sProp 𝕄)
      ⊢ wp frame (wpE (defs₀ (F := F)) 𝒱₀ (thrV d i) none) Set.univ (.op (.assume (k1_chk1 (fun x => row (r x))) dec) k) Q :=
  Entails.of_eq (wp_assume_of _ _ _ _ (chk_of hrow r)).symm

set_option maxRecDepth 100000 in
/-- A trip takes the accumulator from the words before its 256 to those after them. -/
theorem trip_wp {buf : Memref sig .scVector .vmem S4096 .i32} {acc : Memref sig .scVector .vmem S32768 .f32} (hacc : acc.IsWhole) (c : F .f32)
    {row : Vec F S4096 .i32} (hrow : ∀ y, (row y).toNat < 32768) (g : Vec F S32768 .f32) (t : Fin k1_t2_loop.trips) :
    (iprop(holds (U := U) (thrV d i) buf row ∗ holds (U := U) (thrV d i) acc (scat c row g (256 * t.val))) : sProp 𝕄)
      ⊢ wp frame (wpE (defs₀ (F := F)) 𝒱₀ (thrV d i) none) Set.univ (trip i buf acc (broadcast S16 c) t)
          fun _ => iprop(holds (U := U) (thrV d i) buf row ∗ holds (U := U) (thrV d i) acc (scat c row g (256 * (t.val + 1)))) := by
  unfold trip
  simp only [Prog.lift, Prog.bind_op, Prog.bind_ret, Prog.pure_eq_ret]
  iintro ⟨Hb, Ha⟩
  iterate 16
    iapply (load_holds (U := U) (thrV d i)) $$ Hb
    iintro Hb
    iapply (assume_step d i hrow)
  iapply (scat_step d i hacc c row g (256 * t.val + 16 * 0) (off3 t 0)) $$ Ha; iintro Ha
  iapply (scat_step d i hacc c row g (256 * t.val + 16 * 1) (off3 t 1)) $$ Ha; iintro Ha
  iapply (scat_step d i hacc c row g (256 * t.val + 16 * 2) (off3 t 2)) $$ Ha; iintro Ha
  iapply (scat_step d i hacc c row g (256 * t.val + 16 * 3) (off3 t 3)) $$ Ha; iintro Ha
  iapply (scat_step d i hacc c row g (256 * t.val + 16 * 4) (off3 t 4)) $$ Ha; iintro Ha
  iapply (scat_step d i hacc c row g (256 * t.val + 16 * 5) (off3 t 5)) $$ Ha; iintro Ha
  iapply (scat_step d i hacc c row g (256 * t.val + 16 * 6) (off3 t 6)) $$ Ha; iintro Ha
  iapply (scat_step d i hacc c row g (256 * t.val + 16 * 7) (off3 t 7)) $$ Ha; iintro Ha
  iapply (scat_step d i hacc c row g (256 * t.val + 16 * 8) (off3 t 8)) $$ Ha; iintro Ha
  iapply (scat_step d i hacc c row g (256 * t.val + 16 * 9) (off3 t 9)) $$ Ha; iintro Ha
  iapply (scat_step d i hacc c row g (256 * t.val + 16 * 10) (off3 t 10)) $$ Ha; iintro Ha
  iapply (scat_step d i hacc c row g (256 * t.val + 16 * 11) (off3 t 11)) $$ Ha; iintro Ha
  iapply (scat_step d i hacc c row g (256 * t.val + 16 * 12) (off3 t 12)) $$ Ha; iintro Ha
  iapply (scat_step d i hacc c row g (256 * t.val + 16 * 13) (off3 t 13)) $$ Ha; iintro Ha
  iapply (scat_step d i hacc c row g (256 * t.val + 16 * 14) (off3 t 14)) $$ Ha; iintro Ha
  iapply (scat_step d i hacc c row g (256 * t.val + 16 * 15) (off3 t 15)) $$ Ha; iintro Ha
  rw [wp_ret]; imodintro
  isplitl [Hb]; · iexact Hb
  rw [show 256 * (t.val + 1) = 256 * t.val + 16 * 15 + 16 by omega]
  iexact Ha

theorem trips_item : k1_t2_loop.trips = 16 := by decide

/-- An item's loop takes its accumulator through the whole row. -/
theorem loop_wp {buf : Memref sig .scVector .vmem S4096 .i32} {acc : Memref sig .scVector .vmem S32768 .f32} (hacc : acc.IsWhole) (c : F .f32)
    {row : Vec F S4096 .i32} (hrow : ∀ y, (row y).toNat < 32768) (g : Vec F S32768 .f32) {α : Type} {k : Unit → PT F i α} {Q : α → sProp 𝕄} :
    (iprop(holds (U := U) (thrV d i) buf row ∗ holds (U := U) (thrV d i) acc g) : sProp 𝕄)
      ⊢ iprop((iprop(holds (U := U) (thrV d i) buf row ∗ holds (U := U) (thrV d i) acc (scat c row g 4096))
            -∗ wp frame (wpE (defs₀ (F := F)) 𝒱₀ (thrV d i) none) Set.univ (k ⟨⟩) Q)
        -∗ wp frame (wpE (defs₀ (F := F)) 𝒱₀ (thrV d i) none) Set.univ
            (Scf.Loop.for k1_t2_loop k1_t2_ok ⟨⟩ (fun t _ => trip i buf acc (broadcast S16 c) t) >>= k) Q) := by
  iintro H Hk
  iapply (Scf.wp_for_bind frame (wpE (defs₀ (F := F)) 𝒱₀ (thrV d i) none) Set.univ _ _ _ k1_t2_ok ⟨⟩ (fun t _ => trip i buf acc (broadcast S16 c) t)
    (fun n _ => iprop(holds (U := U) (thrV d i) buf row ∗ holds (U := U) (thrV d i) acc (scat c row g (256 * n))))
    (fun t _ => trip_wp d i hacc c hrow g t)) $$ [H]
  · iexact H
  iintro %_ H
  iapply Hk
  iexact H

end Loop

end Cert.Proof.KI

end
-- ==== Proof.KI.Items.lean ====
/-
  The forty-eight items, run by induction: at most two copies are outstanding, one to a staging buffer, and while an
  item's row is scattered the next one's is on its way into the other buffer.
-/
module

public import proofs.«01_k».proof.Proof.KI.Scat

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

theorem par_add_two {α : Type} (a b : α) (k : Nat) : par a b (k + 2) = par a b k := by
  unfold par; rw [Nat.add_mod_right]

theorem pick_lo {α : Type} (a b : α) : ∀ f : Fin 6, f.val < 2 → pick a a b b b b f = a
  | 0, _ => rfl
  | 1, _ => rfl
  | ⟨n + 2, _⟩, h => absurd h (by simp)

theorem pick_hi {α : Type} (a b : α) : ∀ f : Fin 6, ¬ f.val < 2 → pick a a b b b b f = b
  | 0, h => absurd (by decide) h
  | 1, h => absurd (by decide) h
  | 2, _ => rfl
  | 3, _ => rfl
  | 4, _ => rfl
  | 5, _ => rfl

section Items

variable (d : Dev nD) (i : grid1.Coords) (arg2 arg3 arg4 arg5 arg6 arg7 : Memref sig .scVector .hbm S256x4096 .i32)
  (arg9 : Memref sig .scVector .vmem S32768 .f32) (harg9 : arg9.IsWhole) (arg10 : Memref sig .scVector .vmem S32768 .f32) (harg10 : arg10.IsWhole)
  (arg11 : Memref sig .scVector .vmem S4096 .i32) (harg11 : arg11.IsWhole) (arg12 : Memref sig .scVector .vmem S4096 .i32) (harg12 : arg12.IsWhole)
  (arg14 arg15 : DmaSems sig S_)

/-- The six index arrays by field. -/
abbrev src (f : Fin 6) : Memref sig .scVector .hbm S256x4096 .i32 := pick arg2 arg3 arg4 arg5 arg6 arg7 f

/-- The row of item `k`, and what it holds when the six arrays hold `W`. -/
abbrev itemM (k : Nat) : Memref sig .scVector .hbm S4096 .i32 := rowM i (src arg2 arg3 arg4 arg5 arg6 arg7 (fld k)) (bat k) (bnd k)

variable (W : (f : Fin 6) → Buf (Elt F) ((src arg2 arg3 arg4 arg5 arg6 arg7 f).view.loc (thrV d i)))

def rowV (k : Nat) : Vec F S4096 .i32 := (itemM i arg2 arg3 arg4 arg5 arg6 arg7 k).view.read (Elt F) (W (fld k))

/-- The two accumulators after one more item. -/
def accStep (k : Nat) (a : Vec F S32768 .f32 × Vec F S32768 .f32) : Vec F S32768 .f32 × Vec F S32768 .f32 :=
  if (fld k).val < 2 then (scat (sg (fld k)) (rowV d i arg2 arg3 arg4 arg5 arg6 arg7 W k) a.1 4096, a.2)
  else (a.1, scat (sg (fld k)) (rowV d i arg2 arg3 arg4 arg5 arg6 arg7 W k) a.2 4096)

/-- The two accumulators after the items below `k`, from `a`. -/
def accs (a : Vec F S32768 .f32 × Vec F S32768 .f32) : Nat → Vec F S32768 .f32 × Vec F S32768 .f32
  | 0 => a
  | k + 1 => accStep d i arg2 arg3 arg4 arg5 arg6 arg7 W k (accs a k)

/-- A read share of all six arrays. -/
def srcs (q : PosShare TreeShare) : sProp 𝕄 :=
  bigSep Finset.univ fun f : Fin 6 => ((src arg2 arg3 arg4 arg5 arg6 arg7 f).view.loc (thrV d i) ↦{q} W f)

variable (ql qr : PosShare TreeShare)

/-- The share of item `k`'s row that its copy reads. -/
def rowPts (k : Nat) : sProp 𝕄 :=
  ((itemM i arg2 arg3 arg4 arg5 arg6 arg7 k).view.loc (thrV d i) ↦[(itemM i arg2 arg3 arg4 arg5 arg6 arg7 k).view.set]{par ql qr k} W (fld k))

/-- Item `k`'s staging buffer, semaphore and shares, none in use; and the same with its copy on the way. -/
def Free (k : Nat) : sProp 𝕄 :=
  iprop(some_ (U := U) (thrV d i) (par arg11 arg12 k) ∗ semVal ((thrV d i), SemLoc.dma (par arg14 arg15 k).sem) 0
    ∗ srcs d i arg2 arg3 arg4 arg5 arg6 arg7 W (par ql qr k))

def Fly (k : Nat) : sProp 𝕄 :=
  iprop(Transfers.Flight countersEmb (thrV d i) (SemLoc.dma (par arg14 arg15 k).sem) (none : HIx 1) (par arg11 arg12 k).view.dmaCredit
      iprop(holds (U := U) (thrV d i) (par arg11 arg12 k) (rowV d i arg2 arg3 arg4 arg5 arg6 arg7 W k) ∗ rowPts d i arg2 arg3 arg4 arg5 arg6 arg7 W ql qr k)
    ∗ (rowPts d i arg2 arg3 arg4 arg5 arg6 arg7 W ql qr k -∗ srcs d i arg2 arg3 arg4 arg5 arg6 arg7 W (par ql qr k)))

theorem srcs_row (k : Nat) : (srcs d i arg2 arg3 arg4 arg5 arg6 arg7 W (par ql qr k) : sProp 𝕄)
    ⊢ iprop(rowPts d i arg2 arg3 arg4 arg5 arg6 arg7 W ql qr k
        ∗ (rowPts d i arg2 arg3 arg4 arg5 arg6 arg7 W ql qr k -∗ srcs d i arg2 arg3 arg4 arg5 arg6 arg7 W (par ql qr k))) := by
  unfold srcs rowPts
  rw [SparseCore.bigSep_erase' (Finset.mem_univ (fld k))]
  iintro ⟨H, Hr⟩
  ihave H' := (pointsTo_split_subset (Finset.subset_univ (itemM i arg2 arg3 arg4 arg5 arg6 arg7 k).view.set)).1 $$ H
  icases H' with ⟨H1, H2⟩
  isplitl [H1]; · iexact H1
  iintro H1
  isplitr [Hr]
  · iapply (pointsTo_split_subset (Finset.subset_univ (itemM i arg2 arg3 arg4 arg5 arg6 arg7 k).view.set)).2
    isplitl [H1] <;> iassumption
  · iexact Hr

/-- A copy's issue. -/
theorem enq_wp (k : Nat) {α : Type} {kk : PUnit → PT F i α} {Q : α → sProp 𝕄} :
    (Free (U := U) d i arg2 arg3 arg4 arg5 arg6 arg7 arg11 arg12 arg14 arg15 W ql qr k : sProp 𝕄)
      ⊢ iprop((Fly (U := U) d i arg2 arg3 arg4 arg5 arg6 arg7 arg11 arg12 arg14 arg15 W ql qr k -∗ wp frame (wpE (defs₀ (F := F)) 𝒱₀ (thrV d i) none) Set.univ (kk ⟨⟩) Q)
        -∗ wp frame (wpE (defs₀ (F := F)) 𝒱₀ (thrV d i) none) Set.univ
            (enq i arg2 arg3 arg4 arg5 arg6 arg7 arg11 harg11 arg12 harg12 arg14 arg15 k >>= kk) Q) := by
  unfold Free some_ holds
  iintro ⟨⟨%g, %f, %hf, Hb⟩, Hs, Hsrc⟩ Hk
  ihave Hsrc' := (srcs_row d i arg2 arg3 arg4 arg5 arg6 arg7 W ql qr k) $$ Hsrc
  icases Hsrc' with ⟨Hrow, Hback⟩
  unfold enq
  simp only [Prog.lift, Prog.bind_op, Prog.bind_ret]
  unfold rowPts
  iapply (Transfers.wp_dmaLocal countersEmb 𝒱₀ (thrV d i) none (src := itemM i arg2 arg3 arg4 arg5 arg6 arg7 k) (dst := par arg11 arg12 k)
    (sm := SemLoc.dma (par arg14 arg15 k).sem) (q := par ql qr k) (fs := W (fld k)) (Sd := Finset.univ) (fd := f)
    (none : HIx 1) (par arg11 arg12 k).view.dmaCredit rfl (View.dmaCredit_pos _ (show 0 < S4096.numel by decide)) (Finset.subset_univ _)) $$ [Hrow Hb Hs]
  · isplitl [Hrow]; · iexact Hrow
    isplitl [Hb]; · iexact Hb
    iexact Hs
  iintro Hfl
  iapply Hk
  unfold Fly
  isplitl [Hfl]
  · iapply (Transfers.Flight_mono countersEmb (thrV d i) ?_) $$ Hfl
    unfold holds rowPts
    iintro ⟨Hd, Hr⟩
    isplitl [Hd]
    · iexists _; isplitr
      rotate_left
      · iexact Hd
      · ipureintro
        exact View.read_write_univ _ _
    · iexact Hr
  · unfold rowPts; iexact Hback

/-- A copy's wait. -/
theorem wt_wp (k : Nat) {O : CellTallies nD τ sig (HIx 1)} {Wt : Waits sig (HIx 1)} {α : Type} {kk : PUnit → PT F i α} {Q : α → sProp 𝕄} :
    (iprop(Fly (U := U) d i arg2 arg3 arg4 arg5 arg6 arg7 arg11 arg12 arg14 arg15 W ql qr k ∗ owes (thrV d i) O Wt
        ∗ Transfers.MayWaits (thrV d i) (none : HIx 1) O) : sProp 𝕄)
      ⊢ iprop((iprop(holds (U := U) (thrV d i) (par arg11 arg12 k) (rowV d i arg2 arg3 arg4 arg5 arg6 arg7 W k)
            ∗ semVal ((thrV d i), SemLoc.dma (par arg14 arg15 k).sem) 0 ∗ srcs d i arg2 arg3 arg4 arg5 arg6 arg7 W (par ql qr k)
            ∗ owes (thrV d i) O (insert (SemLoc.dma (par arg14 arg15 k).sem, (none : HIx 1)) Wt))
          -∗ wp frame (wpE (defs₀ (F := F)) 𝒱₀ (thrV d i) none) Set.univ (kk ⟨⟩) Q)
        -∗ wp frame (wpE (defs₀ (F := F)) 𝒱₀ (thrV d i) none) Set.univ
            (wt i arg2 arg3 arg4 arg5 arg6 arg7 arg11 harg11 arg12 harg12 arg14 arg15 k >>= kk) Q) := by
  unfold Fly
  iintro ⟨⟨Hfl, Hback⟩, HO, Hmw⟩ Hk
  unfold wt
  simp only [Prog.lift, Prog.bind_op, Prog.bind_ret]
  iapply (Transfers.wp_waitLocalO countersEmb 𝒱₀ (thrV d i) none (none : HIx 1) rfl) $$ [Hfl HO Hmw]
  · isplitl [Hfl]; · iexact Hfl
    isplitl [HO]; · iexact HO
    iapply (Transfers.MayWaits.elim _) $$ Hmw
  iintro ⟨⟨Hb, Hrow⟩, Hs, HO⟩
  iapply Hk
  isplitl [Hb]; · iexact Hb
  isplitl [Hs]; · iexact Hs
  isplitl [Hback Hrow]; · iapply Hback $$ Hrow
  iexact HO

variable (hW : ∀ k, ∀ y, (rowV d i arg2 arg3 arg4 arg5 arg6 arg7 W k y).toNat < 32768)

include harg9 harg10 hW in
/-- An item's loop. -/
theorem lp_wp (k : Nat) (a : Vec F S32768 .f32 × Vec F S32768 .f32) {α : Type} {kk : Unit → PT F i α} {Q : α → sProp 𝕄} :
    (iprop(holds (U := U) (thrV d i) (par arg11 arg12 k) (rowV d i arg2 arg3 arg4 arg5 arg6 arg7 W k)
        ∗ holds (U := U) (thrV d i) arg9 a.1 ∗ holds (U := U) (thrV d i) arg10 a.2) : sProp 𝕄)
      ⊢ iprop((iprop(holds (U := U) (thrV d i) (par arg11 arg12 k) (rowV d i arg2 arg3 arg4 arg5 arg6 arg7 W k)
            ∗ holds (U := U) (thrV d i) arg9 (accStep d i arg2 arg3 arg4 arg5 arg6 arg7 W k a).1
            ∗ holds (U := U) (thrV d i) arg10 (accStep d i arg2 arg3 arg4 arg5 arg6 arg7 W k a).2)
          -∗ wp frame (wpE (defs₀ (F := F)) 𝒱₀ (thrV d i) none) Set.univ (kk ⟨⟩) Q)
        -∗ wp frame (wpE (defs₀ (F := F)) 𝒱₀ (thrV d i) none) Set.univ (lp i arg9 arg10 arg11 arg12 k >>= kk) Q) := by
  iintro ⟨Hb, H9, H10⟩ Hk
  unfold lp sgnOf accStep
  by_cases hf : (fld k).val < 2
  · rw [pick_lo _ _ _ hf, if_pos hf]
    iapply (loop_wp d i harg9 (sg (fld k)) (hW k) a.1) $$ [Hb H9]
    · isplitl [Hb] <;> iassumption
    iintro ⟨Hb, H9⟩
    iapply Hk
    isplitl [Hb]; · iexact Hb
    isplitl [H9] <;> iassumption
  · rw [pick_hi _ _ _ hf, if_neg hf]
    iapply (loop_wp d i harg10 (sg (fld k)) (hW k) a.2) $$ [Hb H10]
    · isplitl [Hb] <;> iassumption
    iintro ⟨Hb, H10⟩
    iapply Hk
    isplitl [Hb]; · iexact Hb
    isplitl [H9] <;> iassumption

/-- Before item `j`: its copy on the way, the next one's things free, the accumulators as the items below left them. -/
def Inv (a : Vec F S32768 .f32 × Vec F S32768 .f32) (O : CellTallies nD τ sig (HIx 1)) (Wt : Waits sig (HIx 1)) (j : Nat) : sProp 𝕄 :=
  iprop(Fly (U := U) d i arg2 arg3 arg4 arg5 arg6 arg7 arg11 arg12 arg14 arg15 W ql qr j
    ∗ Free (U := U) d i arg2 arg3 arg4 arg5 arg6 arg7 arg11 arg12 arg14 arg15 W ql qr (j + 1)
    ∗ holds (U := U) (thrV d i) arg9 (accs d i arg2 arg3 arg4 arg5 arg6 arg7 W a j).1
    ∗ holds (U := U) (thrV d i) arg10 (accs d i arg2 arg3 arg4 arg5 arg6 arg7 W a j).2
    ∗ Transfers.MayWaits (thrV d i) (none : HIx 1) O
    ∗ ∃ W', ⌜∀ p ∈ W', p ∈ Wt ∨ p.2 = none⌝ ∗ owes (thrV d i) O W')

theorem waits_insert {Wt W' : Waits sig (HIx 1)} (h : ∀ p ∈ W', p ∈ Wt ∨ p.2 = none) (sm : SemLoc sig) :
    ∀ p ∈ insert (sm, (none : HIx 1)) W', p ∈ Wt ∨ p.2 = none := by
  intro p hp
  rcases Finset.mem_insert.mp hp with rfl | hp
  · exact .inr rfl
  · exact h p hp

include harg9 harg10 hW in
/-- `n` items from the `j`-th take the invariant at `j` to the invariant at `j + n`. -/
theorem items_wp (a : Vec F S32768 .f32 × Vec F S32768 .f32) (O : CellTallies nD τ sig (HIx 1)) (Wt : Waits sig (HIx 1)) (kk : PT F i PUnit) {Q : PUnit → sProp 𝕄} :
    ∀ n j : Nat, (Inv (U := U) d i arg2 arg3 arg4 arg5 arg6 arg7 arg9 arg10 arg11 arg12 arg14 arg15 W ql qr a O Wt j : sProp 𝕄)
      ⊢ iprop((Inv (U := U) d i arg2 arg3 arg4 arg5 arg6 arg7 arg9 arg10 arg11 arg12 arg14 arg15 W ql qr a O Wt (j + n)
          -∗ wp frame (wpE (defs₀ (F := F)) 𝒱₀ (thrV d i) none) Set.univ kk Q)
        -∗ wp frame (wpE (defs₀ (F := F)) 𝒱₀ (thrV d i) none) Set.univ
            (items i arg2 arg3 arg4 arg5 arg6 arg7 arg9 arg10 arg11 harg11 arg12 harg12 arg14 arg15 n j kk) Q)
  | 0, j => by
    rw [items]
    iintro HI Hk
    iapply Hk
    iexact HI
  | n + 1, j => by
    have hrec := items_wp a O Wt kk (Q := Q) n (j + 1)
    rw [items]
    unfold Inv
    iintro ⟨Hfl, Hfree, H9, H10, #Hmw, %W', %hW', HO⟩ Hk
    iapply (enq_wp d i arg2 arg3 arg4 arg5 arg6 arg7 arg11 harg11 arg12 harg12 arg14 arg15 W ql qr (j + 1)) $$ Hfree
    iintro Hnext
    iapply (wt_wp d i arg2 arg3 arg4 arg5 arg6 arg7 arg11 harg11 arg12 harg12 arg14 arg15 W ql qr j) $$ [Hfl HO]
    · isplitl [Hfl]; · iexact Hfl
      isplitl [HO]; · iexact HO
      iexact Hmw
    iintro ⟨Hb, Hs, Hsrc, HO⟩
    iapply (lp_wp d i arg2 arg3 arg4 arg5 arg6 arg7 arg9 harg9 arg10 harg10 arg11 arg12 W hW j (accs d i arg2 arg3 arg4 arg5 arg6 arg7 W a j)) $$ [Hb H9 H10]
    · isplitl [Hb]; · iexact Hb
      isplitl [H9] <;> iassumption
    iintro ⟨Hb, H9, H10⟩
    unfold Inv at hrec
    iapply hrec $$ [Hnext Hb Hs Hsrc H9 H10 HO]
    · isplitl [Hnext]; · iexact Hnext
      isplitl [Hb Hs Hsrc]
      · unfold Free
        rw [par_add_two, par_add_two, par_add_two]
        isplitl [Hb]; · iapply (holds_some (thrV d i) _ _) $$ Hb
        isplitl [Hs] <;> iassumption
      isplitl [H9]; · iexact H9
      isplitl [H10]; · iexact H10
      isplitr; · iexact Hmw
      iexists _; isplitr
      rotate_left
      · iexact HO
      · ipureintro; exact waits_insert hW' _
    · rw [show j + 1 + n = j + (n + 1) by omega]
      iexact Hk

end Items

end Cert.Proof.KI

end
-- ==== Proof.KI.Body.lean ====
/-
  The whole task of one tile: the accumulators zeroed, the items, the two sums and the tile's row of the result.
-/
module

public import proofs.«01_k».proof.Proof.KI.Items

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

/-- The zero word, and an accumulator of zeros. -/
abbrev z0 : F .f32 := Scalar.ofBits .f32 0x00000000#32
def zeroA : Vec F S32768 .f32 := fun _ => z0

/-- Sixteen lanes of an accumulator from place `n`. -/
def chunk (g : Vec F S32768 .f32) (n : Nat) : FVec F S16 .f32 :=
  fun x => if h : n + (x 0).val < 32768 then g (Shape.ofLane (d := ![32768]) ⟨n + (x 0).val, h⟩) else z0

/-- The eight lane sums of absolute values, before a trip and after it. -/
abbrev Eight (F : FTy → Type) : Type := FVec F S16 .f32 × FVec F S16 .f32 × FVec F S16 .f32 × FVec F S16 .f32 × FVec F S16 .f32 × FVec F S16 .f32 × FVec F S16 .f32 × FVec F S16 .f32

def redStep (h e : Vec F S32768 .f32) (n : Nat) (c : Eight F) : Eight F :=
  (k1_pay51 c.1 (chunk h n) (chunk h (n + 64)),
   k1_pay53 c.2.1 (chunk h (n + 16)) (chunk h (n + 80)),
   k1_pay55 c.2.2.1 (chunk h (n + 32)) (chunk h (n + 96)),
   k1_pay57 c.2.2.2.1 (chunk h (n + 48)) (chunk h (n + 112)),
   k1_pay52 c.2.2.2.2.1 (chunk e n) (chunk e (n + 64)),
   k1_pay54 c.2.2.2.2.2.1 (chunk e (n + 16)) (chunk e (n + 80)),
   k1_pay56 c.2.2.2.2.2.2.1 (chunk e (n + 32)) (chunk e (n + 96)),
   k1_pay58 c.2.2.2.2.2.2.2 (chunk e (n + 48)) (chunk e (n + 112)))

def red (h e : Vec F S32768 .f32) : Nat → Eight F
  | 0 => (k1_pay2, k1_pay2, k1_pay2, k1_pay2, k1_pay2, k1_pay2, k1_pay2, k1_pay2)
  | t + 1 => redStep h e (128 * t) (red h e t)

/-- The row a tile writes: sixteen lanes of the first accumulator's sums, sixteen of the second's. -/
def ovec (h e : Vec F S32768 .f32) : Vec F S32 .f32 := fun y =>
  let r := red h e 256
  if hy : (y 0).val < 16 then k1_pay59 r.1 r.2.1 r.2.2.1 r.2.2.2.1 (Shape.ofLane (d := ![16]) ⟨(y 0).val, hy⟩)
  else k1_pay1 r.2.2.2.2.1 r.2.2.2.2.2.1 r.2.2.2.2.2.2.1 r.2.2.2.2.2.2.2 (Shape.ofLane (d := ![16]) ⟨(y 0).val - 16, by
    have : (y 0).val < 32 := (y 0).isLt
    show _ < 16
    omega⟩)

/-- A rectangle of consecutive lanes of a line: what its lanes are, and which they are not. -/
theorem unit_emb {n m : Nat} {off : Fin 1 → Nat} (inb : ∀ a, off a + (⟨1, ![m]⟩ : Shape).size a ≤ (⟨1, ![n]⟩ : Shape).size a)
    (x : (⟨1, ![m]⟩ : Shape).Idx) : (((Rect.unit (s := ⟨1, ![n]⟩) off (⟨1, ![m]⟩ : Shape).size inb).emb x) 0).val = off 0 + (x 0).val := by
  show off 0 + 1 * (x 0).val = _
  omega

theorem unit_mem {n m : Nat} {off : Fin 1 → Nat} (inb : ∀ a, off a + (⟨1, ![m]⟩ : Shape).size a ≤ (⟨1, ![n]⟩ : Shape).size a)
    (y : (⟨1, ![n]⟩ : Shape).Idx) (h1 : off 0 ≤ (y 0).val) (h2 : (y 0).val < off 0 + m) :
    (Rect.unit (s := ⟨1, ![n]⟩) off (⟨1, ![m]⟩ : Shape).size inb).emb (Shape.ofLane (d := ![m]) ⟨(y 0).val - off 0, by show _ < m; omega⟩) = y := by
  funext a
  obtain rfl : a = 0 := Subsingleton.elim _ _
  apply Fin.ext
  rw [unit_emb]
  show off 0 + ((y 0).val - off 0) = _
  omega

theorem unit_not_mem {n m : Nat} {off : Fin 1 → Nat} (inb : ∀ a, off a + (⟨1, ![m]⟩ : Shape).size a ≤ (⟨1, ![n]⟩ : Shape).size a)
    (y : (⟨1, ![n]⟩ : Shape).Idx) (h : (y 0).val < off 0 ∨ off 0 + m ≤ (y 0).val) :
    y ∉ (Rect.unit (s := ⟨1, ![n]⟩) off (⟨1, ![m]⟩ : Shape).size inb).set := by
  intro hm
  have h0 := Rect.mem_set_unit.mp hm 0
  have : (⟨1, ![m]⟩ : Shape).size 0 = m := rfl
  omega

section Task

variable (d : Dev nD) (i : grid1.Coords) (arg2 : Memref sig .scVector .hbm S256x4096 .i32) (harg2 : arg2.IsWhole) (arg3 : Memref sig .scVector .hbm S256x4096 .i32) (harg3 : arg3.IsWhole) (arg4 : Memref sig .scVector .hbm S256x4096 .i32) (harg4 : arg4.IsWhole) (arg5 : Memref sig .scVector .hbm S256x4096 .i32) (harg5 : arg5.IsWhole) (arg6 : Memref sig .scVector .hbm S256x4096 .i32) (harg6 : arg6.IsWhole) (arg7 : Memref sig .scVector .hbm S256x4096 .i32) (harg7 : arg7.IsWhole) (arg8 : Memref sig .scVector .hbm S32x32 .f32) (harg8 : arg8.IsWhole) (arg9 : Memref sig .scVector .vmem S32768 .f32) (harg9 : arg9.IsWhole) (arg10 : Memref sig .scVector .vmem S32768 .f32) (harg10 : arg10.IsWhole) (arg11 : Memref sig .scVector .vmem S4096 .i32) (harg11 : arg11.IsWhole) (arg12 : Memref sig .scVector .vmem S4096 .i32) (harg12 : arg12.IsWhole) (arg13 : Memref sig .scVector .vmem S32 .f32) (harg13 : arg13.IsWhole) (arg14 arg15 v638_r0 : DmaSems sig S_)

/-- An accumulator whose first `n` places hold zero. -/
def Zd (acc : Memref sig .scVector .vmem S32768 .f32) (n : Nat) : sProp 𝕄 :=
  iprop(∃ g : Vec F S32768 .f32, ⌜∀ y, (y 0).val < n → g y = z0⌝ ∗ holds (U := U) (thrV d i) acc g)

/-- Sixteen more places zeroed. -/
theorem zero_step {acc : Memref sig .scVector .vmem S32768 .f32} (n : Nat) {off : Fin 1 → Nat} (hn : off 0 = n) {inb : ∀ a, off a + S16.size a ≤ S32768.size a}
    {hl : acc.view.LoadsAt (Rect.unit (s := S32768) off S16.size inb).toLoadRect} {hx : (acc.access (Rect.unit (s := S32768) off S16.size inb)).Stores Finset.univ}
    {hm : (Finset.univ : Finset (Rect.unit (s := S32768) off S16.size inb).shape.Idx) = Finset.univ ∨ ∀ a, (Rect.unit (s := S32768) off S16.size inb).stride a = 1}
    {α : Type} {k : PUnit → PT F i α} {Q : α → sProp 𝕄} :
    (Zd (U := U) d i acc n : sProp 𝕄)
      ⊢ iprop((Zd (U := U) d i acc (n + 16) -∗ wp frame (wpE (defs₀ (F := F)) 𝒱₀ (thrV d i) none) Set.univ (k ⟨⟩) Q)
        -∗ wp frame (wpE (defs₀ (F := F)) 𝒱₀ (thrV d i) none) Set.univ
            (.op (.load acc (Rect.unit (s := S32768) off S16.size inb).toLoadRect hl) fun _ =>
              .op (.store acc (Rect.unit (s := S32768) off S16.size inb) (k1_pay2 (F := F)) Finset.univ hx hm) k) Q) := by
  unfold Zd
  iintro ⟨%g, %hg, H⟩ Hk
  iapply (load_holds (U := U) (thrV d i)) $$ H
  iintro H
  iapply (store_holds (U := U) (thrV d i)) $$ H
  iintro %g' %hg' H
  iapply Hk
  iexists g'; isplitr
  · ipureintro
    intro y hy
    by_cases h : (y 0).val < n
    · rw [hg'.2 y (unit_not_mem inb y (.inl (by rw [hn]; exact h)))]
      exact hg y h
    · rw [← unit_mem (m := 16) inb y (by omega) (by omega), hg'.1]
      rfl
  · iexact H

theorem off1 (t : Fin k1_t1_loop.trips) (r : Fin 16) : k1_off1 t (BitVec.ofNat 32 (16 * r.val)) 0 = 256 * t.val + 16 * r.val := by
  rw [k1_off1_eq]; rfl

set_option maxHeartbeats 2000000 in
/-- A trip of the zeroing loop. -/
theorem zero_trip (t : Fin k1_t1_loop.trips) :
    (iprop(Zd (U := U) d i arg9 (256 * t.val) ∗ Zd (U := U) d i arg10 (256 * t.val)) : sProp 𝕄)
      ⊢ wp frame (wpE (defs₀ (F := F)) 𝒱₀ (thrV d i) none) Set.univ (k1_t1_body i arg2 harg2 arg3 harg3 arg4 harg4 arg5 harg5 arg6 harg6 arg7 harg7 arg8 harg8 arg9 harg9 arg10 harg10 arg11 harg11 arg12 harg12 arg13 harg13 arg14 arg15 v638_r0 t ⟨⟩)
          fun _ => iprop(Zd (U := U) d i arg9 (256 * (t.val + 1)) ∗ Zd (U := U) d i arg10 (256 * (t.val + 1))) := by
  unfold k1_t1_body
  rw [k1_part1_eq_skeleton, k1_part2_eq_skeleton]
  unfold k1_part1_skel k1_part2_skel
  simp only [Prog.lift, Prog.bind_op, Prog.bind_ret, Prog.pure_eq_ret]
  iintro ⟨H9, H10⟩
  iapply (zero_step d i (256 * t.val + 16 * 0) (off1 t 0)) $$ H9; iintro H9
  iapply (zero_step d i (256 * t.val + 16 * 0) (off1 t 0)) $$ H10; iintro H10
  iapply (zero_step d i (256 * t.val + 16 * 1) (off1 t 1)) $$ H9; iintro H9
  iapply (zero_step d i (256 * t.val + 16 * 1) (off1 t 1)) $$ H10; iintro H10
  iapply (zero_step d i (256 * t.val + 16 * 2) (off1 t 2)) $$ H9; iintro H9
  iapply (zero_step d i (256 * t.val + 16 * 2) (off1 t 2)) $$ H10; iintro H10
  iapply (zero_step d i (256 * t.val + 16 * 3) (off1 t 3)) $$ H9; iintro H9
  iapply (zero_step d i (256 * t.val + 16 * 3) (off1 t 3)) $$ H10; iintro H10
  iapply (zero_step d i (256 * t.val + 16 * 4) (off1 t 4)) $$ H9; iintro H9
  iapply (zero_step d i (256 * t.val + 16 * 4) (off1 t 4)) $$ H10; iintro H10
  iapply (zero_step d i (256 * t.val + 16 * 5) (off1 t 5)) $$ H9; iintro H9
  iapply (zero_step d i (256 * t.val + 16 * 5) (off1 t 5)) $$ H10; iintro H10
  iapply (zero_step d i (256 * t.val + 16 * 6) (off1 t 6)) $$ H9; iintro H9
  iapply (zero_step d i (256 * t.val + 16 * 6) (off1 t 6)) $$ H10; iintro H10
  iapply (zero_step d i (256 * t.val + 16 * 7) (off1 t 7)) $$ H9; iintro H9
  iapply (zero_step d i (256 * t.val + 16 * 7) (off1 t 7)) $$ H10; iintro H10
  iapply (zero_step d i (256 * t.val + 16 * 8) (off1 t 8)) $$ H9; iintro H9
  iapply (zero_step d i (256 * t.val + 16 * 8) (off1 t 8)) $$ H10; iintro H10
  iapply (zero_step d i (256 * t.val + 16 * 9) (off1 t 9)) $$ H9; iintro H9
  iapply (zero_step d i (256 * t.val + 16 * 9) (off1 t 9)) $$ H10; iintro H10
  iapply (zero_step d i (256 * t.val + 16 * 10) (off1 t 10)) $$ H9; iintro H9
  iapply (zero_step d i (256 * t.val + 16 * 10) (off1 t 10)) $$ H10; iintro H10
  iapply (zero_step d i (256 * t.val + 16 * 11) (off1 t 11)) $$ H9; iintro H9
  iapply (zero_step d i (256 * t.val + 16 * 11) (off1 t 11)) $$ H10; iintro H10
  iapply (zero_step d i (256 * t.val + 16 * 12) (off1 t 12)) $$ H9; iintro H9
  iapply (zero_step d i (256 * t.val + 16 * 12) (off1 t 12)) $$ H10; iintro H10
  iapply (zero_step d i (256 * t.val + 16 * 13) (off1 t 13)) $$ H9; iintro H9
  iapply (zero_step d i (256 * t.val + 16 * 13) (off1 t 13)) $$ H10; iintro H10
  iapply (zero_step d i (256 * t.val + 16 * 14) (off1 t 14)) $$ H9; iintro H9
  iapply (zero_step d i (256 * t.val + 16 * 14) (off1 t 14)) $$ H10; iintro H10
  iapply (zero_step d i (256 * t.val + 16 * 15) (off1 t 15)) $$ H9; iintro H9
  iapply (zero_step d i (256 * t.val + 16 * 15) (off1 t 15)) $$ H10; iintro H10
  rw [wp_ret]; imodintro
  rw [show 256 * (t.val + 1) = 256 * t.val + 16 * 15 + 16 by omega]
  isplitl [H9] <;> iassumption

theorem Zd_start {acc : Memref sig .scVector .vmem S32768 .f32} : (some_ (U := U) (thrV d i) acc : sProp 𝕄) ⊢ Zd (U := U) d i acc 0 := by
  unfold some_ Zd
  iintro ⟨%g, H⟩
  iexists g; isplitr
  · ipureintro; intro y hy; exact absurd hy (Nat.not_lt_zero _)
  · iexact H

theorem Zd_end {acc : Memref sig .scVector .vmem S32768 .f32} {n : Nat} (hn : n = 32768) : (Zd (U := U) d i acc n : sProp 𝕄) ⊢ holds (U := U) (thrV d i) acc (zeroA (F := F)) := by
  unfold Zd
  iintro ⟨%g, %hg, H⟩
  rw [show (zeroA (F := F)) = g from funext fun y => (hg y (hn ▸ (y 0).isLt)).symm]
  iexact H

/-- The zeroing loop. -/
theorem zero_wp {α : Type} {k : Unit → PT F i α} {Q : α → sProp 𝕄} :
    (iprop(some_ (U := U) (thrV d i) arg9 ∗ some_ (U := U) (thrV d i) arg10) : sProp 𝕄)
      ⊢ iprop((iprop(holds (U := U) (thrV d i) arg9 (zeroA (F := F)) ∗ holds (U := U) (thrV d i) arg10 (zeroA (F := F)))
            -∗ wp frame (wpE (defs₀ (F := F)) 𝒱₀ (thrV d i) none) Set.univ (k ⟨⟩) Q)
        -∗ wp frame (wpE (defs₀ (F := F)) 𝒱₀ (thrV d i) none) Set.univ (Scf.Loop.for k1_t1_loop k1_t1_ok ⟨⟩ (k1_t1_body i arg2 harg2 arg3 harg3 arg4 harg4 arg5 harg5 arg6 harg6 arg7 harg7 arg8 harg8 arg9 harg9 arg10 harg10 arg11 harg11 arg12 harg12 arg13 harg13 arg14 arg15 v638_r0) >>= k) Q) := by
  iintro ⟨H9, H10⟩ Hk
  iapply (Scf.wp_for_bind frame (wpE (defs₀ (F := F)) 𝒱₀ (thrV d i) none) Set.univ _ _ _ k1_t1_ok ⟨⟩ (k1_t1_body i arg2 harg2 arg3 harg3 arg4 harg4 arg5 harg5 arg6 harg6 arg7 harg7 arg8 harg8 arg9 harg9 arg10 harg10 arg11 harg11 arg12 harg12 arg13 harg13 arg14 arg15 v638_r0)
    (fun n _ => iprop(Zd (U := U) d i arg9 (256 * n) ∗ Zd (U := U) d i arg10 (256 * n)))
    (fun t _ => zero_trip d i arg2 harg2 arg3 harg3 arg4 harg4 arg5 harg5 arg6 harg6 arg7 harg7 arg8 harg8 arg9 harg9 arg10 harg10 arg11 harg11 arg12 harg12 arg13 harg13 arg14 arg15 v638_r0 t)) $$ [H9 H10]
  · isplitl [H9]
    · iapply (Zd_start d i) $$ H9
    · iapply (Zd_start d i) $$ H10
  iintro %_ ⟨H9, H10⟩
  iapply Hk
  isplitl [H9]
  · iapply (Zd_end d i (n := 256 * Scf.trips k1_t1_loop.lb k1_t1_loop.ub k1_t1_loop.st) (by decide)) $$ H9
  · iapply (Zd_end d i (n := 256 * Scf.trips k1_t1_loop.lb k1_t1_loop.ub k1_t1_loop.st) (by decide)) $$ H10

theorem off51 (t : Fin k1_t50_loop.trips) (r : Fin 8) : k1_off51 t (BitVec.ofNat 32 (16 * r.val)) 0 = 128 * t.val + 16 * r.val := by
  rw [k1_off51_eq]; rfl

/-- Sixteen lanes loaded are a `chunk`. -/
theorem load_chunk (g : Vec F S32768 .f32) (n : Nat) {off : Fin 1 → Nat} (hn : off 0 = n) (inb : ∀ a, off a + S16.size a ≤ S32768.size a) :
    (fun x => g ((Rect.unit (s := S32768) off S16.size inb).toLoadRect.idx x)) = chunk g n := by
  subst hn
  funext x
  have hb : off 0 + (x 0).val < 32768 := by
    have h1 := inb 0
    have h16 : S16.size 0 = 16 := rfl
    have h4 : S32768.size 0 = 32768 := rfl
    have hx : (x 0).val < 16 := (x 0).isLt
    omega
  unfold chunk
  rw [dif_pos hb]
  congr 1
  funext a
  obtain rfl : a = 0 := Subsingleton.elim _ _
  apply Fin.ext
  exact unit_emb inb x

/-- The load of a `chunk`. -/
theorem chunk_step {acc : Memref sig .scVector .vmem S32768 .f32} (g : Vec F S32768 .f32) (n : Nat) {off : Fin 1 → Nat} (hn : off 0 = n)
    {inb : ∀ a, off a + S16.size a ≤ S32768.size a} {hl : acc.view.LoadsAt (Rect.unit (s := S32768) off S16.size inb).toLoadRect}
    {α : Type} {k : Vec F S16 .f32 → PT F i α} {Q : α → sProp 𝕄} :
    (holds (U := U) (thrV d i) acc g : sProp 𝕄)
      ⊢ iprop((holds (U := U) (thrV d i) acc g -∗ wp frame (wpE (defs₀ (F := F)) 𝒱₀ (thrV d i) none) Set.univ (k (chunk g n)) Q)
        -∗ wp frame (wpE (defs₀ (F := F)) 𝒱₀ (thrV d i) none) Set.univ (.op (.load acc (Rect.unit (s := S32768) off S16.size inb).toLoadRect hl) k) Q) := by
  rw [← load_chunk g n hn inb]
  exact load_holds (U := U) (thrV d i)

set_option maxHeartbeats 2000000 in
/-- A trip of the summing loop. -/
theorem red_trip (h e : Vec F S32768 .f32) (t : Fin k1_t50_loop.trips) (c : Eight F) :
    (iprop(holds (U := U) (thrV d i) arg9 h ∗ holds (U := U) (thrV d i) arg10 e) : sProp 𝕄)
      ⊢ wp frame (wpE (defs₀ (F := F)) 𝒱₀ (thrV d i) none) Set.univ (k1_t50_body i arg2 harg2 arg3 harg3 arg4 harg4 arg5 harg5 arg6 harg6 arg7 harg7 arg8 harg8 arg9 harg9 arg10 harg10 arg11 harg11 arg12 harg12 arg13 harg13 arg14 arg15 v638_r0 t c)
          fun c' => iprop(⌜c' = redStep h e (128 * t.val) c⌝ ∗ holds (U := U) (thrV d i) arg9 h ∗ holds (U := U) (thrV d i) arg10 e) := by
  obtain ⟨c0, c1, c2, c3, c4, c5, c6, c7⟩ := c
  unfold k1_t50_body
  rw [k1_part51_eq_skeleton]
  unfold k1_part51_skel
  simp only [Prog.lift, Prog.bind_op, Prog.bind_ret, Prog.pure_eq_ret]
  iintro ⟨H9, H10⟩
  iapply (chunk_step d i h (128 * t.val + 16 * 0) (off51 t 0)) $$ H9; iintro H9
  iapply (chunk_step d i h (128 * t.val + 16 * 1) (off51 t 1)) $$ H9; iintro H9
  iapply (chunk_step d i h (128 * t.val + 16 * 2) (off51 t 2)) $$ H9; iintro H9
  iapply (chunk_step d i h (128 * t.val + 16 * 3) (off51 t 3)) $$ H9; iintro H9
  iapply (chunk_step d i h (128 * t.val + 16 * 4) (off51 t 4)) $$ H9; iintro H9
  iapply (chunk_step d i h (128 * t.val + 16 * 5) (off51 t 5)) $$ H9; iintro H9
  iapply (chunk_step d i h (128 * t.val + 16 * 6) (off51 t 6)) $$ H9; iintro H9
  iapply (chunk_step d i h (128 * t.val + 16 * 7) (off51 t 7)) $$ H9; iintro H9
  iapply (chunk_step d i e (128 * t.val + 16 * 0) (off51 t 0)) $$ H10; iintro H10
  iapply (chunk_step d i e (128 * t.val + 16 * 1) (off51 t 1)) $$ H10; iintro H10
  iapply (chunk_step d i e (128 * t.val + 16 * 2) (off51 t 2)) $$ H10; iintro H10
  iapply (chunk_step d i e (128 * t.val + 16 * 3) (off51 t 3)) $$ H10; iintro H10
  iapply (chunk_step d i e (128 * t.val + 16 * 4) (off51 t 4)) $$ H10; iintro H10
  iapply (chunk_step d i e (128 * t.val + 16 * 5) (off51 t 5)) $$ H10; iintro H10
  iapply (chunk_step d i e (128 * t.val + 16 * 6) (off51 t 6)) $$ H10; iintro H10
  iapply (chunk_step d i e (128 * t.val + 16 * 7) (off51 t 7)) $$ H10; iintro H10
  rw [wp_ret]; imodintro
  isplitr; · ipureintro; rfl
  isplitl [H9] <;> iassumption

theorem trips_red : k1_t50_loop.trips = 256 := by decide

/-- The summing loop. -/
theorem red_wp (h e : Vec F S32768 .f32) {α : Type} {k : Eight F → PT F i α} {Q : α → sProp 𝕄} :
    (iprop(holds (U := U) (thrV d i) arg9 h ∗ holds (U := U) (thrV d i) arg10 e) : sProp 𝕄)
      ⊢ iprop((iprop(holds (U := U) (thrV d i) arg9 h ∗ holds (U := U) (thrV d i) arg10 e)
            -∗ wp frame (wpE (defs₀ (F := F)) 𝒱₀ (thrV d i) none) Set.univ (k (red h e 256)) Q)
        -∗ wp frame (wpE (defs₀ (F := F)) 𝒱₀ (thrV d i) none) Set.univ
          (Scf.Loop.for k1_t50_loop k1_t50_ok (k1_pay2 (F := F), k1_pay2 (F := F), k1_pay2 (F := F), k1_pay2 (F := F), k1_pay2 (F := F), k1_pay2 (F := F), k1_pay2 (F := F), k1_pay2 (F := F)) (k1_t50_body i arg2 harg2 arg3 harg3 arg4 harg4 arg5 harg5 arg6 harg6 arg7 harg7 arg8 harg8 arg9 harg9 arg10 harg10 arg11 harg11 arg12 harg12 arg13 harg13 arg14 arg15 v638_r0) >>= k) Q) := by
  iintro H Hk
  iapply (Scf.wp_for_bind frame (wpE (defs₀ (F := F)) 𝒱₀ (thrV d i) none) Set.univ _ _ _ k1_t50_ok _ (k1_t50_body i arg2 harg2 arg3 harg3 arg4 harg4 arg5 harg5 arg6 harg6 arg7 harg7 arg8 harg8 arg9 harg9 arg10 harg10 arg11 harg11 arg12 harg12 arg13 harg13 arg14 arg15 v638_r0)
    (fun n c => iprop(⌜c = red h e n⌝ ∗ holds (U := U) (thrV d i) arg9 h ∗ holds (U := U) (thrV d i) arg10 e))
    (fun t c => by
      iintro ⟨%hc, H⟩
      subst hc
      iapply (red_trip d i arg2 harg2 arg3 harg3 arg4 harg4 arg5 harg5 arg6 harg6 arg7 harg7 arg8 harg8 arg9 harg9 arg10 harg10 arg11 harg11 arg12 harg12 arg13 harg13 arg14 arg15 v638_r0 h e t (red h e t.val)) $$ H)) $$ [H]
  · isplitr; · ipureintro; rfl
    iexact H
  iintro %c ⟨%hc, H⟩
  have hc' : c = red h e 256 := hc
  subst hc'
  iapply Hk
  iexact H

/-- The tile's row of the result. -/
abbrev outM : Memref sig .scVector .hbm S32 .f32 :=
  (arg8.slice (Rect.unit (s := S32x32) (k1_off52 i) S1x32.size (k1_off52_inb i)) (fun _ => rfl)).squeeze S32 squeezes_S1x32_S32

/-- What remains after the items. -/
theorem tail_wp (h e : Vec F S32768 .f32) (O : CellTallies nD τ sig (HIx 1)) (Wt : Waits sig (HIx 1)) (fo : Buf (Elt F) ((outM i arg8).view.loc (thrV d i))) :
    (iprop(holds (U := U) (thrV d i) arg9 h ∗ holds (U := U) (thrV d i) arg10 e ∗ some_ (U := U) (thrV d i) arg13
        ∗ semVal ((thrV d i), SemLoc.dma v638_r0.sem) 0 ∗ ((outM i arg8).view.loc (thrV d i) ↦[(outM i arg8).view.set]{fullShare} fo)
        ∗ Transfers.MayWaits (thrV d i) (none : HIx 1) O ∗ ∃ W', ⌜∀ p ∈ W', p ∈ Wt ∨ p.2 = none⌝ ∗ owes (thrV d i) O W') : sProp 𝕄)
      ⊢ wp frame (wpE (defs₀ (F := F)) 𝒱₀ (thrV d i) none) Set.univ (tailP (F := F) i arg2 harg2 arg3 harg3 arg4 harg4 arg5 harg5 arg6 harg6 arg7 harg7 arg8 harg8 arg9 harg9 arg10 harg10 arg11 harg11 arg12 harg12 arg13 harg13 arg14 arg15 v638_r0)
        fun _ => iprop(holds (U := U) (thrV d i) arg9 h ∗ holds (U := U) (thrV d i) arg10 e ∗ some_ (U := U) (thrV d i) arg13
          ∗ semVal ((thrV d i), SemLoc.dma v638_r0.sem) 0
          ∗ (∃ fo' : Buf (Elt F) ((outM i arg8).view.loc (thrV d i)), ⌜(outM i arg8).view.read (Elt F) fo' = ovec h e⌝
              ∗ ((outM i arg8).view.loc (thrV d i) ↦[(outM i arg8).view.set]{fullShare} fo'))
          ∗ ∃ W', ⌜∀ p ∈ W', p ∈ Wt ∨ p.2 = none⌝ ∗ owes (thrV d i) O W') := by
  iintro ⟨H9, H10, H13, Hs, Ho, #Hmw, %W', %hW', HO⟩
  unfold tailP
  iapply (red_wp d i arg2 harg2 arg3 harg3 arg4 harg4 arg5 harg5 arg6 harg6 arg7 harg7 arg8 harg8 arg9 harg9 arg10 harg10 arg11 harg11 arg12 harg12 arg13 harg13 arg14 arg15 v638_r0 h e) $$ [H9 H10]
  · isplitl [H9] <;> iassumption
  iintro ⟨H9, H10⟩
  simp only [Prog.lift, Prog.bind_op, Prog.bind_ret, Prog.pure_eq_ret]
  unfold some_
  icases H13 with ⟨%g13, H13⟩
  iapply (load_holds (U := U) (thrV d i)) $$ H13; iintro H13
  iapply (store_holds (U := U) (thrV d i)) $$ H13; iintro %g1 %hg1 H13
  iapply (load_holds (U := U) (thrV d i)) $$ H13; iintro H13
  iapply (store_holds (U := U) (thrV d i)) $$ H13; iintro %g2 %hg2 H13
  have hov : g2 = ovec h e := by
    funext y
    have hy32 : (y 0).val < 32 := (y 0).isLt
    unfold ovec
    by_cases hy : (y 0).val < 16
    · rw [dif_pos hy, hg2.2 y (unit_not_mem inb_S32_S16_16 y (.inl hy))]
      have h1 := hg1.1 (Shape.ofLane (d := ![16]) ⟨(y 0).val, hy⟩)
      rw [← h1]
      congr 1
      exact (unit_mem (m := 16) (off := ![0]) inb_S32_S16_0 y (Nat.zero_le _) (by simpa using hy)).symm
    · rw [dif_neg hy]
      have h1 := hg2.1 (Shape.ofLane (d := ![16]) ⟨(y 0).val - 16, by show _ < 16; omega⟩)
      rw [← h1]
      congr 1
      exact (unit_mem (m := 16) (off := ![16]) inb_S32_S16_16 y (by simpa using hy) (by simpa using hy32)).symm
  subst hov
  unfold holds
  icases H13 with ⟨%f13, %hf13, H13⟩
  ihave H13' := (pointsTo_split_subset (Finset.subset_univ arg13.view.set)).1 $$ H13
  icases H13' with ⟨H13, H13r⟩
  iapply (Transfers.wp_dmaLocal countersEmb 𝒱₀ (thrV d i) none (src := arg13) (dst := outM i arg8)
    (sm := SemLoc.dma v638_r0.sem) (q := fullShare) (fs := f13) (Sd := (outM i arg8).view.set) (fd := fo)
    (none : HIx 1) (outM i arg8).view.dmaCredit rfl (View.dmaCredit_pos _ (show 0 < S32.numel by decide)) (Finset.Subset.refl _)) $$ [H13 Ho Hs]
  · isplitl [H13]; · iexact H13
    isplitl [Ho]; · iexact Ho
    iexact Hs
  iintro Hfl
  iapply (Transfers.wp_waitLocalO countersEmb 𝒱₀ (thrV d i) none (none : HIx 1) rfl) $$ [Hfl HO]
  · isplitl [Hfl]; · iexact Hfl
    isplitl [HO]; · iexact HO
    iapply (Transfers.MayWaits.elim _) $$ Hmw
  iintro ⟨⟨Ho, H13⟩, Hs, HO⟩
  rw [wp_ret]; imodintro
  isplitl [H9]; · iexact H9
  isplitl [H10]; · iexact H10
  isplitl [H13 H13r]
  · iexists _; iexists f13; isplitr; · ipureintro; exact hf13
    iapply (pointsTo_split_subset (Finset.subset_univ arg13.view.set)).2
    isplitl [H13] <;> iassumption
  isplitl [Hs]; · iexact Hs
  isplitl [Ho]
  · iexists _; isplitr
    rotate_left
    · iexact Ho
    · ipureintro
      rw [← hf13]
      exact View.read_write_univ _ _
  iexists _; isplitr
  rotate_left
  · iexact HO
  · ipureintro; exact waits_insert hW' _

variable (W : (f : Fin 6) → Buf (Elt F) ((src arg2 arg3 arg4 arg5 arg6 arg7 f).view.loc (thrV d i))) (ql qr : PosShare TreeShare)
  (hW : ∀ k, ∀ y, (rowV d i arg2 arg3 arg4 arg5 arg6 arg7 W k y).toNat < 32768)

include hW in
/-- The task: from the six arrays' read shares, its scratch and its row of the result, to the same with the row
    written. -/
theorem prog_wp (O : CellTallies nD τ sig (HIx 1)) (Wt : Waits sig (HIx 1)) (fo : Buf (Elt F) ((outM i arg8).view.loc (thrV d i))) :
    (iprop(srcs d i arg2 arg3 arg4 arg5 arg6 arg7 W ql ∗ srcs d i arg2 arg3 arg4 arg5 arg6 arg7 W qr
        ∗ some_ (U := U) (thrV d i) arg9 ∗ some_ (U := U) (thrV d i) arg10 ∗ some_ (U := U) (thrV d i) arg11 ∗ some_ (U := U) (thrV d i) arg12 ∗ some_ (U := U) (thrV d i) arg13
        ∗ semVal ((thrV d i), SemLoc.dma arg14.sem) 0 ∗ semVal ((thrV d i), SemLoc.dma arg15.sem) 0 ∗ semVal ((thrV d i), SemLoc.dma v638_r0.sem) 0
        ∗ ((outM i arg8).view.loc (thrV d i) ↦[(outM i arg8).view.set]{fullShare} fo)
        ∗ Transfers.MayWaits (thrV d i) (none : HIx 1) O ∗ owes (thrV d i) O Wt) : sProp 𝕄)
      ⊢ wp frame (wpE (defs₀ (F := F)) 𝒱₀ (thrV d i) none) Set.univ (cc1_sc (F := F) i arg2 harg2 arg3 harg3 arg4 harg4 arg5 harg5 arg6 harg6 arg7 harg7 arg8 harg8 arg9 harg9 arg10 harg10 arg11 harg11 arg12 harg12 arg13 harg13 arg14 arg15 v638_r0)
        fun _ => iprop(srcs d i arg2 arg3 arg4 arg5 arg6 arg7 W ql ∗ srcs d i arg2 arg3 arg4 arg5 arg6 arg7 W qr
          ∗ some_ (U := U) (thrV d i) arg9 ∗ some_ (U := U) (thrV d i) arg10 ∗ some_ (U := U) (thrV d i) arg11 ∗ some_ (U := U) (thrV d i) arg12 ∗ some_ (U := U) (thrV d i) arg13
          ∗ semVal ((thrV d i), SemLoc.dma arg14.sem) 0 ∗ semVal ((thrV d i), SemLoc.dma arg15.sem) 0 ∗ semVal ((thrV d i), SemLoc.dma v638_r0.sem) 0
          ∗ (∃ fo' : Buf (Elt F) ((outM i arg8).view.loc (thrV d i)),
              ⌜(outM i arg8).view.read (Elt F) fo' = ovec (accs d i arg2 arg3 arg4 arg5 arg6 arg7 W (zeroA, zeroA) 48).1 (accs d i arg2 arg3 arg4 arg5 arg6 arg7 W (zeroA, zeroA) 48).2⌝
              ∗ ((outM i arg8).view.loc (thrV d i) ↦[(outM i arg8).view.set]{fullShare} fo'))
          ∗ ∃ W', ⌜∀ p ∈ W', p ∈ Wt ∨ p.2 = none⌝ ∗ owes (thrV d i) O W') := by
  rw [cc1_eq]
  unfold prog
  iintro ⟨Hl, Hr, H9, H10, H11, H12, H13, Hs14, Hs15, Hs, Ho, #Hmw, HO⟩
  iapply (zero_wp d i arg2 harg2 arg3 harg3 arg4 harg4 arg5 harg5 arg6 harg6 arg7 harg7 arg8 harg8 arg9 harg9 arg10 harg10 arg11 harg11 arg12 harg12 arg13 harg13 arg14 arg15 v638_r0) $$ [H9 H10]
  · isplitl [H9] <;> iassumption
  iintro ⟨H9, H10⟩
  iapply (enq_wp d i arg2 arg3 arg4 arg5 arg6 arg7 arg11 harg11 arg12 harg12 arg14 arg15 W ql qr 0) $$ [Hl H11 Hs14]
  · unfold Free
    isplitl [H11]; · iexact H11
    isplitl [Hs14]; · iexact Hs14
    iexact Hl
  iintro Hfl
  iapply (items_wp d i arg2 arg3 arg4 arg5 arg6 arg7 arg9 harg9 arg10 harg10 arg11 harg11 arg12 harg12 arg14 arg15 W ql qr hW (zeroA, zeroA) O Wt _ 47 0) $$ [Hfl H9 H10 Hr H12 Hs15 HO]
  · unfold Inv
    isplitl [Hfl]; · iexact Hfl
    isplitl [Hr H12 Hs15]
    · unfold Free
      isplitl [H12]; · iexact H12
      isplitl [Hs15]; · iexact Hs15
      iexact Hr
    isplitl [H9]; · iexact H9
    isplitl [H10]; · iexact H10
    isplitr; · iexact Hmw
    iexists Wt; isplitr
    · ipureintro; exact fun p hp => .inl hp
    · iexact HO
  unfold Inv
  iintro ⟨Hfl, Hfree, H9, H10, _, %W', %hW', HO⟩
  iapply (wt_wp d i arg2 arg3 arg4 arg5 arg6 arg7 arg11 harg11 arg12 harg12 arg14 arg15 W ql qr 47) $$ [Hfl HO]
  · isplitl [Hfl]; · iexact Hfl
    isplitl [HO]; · iexact HO
    iexact Hmw
  iintro ⟨Hb, Hs15, Hr, HO⟩
  iapply (lp_wp d i arg2 arg3 arg4 arg5 arg6 arg7 arg9 harg9 arg10 harg10 arg11 arg12 W hW 47 (accs d i arg2 arg3 arg4 arg5 arg6 arg7 W (zeroA, zeroA) 47)) $$ [Hb H9 H10]
  · isplitl [Hb]; · iexact Hb
    isplitl [H9] <;> iassumption
  iintro ⟨Hb, H9, H10⟩
  unfold Free
  icases Hfree with ⟨H11, Hs14, Hl⟩
  iapply (wp_wand_r frame (wpE (defs₀ (F := F)) 𝒱₀ (thrV d i) none) Set.univ)
  isplitl [H9 H10 H13 Hs Ho HO]
  · iapply (tail_wp d i arg2 harg2 arg3 harg3 arg4 harg4 arg5 harg5 arg6 harg6 arg7 harg7 arg8 harg8 arg9 harg9 arg10 harg10 arg11 harg11 arg12 harg12 arg13 harg13 arg14 arg15 v638_r0 (accs d i arg2 arg3 arg4 arg5 arg6 arg7 W (zeroA, zeroA) 48).1 (accs d i arg2 arg3 arg4 arg5 arg6 arg7 W (zeroA, zeroA) 48).2 O Wt fo)
    isplitl [H9]; · iexact H9
    isplitl [H10]; · iexact H10
    isplitl [H13]; · iexact H13
    isplitl [Hs]; · iexact Hs
    isplitl [Ho]; · iexact Ho
    isplitr; · iexact Hmw
    iexists _; isplitr
    rotate_left
    · iexact HO
    · ipureintro; exact waits_insert hW' _
  iintro %_ ⟨H9, H10, H13, Hs, Ho, HO⟩
  isplitl [Hl]; · iexact Hl
  isplitl [Hr]; · iexact Hr
  isplitl [H9]; · iapply (holds_some (thrV d i) _ _) $$ H9
  isplitl [H10]; · iapply (holds_some (thrV d i) _ _) $$ H10
  isplitl [H11]; · iexact H11
  isplitl [Hb]; · iapply (holds_some (thrV d i) _ _) $$ Hb
  isplitl [H13]; · iexact H13
  isplitl [Hs14]; · iexact Hs14
  isplitl [Hs15]; · iexact Hs15
  isplitl [Hs]; · iexact Hs
  isplitl [Ho] <;> iassumption

end Task

end Cert.Proof.KI

end
-- ==== Proof.KI.Tc.lean ====
/-
  The TensorCore's half: one pallas_call over whole arrays that reads the fused image and the reference image and stores,
  for each of the two, every pixel's bin index three times over — by intensity, by gradient magnitude, by gradient
  direction. `fields x y` are the six stored arrays as functions of the two images; `body_wp` runs the body.
-/
module

public import proofs.«01_k».proof.Proof.KI.Rules

@[expose] public section

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {U : Type} [URA U] [CountersIn U]

local notation "𝕄" => MT nD τ sig (HIx 1) (Elt F) ℕ U ℕ

/-! ## Whole loads and stores -/

theorem unit_emb_whole {s : Shape} {off : Fin s.rank → Nat} {inb} (h0 : off = fun _ => 0) (x : s.Idx) :
    (Rect.unit (s := s) off s.size inb).emb x = x := by
  subst h0
  funext a
  apply Fin.ext
  show 0 + 1 * (x a).val = (x a).val
  omega

section

variable (thr : Thread nD τ) {s : Shape} {e : EltTy} {α : Type}

/-- A load of a whole memref reads what the memref does. -/
theorem load_whole {m : Memref sig thr.2.kind .vmem s e} {off : Fin s.rank → Nat} {inb} (h0 : off = fun _ => 0)
    {hl : m.view.LoadsAt (Rect.unit (s := s) off s.size inb).toLoadRect}
    {k : (s.Idx → Elt F e) → Prog (TpuEff nD τ sig (Elt F) Λ₀ thr.2) α} {g : Vec F s e} {Q : α → sProp 𝕄} :
    (holds (U := U) thr m g : sProp 𝕄)
      ⊢ iprop((holds (U := U) thr m g -∗ wp frame (wpE (defs₀ (F := F)) 𝒱₀ thr none) Set.univ (k g) Q)
        -∗ wp frame (wpE (defs₀ (F := F)) 𝒱₀ thr none) Set.univ (.op (.load m (Rect.unit (s := s) off s.size inb).toLoadRect hl) k) Q) := by
  have h := load_holds (U := U) thr (m := m) (r := (Rect.unit (s := s) off s.size inb).toLoadRect) (hl := hl) (k := k) (g := g) (Q := Q)
  have e : (fun x => g ((Rect.unit (s := s) off s.size inb).toLoadRect.idx x)) = g := funext fun x => congrArg g (unit_emb_whole h0 x)
  rw [e] at h
  exact h

/-- A store to a whole memref leaves what is stored. -/
theorem store_whole {m : Memref sig thr.2.kind .vmem s e} {off : Fin s.rank → Nat} {inb} (h0 : off = fun _ => 0)
    {w : s.Idx → Elt F e} {hx : (m.access (Rect.unit (s := s) off s.size inb)).Stores Finset.univ}
    {hm : (Finset.univ : Finset s.Idx) = Finset.univ ∨ ∀ a, (Rect.unit (s := s) off s.size inb).stride a = 1}
    {k : PUnit → Prog (TpuEff nD τ sig (Elt F) Λ₀ thr.2) α} {Q : α → sProp 𝕄} :
    (some_ (U := U) thr m : sProp 𝕄)
      ⊢ iprop((holds (U := U) thr m w -∗ wp frame (wpE (defs₀ (F := F)) 𝒱₀ thr none) Set.univ (k ⟨⟩) Q)
        -∗ wp frame (wpE (defs₀ (F := F)) 𝒱₀ thr none) Set.univ (.op (.store m (Rect.unit (s := s) off s.size inb) w Finset.univ hx hm) k) Q) := by
  unfold some_
  iintro ⟨%g, H⟩ Hk
  iapply (store_holds (U := U) thr (m := m) (r := Rect.unit (s := s) off s.size inb) (g := g)) $$ H
  iintro %g' %hg H
  have e : g' = w := funext fun x => (congrArg g' (unit_emb_whole h0 x).symm).trans (hg.1 x)
  subst e
  iapply Hk; iexact H

end

/-! ## The six stored arrays -/

/-- Where a pixel's block begins in the table of its band. -/
def winBase : IVec S4x512x512 32 := k0_pay15 (iota .tc S4x512x512 32 [2] iota_S4x512x512_d2_w32) k0_pay14

/-- The zero the body compares widths with. -/
def zf : F .f32 := Scalar.ofBits .f32 0x00000000#32

def fInt (x : FVec F S4x512x512 .f32) : IVec S4x512x512 32 := k0_pay18 winBase (k0_pay16 (k0_pay3 x)) 255#32 k0_pay17
def fMag (x : FVec F S4x512x512 .f32) : IVec S4x512x512 32 := k0_pay19 (k0_pay6 x) winBase
/-- The fused image's gradient direction. -/
def fAng (x : FVec F S4x512x512 .f32) : FVec F S4x512x512 .f32 :=
  k0_pay13 (k0_pay4 x) (k0_pay5 x) (k0_pay9 x) (k0_pay10 x) (k0_pay11 x) k0_pay12
def fDir (x : FVec F S4x512x512 .f32) : IVec S4x512x512 32 := k0_pay22 (fAng x) winBase (k0_pay20 (fAng x)) (k0_pay21 (fAng x)) zf

def rInt (y : FVec F S4x512x512 .f32) : IVec S4x512x512 32 := k0_pay36 (k0_pay23 y) k0_pay34 (k0_pay35 (k0_pay23 y))
def rMag (y : FVec F S4x512x512 .f32) : IVec S4x512x512 32 :=
  k0_pay1 k0_pay34 (k0_pay37 (k0_pay28 (k0_pay24 y) (k0_pay25 y) (k0_pay26 y) zf)) 255#32 k0_pay38
/-- The reference image's gradient direction. -/
def rAng (y : FVec F S4x512x512 .f32) : FVec F S4x512x512 .f32 :=
  k0_pay33 (k0_pay24 y) (k0_pay27 (k0_pay25 y) (k0_pay26 y) zf) (k0_pay31 (k0_pay24 y) (k0_pay25 y) (k0_pay26 y) zf)
    (k0_pay32 (k0_pay24 y) (k0_pay25 y) (k0_pay26 y) zf)
def rDir (y : FVec F S4x512x512 .f32) : IVec S4x512x512 32 := k0_pay2 (rAng y) k0_pay34

/-! ## The body -/

set_option maxHeartbeats 4000000 in
/-- The body, from its two inputs and six outputs held whole: it stores the six arrays. -/
theorem body_wp (d : Dev nD)
    (arg0 : Memref sig .tc .vmem S4x512x512 .f32) (harg0 : arg0.IsWhole) (arg1 : Memref sig .tc .vmem S4x512x512 .f32) (harg1 : arg1.IsWhole)
    (arg2 : Memref sig .tc .vmem S4x512x512 .i32) (harg2 : arg2.IsWhole) (arg3 : Memref sig .tc .vmem S4x512x512 .i32) (harg3 : arg3.IsWhole)
    (arg4 : Memref sig .tc .vmem S4x512x512 .i32) (harg4 : arg4.IsWhole) (arg5 : Memref sig .tc .vmem S4x512x512 .i32) (harg5 : arg5.IsWhole)
    (arg6 : Memref sig .tc .vmem S4x512x512 .i32) (harg6 : arg6.IsWhole) (arg7 : Memref sig .tc .vmem S4x512x512 .i32) (harg7 : arg7.IsWhole)
    (x y : Vec F S4x512x512 .f32) (Q : PUnit → sProp 𝕄) :
    iprop(holds (U := U) (T d) arg0 x ∗ holds (U := U) (T d) arg1 y
        ∗ some_ (U := U) (T d) arg2 ∗ some_ (U := U) (T d) arg3 ∗ some_ (U := U) (T d) arg4
        ∗ some_ (U := U) (T d) arg5 ∗ some_ (U := U) (T d) arg6 ∗ some_ (U := U) (T d) arg7
        ∗ ((holds (U := U) (T d) arg0 x ∗ holds (U := U) (T d) arg1 y
            ∗ holds (U := U) (T d) arg2 (fInt x) ∗ holds (U := U) (T d) arg3 (fMag x) ∗ holds (U := U) (T d) arg4 (fDir x)
            ∗ holds (U := U) (T d) arg5 (rInt y) ∗ holds (U := U) (T d) arg6 (rMag y) ∗ holds (U := U) (T d) arg7 (rDir y)) -∗ Q ⟨⟩))
      ⊢ wp frame (wpE (defs₀ (F := F)) 𝒱₀ (T d) none) Set.univ
          (cc0__tc_body (F := F) arg0 harg0 arg1 harg1 arg2 harg2 arg3 harg3 arg4 harg4 arg5 harg5 arg6 harg6 arg7 harg7) Q := by
  rw [cc0__tc_body_eq_skeleton]
  unfold cc0__tc_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret]
  have h0 : (![0, 0, 0] : Fin S4x512x512.rank → Nat) = fun _ => 0 := by
    funext a; fin_cases a <;> rfl
  unfold some_
  iintro ⟨H0, H1, ⟨%g2, H2⟩, ⟨%g3, H3⟩, ⟨%g4, H4⟩, ⟨%g5, H5⟩, ⟨%g6, H6⟩, ⟨%g7, H7⟩, Hk⟩
  iapply (load_whole (U := U) (T d) (m := arg0) h0) $$ H0
  iintro H0
  iapply (load_whole (U := U) (T d) (m := arg2) h0) $$ H2
  iintro H2
  ihave H2 := (holds_some (U := U) (T d) arg2 g2) $$ H2
  iapply (store_whole (U := U) (T d) (m := arg2) h0) $$ H2
  iintro H2
  iapply (load_whole (U := U) (T d) (m := arg3) h0) $$ H3
  iintro H3
  ihave H3 := (holds_some (U := U) (T d) arg3 g3) $$ H3
  iapply (store_whole (U := U) (T d) (m := arg3) h0) $$ H3
  iintro H3
  iapply (load_whole (U := U) (T d) (m := arg4) h0) $$ H4
  iintro H4
  ihave H4 := (holds_some (U := U) (T d) arg4 g4) $$ H4
  iapply (store_whole (U := U) (T d) (m := arg4) h0) $$ H4
  iintro H4
  iapply (load_whole (U := U) (T d) (m := arg1) h0) $$ H1
  iintro H1
  iapply (load_whole (U := U) (T d) (m := arg5) h0) $$ H5
  iintro H5
  ihave H5 := (holds_some (U := U) (T d) arg5 g5) $$ H5
  iapply (store_whole (U := U) (T d) (m := arg5) h0) $$ H5
  iintro H5
  iapply (load_whole (U := U) (T d) (m := arg6) h0) $$ H6
  iintro H6
  ihave H6 := (holds_some (U := U) (T d) arg6 g6) $$ H6
  iapply (store_whole (U := U) (T d) (m := arg6) h0) $$ H6
  iintro H6
  iapply (load_whole (U := U) (T d) (m := arg7) h0) $$ H7
  iintro H7
  ihave H7 := (holds_some (U := U) (T d) arg7 g7) $$ H7
  iapply (store_whole (U := U) (T d) (m := arg7) h0) $$ H7
  iintro H7
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

end Cert.Proof.KI

end
-- ==== Proof.KI.Region.lean ====
/-
  The program as the launch theorem sees it, and the TensorCore pallas_call as one region of @main: entered from every
  unscoped buffer at a valuation, left at that valuation with the six index arrays at what `body_wp` stores. The
  TensorCore already owes the SparseCores their start when it runs the region; the region's own waits sit below that.
-/
module

public import proofs.«01_k».proof.Proof.KI.Tc
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.RegionsLoop

@[expose] public section

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx)
open Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := (𝒱₀).lift

/-- No pallas_call has a prefetched table. -/
abbrev adm : (p : Fin 1) → (pcfgs (F := F) p).Adm := fun p => (cfgs p).toPCfg_adm

/-- The handshakes' rounds beside the pipeline's rounds beside the transfers' counters. -/
abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL
/-- The pipeline's algebra within the certificate's. -/
def EP : Emb (UR sig nD τ) (MT nD τ sig (HIx 1) (Elt F) ℕ UU ℕ) := (Emb.inl : Emb (UR sig nD τ) (UR sig nD τ × Counters)).trans embR
instance : (EP (F := F)).LandsIn (upEmb : UEmb _ 𝕄) := by unfold EP; infer_instance

/-! ## The proof data, at an entry valuation -/

variable (V : (c : Dev nD) → (b : Ref sig .tc) → Buf (Elt F) ((c : Thread nD τ).loc b))

/-- The two input images at the entry valuation. -/
abbrev inX (c : Dev nD) : Vec F S4x512x512 .f32 := V c main_v0
abbrev inY (c : Dev nD) : Vec F S4x512x512 .f32 := V c main_v1

/-- What the TensorCore has recorded of waits while it owes the SparseCores their start: pairs at level zero. -/
abbrev low (c : Dev nD) : Set (SemLoc sig × HIx 1) := {p | (K (F := F)).lev ((c : Thread nD τ), p.1) p.2 ≤ 0}

/-- The proof data of the region from valuation `V`: the arrays at `V`, each staging buffer after the body at its array. -/
def dat (c : Dev nD) : Dat τ (Elt F) (HIx 1) ℕ UU ℕ cfg0 c where
  A w := V c (Pipeline.arrRef spec0 w)
  after w _ := match w with
    | ⟨0, _⟩ => inX V c
    | ⟨1, _⟩ => inY V c
    | ⟨2, _⟩ => fInt (inX V c)
    | ⟨3, _⟩ => fMag (inX V c)
    | ⟨4, _⟩ => fDir (inX V c)
    | ⟨5, _⟩ => rInt (inY V c)
    | ⟨6, _⟩ => rMag (inY V c)
    | ⟨7, _⟩ => rDir (inY V c)
  Φ _ := iprop(emp)
  q _ := fullShare
  owed _ := (K (F := F)).Otc c 0
  recorded _ := low (F := F) c

def pdats : (p : Fin 1) → (c : Dev nD) → Dat τ (Elt F) (HIx 1) ℕ UU ℕ (Pipeline.pin (pcfgs (F := F)) adm p) c
  | ⟨0, _⟩ => fun c => dat V c

theorem before_x (c : Dev nD) (d : (cfg0.win 0).block.Idx → Elt F (cfg0.win 0).elt) : (dat V c).before 0 t0_0 d = inX V c := by
  unfold Dat.before; rw [if_pos (by decide)]; funext x
  show V c main_v0 _ = V c main_v0 _
  congr 1
  funext a; apply Fin.ext
  show 0 * S4x512x512.size a + 1 * (x a).val = (x a).val
  omega
theorem before_y (c : Dev nD) (d : (cfg0.win 1).block.Idx → Elt F (cfg0.win 1).elt) : (dat V c).before 1 t0_0 d = inY V c := by
  unfold Dat.before; rw [if_pos (by decide)]; funext x
  show V c main_v1 _ = V c main_v1 _
  congr 1
  funext a; apply Fin.ext
  show 0 * S4x512x512.size a + 1 * (x a).val = (x a).val
  omega

/-- A whole memref owned at the full share is its buffer held whole. -/
theorem owns_holds {c : Dev nD} {sp : Space} {s : Shape} {e : EltTy} {m : Memref sig .tc sp s e} (h : m.IsWhole) (X : Vec F s e) :
    (owns (c : Thread nD τ) m fullShare X : sProp 𝕄) = holds (U := UU) (T c) m X := by
  unfold owns holds
  rw [h.set_eq_univ]

/-- The body at the one point: it reads the two images and leaves the six arrays. -/
theorem body_obligation (c : Dev nD) : BodyObligation (dat V c) (defs₀ (F := F)) 𝒱₀ none Set.univ := fun t => by
  obtain rfl := fin_N0 t
  rw [bigSep_W0, bigSep_W0]
  rw [show (dat V c).owesAt none t0_0.succ = (dat V c).owesAt none t0_0.castSucc from rfl]
  have h0 : (st0_0 t0_0).IsWhole := hstage0_0 0
  have h1 : (st0_1 t0_0).IsWhole := hstage0_1 0
  have h2 : (st0_2 t0_0).IsWhole := hstage0_2 0
  have h3 : (st0_3 t0_0).IsWhole := hstage0_3 0
  have h4 : (st0_4 t0_0).IsWhole := hstage0_4 0
  have h5 : (st0_5 t0_0).IsWhole := hstage0_5 0
  have h6 : (st0_6 t0_0).IsWhole := hstage0_6 0
  have h7 : (st0_7 t0_0).IsWhole := hstage0_7 0
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before_x]
  rw [before_y]
  ihave H0 := (Entails.of_eq (owns_holds h0 _)) $$ H0
  ihave H1 := (Entails.of_eq (owns_holds h1 _)) $$ H1
  ihave H2 := ((Entails.of_eq (owns_holds h2 _)).trans (holds_some (U := UU) (T c) (st0_2 t0_0) _)) $$ H2
  ihave H3 := ((Entails.of_eq (owns_holds h3 _)).trans (holds_some (U := UU) (T c) (st0_3 t0_0) _)) $$ H3
  ihave H4 := ((Entails.of_eq (owns_holds h4 _)).trans (holds_some (U := UU) (T c) (st0_4 t0_0) _)) $$ H4
  ihave H5 := ((Entails.of_eq (owns_holds h5 _)).trans (holds_some (U := UU) (T c) (st0_5 t0_0) _)) $$ H5
  ihave H6 := ((Entails.of_eq (owns_holds h6 _)).trans (holds_some (U := UU) (T c) (st0_6 t0_0) _)) $$ H6
  ihave H7 := ((Entails.of_eq (owns_holds h7 _)).trans (holds_some (U := UU) (T c) (st0_7 t0_0) _)) $$ H7
  iapply (body_wp (U := UU) c (st0_0 t0_0) h0 (st0_1 t0_0) h1 (st0_2 t0_0) h2 (st0_3 t0_0) h3 (st0_4 t0_0) h4 (st0_5 t0_0) h5 (st0_6 t0_0) h6 (st0_7 t0_0) h7 (inX V c) (inY V c) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iapply (Entails.of_eq (show (dat V c).Φ t0_0.castSucc = (dat V c).Φ t0_0.succ from rfl)); iexact HΦ
  isplitl [Howes]; · iexact Howes
  isplitl [H0]; · iapply (Entails.of_eq (owns_holds h0 (inX V c)).symm); iexact H0
  isplitl [H1]; · iapply (Entails.of_eq (owns_holds h1 (inY V c)).symm); iexact H1
  isplitl [H2]; · iapply (Entails.of_eq (owns_holds h2 (fInt (inX V c))).symm); iexact H2
  isplitl [H3]; · iapply (Entails.of_eq (owns_holds h3 (fMag (inX V c))).symm); iexact H3
  isplitl [H4]; · iapply (Entails.of_eq (owns_holds h4 (fDir (inX V c))).symm); iexact H4
  isplitl [H5]; · iapply (Entails.of_eq (owns_holds h5 (rInt (inY V c))).symm); iexact H5
  isplitl [H6]; · iapply (Entails.of_eq (owns_holds h6 (rMag (inY V c))).symm); iexact H6
  iapply (Entails.of_eq (owns_holds h7 (rDir (inY V c))).symm); iexact H7

/-! ## What the region leaves in the six arrays -/

theorem arrAt_2 (c : Dev nD) : (dat V c).arrAt 2 cfg0.N = fInt (inX V c) := by
  rw [show cfg0.N = t0_0.val + 1 from N_0, Dat.arrAt_succ, if_pos (flush0_2 t0_0)]
  funext x
  refine (congrArg _ (show x = ((cfg0.win 2).blk t0_0).view.emb x from ?_)).trans
    (congrFun (View.read_write_univ (v := ((cfg0.win 2).blk t0_0).view) ((dat V c).arrAt 2 t0_0) ((dat V c).flushed 2 t0_0)) x)
  funext a; apply Fin.ext
  show (x a).val = 0 * S4x512x512.size a + 1 * (x a).val
  omega

theorem arrAt_3 (c : Dev nD) : (dat V c).arrAt 3 cfg0.N = fMag (inX V c) := by
  rw [show cfg0.N = t0_0.val + 1 from N_0, Dat.arrAt_succ, if_pos (flush0_3 t0_0)]
  funext x
  refine (congrArg _ (show x = ((cfg0.win 3).blk t0_0).view.emb x from ?_)).trans
    (congrFun (View.read_write_univ (v := ((cfg0.win 3).blk t0_0).view) ((dat V c).arrAt 3 t0_0) ((dat V c).flushed 3 t0_0)) x)
  funext a; apply Fin.ext
  show (x a).val = 0 * S4x512x512.size a + 1 * (x a).val
  omega

theorem arrAt_4 (c : Dev nD) : (dat V c).arrAt 4 cfg0.N = fDir (inX V c) := by
  rw [show cfg0.N = t0_0.val + 1 from N_0, Dat.arrAt_succ, if_pos (flush0_4 t0_0)]
  funext x
  refine (congrArg _ (show x = ((cfg0.win 4).blk t0_0).view.emb x from ?_)).trans
    (congrFun (View.read_write_univ (v := ((cfg0.win 4).blk t0_0).view) ((dat V c).arrAt 4 t0_0) ((dat V c).flushed 4 t0_0)) x)
  funext a; apply Fin.ext
  show (x a).val = 0 * S4x512x512.size a + 1 * (x a).val
  omega

theorem arrAt_5 (c : Dev nD) : (dat V c).arrAt 5 cfg0.N = rInt (inY V c) := by
  rw [show cfg0.N = t0_0.val + 1 from N_0, Dat.arrAt_succ, if_pos (flush0_5 t0_0)]
  funext x
  refine (congrArg _ (show x = ((cfg0.win 5).blk t0_0).view.emb x from ?_)).trans
    (congrFun (View.read_write_univ (v := ((cfg0.win 5).blk t0_0).view) ((dat V c).arrAt 5 t0_0) ((dat V c).flushed 5 t0_0)) x)
  funext a; apply Fin.ext
  show (x a).val = 0 * S4x512x512.size a + 1 * (x a).val
  omega

theorem arrAt_6 (c : Dev nD) : (dat V c).arrAt 6 cfg0.N = rMag (inY V c) := by
  rw [show cfg0.N = t0_0.val + 1 from N_0, Dat.arrAt_succ, if_pos (flush0_6 t0_0)]
  funext x
  refine (congrArg _ (show x = ((cfg0.win 6).blk t0_0).view.emb x from ?_)).trans
    (congrFun (View.read_write_univ (v := ((cfg0.win 6).blk t0_0).view) ((dat V c).arrAt 6 t0_0) ((dat V c).flushed 6 t0_0)) x)
  funext a; apply Fin.ext
  show (x a).val = 0 * S4x512x512.size a + 1 * (x a).val
  omega

theorem arrAt_7 (c : Dev nD) : (dat V c).arrAt 7 cfg0.N = rDir (inY V c) := by
  rw [show cfg0.N = t0_0.val + 1 from N_0, Dat.arrAt_succ, if_pos (flush0_7 t0_0)]
  funext x
  refine (congrArg _ (show x = ((cfg0.win 7).blk t0_0).view.emb x from ?_)).trans
    (congrFun (View.read_write_univ (v := ((cfg0.win 7).blk t0_0).view) ((dat V c).arrAt 7 t0_0) ((dat V c).flushed 7 t0_0)) x)
  funext a; apply Fin.ext
  show (x a).val = 0 * S4x512x512.size a + 1 * (x a).val
  omega

/-! ## The region over the unscoped buffers -/

/-- The TensorCore's unscoped references: what the thread state holds at a valuation. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

variable (Vp : (c : Dev nD) → (b : Ref sig .tc) → Buf (Elt F) ((c : Thread nD τ).loc b))

/-- The region's thread state beside the buffers: what the TensorCore owes, its recorded waits at level zero. -/
abbrev due (c : Dev nD) : sProp 𝕄 := iprop(∃ W : Waits sig (HIx 1), ⌜∀ p ∈ W, p ∈ low (F := F) c⌝ ∗ owes (c : Thread nD τ) ((K (F := F)).Otc c 0) W)

theorem Otc_none (c : Dev nD) (g : GSem nD τ sig) : (K (F := F)).Otc c 0 g none = 0 := by
  by_contra h
  have h1 := (K (F := F)).lev_of_Otc_pos (Nat.pos_of_ne_zero h)
  rw [SparseCore.Cfg.lev_none] at h1
  omega

set_option backward.isDefEq.respectTransparency.types false in
/-- The region, from every unscoped buffer at `V` to every unscoped buffer at `Vp`. -/
def reg (hout : ∀ c (w : Fin 8), (dat V c).arrAt w cfg0.N = Vp c (Pipeline.arrRef spec0 w))
    (hne : ∀ c (b : Ref sig .tc), (∀ w : Fin 8, b ≠ Pipeline.arrRef spec0 w) → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ c fun w s t => (K (F := F)).mayWait_none _ (Otc_none c)
  pre c := iprop(unscopedBufs c (V c) ∗ due (F := F) c)
  post c := iprop(unscopedBufs c (Vp c) ∗ due (F := F) c)
  X _ := BI.emp
  Y _ := BI.emp
  Z c := iprop(Pipeline.unscopedRest (Ix := HIx 1) (Name := ℕ) (U := UU) (Lvl := ℕ) spec0 c (V c))
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = iprop(emp) from rfl]
    iintro ⟨-, -, Hr⟩
    ihave H := (Entails.of_eq (scopedRest0_eq c)) $$ Hr
    iexact H
  hout c := by
    rw [Pipeline.ownSems0_none, show (pdats V 0 c).Φ (Fin.last _) = iprop(emp) from rfl]
    iintro Hr
    isplitr; · iempintro
    isplitr; · iempintro
    iapply (Entails.of_eq (scopedRest0_eq c).symm); iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => hout c w)
      (fun b hb => hne c b fun w h => hb (h ▸ Finset.mem_image.mpr ⟨w, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | h
      · exact h
      · obtain ⟨w, s, e⟩ := h
        subst e
        show (K (F := F)).lev _ none ≤ 0
        rw [SparseCore.Cfg.lev_none]
    iexact HO

end Cert.Proof.KI

end
-- ==== Proof.KI.Tile.lean ====
/-
  The tile's task as the launch hands it out: a share of the six index arrays and the tile's row of the result go out,
  the share and the row at the tile's sums come back. The rows of the 32 tiles make up the result.
-/
module

public import proofs.«01_k».proof.Proof.KI.Body
public import proofs.«01_k».proof.Proof.KI.Region
public import Idealize.ShloMosaic.Lib.ShareLeaves

@[expose] public section

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay ownBufs ownSems0 ownCells ownRefs mem_ownCells)
open Idealize.ShloMosaic.Rounds
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- A tile's coordinates. -/
def coordsV (c : Fin (grid1.bound 0)) (s : Fin (grid1.bound 1)) : grid1.Coords :=
  fun | 0 => c | 1 => s | ⟨_ + 2, h⟩ => absurd h (Nat.not_lt.2 (Nat.le_add_left _ _))

theorem coordsV_eta (L : grid1.Coords) : coordsV (L 0) (L 1) = L := by
  funext a
  match a with
  | 0 => rfl
  | 1 => rfl

/-! ## The six arrays and the result -/

/-- Where an array of @main lies on device `d`. -/
abbrev aLoc (d : Dev nD) (b : Ref sig .tc) : Loc nD τ sig := (SparseCore.T d).loc b

variable (A : Dev nD → Fin 6 → Vec F S256x4096 .i32) (o : Dev nD → Vec F S32x32 .f32)

/-- The six arrays at a share. -/
def six (d : Dev nD) (q : PosShare TreeShare) : sProp 𝕄 :=
  iprop((aLoc d main_v3 ↦{q} A d 0)
      ∗ (aLoc d main_v4 ↦{q} A d 1)
      ∗ (aLoc d main_v5 ↦{q} A d 2)
      ∗ (aLoc d main_v6 ↦{q} A d 3)
      ∗ (aLoc d main_v7 ↦{q} A d 4)
      ∗ (aLoc d main_v8 ↦{q} A d 5))

theorem six_leaves (d : Dev nD) (n : ℕ) (q : PosShare TreeShare) :
    six A d q = bigSep Finset.univ fun i : Fin (2 ^ n) => six A d (leaf n q i) := by
  unfold six
  rw [bigSep_sep', bigSep_sep', bigSep_sep', bigSep_sep', bigSep_sep',
    ← pointsTo_leaves, ← pointsTo_leaves, ← pointsTo_leaves, ← pointsTo_leaves, ← pointsTo_leaves, ← pointsTo_leaves]

theorem six_halves (d : Dev nD) (q : PosShare TreeShare) : six A d q = iprop(six A d q.left ∗ six A d q.right) := by
  rw [six_leaves A d 1 q, bigSep_univ_eq_bigSepL [0, 1] (by decide) (by decide)]
  rfl

/-- The six arrays' contents as the task's text names them. -/
def Wt (d : Dev nD) (L : grid1.Coords) : (f : Fin 6) → Buf (Elt F) ((src (Memref.whole main_v3_scv) (Memref.whole main_v4_scv) (Memref.whole main_v5_scv) (Memref.whole main_v6_scv) (Memref.whole main_v7_scv) (Memref.whole main_v8_scv) f).view.loc (thrV d L))
  | 0 => A d 0 | 1 => A d 1 | 2 => A d 2 | 3 => A d 3 | 4 => A d 4 | 5 => A d 5

theorem srcs_eq (d : Dev nD) (L : grid1.Coords) (q : PosShare TreeShare) :
    (srcs (U := UU) d L (Memref.whole main_v3_scv) (Memref.whole main_v4_scv) (Memref.whole main_v5_scv) (Memref.whole main_v6_scv) (Memref.whole main_v7_scv) (Memref.whole main_v8_scv) (Wt A d L) q : sProp 𝕄) = six A d q := by
  unfold srcs
  rw [bigSep_univ_eq_bigSepL [0, 1, 2, 3, 4, 5] (by decide) (by decide)]
  rfl

/-! ## The rows a tile reads -/

/-- Where element `y` of item `k` of the tile at `L` lies in its array. -/
def itemIx (L : grid1.Coords) (k : Nat) (y : S4096.Idx) : S256x4096.Idx :=
  Shape.pair (d := ![256, 4096]) ⟨64 * (bat k).val + 4 * (L 1).val + 2 * (L 0).val + (bnd k).val, by
    have h1 : (L 1).val < 16 := (L 1).isLt
    have h0 : (L 0).val < 2 := (L 0).isLt
    show _ < 256
    omega⟩ (y 0)

theorem emb_rowM (L : grid1.Coords) (v : Ref sig .scVector) (hs : v.ty.shape = S256x4096) (M : Memref sig .scVector .hbm S256x4096 .i32)
    (k : Nat) (y : S4096.Idx) : (rowM L M (bat k) (bnd k)).view.emb y = M.view.emb (itemIx L k y) := by
  show M.view.emb ((Rect.unit (s := S256x4096) (k1_off2 L (BitVec.ofNat 32 (64 * (bat k).val)) (BitVec.ofNat 32 (bnd k).val)) S1x4096.size (k1_off2_inb L (bat k) (bnd k))).emb
    (Shape.reshapeEquiv squeezes_S1x4096_S4096.numel_eq y)) = _
  congr 1
  rw [Shape.reshapeEquiv_eq_of_rowMajor (y := (Shape.pair (d := ![1, 4096]) ⟨0, Nat.one_pos⟩ (y 0) : S1x4096.Idx)) _ (by
    refine (Shape.rowMajor_val_two (d := ![1, 4096]) _).trans ?_
    refine Eq.trans ?_ (Shape.rowMajor_val_one (d := ![4096]) y).symm
    show 0 * 4096 + (y 0).val = (y 0).val
    omega)]
  funext a
  apply Fin.ext
  show k1_off2 L (BitVec.ofNat 32 (64 * (bat k).val)) (BitVec.ofNat 32 (bnd k).val) a + 1 * _ = _
  refine (congrArg (· + _) (congrFun (k1_off2_eq L (bat k) (bnd k)) a)).trans ?_
  match a with
  | 0 => show 64 * (bat k).val + 4 * (L 1).val + 2 * (L 0).val + (bnd k).val + 1 * 0 = 64 * (bat k).val + 4 * (L 1).val + 2 * (L 0).val + (bnd k).val; omega
  | 1 => show 0 + 1 * (y 0).val = (y 0).val; omega

theorem rowV_eq (d : Dev nD) (L : grid1.Coords) (k : Nat) (y : S4096.Idx) :
    rowV d L (Memref.whole main_v3_scv) (Memref.whole main_v4_scv) (Memref.whole main_v5_scv) (Memref.whole main_v6_scv) (Memref.whole main_v7_scv) (Memref.whole main_v8_scv) (Wt A d L) k y = A d (fld k) (itemIx L k y) := by
  unfold rowV itemM
  generalize fld k = f
  match f with
  | 0 =>
    show A d 0 ((rowM L (Memref.whole main_v3_scv) (bat k) (bnd k)).view.emb y) = _
    rw [emb_rowM L main_v3_scv rfl]
    rfl
  | 1 =>
    show A d 1 ((rowM L (Memref.whole main_v4_scv) (bat k) (bnd k)).view.emb y) = _
    rw [emb_rowM L main_v4_scv rfl]
    rfl
  | 2 =>
    show A d 2 ((rowM L (Memref.whole main_v5_scv) (bat k) (bnd k)).view.emb y) = _
    rw [emb_rowM L main_v5_scv rfl]
    rfl
  | 3 =>
    show A d 3 ((rowM L (Memref.whole main_v6_scv) (bat k) (bnd k)).view.emb y) = _
    rw [emb_rowM L main_v6_scv rfl]
    rfl
  | 4 =>
    show A d 4 ((rowM L (Memref.whole main_v7_scv) (bat k) (bnd k)).view.emb y) = _
    rw [emb_rowM L main_v7_scv rfl]
    rfl
  | 5 =>
    show A d 5 ((rowM L (Memref.whole main_v8_scv) (bat k) (bnd k)).view.emb y) = _
    rw [emb_rowM L main_v8_scv rfl]
    rfl

/-! ## The row a tile writes -/

/-- A tile's row of the result: its sums. -/
def tileOut (d : Dev nD) (L : grid1.Coords) : Vec F S32 .f32 :=
  ovec (accs d L (Memref.whole main_v3_scv) (Memref.whole main_v4_scv) (Memref.whole main_v5_scv) (Memref.whole main_v6_scv) (Memref.whole main_v7_scv) (Memref.whole main_v8_scv) (Wt A d L) (zeroA, zeroA) 48).1 (accs d L (Memref.whole main_v3_scv) (Memref.whole main_v4_scv) (Memref.whole main_v5_scv) (Memref.whole main_v6_scv) (Memref.whole main_v7_scv) (Memref.whole main_v8_scv) (Wt A d L) (zeroA, zeroA) 48).2

/-- The result, its row `2 s + c` the tile `(c, s)`'s. -/
def OUT (d : Dev nD) : Vec F S32x32 .f32 := fun y =>
  tileOut A d (coordsV ⟨(y 0).val % 2, by show _ < 2; omega⟩ ⟨(y 0).val / 2, by
    have h : (y 0).val < 32 := (y 0).isLt
    show _ < 16
    omega⟩) (Shape.ofLane (d := ![32]) (y 1))

/-- The elements of a tile's row. -/
def oRow (L : grid1.Coords) : Finset S32x32.Idx := Finset.univ.filter fun y => (y 0).val = 2 * (L 1).val + (L 0).val

abbrev oM (L : grid1.Coords) : Memref sig .scVector .hbm S32 .f32 := outM L (Memref.whole main_v9_scv)

theorem set_oM (L : grid1.Coords) : (oM L).view.set = oRow L := by
  show (((View.whole (main_v9_scv : Ref sig .scVector)).slice (Rect.unit (s := S32x32) (k1_off52 L) S1x32.size (k1_off52_inb L))).reshape S32 squeezes_S1x32_S32.numel_eq).set = _
  rw [View.set_reshape, View.set_slice_whole]
  ext y
  rw [Rect.mem_set_unit, oRow, Finset.mem_filter]
  rw [k1_off52_eq]
  have hy : (y 1).val < 32 := (y 1).isLt
  constructor
  · intro h
    have h0 := h 0
    replace h0 : 2 * (L 1).val + (L 0).val ≤ (y 0).val ∧ (y 0).val < 2 * (L 1).val + (L 0).val + 1 := h0
    exact ⟨Finset.mem_univ _, by omega⟩
  · rintro ⟨-, h⟩ a
    match a with
    | 0 => show 2 * (L 1).val + (L 0).val ≤ (y 0).val ∧ (y 0).val < 2 * (L 1).val + (L 0).val + 1; omega
    | 1 => show 0 ≤ (y 1).val ∧ (y 1).val < 0 + 32; omega

theorem emb_oM (L : grid1.Coords) (y : S32x32.Idx) (hy : y ∈ oRow L) : (oM L).view.emb (Shape.ofLane (d := ![32]) (y 1)) = y := by
  rw [oRow, Finset.mem_filter] at hy
  show (Rect.unit (s := S32x32) (k1_off52 L) S1x32.size (k1_off52_inb L)).emb
    (Shape.reshapeEquiv squeezes_S1x32_S32.numel_eq (Shape.ofLane (d := ![32]) (y 1))) = _
  rw [Shape.reshapeEquiv_eq_of_rowMajor (y := (Shape.pair (d := ![1, 32]) ⟨0, Nat.one_pos⟩ (y 1) : S1x32.Idx)) _ (by
    refine (Shape.rowMajor_val_two (d := ![1, 32]) _).trans ?_
    refine Eq.trans ?_ (Shape.rowMajor_val_one (d := ![32]) _).symm
    show 0 * 32 + (y 1).val = (y 1).val
    omega)]
  funext a
  apply Fin.ext
  show k1_off52 L a + 1 * _ = _
  refine (congrArg (· + _) (congrFun (k1_off52_eq L) a)).trans ?_
  match a with
  | 0 => show 2 * (L 1).val + (L 0).val + 1 * 0 = (y 0).val; omega
  | 1 => show 0 + 1 * (y 1).val = (y 1).val; omega

/-- A row that reads as the tile's sums is the result's row. -/
theorem oRow_out (d : Dev nD) (L : grid1.Coords) (f : Buf (Elt F) (aLoc d main_v9)) (hf : (oM L).view.read (Elt F) f = tileOut A d L) :
    ∀ y ∈ oRow L, f y = OUT A d y := by
  intro y hy
  have h := congrFun hf (Shape.ofLane (d := ![32]) (y 1))
  replace h : f ((oM L).view.emb (Shape.ofLane (d := ![32]) (y 1))) = tileOut A d L (Shape.ofLane (d := ![32]) (y 1)) := h
  rw [emb_oM L y hy] at h
  rw [h]
  unfold OUT
  congr 1
  rw [oRow, Finset.mem_filter] at hy
  have h0 : (L 0).val < 2 := (L 0).isLt
  rw [← coordsV_eta L]
  congr 2 <;> apply Fin.ext
  · show (L 0).val = (y 0).val % 2; omega
  · show (L 1).val = (y 0).val / 2; omega

/-! ## What the handshakes carry -/

/-- The share of the six arrays a tile gets: the full share cut in two, each half in sixteen. -/
abbrev shL (L : grid1.Coords) : PosShare TreeShare := leaf 4 (leaf 1 fullShare (Fin.cast (show grid1.bound 0 = 2 ^ 1 from rfl) (L 0))) (Fin.cast (show grid1.bound 1 = 2 ^ 4 from rfl) (L 1))

/-- What goes out to a tile, and what comes back. -/
def goP (d : Dev nD) (L : grid1.Coords) : sProp 𝕄 := iprop(six A d (shL L) ∗ (aLoc d main_v9 ↦[oRow L]{fullShare} o d))
def tdP (d : Dev nD) (L : grid1.Coords) : sProp 𝕄 := iprop(six A d (shL L) ∗ (aLoc d main_v9 ↦[oRow L]{fullShare} OUT A d))

instance goP_storable (d : Dev nD) (L : grid1.Coords) : BI.Storable (upEmb : UEmb _ 𝕄) (goP A o d L) := by
  unfold goP six; infer_instance
instance tdP_storable (d : Dev nD) (L : grid1.Coords) : BI.Storable (upEmb : UEmb _ 𝕄) (tdP A d L) := by
  unfold tdP six; infer_instance

/-- Tile `(c, s)`. -/
abbrev tl (c : Fin 2) (s : Fin 16) : grid1.Coords := coordsV (Fin.cast (show 2 = grid1.bound 0 from rfl) c) (Fin.cast (show 16 = grid1.bound 1 from rfl) s)

/-- The call hands each core its sixteen tiles' shares and rows. -/
def P : (K (F := F)).Pay (nD := nD) (Val := Elt F) (Name := ℕ) (U := UU) where
  st := fun q d c => match q with | 0 => bigSep Finset.univ fun s : Fin 16 => goP A o d (tl (Fin.cast nCore_zero c) s)
  dn := fun q d c => match q with | 0 => bigSep Finset.univ fun s : Fin 16 => tdP A d (tl (Fin.cast nCore_zero c) s)
  go := fun q d c i => match q with | 0 => goP A o d (tl (Fin.cast nCore_zero c) (Fin.cast nSub_zero i))
  td := fun q d c i => match q with | 0 => tdP A d (tl (Fin.cast nCore_zero c) (Fin.cast nSub_zero i))
  x := fun _ _ => iprop(emp)

instance P_storable : (P A o).IsStorable where
  st q d c := match q with
    | 0 => (inferInstance : BI.Storable (upEmb : UEmb _ 𝕄) (bigSep Finset.univ fun s : Fin 16 => goP A o d (tl (Fin.cast nCore_zero c) s)))
  dn q d c := match q with
    | 0 => (inferInstance : BI.Storable (upEmb : UEmb _ 𝕄) (bigSep Finset.univ fun s : Fin 16 => tdP A d (tl (Fin.cast nCore_zero c) s)))
  go q d c i := match q with
    | 0 => (inferInstance : BI.Storable (upEmb : UEmb _ 𝕄) (goP A o d (tl (Fin.cast nCore_zero c) (Fin.cast nSub_zero i))))
  td q d c i := match q with
    | 0 => (inferInstance : BI.Storable (upEmb : UEmb _ 𝕄) (tdP A d (tl (Fin.cast nCore_zero c) (Fin.cast nSub_zero i))))

/-! ## The task -/

theorem ownSems0_V (d : Dev nD) (c : Fin τ.nSC) (j : Fin τ.nSub) :
    (ownSems0 (V d c j) : sProp 𝕄)
      = iprop(semVal ((V d c j, SemLoc.dma cc1_scratch5.sem) : GSem nD τ sig) 0 ∗ semVal ((V d c j, SemLoc.dma cc1_scratch6.sem) : GSem nD τ sig) 0 ∗ semVal ((V d c j, SemLoc.dma cc1_scoped0.sem) : GSem nD τ sig) 0
          ∗ bigSep ((((ownCells (V d c j)).erase ((V d c j, SemLoc.dma cc1_scratch5.sem) : GSem nD τ sig)).erase ((V d c j, SemLoc.dma cc1_scratch6.sem) : GSem nD τ sig)).erase ((V d c j, SemLoc.dma cc1_scoped0.sem) : GSem nD τ sig)) fun g => semVal g 0) := by
  unfold SparseCore.Cfg.ownSems0
  rw [SparseCore.bigSep_erase' ((mem_ownCells (g := ((V d c j, SemLoc.dma cc1_scratch5.sem) : GSem nD τ sig))).mpr ⟨rfl, by show (SemLoc.dma cc1_scratch5.sem : SemLoc sig).isScoped .scVector = true; decide⟩),
    SparseCore.bigSep_erase' (Finset.mem_erase.mpr ⟨fun e => absurd (congrArg Prod.snd e) (show (SemLoc.dma cc1_scratch6.sem : SemLoc sig) ≠ SemLoc.dma cc1_scratch5.sem by decide), (mem_ownCells (g := ((V d c j, SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨fun e => absurd (congrArg Prod.snd e) (show (SemLoc.dma cc1_scoped0.sem : SemLoc sig) ≠ SemLoc.dma cc1_scratch6.sem by decide), Finset.mem_erase.mpr ⟨fun e => absurd (congrArg Prod.snd e) (show (SemLoc.dma cc1_scoped0.sem : SemLoc sig) ≠ SemLoc.dma cc1_scratch5.sem by decide), (mem_ownCells (g := ((V d c j, SemLoc.dma cc1_scoped0.sem) : GSem nD τ sig))).mpr ⟨rfl, by show (SemLoc.dma cc1_scoped0.sem : SemLoc sig).isScoped .scVector = true; decide⟩⟩⟩)]

theorem ownBufs_V (d : Dev nD) (c : Fin τ.nSC) (j : Fin τ.nSub) :
    (ownBufs (V d c j) : sProp 𝕄)
      = iprop((∃ f, (V d c j).loc cc1_scratch0 ↦{fullShare} f) ∗ (∃ f, (V d c j).loc cc1_scratch1 ↦{fullShare} f) ∗ (∃ f, (V d c j).loc cc1_scratch2 ↦{fullShare} f) ∗ (∃ f, (V d c j).loc cc1_scratch3 ↦{fullShare} f) ∗ (∃ f, (V d c j).loc cc1_scratch4 ↦{fullShare} f)
          ∗ bigSep ((((((ownRefs (τ := τ) (.scVector c j)).erase ((Proc.scVector c j).devRef cc1_scratch0)).erase ((Proc.scVector c j).devRef cc1_scratch1)).erase ((Proc.scVector c j).devRef cc1_scratch2)).erase ((Proc.scVector c j).devRef cc1_scratch3)).erase ((Proc.scVector c j).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c j) (b := (Proc.scVector c j).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c j) (b := (Proc.scVector c j).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c j) (b := (Proc.scVector c j).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c j) (b := (Proc.scVector c j).devRef cc1_scratch4) rfl⟩⟩⟩⟩)]

/-- A scratch buffer held whole is its memref held. -/
theorem some_in {thr : Thread nD τ} {b : Ref sig thr.2.kind} :
    (iprop(∃ f, thr.loc b ↦{fullShare} f) : sProp 𝕄) ⊢ some_ (U := UU) thr (Memref.whole b) := by
  unfold some_ holds
  iintro ⟨%f, H⟩
  iexists ((Memref.whole b).view.read (Elt F) f); iexists f
  isplitr; · ipureintro; rfl
  iexact H
theorem some_out {thr : Thread nD τ} {b : Ref sig thr.2.kind} :
    (some_ (U := UU) thr (Memref.whole b) : sProp 𝕄) ⊢ iprop(∃ f, thr.loc b ↦{fullShare} f) := by
  unfold some_ holds
  iintro ⟨%g, %f, %hf, H⟩
  iexists f
  iexact H

/-- Every word of the six arrays addresses the accumulator. -/
def Fits : Prop := ∀ d f z, (A d f z : BitVec 32).toNat < 32768

set_option maxHeartbeats 4000000 in
theorem tile_body (hA : Fits A) (d : Dev nD) (L : grid1.Coords) (O : CellTallies nD τ sig (HIx 1)) (W : Waits sig (HIx 1)) (hO : ∀ g, O g none = 0) :
    iprop(levAts (K (F := F)).L (K (F := F)).lev ∗ emp ∗ goP A o d L
        ∗ scopedBufs (thrV d L) ∗ scopedSems0 (thrV d L) ∗ owes (thrV d L) O W)
      ⊢ (wp frame (wpE (defs₀ (F := F)) 𝒱₀ (thrV d L) none) Set.univ (cc1_sc (F := F) L (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0)
        fun _ => iprop(tdP A d L ∗ scopedBufs (thrV d L) ∗ scopedSems0 (thrV d L)
          ∗ ∃ W', ⌜∀ p ∈ W', p ∈ W ∨ p.2 = none⌝ ∗ owes (thrV d L) O W') : sProp 𝕄) := by
  rw [(K (F := F)).scopedBufs_V kfacts d ((L 0).castLE hcore1) ((L 1).castLE hsub1), SparseCore.Cfg.scopedSems0_V (Val := Elt F) d ((L 0).castLE hcore1) ((L 1).castLE hsub1),
    ownSems0_V, ownBufs_V]
  unfold goP tdP
  iintro ⟨#Hlv, -, ⟨H6, Ho⟩, ⟨H9, H10, H11, H12, H13, Hbufs⟩, ⟨Hs14, Hs15, Hs, Hsems⟩, HO⟩
  ihave Hmw := (show levAts (K (F := F)).L (K (F := F)).lev ⊢ Transfers.MayWaits (thrV d L) (default : HIx 1) O from (K (F := F)).mayWaits_none (thr := thrV d L) hO) $$ Hlv
  ihave H6' := (Entails.of_eq (six_halves A d (shL L))) $$ H6
  icases H6' with ⟨Hl, Hr⟩
  iapply (wp_wand_r frame (wpE (defs₀ (F := F)) 𝒱₀ (thrV d L) none) Set.univ)
  isplitl [Hl Hr Ho H9 H10 H11 H12 H13 Hs14 Hs15 Hs HO Hmw]
  · iapply (prog_wp (U := UU) d L (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0 (Wt A d L) (shL L).left (shL L).right (fun k y => by rw [rowV_eq]; exact hA d _ _) O W (o d))
    isplitl [Hl]; · iapply (Entails.of_eq (srcs_eq A d L _).symm); iexact Hl
    isplitl [Hr]; · iapply (Entails.of_eq (srcs_eq A d L _).symm); iexact Hr
    isplitl [H9]; · iapply some_in; iexact H9
    isplitl [H10]; · iapply some_in; iexact H10
    isplitl [H11]; · iapply some_in; iexact H11
    isplitl [H12]; · iapply some_in; iexact H12
    isplitl [H13]; · iapply some_in; iexact H13
    isplitl [Hs14]; · iexact Hs14
    isplitl [Hs15]; · iexact Hs15
    isplitl [Hs]; · iexact Hs
    isplitl [Ho]
    · iapply (Entails.of_eq (show (aLoc d main_v9 ↦[oRow L]{fullShare} o d : sProp 𝕄) = ((oM L).view.loc (thrV d L) ↦[(oM L).view.set]{fullShare} o d) by rw [set_oM])); iexact Ho
    isplitl [Hmw]; · iexact Hmw
    iexact HO
  iintro %_ ⟨Hl, Hr, H9, H10, H11, H12, H13, Hs14, Hs15, Hs, ⟨%fo, %hfo, Ho⟩, HO⟩
  isplitl [Hl Hr Ho]
  · isplitl [Hl Hr]
    · iapply (Entails.of_eq (six_halves A d (shL L)).symm)
      isplitl [Hl]; · iapply (Entails.of_eq (srcs_eq A d L _)); iexact Hl
      iapply (Entails.of_eq (srcs_eq A d L _)); iexact Hr
    · iapply (Entails.of_eq (show ((oM L).view.loc (thrV d L) ↦[(oM L).view.set]{fullShare} fo : sProp 𝕄) = (aLoc d main_v9 ↦[oRow L]{fullShare} OUT A d) by
        rw [set_oM]; exact pointsTo_congr (oRow_out A d L fo hfo)))
      iexact Ho
  isplitl [H9 H10 H11 H12 H13 Hbufs]
  · isplitl [H9]; · iapply some_out; iexact H9
    isplitl [H10]; · iapply some_out; iexact H10
    isplitl [H11]; · iapply some_out; iexact H11
    isplitl [H12]; · iapply some_out; iexact H12
    isplitl [H13]; · iapply some_out; iexact H13
    iexact Hbufs
  isplitl [Hs14 Hs15 Hs Hsems]
  · isplitl [Hs14]; · iexact Hs14
    isplitl [Hs15]; · iexact Hs15
    isplitl [Hs]; · iexact Hs
    iexact Hsems
  iexact HO

/-! ## The obligation -/

theorem defs₀_vector (c : Fin τ.nSC) (s : Fin τ.nSub) :
    defs₀ (F := F) (.scVector c s) 1 () = SparseCore.onTile hcore1 hsub1 (fun c s => cc1_sc (coordsV c s) (Memref.whole main_v3_scv) (Memref.isWhole_whole _) (Memref.whole main_v4_scv) (Memref.isWhole_whole _) (Memref.whole main_v5_scv) (Memref.isWhole_whole _) (Memref.whole main_v6_scv) (Memref.isWhole_whole _) (Memref.whole main_v7_scv) (Memref.isWhole_whole _) (Memref.whole main_v8_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scratch5 cc1_scratch6 cc1_scoped0) ⟨⟩ c s := rfl

theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HX, HY, HZ, %W', %hW', HO⟩
  isplitl [HX]; · iexact HX
  isplitl [HY]; · iexact HY
  isplitl [HZ]; · iexact HZ
  iexists W'; isplitr
  · ipureintro; exact fun p hp => (hW' p hp).imp_right Or.inl
  · iexact HO

set_option maxRecDepth 16384 in
theorem tileObl (hA : Fits A) : (K (F := F)).TileObl (D (F := F)) 𝒱 (P A o) v₀ 0 := by
  intro d c i O W hO _ _
  simp only [show (P A o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A o hA d (coordsV ⟨_, hci.1⟩ ⟨_, hci.2⟩) O W hO).trans (wp_mono frame _ _ fun _ => obl_post)

/-! ## A core's payload is its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P A o) 0 := by
  intro d c
  show (bigSep Finset.univ fun s : Fin 16 => goP A o d (tl (Fin.cast nCore_zero c) s)) ⊢ |={Set.univ}=> iprop(
      (bigSep Finset.univ fun i : Fin ((K (F := F)).nSub 0) => goP A o d (tl (Fin.cast nCore_zero c) (Fin.cast nSub_zero i)))
      ∗ ((bigSep Finset.univ fun i : Fin ((K (F := F)).nSub 0) => tdP A d (tl (Fin.cast nCore_zero c) (Fin.cast nSub_zero i)))
          -∗ bigSep Finset.univ fun s : Fin 16 => tdP A d (tl (Fin.cast nCore_zero c) s)))
  rw [bigSep_tasks (F := F) (fun s => goP A o d (tl (Fin.cast nCore_zero c) s)), bigSep_tasks (F := F) (fun s => tdP A d (tl (Fin.cast nCore_zero c) s))]
  iintro H; imodintro
  isplitl [H]; · iexact H
  iintro H; iexact H

/-! ## The shares and rows all together -/

theorem rows_disjoint (c : Fin 2) : ∀ s ∈ (Finset.univ : Finset (Fin 16)), ∀ s' ∈ (Finset.univ : Finset (Fin 16)), s ≠ s' → Disjoint (oRow (tl c s)) (oRow (tl c s')) := by
  intro s _ s' _ h
  rw [Finset.disjoint_left]
  intro y h1 h2
  rw [oRow, Finset.mem_filter] at h1 h2
  apply h; apply Fin.ext
  have e1 : (y 0).val = 2 * s.val + c.val := h1.2
  have e2 : (y 0).val = 2 * s'.val + c.val := h2.2
  omega

/-- The rows of one core's tiles. -/
def cRow (c : Fin 2) : Finset S32x32.Idx := (Finset.univ : Finset (Fin 16)).biUnion fun s => oRow (tl c s)

theorem mem_cRow {c : Fin 2} {y : S32x32.Idx} (h : y ∈ cRow c) : (y 0).val % 2 = c.val := by
  rw [cRow, Finset.mem_biUnion] at h
  obtain ⟨s, -, h⟩ := h
  rw [oRow, Finset.mem_filter] at h
  have e1 : (y 0).val = 2 * s.val + c.val := h.2
  have := c.isLt
  omega

theorem cRows_disjoint : ∀ c ∈ (Finset.univ : Finset (Fin 2)), ∀ c' ∈ (Finset.univ : Finset (Fin 2)), c ≠ c' → Disjoint (cRow c) (cRow c') := by
  intro c _ c' _ h
  rw [Finset.disjoint_left]
  intro y h1 h2
  exact h (Fin.ext ((mem_cRow h1).symm.trans (mem_cRow h2)))

theorem cRows_cover : (Finset.univ : Finset (Fin 2)).biUnion cRow = Finset.univ := by
  ext y
  refine ⟨fun _ => Finset.mem_univ _, fun _ => Finset.mem_biUnion.mpr ⟨⟨(y 0).val % 2, by omega⟩, Finset.mem_univ _, ?_⟩⟩
  have hy : (y 0).val < 32 := (y 0).isLt
  refine Finset.mem_biUnion.mpr ⟨⟨(y 0).val / 2, by omega⟩, Finset.mem_univ _, ?_⟩
  rw [oRow, Finset.mem_filter]
  refine ⟨Finset.mem_univ _, ?_⟩
  show (y 0).val = 2 * ((y 0).val / 2) + (y 0).val % 2
  omega

/-- The result held whole is all its rows held. -/
theorem v9_rows (d : Dev nD) (f : Buf (Elt F) (aLoc d main_v9)) :
    (aLoc d main_v9 ↦{fullShare} f : sProp 𝕄) = bigSep Finset.univ fun c : Fin 2 => bigSep Finset.univ fun s : Fin 16 => aLoc d main_v9 ↦[oRow (tl c s)]{fullShare} f := by
  rw [show (aLoc d main_v9 ↦{fullShare} f : sProp 𝕄) = (aLoc d main_v9 ↦[(Finset.univ : Finset (Fin 2)).biUnion cRow]{fullShare} f) by rw [cRows_cover],
    pointsTo_biUnion Finset.univ (ℓ := aLoc d main_v9) cRow cRows_disjoint]
  refine bigSep_congr fun c _ => ?_
  unfold cRow
  rw [pointsTo_biUnion Finset.univ (ℓ := aLoc d main_v9) (fun s => oRow (tl c s)) (rows_disjoint c)]

/-- The six arrays held whole are all the tiles' shares of them. -/
theorem six_tiles (d : Dev nD) : six A d fullShare = bigSep Finset.univ fun c : Fin 2 => bigSep Finset.univ fun s : Fin 16 => six A d (shL (tl c s)) := by
  rw [six_leaves A d 1]
  refine bigSep_congr fun c _ => ?_
  rw [six_leaves A d 4]
  rfl

theorem st0_eq (d : Dev nD) : (bigSep Finset.univ fun c : Fin ((K (F := F)).nCore 0) => (P A o).st 0 d c)
    = iprop(six A d fullShare ∗ (aLoc d main_v9 ↦{fullShare} o d)) := by
  show (bigSep (Finset.univ : Finset (Fin 2)) fun c => bigSep Finset.univ fun s : Fin 16 => goP A o d (tl c s)) = _
  rw [six_tiles, v9_rows, ← bigSep_sep']
  refine bigSep_congr fun c _ => ?_
  rw [← bigSep_sep']
  rfl
theorem dn0_eq (d : Dev nD) : (bigSep Finset.univ fun c : Fin ((K (F := F)).nCore 0) => (P A o).dn 0 d c)
    = iprop(six A d fullShare ∗ (aLoc d main_v9 ↦{fullShare} OUT A d)) := by
  show (bigSep (Finset.univ : Finset (Fin 2)) fun c => bigSep Finset.univ fun s : Fin 16 => tdP A d (tl c s)) = _
  rw [six_tiles, v9_rows, ← bigSep_sep']
  refine bigSep_congr fun c _ => ?_
  rw [← bigSep_sep']
  rfl

end Cert.Proof.KI

end
-- ==== Proof.KI.Launch.lean ====
/-
  @main on the TensorCore, and the program's run: two reshapes, the pallas_call's region, six reshapes, the SparseCore
  call from the six arrays and the result's buffer, the sum of the result and its division; the arguments as they were
  and the last buffer at the value the chain of operations gives it.
-/
module

public import proofs.«01_k».proof.Proof.KI.Tile

@[expose] public section

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay ownBufs ownSems0 ownCells ownRefs mem_ownCells)
open Idealize.ShloMosaic.Rounds
open Idealize.ShloMosaic.Pipeline (Dat)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The buffers' contents as @main goes on -/

/-- At the launch, and after the first two reshapes. -/
def W0 (d : Dev nD) : Valuation τ sig (Elt F) := fun b => m (d, b)
def W1 (d : Dev nD) : Valuation τ sig (Elt F) := (StableHlo.reshape main_arg0 main_v0 (rfl : (.f32 : EltTy) = .f32) shapeCasts_S4x1x512x512_S4x512x512).result (W0 m d)
def W2 (d : Dev nD) : Valuation τ sig (Elt F) := (StableHlo.reshape main_arg1 main_v1 (rfl : (.f32 : EltTy) = .f32) shapeCasts_S4x1x512x512_S4x512x512).result (W1 m d)

/-- The two images as the pallas_call reads them. -/
def X (d : Dev nD) : FVec F S4x512x512 .f32 := W2 m d main_v0
def Y (d : Dev nD) : FVec F S4x512x512 .f32 := W2 m d main_v1

/-- After the pallas_call, -/
def W3_0 (d : Dev nD) : Valuation τ sig (Elt F) := (StableHlo.nullary main_v2_0 (fInt (X m d))).result (W2 m d)
def W3_1 (d : Dev nD) : Valuation τ sig (Elt F) := (StableHlo.nullary main_v2_1 (fMag (X m d))).result (W3_0 m d)
def W3_2 (d : Dev nD) : Valuation τ sig (Elt F) := (StableHlo.nullary main_v2_2 (fDir (X m d))).result (W3_1 m d)
def W3_3 (d : Dev nD) : Valuation τ sig (Elt F) := (StableHlo.nullary main_v2_3 (rInt (Y m d))).result (W3_2 m d)
def W3_4 (d : Dev nD) : Valuation τ sig (Elt F) := (StableHlo.nullary main_v2_4 (rMag (Y m d))).result (W3_3 m d)
def W3_5 (d : Dev nD) : Valuation τ sig (Elt F) := (StableHlo.nullary main_v2_5 (rDir (Y m d))).result (W3_4 m d)
/-- after its results are reshaped, -/
def W4_0 (d : Dev nD) : Valuation τ sig (Elt F) := (StableHlo.reshape main_v2_0 main_v3 (rfl : (.i32 : EltTy) = .i32) shapeCasts_S4x512x512_S256x4096).result (W3_5 m d)
def W4_1 (d : Dev nD) : Valuation τ sig (Elt F) := (StableHlo.reshape main_v2_3 main_v4 (rfl : (.i32 : EltTy) = .i32) shapeCasts_S4x512x512_S256x4096).result (W4_0 m d)
def W4_2 (d : Dev nD) : Valuation τ sig (Elt F) := (StableHlo.reshape main_v2_1 main_v5 (rfl : (.i32 : EltTy) = .i32) shapeCasts_S4x512x512_S256x4096).result (W4_1 m d)
def W4_3 (d : Dev nD) : Valuation τ sig (Elt F) := (StableHlo.reshape main_v2_2 main_v6 (rfl : (.i32 : EltTy) = .i32) shapeCasts_S4x512x512_S256x4096).result (W4_2 m d)
def W4_4 (d : Dev nD) : Valuation τ sig (Elt F) := (StableHlo.reshape main_v2_4 main_v7 (rfl : (.i32 : EltTy) = .i32) shapeCasts_S4x512x512_S256x4096).result (W4_3 m d)
def W4_5 (d : Dev nD) : Valuation τ sig (Elt F) := (StableHlo.reshape main_v2_5 main_v8 (rfl : (.i32 : EltTy) = .i32) shapeCasts_S4x512x512_S256x4096).result (W4_4 m d)

/-- The six arrays the SparseCore call reads, and the result's buffer as it finds it. -/
def A (d : Dev nD) : Fin 6 → Vec F S256x4096 .i32
  | 0 => W4_5 m d main_v3 | 1 => W4_5 m d main_v4 | 2 => W4_5 m d main_v5 | 3 => W4_5 m d main_v6 | 4 => W4_5 m d main_v7 | 5 => W4_5 m d main_v8
def o9 (d : Dev nD) : Vec F S32x32 .f32 := W4_5 m d main_v9

/-- After the SparseCore call, and after each of the last four operations. -/
def W5 (d : Dev nD) : Valuation τ sig (Elt F) := (StableHlo.nullary main_v9 (OUT (A m) d)).result (W4_5 m d)
def W6 (d : Dev nD) : Valuation τ sig (Elt F) := (StableHlo.nullary main_cst (constant S_ .f32 0x00000000#32)).result (W5 m d)
def W7 (d : Dev nD) : Valuation τ sig (Elt F) := (StableHlo.binary main_v9 main_cst main_v10 ((fun x v => Host.reduceAdd x v reducesTo_S32x32_S_d0_1 h_S_) : (⟨S32x32, .f32⟩ : BufTy).Contents (Elt F) → (⟨S_, .f32⟩ : BufTy).Contents (Elt F) → (⟨S_, .f32⟩ : BufTy).Contents (Elt F))).result (W6 m d)
def W8 (d : Dev nD) : Valuation τ sig (Elt F) := (StableHlo.nullary main_cst_0 (constant S_ .f32 0x49800000#32)).result (W7 m d)
def W9 (d : Dev nD) : Valuation τ sig (Elt F) := (StableHlo.binary main_v10 main_cst_0 main_v11 (Host.divf : (⟨S_, .f32⟩ : BufTy).Contents (Elt F) → (⟨S_, .f32⟩ : BufTy).Contents (Elt F) → (⟨S_, .f32⟩ : BufTy).Contents (Elt F))).result (W8 m d)

/-- The program's result. -/
def res (d : Dev nD) : Vec F S_ .f32 := Host.divf (Host.reduceAdd (OUT (A m) d) (constant S_ .f32 0x00000000#32) reducesTo_S32x32_S_d0_1 h_S_) (constant S_ .f32 0x49800000#32)

/-! ## What a buffer holds that an operation does not write -/

theorem W1_ne (d : Dev nD) {r : Ref sig .tc} (h : r ≠ main_v0) : W1 m d r = W0 m d r := StableHlo.result_of_writes_ne _ _ main_v0 r rfl h
theorem W2_ne (d : Dev nD) {r : Ref sig .tc} (h : r ≠ main_v1) : W2 m d r = W1 m d r := StableHlo.result_of_writes_ne _ _ main_v1 r rfl h
theorem W3_0_ne (d : Dev nD) {r : Ref sig .tc} (h : r ≠ main_v2_0) : W3_0 m d r = W2 m d r := StableHlo.result_of_writes_ne _ _ main_v2_0 r rfl h
theorem W3_1_ne (d : Dev nD) {r : Ref sig .tc} (h : r ≠ main_v2_1) : W3_1 m d r = W3_0 m d r := StableHlo.result_of_writes_ne _ _ main_v2_1 r rfl h
theorem W3_2_ne (d : Dev nD) {r : Ref sig .tc} (h : r ≠ main_v2_2) : W3_2 m d r = W3_1 m d r := StableHlo.result_of_writes_ne _ _ main_v2_2 r rfl h
theorem W3_3_ne (d : Dev nD) {r : Ref sig .tc} (h : r ≠ main_v2_3) : W3_3 m d r = W3_2 m d r := StableHlo.result_of_writes_ne _ _ main_v2_3 r rfl h
theorem W3_4_ne (d : Dev nD) {r : Ref sig .tc} (h : r ≠ main_v2_4) : W3_4 m d r = W3_3 m d r := StableHlo.result_of_writes_ne _ _ main_v2_4 r rfl h
theorem W3_5_ne (d : Dev nD) {r : Ref sig .tc} (h : r ≠ main_v2_5) : W3_5 m d r = W3_4 m d r := StableHlo.result_of_writes_ne _ _ main_v2_5 r rfl h
theorem W4_0_ne (d : Dev nD) {r : Ref sig .tc} (h : r ≠ main_v3) : W4_0 m d r = W3_5 m d r := StableHlo.result_of_writes_ne _ _ main_v3 r rfl h
theorem W4_1_ne (d : Dev nD) {r : Ref sig .tc} (h : r ≠ main_v4) : W4_1 m d r = W4_0 m d r := StableHlo.result_of_writes_ne _ _ main_v4 r rfl h
theorem W4_2_ne (d : Dev nD) {r : Ref sig .tc} (h : r ≠ main_v5) : W4_2 m d r = W4_1 m d r := StableHlo.result_of_writes_ne _ _ main_v5 r rfl h
theorem W4_3_ne (d : Dev nD) {r : Ref sig .tc} (h : r ≠ main_v6) : W4_3 m d r = W4_2 m d r := StableHlo.result_of_writes_ne _ _ main_v6 r rfl h
theorem W4_4_ne (d : Dev nD) {r : Ref sig .tc} (h : r ≠ main_v7) : W4_4 m d r = W4_3 m d r := StableHlo.result_of_writes_ne _ _ main_v7 r rfl h
theorem W4_5_ne (d : Dev nD) {r : Ref sig .tc} (h : r ≠ main_v8) : W4_5 m d r = W4_4 m d r := StableHlo.result_of_writes_ne _ _ main_v8 r rfl h
theorem W5_ne (d : Dev nD) {r : Ref sig .tc} (h : r ≠ main_v9) : W5 m d r = W4_5 m d r := StableHlo.result_of_writes_ne _ _ main_v9 r rfl h
theorem W6_ne (d : Dev nD) {r : Ref sig .tc} (h : r ≠ main_cst) : W6 m d r = W5 m d r := StableHlo.result_of_writes_ne _ _ main_cst r rfl h
theorem W7_ne (d : Dev nD) {r : Ref sig .tc} (h : r ≠ main_v10) : W7 m d r = W6 m d r := StableHlo.result_of_writes_ne _ _ main_v10 r rfl h
theorem W8_ne (d : Dev nD) {r : Ref sig .tc} (h : r ≠ main_cst_0) : W8 m d r = W7 m d r := StableHlo.result_of_writes_ne _ _ main_cst_0 r rfl h
theorem W9_ne (d : Dev nD) {r : Ref sig .tc} (h : r ≠ main_v11) : W9 m d r = W8 m d r := StableHlo.result_of_writes_ne _ _ main_v11 r rfl h

theorem W9_v11 (d : Dev nD) : W9 m d main_v11 = res m d := by
  refine (StableHlo.binary_result _ _ _ _ _ _ _ _).trans ?_
  unfold res
  rw [show W8 m d main_cst_0 = (constant S_ .f32 0x49800000#32) from StableHlo.nullary_result _ _ _ _, W8_ne m d (show (main_v10 : Ref sig .tc) ≠ main_cst_0 by decide),
    show W7 m d main_v10 = Host.reduceAdd (W6 m d main_v9) (W6 m d main_cst) reducesTo_S32x32_S_d0_1 h_S_ from StableHlo.binary_result _ _ _ _ _ _ _ _,
    show W6 m d main_cst = (constant S_ .f32 0x00000000#32) from StableHlo.nullary_result _ _ _ _, W6_ne m d (show (main_v9 : Ref sig .tc) ≠ main_cst by decide),
    show W5 m d main_v9 = OUT (A m) d from StableHlo.nullary_result _ _ _ _]

theorem W9_arg0 (d : Dev nD) : W9 m d main_arg0 = m (aLoc d main_arg0) := by
  rw [W9_ne m d (show (main_arg0 : Ref sig .tc) ≠ main_v11 by decide), W8_ne m d (show (main_arg0 : Ref sig .tc) ≠ main_cst_0 by decide), W7_ne m d (show (main_arg0 : Ref sig .tc) ≠ main_v10 by decide), W6_ne m d (show (main_arg0 : Ref sig .tc) ≠ main_cst by decide), W5_ne m d (show (main_arg0 : Ref sig .tc) ≠ main_v9 by decide), W4_5_ne m d (show (main_arg0 : Ref sig .tc) ≠ main_v8 by decide), W4_4_ne m d (show (main_arg0 : Ref sig .tc) ≠ main_v7 by decide), W4_3_ne m d (show (main_arg0 : Ref sig .tc) ≠ main_v6 by decide), W4_2_ne m d (show (main_arg0 : Ref sig .tc) ≠ main_v5 by decide), W4_1_ne m d (show (main_arg0 : Ref sig .tc) ≠ main_v4 by decide), W4_0_ne m d (show (main_arg0 : Ref sig .tc) ≠ main_v3 by decide), W3_5_ne m d (show (main_arg0 : Ref sig .tc) ≠ main_v2_5 by decide), W3_4_ne m d (show (main_arg0 : Ref sig .tc) ≠ main_v2_4 by decide), W3_3_ne m d (show (main_arg0 : Ref sig .tc) ≠ main_v2_3 by decide), W3_2_ne m d (show (main_arg0 : Ref sig .tc) ≠ main_v2_2 by decide), W3_1_ne m d (show (main_arg0 : Ref sig .tc) ≠ main_v2_1 by decide), W3_0_ne m d (show (main_arg0 : Ref sig .tc) ≠ main_v2_0 by decide), W2_ne m d (show (main_arg0 : Ref sig .tc) ≠ main_v1 by decide), W1_ne m d (show (main_arg0 : Ref sig .tc) ≠ main_v0 by decide)]
  rfl
theorem W9_arg1 (d : Dev nD) : W9 m d main_arg1 = m (aLoc d main_arg1) := by
  rw [W9_ne m d (show (main_arg1 : Ref sig .tc) ≠ main_v11 by decide), W8_ne m d (show (main_arg1 : Ref sig .tc) ≠ main_cst_0 by decide), W7_ne m d (show (main_arg1 : Ref sig .tc) ≠ main_v10 by decide), W6_ne m d (show (main_arg1 : Ref sig .tc) ≠ main_cst by decide), W5_ne m d (show (main_arg1 : Ref sig .tc) ≠ main_v9 by decide), W4_5_ne m d (show (main_arg1 : Ref sig .tc) ≠ main_v8 by decide), W4_4_ne m d (show (main_arg1 : Ref sig .tc) ≠ main_v7 by decide), W4_3_ne m d (show (main_arg1 : Ref sig .tc) ≠ main_v6 by decide), W4_2_ne m d (show (main_arg1 : Ref sig .tc) ≠ main_v5 by decide), W4_1_ne m d (show (main_arg1 : Ref sig .tc) ≠ main_v4 by decide), W4_0_ne m d (show (main_arg1 : Ref sig .tc) ≠ main_v3 by decide), W3_5_ne m d (show (main_arg1 : Ref sig .tc) ≠ main_v2_5 by decide), W3_4_ne m d (show (main_arg1 : Ref sig .tc) ≠ main_v2_4 by decide), W3_3_ne m d (show (main_arg1 : Ref sig .tc) ≠ main_v2_3 by decide), W3_2_ne m d (show (main_arg1 : Ref sig .tc) ≠ main_v2_2 by decide), W3_1_ne m d (show (main_arg1 : Ref sig .tc) ≠ main_v2_1 by decide), W3_0_ne m d (show (main_arg1 : Ref sig .tc) ≠ main_v2_0 by decide), W2_ne m d (show (main_arg1 : Ref sig .tc) ≠ main_v1 by decide), W1_ne m d (show (main_arg1 : Ref sig .tc) ≠ main_v0 by decide)]
  rfl

/-- An image without its axis of size one. -/
abbrev img (x : FVec F S4x1x512x512 .f32) : FVec F S4x512x512 .f32 := shapeCast S4x512x512 x shapeCasts_S4x1x512x512_S4x512x512

theorem X_eq (d : Dev nD) : X m d = img (m (aLoc d main_arg0)) := by
  unfold X
  rw [W2_ne m d (show (main_v0 : Ref sig .tc) ≠ main_v1 by decide)]
  exact StableHlo.reshape_result _ _ _ _ _ _ _
theorem Y_eq (d : Dev nD) : Y m d = img (m (aLoc d main_arg1)) := by
  unfold Y
  refine (StableHlo.reshape_result _ _ _ _ _ _ _).trans ?_
  rw [W1_ne m d (show (main_arg1 : Ref sig .tc) ≠ main_v0 by decide)]
  rfl

/-- The six arrays are the pallas_call's results in rows of 4096. -/
theorem A_eq (d : Dev nD) (f : Fin 6) : A m d f = shapeCast S256x4096
    (match f with | 0 => fInt (X m d) | 1 => rInt (Y m d) | 2 => fMag (X m d) | 3 => fDir (X m d) | 4 => rMag (Y m d) | 5 => rDir (Y m d) : IVec S4x512x512 32) shapeCasts_S4x512x512_S256x4096 := by
  match f with
  | 0 =>
    show W4_5 m d main_v3 = _
    rw [W4_5_ne m d (show (main_v3 : Ref sig .tc) ≠ main_v8 by decide), W4_4_ne m d (show (main_v3 : Ref sig .tc) ≠ main_v7 by decide), W4_3_ne m d (show (main_v3 : Ref sig .tc) ≠ main_v6 by decide), W4_2_ne m d (show (main_v3 : Ref sig .tc) ≠ main_v5 by decide), W4_1_ne m d (show (main_v3 : Ref sig .tc) ≠ main_v4 by decide)]
    refine (StableHlo.reshape_result _ _ _ _ _ _ _).trans ?_
    rw [W3_5_ne m d (show (main_v2_0 : Ref sig .tc) ≠ main_v2_5 by decide), W3_4_ne m d (show (main_v2_0 : Ref sig .tc) ≠ main_v2_4 by decide), W3_3_ne m d (show (main_v2_0 : Ref sig .tc) ≠ main_v2_3 by decide), W3_2_ne m d (show (main_v2_0 : Ref sig .tc) ≠ main_v2_2 by decide), W3_1_ne m d (show (main_v2_0 : Ref sig .tc) ≠ main_v2_1 by decide)]
    rw [show W3_0 m d main_v2_0 = fInt (X m d) from StableHlo.nullary_result _ _ _ _]
    rfl
  | 1 =>
    show W4_5 m d main_v4 = _
    rw [W4_5_ne m d (show (main_v4 : Ref sig .tc) ≠ main_v8 by decide), W4_4_ne m d (show (main_v4 : Ref sig .tc) ≠ main_v7 by decide), W4_3_ne m d (show (main_v4 : Ref sig .tc) ≠ main_v6 by decide), W4_2_ne m d (show (main_v4 : Ref sig .tc) ≠ main_v5 by decide)]
    refine (StableHlo.reshape_result _ _ _ _ _ _ _).trans ?_
    rw [W4_0_ne m d (show (main_v2_3 : Ref sig .tc) ≠ main_v3 by decide), W3_5_ne m d (show (main_v2_3 : Ref sig .tc) ≠ main_v2_5 by decide), W3_4_ne m d (show (main_v2_3 : Ref sig .tc) ≠ main_v2_4 by decide)]
    rw [show W3_3 m d main_v2_3 = rInt (Y m d) from StableHlo.nullary_result _ _ _ _]
    rfl
  | 2 =>
    show W4_5 m d main_v5 = _
    rw [W4_5_ne m d (show (main_v5 : Ref sig .tc) ≠ main_v8 by decide), W4_4_ne m d (show (main_v5 : Ref sig .tc) ≠ main_v7 by decide), W4_3_ne m d (show (main_v5 : Ref sig .tc) ≠ main_v6 by decide)]
    refine (StableHlo.reshape_result _ _ _ _ _ _ _).trans ?_
    rw [W4_1_ne m d (show (main_v2_1 : Ref sig .tc) ≠ main_v4 by decide), W4_0_ne m d (show (main_v2_1 : Ref sig .tc) ≠ main_v3 by decide), W3_5_ne m d (show (main_v2_1 : Ref sig .tc) ≠ main_v2_5 by decide), W3_4_ne m d (show (main_v2_1 : Ref sig .tc) ≠ main_v2_4 by decide), W3_3_ne m d (show (main_v2_1 : Ref sig .tc) ≠ main_v2_3 by decide), W3_2_ne m d (show (main_v2_1 : Ref sig .tc) ≠ main_v2_2 by decide)]
    rw [show W3_1 m d main_v2_1 = fMag (X m d) from StableHlo.nullary_result _ _ _ _]
    rfl
  | 3 =>
    show W4_5 m d main_v6 = _
    rw [W4_5_ne m d (show (main_v6 : Ref sig .tc) ≠ main_v8 by decide), W4_4_ne m d (show (main_v6 : Ref sig .tc) ≠ main_v7 by decide)]
    refine (StableHlo.reshape_result _ _ _ _ _ _ _).trans ?_
    rw [W4_2_ne m d (show (main_v2_2 : Ref sig .tc) ≠ main_v5 by decide), W4_1_ne m d (show (main_v2_2 : Ref sig .tc) ≠ main_v4 by decide), W4_0_ne m d (show (main_v2_2 : Ref sig .tc) ≠ main_v3 by decide), W3_5_ne m d (show (main_v2_2 : Ref sig .tc) ≠ main_v2_5 by decide), W3_4_ne m d (show (main_v2_2 : Ref sig .tc) ≠ main_v2_4 by decide), W3_3_ne m d (show (main_v2_2 : Ref sig .tc) ≠ main_v2_3 by decide)]
    rw [show W3_2 m d main_v2_2 = fDir (X m d) from StableHlo.nullary_result _ _ _ _]
    rfl
  | 4 =>
    show W4_5 m d main_v7 = _
    rw [W4_5_ne m d (show (main_v7 : Ref sig .tc) ≠ main_v8 by decide)]
    refine (StableHlo.reshape_result _ _ _ _ _ _ _).trans ?_
    rw [W4_3_ne m d (show (main_v2_4 : Ref sig .tc) ≠ main_v6 by decide), W4_2_ne m d (show (main_v2_4 : Ref sig .tc) ≠ main_v5 by decide), W4_1_ne m d (show (main_v2_4 : Ref sig .tc) ≠ main_v4 by decide), W4_0_ne m d (show (main_v2_4 : Ref sig .tc) ≠ main_v3 by decide), W3_5_ne m d (show (main_v2_4 : Ref sig .tc) ≠ main_v2_5 by decide)]
    rw [show W3_4 m d main_v2_4 = rMag (Y m d) from StableHlo.nullary_result _ _ _ _]
    rfl
  | 5 =>
    show W4_5 m d main_v8 = _
    skip
    refine (StableHlo.reshape_result _ _ _ _ _ _ _).trans ?_
    rw [W4_4_ne m d (show (main_v2_5 : Ref sig .tc) ≠ main_v7 by decide), W4_3_ne m d (show (main_v2_5 : Ref sig .tc) ≠ main_v6 by decide), W4_2_ne m d (show (main_v2_5 : Ref sig .tc) ≠ main_v5 by decide), W4_1_ne m d (show (main_v2_5 : Ref sig .tc) ≠ main_v4 by decide), W4_0_ne m d (show (main_v2_5 : Ref sig .tc) ≠ main_v3 by decide)]
    rw [show W3_5 m d main_v2_5 = rDir (Y m d) from StableHlo.nullary_result _ _ _ _]
    rfl

/-! ## The region's ends -/

abbrev Vin : (c : Dev nD) → (b : Ref sig .tc) → Buf (Elt F) ((c : Thread nD τ).loc b) := fun c b => W2 m c b
abbrev Vout : (c : Dev nD) → (b : Ref sig .tc) → Buf (Elt F) ((c : Thread nD τ).loc b) := fun c b => W3_5 m c b

theorem hout (d : Dev nD) : ∀ w : Fin 8, (dat (Vin m) d).arrAt w cfg0.N = Vout m d (Pipeline.arrRef spec0 w)
  | ⟨0, _⟩ => by
    refine (Dat.arrAt_in _ 0 rfl _).trans ?_
    show W2 m d main_v0 = W3_5 m d main_v0
    rw [W3_5_ne m d (show (main_v0 : Ref sig .tc) ≠ main_v2_5 by decide), W3_4_ne m d (show (main_v0 : Ref sig .tc) ≠ main_v2_4 by decide), W3_3_ne m d (show (main_v0 : Ref sig .tc) ≠ main_v2_3 by decide), W3_2_ne m d (show (main_v0 : Ref sig .tc) ≠ main_v2_2 by decide), W3_1_ne m d (show (main_v0 : Ref sig .tc) ≠ main_v2_1 by decide), W3_0_ne m d (show (main_v0 : Ref sig .tc) ≠ main_v2_0 by decide)]
  | ⟨1, _⟩ => by
    refine (Dat.arrAt_in _ 1 rfl _).trans ?_
    show W2 m d main_v1 = W3_5 m d main_v1
    rw [W3_5_ne m d (show (main_v1 : Ref sig .tc) ≠ main_v2_5 by decide), W3_4_ne m d (show (main_v1 : Ref sig .tc) ≠ main_v2_4 by decide), W3_3_ne m d (show (main_v1 : Ref sig .tc) ≠ main_v2_3 by decide), W3_2_ne m d (show (main_v1 : Ref sig .tc) ≠ main_v2_2 by decide), W3_1_ne m d (show (main_v1 : Ref sig .tc) ≠ main_v2_1 by decide), W3_0_ne m d (show (main_v1 : Ref sig .tc) ≠ main_v2_0 by decide)]
  | ⟨2, _⟩ => by
    refine (arrAt_2 (Vin m) d).trans ?_
    show fInt (X m d) = W3_5 m d main_v2_0
    rw [W3_5_ne m d (show (main_v2_0 : Ref sig .tc) ≠ main_v2_5 by decide), W3_4_ne m d (show (main_v2_0 : Ref sig .tc) ≠ main_v2_4 by decide), W3_3_ne m d (show (main_v2_0 : Ref sig .tc) ≠ main_v2_3 by decide), W3_2_ne m d (show (main_v2_0 : Ref sig .tc) ≠ main_v2_2 by decide), W3_1_ne m d (show (main_v2_0 : Ref sig .tc) ≠ main_v2_1 by decide)]
    exact (show W3_0 m d main_v2_0 = fInt (X m d) from StableHlo.nullary_result _ _ _ _).symm
  | ⟨3, _⟩ => by
    refine (arrAt_3 (Vin m) d).trans ?_
    show fMag (X m d) = W3_5 m d main_v2_1
    rw [W3_5_ne m d (show (main_v2_1 : Ref sig .tc) ≠ main_v2_5 by decide), W3_4_ne m d (show (main_v2_1 : Ref sig .tc) ≠ main_v2_4 by decide), W3_3_ne m d (show (main_v2_1 : Ref sig .tc) ≠ main_v2_3 by decide), W3_2_ne m d (show (main_v2_1 : Ref sig .tc) ≠ main_v2_2 by decide)]
    exact (show W3_1 m d main_v2_1 = fMag (X m d) from StableHlo.nullary_result _ _ _ _).symm
  | ⟨4, _⟩ => by
    refine (arrAt_4 (Vin m) d).trans ?_
    show fDir (X m d) = W3_5 m d main_v2_2
    rw [W3_5_ne m d (show (main_v2_2 : Ref sig .tc) ≠ main_v2_5 by decide), W3_4_ne m d (show (main_v2_2 : Ref sig .tc) ≠ main_v2_4 by decide), W3_3_ne m d (show (main_v2_2 : Ref sig .tc) ≠ main_v2_3 by decide)]
    exact (show W3_2 m d main_v2_2 = fDir (X m d) from StableHlo.nullary_result _ _ _ _).symm
  | ⟨5, _⟩ => by
    refine (arrAt_5 (Vin m) d).trans ?_
    show rInt (Y m d) = W3_5 m d main_v2_3
    rw [W3_5_ne m d (show (main_v2_3 : Ref sig .tc) ≠ main_v2_5 by decide), W3_4_ne m d (show (main_v2_3 : Ref sig .tc) ≠ main_v2_4 by decide)]
    exact (show W3_3 m d main_v2_3 = rInt (Y m d) from StableHlo.nullary_result _ _ _ _).symm
  | ⟨6, _⟩ => by
    refine (arrAt_6 (Vin m) d).trans ?_
    show rMag (Y m d) = W3_5 m d main_v2_4
    rw [W3_5_ne m d (show (main_v2_4 : Ref sig .tc) ≠ main_v2_5 by decide)]
    exact (show W3_4 m d main_v2_4 = rMag (Y m d) from StableHlo.nullary_result _ _ _ _).symm
  | ⟨7, _⟩ => by
    refine (arrAt_7 (Vin m) d).trans ?_
    show rDir (Y m d) = W3_5 m d main_v2_5
    skip
    exact (show W3_5 m d main_v2_5 = rDir (Y m d) from StableHlo.nullary_result _ _ _ _).symm

theorem hne (d : Dev nD) (b : Ref sig .tc) (h : ∀ w : Fin 8, b ≠ Pipeline.arrRef spec0 w) : Vout m d b = Vin m d b := by
  show W3_5 m d b = W2 m d b
  rw [W3_5_ne m d (h 7), W3_4_ne m d (h 6), W3_3_ne m d (h 5), W3_2_ne m d (h 4), W3_1_ne m d (h 3), W3_0_ne m d (h 2)]

/-! ## The SparseCore call's buffers out of all -/

theorem mem_uc (b : Ref sig .tc) (h : b.isScoped = false) : (b : DevRef τ sig) ∈ ucRefs := by
  unfold ucRefs StableHlo.tcRefs
  refine Finset.mem_filter.mpr ⟨Finset.mem_map.mpr ⟨b, Finset.mem_univ _, rfl⟩, ?_⟩
  show ¬ b.isScoped = true
  rw [h]; decide

theorem sub1 {a : Ref sig .tc} (ha : a.isScoped = false) : ({(a : DevRef τ sig)} : Finset (DevRef τ sig)) ⊆ ucRefs :=
  Finset.singleton_subset_iff.mpr (mem_uc a ha)
theorem sub2 {a b : Ref sig .tc} (ha : a.isScoped = false) (hb : b.isScoped = false) : ({(a : DevRef τ sig), (b : DevRef τ sig)} : Finset (DevRef τ sig)) ⊆ ucRefs :=
  Finset.insert_subset (mem_uc a ha) (sub1 hb)
theorem sub3 {a b c : Ref sig .tc} (ha : a.isScoped = false) (hb : b.isScoped = false) (hc : c.isScoped = false) :
    ({(a : DevRef τ sig), (b : DevRef τ sig), (c : DevRef τ sig)} : Finset (DevRef τ sig)) ⊆ ucRefs :=
  Finset.insert_subset (mem_uc a ha) (sub2 hb hc)

/-- The references the SparseCore call takes, as references of the TensorCore. -/
def scRefs : Finset (Ref sig .tc) := {main_v3, main_v4, main_v5, main_v6, main_v7, main_v8, main_v9}
def scSet : Finset (DevRef τ sig) := scRefs.map ⟨fun b : Ref sig .tc => (b : DevRef τ sig), Proc.devRef_injective .tc⟩

theorem scSet_sub : scSet ⊆ ucRefs := by
  intro b hb
  obtain ⟨r, hr, rfl⟩ := Finset.mem_map.mp hb
  exact mem_uc r ((show ∀ r ∈ scRefs, Ref.isScoped r = false by decide) r hr)

theorem sepA (P Q R : sProp 𝕄) : iprop((P ∗ Q) ∗ R) = iprop(P ∗ Q ∗ R) :=
  Idealize.SL.BI.Entails.antisymm Idealize.SL.BI.sep_assoc Idealize.SL.BI.sep_assoc'

theorem held_scSet (d : Dev nD) (B : Dev nD → Fin 6 → Vec F S256x4096 .i32) (W : Valuation τ sig (Elt F)) (h0 : W main_v3 = B d 0) (h1 : W main_v4 = B d 1) (h2 : W main_v5 = B d 2) (h3 : W main_v6 = B d 3) (h4 : W main_v7 = B d 4) (h5 : W main_v8 = B d 5) :
    (StableHlo.held (d : Thread nD τ) scSet W : sProp 𝕄) = iprop(six B d fullShare ∗ (aLoc d main_v9 ↦{fullShare} (W main_v9 : Vec F S32x32 .f32))) := by
  unfold StableHlo.held scSet six
  rw [bigSep_map]
  unfold scRefs
  rw [SparseCore.bigSep_insert' (by decide), SparseCore.bigSep_insert' (by decide), SparseCore.bigSep_insert' (by decide), SparseCore.bigSep_insert' (by decide), SparseCore.bigSep_insert' (by decide), SparseCore.bigSep_insert' (by decide), bigSep_singleton, ← h0, ← h1, ← h2, ← h3, ← h4, ← h5]
  simp only [sepA]
  rfl

theorem call_in (d : Dev nD) : (StableHlo.held (d : Thread nD τ) ucRefs (W4_5 m d) : sProp 𝕄)
    ⊢ iprop((six (A m) d fullShare ∗ (aLoc d main_v9 ↦{fullShare} o9 m d))
      ∗ ((six (A m) d fullShare ∗ (aLoc d main_v9 ↦{fullShare} OUT (A m) d)) -∗ StableHlo.held (d : Thread nD τ) ucRefs (W5 m d))) := by
  rw [StableHlo.held_sub_split (d : Thread nD τ) scSet_sub (W4_5 m d), StableHlo.held_sub_split (d : Thread nD τ) scSet_sub (W5 m d),
    held_scSet d (A m) (W4_5 m d) rfl rfl rfl rfl rfl rfl,
    held_scSet d (A m) (W5 m d) (by rw [W5_ne m d (show (main_v3 : Ref sig .tc) ≠ main_v9 by decide)]; rfl) (by rw [W5_ne m d (show (main_v4 : Ref sig .tc) ≠ main_v9 by decide)]; rfl) (by rw [W5_ne m d (show (main_v5 : Ref sig .tc) ≠ main_v9 by decide)]; rfl) (by rw [W5_ne m d (show (main_v6 : Ref sig .tc) ≠ main_v9 by decide)]; rfl) (by rw [W5_ne m d (show (main_v7 : Ref sig .tc) ≠ main_v9 by decide)]; rfl) (by rw [W5_ne m d (show (main_v8 : Ref sig .tc) ≠ main_v9 by decide)]; rfl),
    show (W5 m d main_v9 : Vec F S32x32 .f32) = OUT (A m) d from StableHlo.nullary_result _ _ _ _,
    StableHlo.held_congr (S := ucRefs \ scSet) (d : Thread nD τ) (V := W5 m d) (V' := W4_5 m d) (fun b hb => by
      refine HloOp.result_of_not_mem _ _ ?_
      intro h
      rw [Finset.mem_singleton.mp h] at hb
      exact (Finset.mem_sdiff.mp hb).2 (Finset.mem_map.mpr ⟨main_v9, by decide, rfl⟩))]
  iintro ⟨H, Hr⟩
  isplitl [H]; · iexact H
  iintro H
  isplitl [H] <;> iassumption

/-! ## The launch element of the certificate's ghost state -/

theorem hinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) hinj) (Pipeline.launchToks (Pipeline.pin (pcfgs (F := F)) adm) hinj), 1))

/-- The pipeline's ghost state on a device. -/
abbrev G (d : Dev nD) : sProp 𝕄 :=
  iprop(Pipeline.cellsGhost (Pipeline.pin (pcfgs (F := F)) adm) EP 0 d ∗ Pipeline.toksInit (Pipeline.pin (pcfgs (F := F)) adm) EP 0 d)

abbrev PP : (K (F := F)).Pay (nD := nD) (Val := Elt F) (Name := ℕ) (U := UU) := P (A m) (o9 m)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells (Pipeline.pin (pcfgs (F := F)) adm) hinj) (Pipeline.launchToks (Pipeline.pin (pcfgs (F := F)) adm) hinj), 1) : UR sig nD τ × Counters)) $$ Hu
  icases H with ⟨HH, HR⟩
  ihave HR' := (own_pair_emb (embR : Emb (UR sig nD τ × Counters) (MT nD τ sig (HIx 1) (Elt F) ℕ UU ℕ))
    (initOf (Pipeline.cells (Pipeline.pin (pcfgs (F := F)) adm) hinj) (Pipeline.launchToks (Pipeline.pin (pcfgs (F := F)) adm) hinj)) (1 : Counters)) $$ HR
  icases HR' with ⟨HP0, -⟩
  ihave HP := (show (BI.own (((Emb.inl : Emb (UR sig nD τ) (UR sig nD τ × Counters)).trans embR) (initOf (Pipeline.cells (Pipeline.pin (pcfgs (F := F)) adm) hinj) (Pipeline.launchToks (Pipeline.pin (pcfgs (F := F)) adm) hinj))) : sProp 𝕄)
      ⊢ BI.own (EP (initOf (Pipeline.cells (Pipeline.pin (pcfgs (F := F)) adm) hinj) (Pipeline.launchToks (Pipeline.pin (pcfgs (F := F)) adm) hinj))) from Entails.of_eq rfl) $$ HP0
  imod (Pipeline.fund_ghost (Pipeline.pin (pcfgs (F := F)) adm) EP hinj) $$ HP with ⟨Hc, Ht⟩
  imodintro
  isplitl [HH]; · iexact HH
  isplitl [Hc Ht]
  · rw [bigSep_sep']
    isplitl [Hc]
    · iapply (Entails.of_eq (bigSep_congr fun (c : Dev nD) _ => bigSep_univ_of_subsingleton (Φ := fun p : Fin 1 => (Pipeline.cellsGhost (Pipeline.pin (pcfgs (F := F)) adm) EP p c : sProp 𝕄)) (0 : Fin 1))); iexact Hc
    · iapply (Entails.of_eq (bigSep_congr fun (c : Dev nD) _ => bigSep_univ_of_subsingleton (Φ := fun p : Fin 1 => (Pipeline.toksInit (Pipeline.pin (pcfgs (F := F)) adm) EP p c : sProp 𝕄)) (0 : Fin 1))); iexact Ht
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

theorem open_due (d : Dev nD) : ((K (F := F)).tcSt EH d 0 : sProp 𝕄) ⊢ iprop(due (F := F) d ∗ (due (F := F) d -∗ (K (F := F)).tcSt EH d 0)) := by
  unfold SparseCore.Cfg.tcSt
  iintro ⟨⟨%W, %hW, HO⟩, Hr⟩
  isplitl [HO]
  · iexists W; isplitr; · ipureintro; exact fun p hp => hW p hp
    iexact HO
  iintro ⟨%W', %hW', HO⟩
  isplitl [HO]
  · iexists W'; isplitr; · ipureintro; exact fun p hp => hW' p hp
    iexact HO
  iexact Hr

abbrev FIN (d : Dev nD) : sProp 𝕄 := iprop((aLoc d main_arg0 ↦{fullShare} m (aLoc d main_arg0)) ∗ (aLoc d main_arg1 ↦{fullShare} m (aLoc d main_arg1))
  ∗ (aLoc d main_v11 ↦{fullShare} (res m d : Buf (Elt F) (aLoc d main_v11))))

def finRefs : Finset (Ref sig .tc) := {main_arg0, main_arg1, main_v11}
def finSet : Finset (DevRef τ sig) := finRefs.map ⟨fun b : Ref sig .tc => (b : DevRef τ sig), Proc.devRef_injective .tc⟩
theorem finSet_sub : finSet ⊆ ucRefs := by
  intro b hb
  obtain ⟨r, hr, rfl⟩ := Finset.mem_map.mp hb
  exact mem_uc r ((show ∀ r ∈ finRefs, Ref.isScoped r = false by decide) r hr)

theorem fin_out (d : Dev nD) : (StableHlo.held (d : Thread nD τ) ucRefs (W9 m d) : sProp 𝕄) ⊢ FIN m d := by
  rw [StableHlo.held_sub_split (d : Thread nD τ) finSet_sub (W9 m d)]
  unfold StableHlo.held finSet
  rw [bigSep_map]
  unfold finRefs
  rw [SparseCore.bigSep_insert' (by decide), SparseCore.bigSep_insert' (by decide), bigSep_singleton]
  iintro ⟨⟨H0, H1, H11⟩, -⟩
  isplitl [H0]; · iapply (Entails.of_eq (show ((d.tc.1, (main_arg0 : DevRef τ sig)) ↦{fullShare} W9 m d main_arg0 : sProp 𝕄) = (aLoc d main_arg0 ↦{fullShare} m (aLoc d main_arg0)) by rw [W9_arg0])); iexact H0
  isplitl [H1]; · iapply (Entails.of_eq (show ((d.tc.1, (main_arg1 : DevRef τ sig)) ↦{fullShare} W9 m d main_arg1 : sProp 𝕄) = (aLoc d main_arg1 ↦{fullShare} m (aLoc d main_arg1)) by rw [W9_arg1])); iexact H1
  iapply (Entails.of_eq (show ((d.tc.1, (main_v11 : DevRef τ sig)) ↦{fullShare} W9 m d main_v11 : sProp 𝕄) = (aLoc d main_v11 ↦{fullShare} (res m d : Buf (Elt F) (aLoc d main_v11))) by rw [W9_v11])); iexact H11

set_option maxHeartbeats 1000000 in
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  simp only [main, wp_bind, wp_pure]
  iintro ⟨#Hctx, Hst, ⟨Hb, Hub, Hts, -⟩, ⟨Hcg, Htk⟩⟩
  ihave Hh := (Entails.of_eq (show (unscopedBufs d (fun b => m ((SparseCore.T d).loc b)) : sProp 𝕄) = StableHlo.held (d : Thread nD τ) ucRefs (W0 m d) from unscopedBufs_held (F := F) d (W0 m d))) $$ Hub
  iapply (StableHlo.wp_hlo_within 𝒱 (SparseCore.T d) none Set.univ (S := ucRefs) (sub2 (by decide) (by decide)) (V := W0 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W1 m d)) $$ [Hb Hh]
  · isplitl [Hb]; · iexact Hb
    iexact Hh
  iintro ⟨Hb, Hh⟩
  rw [wp_ret]; imodintro
  iapply ((K (F := F)).wp_liftProg (D (F := F)) 𝒱 (SparseCore.T d) Set.univ none (.op (.customCall (Pipeline.entry 0) ()) .ret))
  ihave Hst' := (open_due (F := F) d) $$ Hst
  icases Hst' with ⟨Hdue, Hst⟩
  iapply (Pipeline.RegionSeg.wp (pcfgs (F := F)) adm (pdats (Vin m)) none hinj EP defs₀ 𝒱₀ (K (F := F)).L (K (F := F)).lev
    (reg (Vin m) (Vout m) (hout m) (hne m)) d none (fun _ h => nomatch h) .ret _)
  isplitl [Hst Hts]
  rotate_left
  · isplitl [Hb]; · iexact Hb
    isplitl [Hh Hdue]
    · iapply (show iprop(unscopedBufs d (fun b => Vin m d b) ∗ due (F := F) d) ⊢ (reg (Vin m) (Vout m) (hout m) (hne m)).pre d from Entails.of_eq rfl)
      isplitl [Hh]
      · iapply (Entails.of_eq (unscopedBufs_held (F := F) d (W2 m d)).symm); iexact Hh
      · iexact Hdue
    isplitr
    · iapply ((K (F := F)).ctx_levAts κ); iexact Hctx
    isplitl [Hcg] <;> iassumption
  iintro ⟨Hb, Hpost⟩
  ihave Hpost := (show (reg (Vin m) (Vout m) (hout m) (hne m)).post d ⊢ iprop(unscopedBufs d (fun b => Vout m d b) ∗ due (F := F) d) from Entails.of_eq rfl) $$ Hpost
  icases Hpost with ⟨Hub, Hdue⟩
  rw [wp_ret]; imodintro
  ihave Hst := Hst $$ Hdue
  ihave Hh := (Entails.of_eq (unscopedBufs_held (F := F) d (W3_5 m d))) $$ Hub
  iapply (StableHlo.wp_hlo_within 𝒱 (SparseCore.T d) none Set.univ (S := ucRefs) (sub2 (by decide) (by decide)) (V := W3_5 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W4_0 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W4_1 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W4_2 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W4_3 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub2 (by decide) (by decide)) (V := W4_4 m d)) $$ [Hb Hh]
  · isplitl [Hb]; · iexact Hb
    iexact Hh
  iintro ⟨Hb, Hh⟩
  rw [wp_ret]; imodintro
  have hc := call_in m d
  unfold W4_5 at hc
  ihave Hh' := hc $$ Hh
  icases Hh' with ⟨Hin, Hback⟩
  iapply ((K (F := F)).wp_run (D (F := F)) 𝒱 (EH := EH) (P := PP m) κ d 0)
  isplitr; · iexact Hctx
  isplitl [Hst]; · iexact Hst
  isplitl [Hin]; · iapply (Entails.of_eq (st0_eq (A m) (o9 m) d).symm); iexact Hin
  iintro ⟨Hst, Hdn⟩
  ihave Hdn' := (Entails.of_eq (dn0_eq (A m) (o9 m) d)) $$ Hdn
  ihave Hh := Hback $$ Hdn'
  iapply (StableHlo.wp_hlo_within 𝒱 (SparseCore.T d) none Set.univ (S := ucRefs) (sub1 (by decide)) (V := W5 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub3 (by decide) (by decide) (by decide)) (V := W6 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub1 (by decide)) (V := W7 m d)) $$ [Hb Hh]
  · isplitl [Hb]; · iexact Hb
    iexact Hh
  iintro ⟨Hb, Hh⟩
  rw [wp_ret]; imodintro
  iapply (StableHlo.wp_hlo_within 𝒱 (SparseCore.T d) none Set.univ (S := ucRefs) (sub3 (by decide) (by decide) (by decide)) (V := W8 m d)) $$ [Hb Hh]
  · isplitl [Hb]; · iexact Hb
    iexact Hh
  iintro ⟨Hb, Hh⟩
  rw [wp_ret]; imodintro
  imodintro
  isplitl [Hst]; · iexact Hst
  isplitl [Hh]; · iapply (fin_out m d); iexact Hh
  isplitl [Hb] <;> iassumption

def fq (d : Dev nD) (s' : Phys nD τ sig (Elt F)) : Prop :=
  s'.mem.mem (aLoc d main_v11) = (res m d : Buf (Elt F) (aLoc d main_v11)) ∧ s'.mem.mem (aLoc d main_arg0) = m (aLoc d main_arg0) ∧ s'.mem.mem (aLoc d main_arg1) = m (aLoc d main_arg1)

set_option maxRecDepth 16384 in
theorem hfin (d : Dev nD) (s' : Phys nD τ sig (Elt F)) : iprop(FIN m d ∗ SI s') ⊢ (⌜fq m d s'⌝ : sProp 𝕄) := by
  iintro ⟨⟨H0, H1, H11⟩, HSI⟩
  ihave H := (persistent_entails_right (SI_pointsTo_agree (st := s') (ℓ := aLoc d main_arg0) (I := Finset.univ) (q := fullShare) (f := m (aLoc d main_arg0)))) $$ [HSI H0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI H1]
  · isplitl [HSI] <;> iassumption
  icases H with ⟨%h1, HSI, -⟩
  ihave H := (SI_pointsTo_agree (st := s') (ℓ := aLoc d main_v11) (I := Finset.univ) (q := fullShare) (f := (res m d : Buf (Elt F) (aLoc d main_v11)))) $$ [HSI H11]
  · isplitl [HSI] <;> iassumption
  icases H with %h2
  ipureintro; exact ⟨funext fun i => h2 i (Finset.mem_univ i), funext fun i => h0 i (Finset.mem_univ i), funext fun i => h1 i (Finset.mem_univ i)⟩

/-- What the run ends in: the result at its value, the arguments as they were, every semaphore at zero. -/
def QC : PUnit × MemSt nD τ sig (Elt F) → Prop := fun r =>
  (∀ c : Dev nD, r.2.mem (aLoc c main_v11) = (res m c : Buf (Elt F) (aLoc c main_v11)) ∧ r.2.mem (aLoc c main_arg0) = m (aLoc c main_arg0) ∧ r.2.mem (aLoc c main_arg1) = m (aLoc c main_arg1))
    ∧ r.2.sem = fun _ => 0

/-- The program's run, when every word of the six arrays addresses the accumulator. -/
theorem run_main [∀ e, Nonempty (Elt F e)] (hA : Fits (A m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) kfacts v₀
    (fun q hq => match q with | 0 => nomatch hq)
    (fun q _ => match q with | 0 => tileObl (A m) (o9 m) hA)
    (fun q _ => match q with | 0 => SparseCore.Cfg.VecSplit.of_plain (vecSplit (A m) (o9 m)))
    m ρ main (fun d => G (F := F) d) (FIN m) (u₀ (F := F)) (sep_elim_left.trans (hu₀ m)) (hmain m ρ) (fq m) (hfin m) (QC m) (fun _ h hz => ⟨h, hz⟩)

end Cert.Proof.KI

end
-- ==== Proof.KI.Bound.lean ====
/-
  The six arrays in one form: each is the block of the pixel's window plus a bin between 0 and 255 (`bidx`), the block by
  integers alone (`winBase_eq`). Every word therefore addresses the accumulator (`fits`).
-/
module

public import proofs.«01_k».proof.Proof.KI.Launch

@[expose] public section

noncomputable section

namespace Cert.Proof.KI

open Cert.KernelIdeal Cert.KernelIdeal.Gen
open Idealize.ShloMosaic Idealize.ShloMosaic.TcCoe
open Idealize.SL.Sem

variable {F : FTy → Type} [FloatOps F]

/-! ## One binning for the six arrays -/

/-- The least value of a whole array, as the body takes it. -/
def mnOf (v : FVec F S4x512x512 .f32) : F .f32 :=
  extractAt ![0, 0, 0, 0] (shapeCast S1x1x1x1 (multiReduction .minimumf [1, 2, 3] S1 (shapeCast S1x4x512x512 v shapeCasts_S4x512x512_S1x4x512x512)
    0x7F800000#32 reduces_S1x4x512x512_S1 (.inl rfl) rfl) shapeCasts_S1_S1x1x1x1) inpos_S1x1x1x1_p0_0_0_0

/-- The greatest value of a whole array. -/
def mxOf (v : FVec F S4x512x512 .f32) : F .f32 :=
  extractAt ![0, 0, 0, 0] (shapeCast S1x1x1x1 (multiReduction .maximumf [1, 2, 3] S1 (shapeCast S1x4x512x512 v shapeCasts_S4x512x512_S1x4x512x512)
    0xFF800000#32 reduces_S1x4x512x512_S1 (.inl rfl) rfl) shapeCasts_S1_S1x1x1x1) inpos_S1x1x1x1_p0_0_0_0

/-- The width of one of 256 bins. -/
def widthOf (v : FVec F S4x512x512 .f32) : F .f32 := Scalar.divf (Scalar.subf (mxOf v) (mnOf v)) (Scalar.ofBits .f32 0x43800000#32)

/-- Its reciprocal, 1 where the width is 0. -/
def invOf (v : FVec F S4x512x512 .f32) : F .f32 :=
  Scalar.select (Scalar.cmpf .oeq (widthOf v) (Scalar.ofBits .f32 0x00000000#32)) (Scalar.ofBits .f32 0x3F800000#32)
    (Scalar.divf (Scalar.ofBits .f32 0x3F800000#32) (widthOf v))

/-- A word clipped to 0..255. -/
def clip (w : BitVec 32) : BitVec 32 := IntOp.minsi 255#32 (IntOp.maxsi 0#32 w)

/-- A pixel's bin before the clip. -/
def rawOf (v : FVec F S4x512x512 .f32) : IVec S4x512x512 32 :=
  fptosi 32 (floor (mulf (subf v (broadcast S4x512x512 (mnOf v))) (broadcast S4x512x512 (invOf v))))

/-- The stored word of a pixel: its window's block plus its bin. -/
def bidx (v : FVec F S4x512x512 .f32) : IVec S4x512x512 32 :=
  addi winBase (minsi (broadcast S4x512x512 255#32) (maxsi (broadcast S4x512x512 0#32) (rawOf v)))

theorem raw_apply (v : FVec F S4x512x512 .f32) (a b : F .f32) (z : S4x512x512.Idx) :
    fptosi 32 (floor (mulf (subf v (broadcast S4x512x512 a)) (broadcast S4x512x512 b))) z
      = FloatOps.fptosi 32 (FloatOps.floor (FloatOps.mulf (FloatOps.subf (v z) a) b)) := by exact rfl
theorem rawOf_apply (v : FVec F S4x512x512 .f32) (z : S4x512x512.Idx) :
    rawOf v z = FloatOps.fptosi 32 (FloatOps.floor (FloatOps.mulf (FloatOps.subf (v z) (mnOf v)) (invOf v))) := by
  unfold rawOf
  rw [raw_apply]
theorem store_apply (r : IVec S4x512x512 32) (z : S4x512x512.Idx) :
    addi winBase (minsi (broadcast S4x512x512 255#32) (maxsi (broadcast S4x512x512 0#32) r)) z = IntOp.addi (winBase z) (clip (r z)) := by exact rfl
theorem bidx_apply (v : FVec F S4x512x512 .f32) (z : S4x512x512.Idx) : bidx v z = IntOp.addi (winBase z) (clip (rawOf v z)) := by
  unfold bidx
  rw [store_apply]

theorem raw_int (x : FVec F S4x512x512 .f32) : k0_pay16 (k0_pay3 x) = rawOf (k0_pay3 x) := by
  unfold rawOf invOf widthOf mnOf mxOf k0_pay16; exact rfl

theorem fInt_eq (x : FVec F S4x512x512 .f32) : fInt x = bidx (k0_pay3 x) := by
  unfold fInt; rw [raw_int]; unfold k0_pay18 k0_pay17 bidx; exact rfl
theorem fMag_eq (x : FVec F S4x512x512 .f32) : fMag x = bidx (k0_pay6 x) := by
  unfold fMag k0_pay19 bidx rawOf invOf widthOf mnOf mxOf; exact rfl
theorem fDir_eq (x : FVec F S4x512x512 .f32) : fDir x = bidx (fAng x) := by
  unfold fDir; generalize fAng x = v; unfold k0_pay22 k0_pay21 k0_pay20 zf bidx rawOf invOf widthOf mnOf mxOf; exact rfl
theorem base_eq : (k0_pay34 : IVec S4x512x512 32) = winBase := by
  unfold k0_pay34 winBase k0_pay15 k0_pay14; exact rfl
theorem rInt_eq (x : FVec F S4x512x512 .f32) : rInt x = bidx (k0_pay3 x) := by
  unfold rInt; rw [base_eq]; rw [show k0_pay23 x = k0_pay3 x from by unfold k0_pay23 k0_pay3; exact rfl]; generalize k0_pay3 x = v
  unfold k0_pay35 k0_pay36 bidx rawOf invOf widthOf mnOf mxOf; exact rfl
theorem ex_eq (x : FVec F S4x512x512 .f32) : k0_pay24 x = k0_pay4 x := by
  unfold k0_pay24 k0_pay4 k0_pay23 k0_pay3; exact rfl
theorem mag_eq (x : FVec F S4x512x512 .f32) : k0_pay28 (k0_pay24 x) (k0_pay25 x) (k0_pay26 x) zf = k0_pay6 x := by
  unfold k0_pay28 k0_pay6 k0_pay27 k0_pay26 k0_pay25 k0_pay5 zf k0_pay23 k0_pay3; rw [ex_eq]
theorem rMag_eq (x : FVec F S4x512x512 .f32) : rMag x = bidx (k0_pay6 x) := by
  unfold rMag; rw [base_eq, mag_eq]; generalize k0_pay6 x = v
  unfold k0_pay1 k0_pay37 k0_pay38 bidx rawOf invOf widthOf mnOf mxOf; exact rfl
theorem ang_eq (x : FVec F S4x512x512 .f32) : rAng x = fAng x := by
  have e27 : k0_pay27 (k0_pay25 x) (k0_pay26 x) zf = k0_pay5 x := by
    unfold k0_pay27 k0_pay26 k0_pay25 k0_pay5 zf k0_pay23 k0_pay3; exact rfl
  unfold rAng fAng; rw [ex_eq, e27]
  have e31 : k0_pay31 (k0_pay4 x) (k0_pay25 x) (k0_pay26 x) zf = k0_pay9 x := by
    unfold k0_pay31 k0_pay30 k0_pay29 k0_pay9 k0_pay8 k0_pay7; rw [e27]
  have e30 : k0_pay30 (k0_pay25 x) (k0_pay26 x) zf = k0_pay8 x := by
    unfold k0_pay30 k0_pay8; rw [e27]
  unfold k0_pay32; rw [e31, e30]
  unfold k0_pay33 k0_pay13 k0_pay10 k0_pay11 k0_pay12 k0_pay29 k0_pay7; exact rfl
theorem rDir_eq (x : FVec F S4x512x512 .f32) : rDir x = bidx (fAng x) := by
  unfold rDir; rw [base_eq, ang_eq]; generalize fAng x = v
  unfold k0_pay2 bidx rawOf invOf widthOf mnOf mxOf; exact rfl

/-! ## The integers -/

def bandBit (r : BitVec 32) : BitVec 32 :=
  let q := IntOp.shrsi .vector r 3#32
  let m := IntOp.remsi .vector q 2#32
  Scalar.select (IntOp.andi (IntOp.xori (IntOp.cmpi .slt m 0#32) (IntOp.cmpi .slt (2#32 : BitVec 32) 0#32)) (IntOp.cmpi .ne m 0#32)) (IntOp.addi m 2#32) m

theorem bandBit_eq : ∀ r : Fin 512, bandBit (BitVec.ofNat 32 r) = BitVec.ofNat 32 (r.val / 8 % 2) := by decide +kernel
theorem col_eq : ∀ r : Fin 512, IntOp.shrsi .vector (BitVec.ofNat 32 r) 3#32 = BitVec.ofNat 32 (r.val / 8) := by decide +kernel

theorem iota1 : iota .tc S4x512x512 32 [1] iota_S4x512x512_d1_w32 = fun z => BitVec.ofNat 32 (z 1).val := by
  funext z
  unfold iota
  simp
theorem iota2 : iota .tc S4x512x512 32 [2] iota_S4x512x512_d2_w32 = fun z => BitVec.ofNat 32 (z 2).val := by
  funext z
  unfold iota
  simp

theorem winBase_form (z : S4x512x512.Idx) : winBase z
    = IntOp.muli (IntOp.addi (IntOp.muli (bandBit (BitVec.ofNat 32 (z 1).val)) 64#32) (IntOp.shrsi .vector (BitVec.ofNat 32 (z 2).val) 3#32)) 256#32 := by
  have e : Scalar.select (Scalar.cmpi .eq (2#32 : BitVec 32) 0#32) 1#32 2#32 = 2#32 := by decide
  unfold winBase k0_pay15 k0_pay14 bandBit; simp only [e]; rw [iota1, iota2]; exact rfl

/-- A pixel's block begins 256 words into the table for each window before its own in its band of two. -/
theorem winBase_eq (z : S4x512x512.Idx) : winBase z = BitVec.ofNat 32 (((z 1).val / 8 % 2 * 64 + (z 2).val / 8) * 256) := by
  rw [winBase_form, bandBit_eq (z 1), col_eq (z 2)]
  apply BitVec.eq_of_toNat_eq
  simp only [IntOp.muli, IntOp.addi, BitVec.toNat_mul, BitVec.toNat_add, BitVec.toNat_ofNat]
  omega

theorem clip_lt (w : BitVec 32) : (clip w).toNat < 256 := by
  unfold clip IntOp.minsi IntOp.maxsi
  simp only [BitVec.slt, decide_eq_true_eq]
  have e1 : (0#32 : BitVec 32).toInt = 0 := by decide
  have e2 : (255#32 : BitVec 32).toInt = 255 := by decide
  have e3 := BitVec.toInt_eq_toNat_cond w
  have e4 : (255#32 : BitVec 32).toNat = 255 := by decide
  have e5 : (0#32 : BitVec 32).toNat = 0 := by decide
  split_ifs <;> (try split at e3) <;> omega

theorem bidx_toNat (v : FVec F S4x512x512 .f32) (z : S4x512x512.Idx) :
    (bidx v z).toNat = ((z 1).val / 8 % 2 * 64 + (z 2).val / 8) * 256 + (clip (rawOf v z)).toNat := by
  have h := clip_lt (rawOf v z)
  have h2 : (z 2).val < 512 := (z 2).isLt
  rw [bidx_apply, winBase_eq]
  simp only [IntOp.addi, BitVec.toNat_add, BitVec.toNat_ofNat]
  omega

theorem bidx_lt (v : FVec F S4x512x512 .f32) (z : S4x512x512.Idx) : (bidx v z).toNat < 32768 := by
  have h := clip_lt (rawOf v z)
  have h2 : (z 2).val < 512 := (z 2).isLt
  rw [bidx_toNat]
  omega

variable (m : (ℓ : Loc nD τ sig) → Buf (Elt F) ℓ)

/-- The array a field of the call is the binning of. -/
def valOf (d : Dev nD) (f : Fin 6) : FVec F S4x512x512 .f32 :=
  match f with
  | 0 => k0_pay3 (X m d)
  | 1 => k0_pay3 (Y m d)
  | 2 => k0_pay6 (X m d)
  | 3 => fAng (X m d)
  | 4 => k0_pay6 (Y m d)
  | 5 => fAng (Y m d)

theorem A_bidx (d : Dev nD) (f : Fin 6) : A m d f = shapeCast S256x4096 (bidx (valOf m d f)) shapeCasts_S4x512x512_S256x4096 := by
  rw [A_eq]
  match f with
  | 0 => exact congrArg (fun v => shapeCast S256x4096 v shapeCasts_S4x512x512_S256x4096) (fInt_eq _)
  | 1 => exact congrArg (fun v => shapeCast S256x4096 v shapeCasts_S4x512x512_S256x4096) (rInt_eq _)
  | 2 => exact congrArg (fun v => shapeCast S256x4096 v shapeCasts_S4x512x512_S256x4096) (fMag_eq _)
  | 3 => exact congrArg (fun v => shapeCast S256x4096 v shapeCasts_S4x512x512_S256x4096) (fDir_eq _)
  | 4 => exact congrArg (fun v => shapeCast S256x4096 v shapeCasts_S4x512x512_S256x4096) (rMag_eq _)
  | 5 => exact congrArg (fun v => shapeCast S256x4096 v shapeCasts_S4x512x512_S256x4096) (rDir_eq _)

/-- Every word the SparseCore scatters at addresses the accumulator. -/
theorem fits : Fits (A m) := by
  intro d f z
  rw [A_bidx]
  exact bidx_lt _ _

end Cert.Proof.KI

end
-- ==== Proof.Count.lean ====
/-
  Counting pixels window by window, in plain naturals. An image's pixel (`b`, `r`, `c`) lies in window (`r / 8`, `c / 8`) and has a bin
  `bn b r c` below 256; `cnt bn n` is how many pixels have window and bin `n`. The reference counts them window after window
  (`count_ref`), a tile of the kernel two rows of windows at a time (`count_tile`).
-/
module

public import proofs.«01_k».proof.Proof.KI.Bound

@[expose] public section

namespace Cert.Proof.Count

open Finset

/-- A sum over `m * n` places is a sum over `m` runs of `n`. -/
theorem sum_runs {M : Type*} [AddCommMonoid M] (f : ℕ → M) (m n : ℕ) :
    ∑ i ∈ range (m * n), f i = ∑ a ∈ range m, ∑ b ∈ range n, f (a * n + b) := by
  induction m with
  | zero => simp
  | succ m ih => rw [Nat.succ_mul, Finset.sum_range_add, ih, Finset.sum_range_succ]

theorem sum_runs_of {M : Type*} [AddCommMonoid M] (f : ℕ → M) (m n N : ℕ) (h : N = m * n) :
    ∑ i ∈ range N, f i = ∑ a ∈ range m, ∑ b ∈ range n, f (a * n + b) := by
  rw [h, sum_runs]

/-- A sum over a shape's indices of a function of their row-major place. -/
theorem sum_idx {M : Type*} [AddCommMonoid M] (s : Idealize.ShloMosaic.Shape) (N : ℕ) (hN : s.numel = N) (G : ℕ → M) :
    ∑ i : s.Idx, G (s.rowMajor i).val = ∑ n ∈ range N, G n := by
  subst hN
  rw [Finset.sum_range]
  exact Fintype.sum_equiv s.rowMajor _ _ fun _ => rfl

/-- How many pixels have window and bin `n`. -/
def cnt (bn : ℕ → ℕ → ℕ → ℕ) (n : ℕ) : ℕ :=
  ∑ b ∈ range 4, ∑ wr ∈ range 64, ∑ q ∈ range 8, ∑ wc ∈ range 64, ∑ e ∈ range 8,
    if (wr * 64 + wc) * 256 + bn b (wr * 8 + q) (wc * 8 + e) = n then 1 else 0

/-- The window and bin of the pixel at place `p` when pixels are listed window after window. -/
def place (bn : ℕ → ℕ → ℕ → ℕ) (p : ℕ) : ℕ := p / 256 * 256 + bn (p / 64 % 4) (p / 16384 * 8 + p / 8 % 8) (p / 256 % 64 * 8 + p % 8)

/-- The reference's count, over the pixels listed window after window. -/
theorem count_ref (bn : ℕ → ℕ → ℕ → ℕ) (n : ℕ) : Nat.count (fun p => place bn p = n) 1048576 = cnt bn n := by
  rw [Nat.count_eq_card_filter_range, Finset.card_filter, show 1048576 = 64 * (64 * (4 * (8 * 8))) from rfl, sum_runs, cnt]
  have h : ∀ wr ∈ range 64, (∑ b ∈ range (64 * (4 * (8 * 8))), if place bn (wr * (64 * (4 * (8 * 8))) + b) = n then 1 else 0)
      = ∑ b ∈ range 4, ∑ q ∈ range 8, ∑ wc ∈ range 64, ∑ e ∈ range 8,
          if (wr * 64 + wc) * 256 + bn b (wr * 8 + q) (wc * 8 + e) = n then 1 else 0 := by
    intro wr hwr
    rw [sum_runs]
    have h2 : ∀ wc ∈ range 64, (∑ b ∈ range (4 * (8 * 8)), if place bn (wr * (64 * (4 * (8 * 8))) + (wc * (4 * (8 * 8)) + b)) = n then 1 else 0)
        = ∑ b ∈ range 4, ∑ q ∈ range 8, ∑ e ∈ range 8, if (wr * 64 + wc) * 256 + bn b (wr * 8 + q) (wc * 8 + e) = n then 1 else 0 := by
      intro wc hwc
      rw [sum_runs]
      refine sum_congr rfl fun b hb => ?_
      rw [sum_runs]
      refine sum_congr rfl fun q hq => sum_congr rfl fun e he => ?_
      rw [mem_range] at hwr hwc hb hq he
      unfold place
      have e1 : (wr * (64 * (4 * (8 * 8))) + (wc * (4 * (8 * 8)) + (b * (8 * 8) + (q * 8 + e)))) / 256 = wr * 64 + wc := by omega
      have e2 : (wr * (64 * (4 * (8 * 8))) + (wc * (4 * (8 * 8)) + (b * (8 * 8) + (q * 8 + e)))) / 64 % 4 = b := by omega
      have e3 : (wr * (64 * (4 * (8 * 8))) + (wc * (4 * (8 * 8)) + (b * (8 * 8) + (q * 8 + e)))) / 16384 = wr := by omega
      have e4 : (wr * (64 * (4 * (8 * 8))) + (wc * (4 * (8 * 8)) + (b * (8 * 8) + (q * 8 + e)))) / 8 % 8 = q := by omega
      have e5 : (wr * 64 + wc) % 64 = wc := by omega
      have e6 : (wr * (64 * (4 * (8 * 8))) + (wc * (4 * (8 * 8)) + (b * (8 * 8) + (q * 8 + e)))) % 8 = e := by omega
      rw [e1, e2, e3, e4, e5, e6]
    rw [sum_congr rfl h2, sum_comm]
    exact sum_congr rfl fun b _ => sum_comm
  rw [sum_congr rfl h, sum_comm]

/-- The count of one word of a tile's accumulator: over its two rows of windows, the four images and the 4096 words of a row. -/
theorem count_tile (bn : ℕ → ℕ → ℕ → ℕ) (hbn : ∀ b r c, bn b r c < 256) (w j : ℕ) (hw : w < 32) (hj : j < 32768) :
    cnt bn (w * 32768 + j) = ∑ bd ∈ range 2, ∑ b ∈ range 4, ∑ i ∈ range 4096,
      if (bd * 64 + i % 512 / 8) * 256 + bn b ((2 * w + bd) * 8 + i / 512) (i % 512) = j then 1 else 0 := by
  rw [sum_comm, cnt]
  refine sum_congr rfl fun b hb => ?_
  refine (sum_runs _ 32 2).trans ?_
  rw [Finset.sum_eq_single w]
  · refine sum_congr rfl fun bd hbd => ?_
    rw [show 4096 = 8 * (64 * 8) from rfl, sum_runs]
    refine sum_congr rfl fun q hq => ?_
    rw [sum_runs]
    refine sum_congr rfl fun wc hwc => sum_congr rfl fun e he => ?_
    rw [mem_range] at hbd hq hwc he
    have e1 : (q * (64 * 8) + (wc * 8 + e)) % 512 = wc * 8 + e := by omega
    have e2 : (q * (64 * 8) + (wc * 8 + e)) / 512 = q := by omega
    have e3 : (wc * 8 + e) / 8 = wc := by omega
    rw [e1, e2, e3, show w * 2 + bd = 2 * w + bd by omega]
    generalize bn b ((2 * w + bd) * 8 + q) (wc * 8 + e) = v
    congr 1
    apply propext
    constructor <;> intro h <;> omega
  · intro w' hw' hne
    refine sum_eq_zero fun bd hbd => sum_eq_zero fun q hq => sum_eq_zero fun wc hwc => sum_eq_zero fun e he => ?_
    rw [mem_range] at hbd hq hwc he
    have := hbn b ((w' * 2 + bd) * 8 + q) (wc * 8 + e)
    rw [if_neg]
    omega
  · intro h
    exact absurd (mem_range.2 hw) h

/-- Sixteen lanes' sums of a line of 32768, a lane's sum over 256 trips of eight, make the line's sum. -/
theorem sum_lanes {M : Type*} [AddCommMonoid M] (f : ℕ → M) :
    ∑ x ∈ range 16, ∑ t ∈ range 256, ∑ u ∈ range 8, f (128 * t + 16 * u + x) = ∑ j ∈ range 32768, f j := by
  rw [sum_comm, show 32768 = 256 * (8 * 16) from rfl, sum_runs]
  refine sum_congr rfl fun t _ => ?_
  rw [sum_comm, sum_runs]
  refine sum_congr rfl fun u _ => sum_congr rfl fun x _ => ?_
  congr 1
  ring

end Cert.Proof.Count

end
-- ==== Proof.Tally.lean ====
/-
  The kernel's sums over the reals. A tile's accumulators hold differences of counts (`tally`), the row it writes the sums of their
  absolute values (`ovec_real`), and the program's result is the sum over all windows and bins, divided by 2^20 (`res_real`).
-/
module

public import proofs.«01_k».proof.Proof.KI.Bound
public import proofs.«01_k».proof.Proof.Count
public import Idealize.ShloMosaic.Lib.Pipeline.Value
public import Idealize.ShloMosaic.PureOps.Ideal.Laws

@[expose] public section

noncomputable section

namespace Cert.Proof.KI

open Cert.KernelIdeal Cert.KernelIdeal.Gen
open Idealize.ShloMosaic Idealize.ShloMosaic.TcCoe
open Idealize.SL.Sem
open Finset Cert.Proof.Count

/-- A finite sum of reals, read as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The absolute value of a real. -/
theorem abs_coe (x : ℝ) : (max (x : EReal) (-(x : EReal))) = ((|x| : ℝ) : EReal) := by
  rw [← EReal.coe_neg]
  exact (EReal.coe_strictMono.monotone.map_max (a := x) (b := -x)).symm

/-! ## The scattered additions -/

/-- An accumulator holds the reals `r`. -/
def IsR (g : Vec Ideal S32768 .f32) (r : ℕ → ℝ) : Prop := ∀ j : S32768.Idx, g j = ((r (j 0).val : ℝ) : EReal)

theorem IsR.congr {g : Vec Ideal S32768 .f32} {r r' : ℕ → ℝ} (h : IsR g r) (e : ∀ j < 32768, r j = r' j) : IsR g r' := fun j => by
  rw [h j, e _ (j 0).isLt]

theorem idxAdd_coe (x y : ℝ) : Elt.idxAdd (F := Ideal) .f32 (x : EReal) (y : EReal) = ((x + y : ℝ) : EReal) := by
  exact (EReal.coe_add x y).symm

theorem bump_real {c : Ideal .f32} {c' : ℝ} (hc : c = (c' : EReal)) (w : BitVec 32) {g : Vec Ideal S32768 .f32} {r : ℕ → ℝ} (hg : IsR g r) :
    IsR (bump c w g) (fun j => r j + c' * (if w.toNat = j then 1 else 0)) := by
  intro j
  unfold bump
  by_cases h : (j 0).val = w.toNat
  · rw [if_pos h, hg j, hc, idxAdd_coe]
    show _ = ((r (j 0).val + c' * (if w.toNat = (j 0).val then 1 else 0) : ℝ) : EReal)
    rw [if_pos h.symm, mul_one]
  · rw [if_neg h, hg j]
    show _ = ((r (j 0).val + c' * (if w.toNat = (j 0).val then 1 else 0) : ℝ) : EReal)
    rw [if_neg (fun e => h e.symm), mul_zero, add_zero]

/-- How many of the first `n` words of a row name the place `j`. -/
def hits (row : Vec Ideal S4096 .i32) (n j : ℕ) : ℝ := ∑ i ∈ range n, if (rowAt (F := Ideal) row i).toNat = j then 1 else 0

theorem scat_real {c : Ideal .f32} {c' : ℝ} (hc : c = (c' : EReal)) (row : Vec Ideal S4096 .i32) {g : Vec Ideal S32768 .f32} {r : ℕ → ℝ}
    (hg : IsR g r) (n : ℕ) : IsR (scat c row g n) (fun j => r j + c' * hits row n j) := by
  induction n with
  | zero =>
    refine hg.congr fun j _ => ?_
    simp [hits]
  | succ n ih =>
    refine (bump_real hc (rowAt (F := Ideal) row n) ih).congr fun j _ => ?_
    unfold hits
    rw [Finset.sum_range_succ]
    ring

/-- The signs with which the six arrays are counted. -/
def sgR (f : Fin 6) : ℝ := match f with | 0 | 2 | 3 => 1 | _ => -1

theorem one_word : (Ideal.ofBits .f32 0x3F800000#32 : EReal) = ((1 : ℝ) : EReal) := by
  simp [Ideal.ofBits, Ideal.ieee, -EReal.coe_mul]
  try norm_num
theorem neg_one_word : (Ideal.ofBits .f32 0xBF800000#32 : EReal) = ((-1 : ℝ) : EReal) := by
  simp [Ideal.ofBits, Ideal.ieee, -EReal.coe_mul]
  try norm_num

theorem sg_real (f : Fin 6) : (sg f : Ideal .f32) = ((sgR f : ℝ) : EReal) := by
  match f with
  | 0 | 2 | 3 => exact one_word
  | 1 | 4 | 5 => exact neg_one_word

theorem zeroA_real : IsR (zeroA (F := Ideal)) (fun _ => 0) := fun j => by
  exact Ideal.ofBits_zero_f32

/-! ## The pixels -/

/-- The pixel (`b`, `r`, `c`). -/
def px (b r c : ℕ) : S4x512x512.Idx :=
  fun a => match a with
  | 0 => ⟨b % 4, Nat.mod_lt _ (by decide)⟩
  | 1 => ⟨r % 512, Nat.mod_lt _ (by decide)⟩
  | 2 => ⟨c % 512, Nat.mod_lt _ (by decide)⟩

/-- A pixel's bin. -/
def bn (v : FVec Ideal S4x512x512 .f32) (b r c : ℕ) : ℕ := (clip (rawOf v (px b r c))).toNat

theorem bn_lt (v : FVec Ideal S4x512x512 .f32) (b r c : ℕ) : bn v b r c < 256 := clip_lt _

variable (m : (ℓ : Loc nD τ sig) → Buf (Elt Ideal) ℓ)

/-- The tile at a place of the grid, and item `k`'s row there. -/
def widOf (L : grid1.Coords) : ℕ := 2 * (L 1).val + (L 0).val
def rowK (d : Dev nD) (L : grid1.Coords) (k : ℕ) : Vec Ideal S4096 .i32 :=
  rowV d L (Memref.whole main_v3_scv) (Memref.whole main_v4_scv) (Memref.whole main_v5_scv) (Memref.whole main_v6_scv) (Memref.whole main_v7_scv) (Memref.whole main_v8_scv) (Wt (A m) d L) k
def accK (d : Dev nD) (L : grid1.Coords) (k : ℕ) : Vec Ideal S32768 .f32 × Vec Ideal S32768 .f32 :=
  accs d L (Memref.whole main_v3_scv) (Memref.whole main_v4_scv) (Memref.whole main_v5_scv) (Memref.whole main_v6_scv) (Memref.whole main_v7_scv) (Memref.whole main_v8_scv) (Wt (A m) d L) (zeroA, zeroA) k

theorem widOf_lt (L : grid1.Coords) : widOf L < 32 := by
  have h1 : (L 1).val < 16 := (L 1).isLt
  have h0 : (L 0).val < 2 := (L 0).isLt
  unfold widOf
  omega

/-- Word `i` of item `k`'s row is the stored word of a pixel. -/
theorem rowAt_K (d : Dev nD) (L : grid1.Coords) (k i : ℕ) (hi : i < 4096) :
    rowAt (F := Ideal) (rowK m d L k) i = bidx (valOf m d (fld k)) (px (bat k).val ((2 * widOf L + (bnd k).val) * 8 + i / 512) (i % 512)) := by
  unfold rowAt rowK
  rw [dif_pos hi, rowV_eq, A_bidx]
  refine shapeCast_apply _ _ _ _ ?_
  have h1 : (L 1).val < 16 := (L 1).isLt
  have h0 : (L 0).val < 2 := (L 0).isLt
  have hb : (bnd k).val < 2 := (bnd k).isLt
  have ht : (bat k).val < 4 := (bat k).isLt
  refine (Shape.rowMajor_val_three (d := ![4, 512, 512]) _).trans ?_
  refine Eq.trans ?_ (Shape.rowMajor_val_two (d := ![256, 4096]) _).symm
  show ((bat k).val % 4 * 512 + ((2 * widOf L + (bnd k).val) * 8 + i / 512) % 512) * 512 + i % 512 % 512
    = (64 * (bat k).val + 4 * (L 1).val + 2 * (L 0).val + (bnd k).val) * 4096 + i
  unfold widOf
  omega

/-- How often item `k`'s row names the place `j`. -/
theorem hits_K (d : Dev nD) (L : grid1.Coords) (k j : ℕ) : hits (rowK m d L k) 4096 j
    = ∑ i ∈ range 4096, if ((bnd k).val * 64 + i % 512 / 8) * 256 + bn (valOf m d (fld k)) (bat k).val ((2 * widOf L + (bnd k).val) * 8 + i / 512) (i % 512) = j then 1 else 0 := by
  refine sum_congr rfl fun i hi => ?_
  rw [mem_range] at hi
  rw [rowAt_K m d L k i hi, bidx_toNat]
  have hw := widOf_lt L
  have hb : (bnd k).val < 2 := (bnd k).isLt
  have e1 : ((px (bat k).val ((2 * widOf L + (bnd k).val) * 8 + i / 512) (i % 512)) 1).val = ((2 * widOf L + (bnd k).val) * 8 + i / 512) % 512 := rfl
  have e2 : ((px (bat k).val ((2 * widOf L + (bnd k).val) * 8 + i / 512) (i % 512)) 2).val = i % 512 % 512 := rfl
  rw [e1, e2]
  have e3 : ((2 * widOf L + (bnd k).val) * 8 + i / 512) % 512 / 8 % 2 = (bnd k).val := by omega
  have e4 : i % 512 % 512 = i % 512 := by omega
  rw [e3, e4]
  rfl

/-- The accumulators after the items below `k`. -/
theorem accK_real (d : Dev nD) (L : grid1.Coords) (k : ℕ) :
    IsR (accK m d L k).1 (fun j => ∑ i ∈ range k, if (fld i).val < 2 then sgR (fld i) * hits (rowK m d L i) 4096 j else 0) ∧
    IsR (accK m d L k).2 (fun j => ∑ i ∈ range k, if (fld i).val < 2 then 0 else sgR (fld i) * hits (rowK m d L i) 4096 j) := by
  induction k with
  | zero => exact ⟨zeroA_real.congr fun j _ => by simp, zeroA_real.congr fun j _ => by simp⟩
  | succ k ih =>
    have e : accK m d L (k + 1) = if (fld k).val < 2 then (scat (sg (fld k)) (rowK m d L k) (accK m d L k).1 4096, (accK m d L k).2)
      else ((accK m d L k).1, scat (sg (fld k)) (rowK m d L k) (accK m d L k).2 4096) := by
      unfold accK rowK
      rw [accs, accStep]
    rw [e]
    by_cases h : (fld k).val < 2
    · rw [if_pos h]
      refine ⟨(scat_real (sg_real _) _ ih.1 4096).congr fun j _ => ?_, ih.2.congr fun j _ => ?_⟩
      · rw [Finset.sum_range_succ, if_pos h]
      · rw [Finset.sum_range_succ, if_pos h, add_zero]
    · rw [if_neg h]
      refine ⟨ih.1.congr fun j _ => ?_, (scat_real (sg_real _) _ ih.2 4096).congr fun j _ => ?_⟩
      · rw [Finset.sum_range_succ, if_neg h, add_zero]
      · rw [Finset.sum_range_succ, if_neg h]

/-- The 48 items are the six arrays' two bands of four images. -/
theorem sum_items (G : Fin 6 → Fin 2 → Fin 4 → ℝ) : ∑ k ∈ range 48, G (fld k) (bnd k) (bat k) = ∑ f, ∑ bd, ∑ b, G f bd b := by
  rw [Finset.sum_range]
  have e : ∑ f, ∑ bd, ∑ b, G f bd b = ∑ x : Fin 6 × Fin 2 × Fin 4, G x.1 x.2.1 x.2.2 := by
    rw [Fintype.sum_prod_type]
    exact sum_congr rfl fun f _ => (Fintype.sum_prod_type (fun x : Fin 2 × Fin 4 => G f x.1 x.2)).symm
  rw [e]
  have hb : Function.Bijective (fun k : Fin 48 => ((fld k.val, bnd k.val, bat k.val) : Fin 6 × Fin 2 × Fin 4)) := by decide +kernel
  exact Fintype.sum_bijective _ hb _ _ fun k => rfl

/-- An array's eight items count its pixels. -/
theorem field_cnt (v : FVec Ideal S4x512x512 .f32) (w j : ℕ) (hw : w < 32) (hj : j < 32768) :
    ∑ bd : Fin 2, ∑ b : Fin 4, (∑ i ∈ range 4096, if (bd.val * 64 + i % 512 / 8) * 256 + bn v b.val ((2 * w + bd.val) * 8 + i / 512) (i % 512) = j then (1 : ℝ) else 0)
      = ((cnt (bn v) (w * 32768 + j) : ℕ) : ℝ) := by
  rw [count_tile (bn v) (bn_lt v) w j hw hj]
  push_cast
  rw [Finset.sum_range]
  refine sum_congr rfl fun bd _ => ?_
  rw [Finset.sum_range]

/-- What the first accumulator of a tile counts, and the second. -/
def tallyI (d : Dev nD) (n : ℕ) : ℝ := (cnt (bn (valOf m d 0)) n : ℝ) - cnt (bn (valOf m d 1)) n
def tallyE (d : Dev nD) (n : ℕ) : ℝ := (cnt (bn (valOf m d 2)) n : ℝ) + cnt (bn (valOf m d 3)) n - (cnt (bn (valOf m d 4)) n + cnt (bn (valOf m d 5)) n)

theorem tally (d : Dev nD) (L : grid1.Coords) :
    IsR (accK m d L 48).1 (fun j => tallyI m d (widOf L * 32768 + j)) ∧ IsR (accK m d L 48).2 (fun j => tallyE m d (widOf L * 32768 + j)) := by
  have key : ∀ (s : Fin 6 → ℝ) (j : ℕ), j < 32768 → (∑ i ∈ range 48, s (fld i) * hits (rowK m d L i) 4096 j)
      = ∑ f, s f * (cnt (bn (valOf m d f)) (widOf L * 32768 + j) : ℝ) := by
    intro s j hj
    simp only [hits_K]
    refine (sum_items fun f bd b => s f * ∑ i ∈ range 4096, if (bd.val * 64 + i % 512 / 8) * 256 + bn (valOf m d f) b.val ((2 * widOf L + bd.val) * 8 + i / 512) (i % 512) = j then 1 else 0).trans ?_
    refine sum_congr rfl fun f _ => ?_
    rw [← field_cnt (valOf m d f) (widOf L) j (widOf_lt L) hj, Finset.mul_sum]
    refine sum_congr rfl fun bd _ => ?_
    rw [Finset.mul_sum]
  refine ⟨(accK_real m d L 48).1.congr fun j hj => ?_, (accK_real m d L 48).2.congr fun j hj => ?_⟩
  · refine Eq.trans (sum_congr rfl fun i _ => ?_) ((key (fun f => if f.val < 2 then sgR f else 0) j hj).trans ?_)
    · show _ = (if (fld i).val < 2 then sgR (fld i) else 0) * _
      split_ifs <;> simp
    · unfold tallyI
      rw [Fin.sum_univ_six]
      generalize ((cnt (bn (valOf m d 0)) (widOf L * 32768 + j) : ℕ) : ℝ) = c0
      generalize ((cnt (bn (valOf m d 1)) (widOf L * 32768 + j) : ℕ) : ℝ) = c1
      generalize ((cnt (bn (valOf m d 2)) (widOf L * 32768 + j) : ℕ) : ℝ) = c2
      generalize ((cnt (bn (valOf m d 3)) (widOf L * 32768 + j) : ℕ) : ℝ) = c3
      generalize ((cnt (bn (valOf m d 4)) (widOf L * 32768 + j) : ℕ) : ℝ) = c4
      generalize ((cnt (bn (valOf m d 5)) (widOf L * 32768 + j) : ℕ) : ℝ) = c5
      simp [sgR]
      try ring
  · refine Eq.trans (sum_congr rfl fun i _ => ?_) ((key (fun f => if f.val < 2 then 0 else sgR f) j hj).trans ?_)
    · show _ = (if (fld i).val < 2 then 0 else sgR (fld i)) * _
      split_ifs <;> simp
    · unfold tallyE
      rw [Fin.sum_univ_six]
      generalize ((cnt (bn (valOf m d 0)) (widOf L * 32768 + j) : ℕ) : ℝ) = c0
      generalize ((cnt (bn (valOf m d 1)) (widOf L * 32768 + j) : ℕ) : ℝ) = c1
      generalize ((cnt (bn (valOf m d 2)) (widOf L * 32768 + j) : ℕ) : ℝ) = c2
      generalize ((cnt (bn (valOf m d 3)) (widOf L * 32768 + j) : ℕ) : ℝ) = c3
      generalize ((cnt (bn (valOf m d 4)) (widOf L * 32768 + j) : ℕ) : ℝ) = c4
      generalize ((cnt (bn (valOf m d 5)) (widOf L * 32768 + j) : ℕ) : ℝ) = c5
      simp [sgR]
      try ring

/-! ## The sums of absolute values -/

/-- One of the eight running sums after `t` trips, at a lane. -/
def lane (r : ℕ → ℝ) (o x t : ℕ) : ℝ := ∑ i ∈ range t, (|r (128 * i + o + x)| + |r (128 * i + (o + 64) + x)|)

theorem chunk_real {g : Vec Ideal S32768 .f32} {r : ℕ → ℝ} (hg : IsR g r) (n : ℕ) (hn : n + 16 ≤ 32768) (x : S16.Idx) :
    chunk g n x = ((r (n + (x 0).val) : ℝ) : EReal) := by
  have hx : (x 0).val < 16 := (x 0).isLt
  unfold chunk
  rw [dif_pos (by omega), hg]
  rfl

theorem step_real {g : Vec Ideal S32768 .f32} {r : ℕ → ℝ} (hg : IsR g r) (c : FVec Ideal S16 .f32) (o t : ℕ) (ho : o + 64 + 16 ≤ 128) (ht : t < 256)
    (x : S16.Idx) (hc : c x = ((lane r o (x 0).val t : ℝ) : EReal)) :
    addf (addf c (absf (chunk g (128 * t + o)))) (absf (chunk g (128 * t + (o + 64)))) x = ((lane r o (x 0).val (t + 1) : ℝ) : EReal) := by
  show (c x + max (chunk g (128 * t + o) x) (-(chunk g (128 * t + o) x))) + max (chunk g (128 * t + (o + 64)) x) (-(chunk g (128 * t + (o + 64)) x)) = _
  rw [chunk_real hg _ (by omega), chunk_real hg _ (by omega), hc, abs_coe, abs_coe, ← EReal.coe_add, ← EReal.coe_add]
  congr 1
  unfold lane
  rw [Finset.sum_range_succ]
  ring

theorem red_real {h e : Vec Ideal S32768 .f32} {rh re : ℕ → ℝ} (hh : IsR h rh) (he : IsR e re) (t : ℕ) (ht : t ≤ 256) (x : S16.Idx) :
    (red h e t).1 x = ((lane rh 0 (x 0).val t : ℝ) : EReal) ∧ (red h e t).2.1 x = ((lane rh 16 (x 0).val t : ℝ) : EReal) ∧
    (red h e t).2.2.1 x = ((lane rh 32 (x 0).val t : ℝ) : EReal) ∧ (red h e t).2.2.2.1 x = ((lane rh 48 (x 0).val t : ℝ) : EReal) ∧
    (red h e t).2.2.2.2.1 x = ((lane re 0 (x 0).val t : ℝ) : EReal) ∧ (red h e t).2.2.2.2.2.1 x = ((lane re 16 (x 0).val t : ℝ) : EReal) ∧
    (red h e t).2.2.2.2.2.2.1 x = ((lane re 32 (x 0).val t : ℝ) : EReal) ∧ (red h e t).2.2.2.2.2.2.2 x = ((lane re 48 (x 0).val t : ℝ) : EReal) := by
  induction t with
  | zero =>
    have z : (k1_pay2 : FVec Ideal S16 .f32) x = ((0 : ℝ) : EReal) := Ideal.ofBits_zero_f32
    simp only [red, lane, Finset.range_zero, Finset.sum_empty]
    exact ⟨z, z, z, z, z, z, z, z⟩
  | succ t ih =>
    obtain ⟨a1, a2, a3, a4, a5, a6, a7, a8⟩ := ih (by omega)
    have ht' : t < 256 := by omega
    simp only [red, redStep]
    generalize red h e t = c at *
    exact ⟨step_real hh c.1 0 t (by omega) ht' x a1, step_real hh c.2.1 16 t (by omega) ht' x a2, step_real hh c.2.2.1 32 t (by omega) ht' x a3,
      step_real hh c.2.2.2.1 48 t (by omega) ht' x a4, step_real he c.2.2.2.2.1 0 t (by omega) ht' x a5, step_real he c.2.2.2.2.2.1 16 t (by omega) ht' x a6,
      step_real he c.2.2.2.2.2.2.1 32 t (by omega) ht' x a7, step_real he c.2.2.2.2.2.2.2 48 t (by omega) ht' x a8⟩

/-- A lane's sum over all trips. -/
def laneSum (r : ℕ → ℝ) (x : ℕ) : ℝ := ∑ t ∈ range 256, ∑ u ∈ range 8, |r (128 * t + 16 * u + x)|

theorem lanes_eq (r : ℕ → ℝ) (x : ℕ) : (lane r 0 x 256 + lane r 16 x 256) + (lane r 32 x 256 + lane r 48 x 256) = laneSum r x := by
  unfold lane laneSum
  rw [← Finset.sum_add_distrib, ← Finset.sum_add_distrib, ← Finset.sum_add_distrib]
  refine sum_congr rfl fun t _ => ?_
  simp only [Finset.sum_range_succ, Finset.sum_range_zero, Nat.reduceMul, Nat.reduceAdd, Nat.add_zero]
  ring

theorem ovec_real {h e : Vec Ideal S32768 .f32} {rh re : ℕ → ℝ} (hh : IsR h rh) (he : IsR e re) (y : S32.Idx) :
    ovec h e y = (((if (y 0).val < 16 then laneSum rh (y 0).val else laneSum re ((y 0).val - 16)) : ℝ) : EReal) := by
  unfold ovec
  by_cases hy : (y 0).val < 16
  · obtain ⟨a1, a2, a3, a4, -⟩ := red_real hh he 256 le_rfl (Shape.ofLane (d := ![16]) ⟨(y 0).val, hy⟩)
    simp only [dif_pos hy, if_pos hy]
    show (_ + _) + (_ + _) = _
    rw [a1, a2, a3, a4, ← EReal.coe_add, ← EReal.coe_add, ← EReal.coe_add, lanes_eq]
    rfl
  · have h2 : (y 0).val < 32 := (y 0).isLt
    obtain ⟨-, -, -, -, a1, a2, a3, a4⟩ := red_real hh he 256 le_rfl (Shape.ofLane (d := ![16]) ⟨(y 0).val - 16, by show _ < 16; omega⟩)
    simp only [dif_neg hy, if_neg hy]
    show (_ + _) + (_ + _) = _
    rw [a1, a2, a3, a4, ← EReal.coe_add, ← EReal.coe_add, ← EReal.coe_add, lanes_eq]
    rfl

/-! ## The whole result -/

/-- The entry at place `n` of the array of partial sums. -/
def part (d : Dev nD) (n : ℕ) : ℝ :=
  if n % 32 < 16 then laneSum (fun j => tallyI m d (n / 32 * 32768 + j)) (n % 32) else laneSum (fun j => tallyE m d (n / 32 * 32768 + j)) (n % 32 - 16)

theorem OUT_real (d : Dev nD) (y : S32x32.Idx) : OUT (A m) d y = ((part m d (S32x32.rowMajor y).val : ℝ) : EReal) := by
  have h0 : (y 0).val < 32 := (y 0).isLt
  have h1 : (y 1).val < 32 := (y 1).isLt
  have e : (S32x32.rowMajor y).val = (y 0).val * 32 + (y 1).val := Shape.rowMajor_val_two (d := ![32, 32]) y
  rw [e]
  unfold part
  rw [show ((y 0).val * 32 + (y 1).val) % 32 = (y 1).val by omega, show ((y 0).val * 32 + (y 1).val) / 32 = (y 0).val by omega]
  unfold OUT tileOut
  obtain ⟨a, b⟩ := tally m d (coordsV ⟨(y 0).val % 2, by show _ < 2; omega⟩ ⟨(y 0).val / 2, by show _ < 16; omega⟩)
  have hw : widOf (coordsV ⟨(y 0).val % 2, by show _ < 2; omega⟩ ⟨(y 0).val / 2, by show _ < 16; omega⟩) = (y 0).val := by
    show 2 * ((y 0).val / 2) + (y 0).val % 2 = _
    omega
  rw [hw] at a b
  exact ovec_real a b _

/-- The sum of all absolute differences, over windows and bins. -/
def total (d : Dev nD) : ℝ := (∑ n ∈ range 1048576, |tallyI m d n|) + ∑ n ∈ range 1048576, |tallyE m d n|

theorem sum_part (d : Dev nD) : ∑ n ∈ range 1024, part m d n = total m d := by
  refine (sum_runs _ 32 32).trans ?_
  have hl : ∀ f : ℕ → ℝ, ∑ x ∈ range 16, laneSum f x = ∑ j ∈ range 32768, |f j| := fun f => sum_lanes fun j => |f j|
  have h : ∀ w ∈ range 32, (∑ l ∈ range 32, part m d (w * 32 + l))
      = (∑ j ∈ range 32768, |tallyI m d (w * 32768 + j)|) + ∑ j ∈ range 32768, |tallyE m d (w * 32768 + j)| := by
    intro w hw
    refine (Finset.sum_range_add _ 16 16).trans ?_
    rw [← hl fun j => tallyI m d (w * 32768 + j), ← hl fun j => tallyE m d (w * 32768 + j)]
    congr 1
    · refine sum_congr rfl fun x hx => ?_
      rw [mem_range] at hx
      unfold part
      rw [show (w * 32 + x) % 32 = x by omega, show (w * 32 + x) / 32 = w by omega, if_pos hx]
    · refine sum_congr rfl fun x hx => ?_
      rw [mem_range] at hx
      unfold part
      rw [show (w * 32 + (16 + x)) % 32 = 16 + x by omega, show (w * 32 + (16 + x)) / 32 = w by omega, if_neg (by omega), show 16 + x - 16 = x by omega]
  rw [sum_congr rfl h, Finset.sum_add_distrib]
  unfold total
  rw [sum_runs_of (fun n => |tallyI m d n|) 32 32768 1048576 (by norm_num), sum_runs_of (fun n => |tallyE m d n|) 32 32768 1048576 (by norm_num)]

/-- The program's result: the sum over windows and bins, divided by 2^20. -/
theorem res_real (d : Dev nD) (j : S_.Idx) : res m d j = ((total m d / 1048576 : ℝ) : EReal) := by
  have hs : (∑ y : S32x32.Idx, OUT (A m) d y) = ((total m d : ℝ) : EReal) := by
    rw [sum_congr rfl fun y _ => OUT_real m d y, ← coe_sum]
    rw [sum_idx S32x32 1024 (by decide +kernel) (part m d), sum_part]
  have h1 : Host.reduceAdd (OUT (A m) d) (constant S_ .f32 0x00000000#32) reducesTo_S32x32_S_d0_1 h_S_ j = ((total m d : ℝ) : EReal) := by
    refine (Ideal.hostReduceAdd_total reducesTo_S32x32_S_d0_1 (fun b => b.elim0) (OUT (A m) d) _ j).trans ?_
    rw [hs]
    show Ideal.ofBits .f32 0x00000000#32 + _ = _
    rw [Ideal.ofBits_zero_f32, zero_add]
  have h2 : (Ideal.ofBits .f32 0x49800000#32 : EReal) = ((1048576 : ℝ) : EReal) := by
    simp [Ideal.ofBits, Ideal.ieee, -EReal.coe_mul]
    try norm_num
  unfold res
  show Ideal.div (Host.reduceAdd (OUT (A m) d) (constant S_ .f32 0x00000000#32) reducesTo_S32x32_S_d0_1 h_S_ j) (Ideal.ofBits .f32 0x49800000#32) = _
  rw [h1, h2, Ideal.div_coe (by norm_num), ← EReal.coe_mul, mul_one_div]

end Cert.Proof.KI

end
-- ==== Proof.Hist.lean ====
/-
  The reference's histograms. An array of values is binned window after window (`flat`), the same bins as the kernel's
  (`flat_up`); ones added at the binned places count the pixels (`hist_real`).
-/
module

public import proofs.«01_k».proof.Proof.Tally
public import proofs.«01_k».proof.Proof.Gen.ReferenceIdeal.Run
public import Idealize.ShloMosaic.Lib.Routing.Ops
public import Idealize.ShloMosaic.Lib.KernelVsHost
public import Idealize.ShloMosaic.Lib.IdealHost
public import Idealize.ShloMosaic.Lib.ValueIdxRank6

@[expose] public section

noncomputable section

namespace Cert.Proof.R

open Cert.ReferenceIdeal Cert.ReferenceIdeal.Gen
open Idealize.ShloMosaic Idealize.ShloMosaic.TcCoe Idealize.ShloMosaic.ValueIdx
open Finset Cert.Proof.Count
open Cert.Proof.KI (px bn bn_lt clip rawOf mnOf mxOf widthOf invOf)

/-- The kernel's shape of a batch of images. -/
abbrev S3 : Shape := Cert.KernelIdeal.S4x512x512

theorem casts_up : S3.ShapeCasts S4x1x512x512 := by decide

/-- A batch in the reference's shape. -/
def up (v : FVec Ideal S3 .f32) : FVec Ideal S4x1x512x512 .f32 := shapeCast S4x1x512x512 v casts_up

/-! ## The least and the greatest value -/

/-- A fold over all of an array does not depend on its shape. -/
theorem fold_cast {s t : Shape} (f : EReal → EReal → EReal) [Std.Commutative f] [Std.Associative f] (b : EReal) (x : s.Idx → EReal)
    (h : s.ShapeCasts t) : (Finset.univ : Finset t.Idx).fold f b (shapeCast t x h) = (Finset.univ : Finset s.Idx).fold f b x := by
  have e : (Finset.univ : Finset s.Idx) = (Finset.univ : Finset t.Idx).map (Shape.reshapeEquiv h).toEmbedding := by
    ext i
    simp
  rw [e, Finset.fold_map]
  rfl

theorem filter_one {s t : Shape} (g : s.Idx → t.Idx) (j : t.Idx) (ht : ∀ i : t.Idx, i = j) :
    ((Finset.univ : Finset s.Idx).filter fun i => g i = j) = Finset.univ :=
  Finset.filter_true_of_mem fun i _ => ht _

theorem S1_one (j k : Cert.KernelIdeal.S1.Idx) : j = k := funext fun a => Fin.ext (by
  have h1 : (j a).val < Cert.KernelIdeal.S1.size a := (j a).isLt
  have h2 : (k a).val < Cert.KernelIdeal.S1.size a := (k a).isLt
  have h3 : Cert.KernelIdeal.S1.size a = 1 := by
    match a with
    | 0 => rfl
  omega)

theorem mn_fold (v : FVec Ideal S3 .f32) : mnOf v = (Finset.univ : Finset S3.Idx).fold FloatOps.minimumf (FloatOps.ofBits (F := Ideal) .f32 0x7F800000#32) v := by
  unfold mnOf extractAt
  show multiReduction .minimumf [1, 2, 3] Cert.KernelIdeal.S1 _ _ _ _ _ _ = _
  refine (multiReduction_minimumf_eq_fold _ _ _ _ _ _).trans ?_
  rw [filter_one _ _ fun i => S1_one _ _]
  exact fold_cast _ _ _ _

theorem mx_fold (v : FVec Ideal S3 .f32) : mxOf v = (Finset.univ : Finset S3.Idx).fold FloatOps.maximumf (FloatOps.ofBits (F := Ideal) .f32 0xFF800000#32) v := by
  unfold mxOf extractAt
  show multiReduction .maximumf [1, 2, 3] Cert.KernelIdeal.S1 _ _ _ _ _ _ = _
  refine (multiReduction_maximumf_eq_fold _ _ _ _ _ _).trans ?_
  rw [filter_one _ _ fun i => S1_one _ _]
  exact fold_cast _ _ _ _

/-- The reference's least value, its greatest, and the width of a bin. -/
def lo (v : FVec Ideal S4x1x512x512 .f32) : FVec Ideal S_ .f32 :=
  Host.reduce FloatOps.minimumf v (constant S_ .f32 0x7F800000#32) reducesTo_S4x1x512x512_S_d0_1_2_3 h_S_
def hi (v : FVec Ideal S4x1x512x512 .f32) : FVec Ideal S_ .f32 :=
  Host.reduce FloatOps.maximumf v (constant S_ .f32 0xFF800000#32) reducesTo_S4x1x512x512_S_d0_1_2_3 h_S_
def wd (v : FVec Ideal S4x1x512x512 .f32) : FVec Ideal S_ .f32 := Host.divf (subf (hi v) (lo v)) (constant S_ .f32 0x43800000#32)

theorem lo_up (v : FVec Ideal S3 .f32) (j : S_.Idx) : lo (up v) j = mnOf v := by
  unfold lo up
  rw [mn_fold, Host.reduce_eq_fold, filter_one _ _ fun i => funext fun a => a.elim0]
  exact fold_cast _ _ _ _
theorem hi_up (v : FVec Ideal S3 .f32) (j : S_.Idx) : hi (up v) j = mxOf v := by
  unfold hi up
  rw [mx_fold, Host.reduce_eq_fold, filter_one _ _ fun i => funext fun a => a.elim0]
  exact fold_cast _ _ _ _
theorem wd_of (p q : FVec Ideal S_ .f32) (a b : Ideal .f32) (j : S_.Idx) (hp : p j = a) (hq : q j = b) :
    Host.divf (subf p q) (constant S_ .f32 0x43800000#32) j = Scalar.divf (Scalar.subf a b) (Scalar.ofBits .f32 0x43800000#32) := by
  subst hp hq
  exact rfl
theorem wd_up (v : FVec Ideal S3 .f32) (j : S_.Idx) : wd (up v) j = widthOf v := by
  unfold wd widthOf
  exact wd_of _ _ _ _ j (hi_up v j) (lo_up v j)

/-! ## The bins -/

/-- The window and bin of every pixel, pixels listed window after window. -/
def flat (v : FVec Ideal S4x1x512x512 .f32) (a w : FVec Ideal S_ .f32) : IVec S1048576 32 :=
  shapeCast S1048576 (addi (minsi (maxsi (fptosi 32 (Host.floor (Host.divf (subf (shapeCast S64x64x256 (transpose S64x64x4x1x8x8 [2, 4, 0, 1, 3, 5] (shapeCast S4x1x64x8x64x8 v shapeCasts_S4x1x512x512_S4x1x64x8x64x8) transposes_S4x1x64x8x64x8_S64x64x4x1x8x8_2_4_0_1_3_5) shapeCasts_S64x64x4x1x8x8_S64x64x256) (broadcastInDim S64x64x256 ![] bcast_S_S64x64x256 a)) (broadcastInDim S64x64x256 ![] bcast_S_S64x64x256 (select (cmpf .oeq w (constant S_ .f32 0x00000000#32)) (id (constant S_ .f32 0x3F800000#32)) w))))) (broadcastInDim S64x64x256 ![] bcast_S_S64x64x256 (constantI S_ 32 0#32))) (broadcastInDim S64x64x256 ![] bcast_S_S64x64x256 (constantI S_ 32 255#32))) (broadcastInDim S64x64x256 ![0, 1, 2] bcast_S64x64x1_S64x64x256_0_1_2 (shapeCast S64x64x1 (muli (iotaInDim S4096 32 0) (broadcastInDim S4096 ![] bcast_S_S4096 (constantI S_ 32 256#32))) shapeCasts_S4096_S64x64x1))) shapeCasts_S64x64x256_S1048576

/-- The values listed window after window. -/
theorem listed (v : FVec Ideal S3 .f32) (r c : Fin 64) (k : Fin 256) :
    shapeCast S64x64x256 (transpose S64x64x4x1x8x8 [2, 4, 0, 1, 3, 5] (shapeCast S4x1x64x8x64x8 (up v) shapeCasts_S4x1x512x512_S4x1x64x8x64x8) transposes_S4x1x64x8x64x8_S64x64x4x1x8x8_2_4_0_1_3_5) shapeCasts_S64x64x4x1x8x8_S64x64x256 (ix3 r c k)
      = v (px (k.val / 64) (r.val * 8 + k.val / 8 % 8) (c.val * 8 + k.val % 8)) := by
  have hr := r.isLt
  have hc := c.isLt
  have hk := k.isLt
  rw [shapeCast_apply _ _ _ (ix6 r c (⟨k.val / 64, by omega⟩ : Fin 4) (0 : Fin 1) (⟨k.val / 8 % 8, by omega⟩ : Fin 8) (⟨k.val % 8, by omega⟩ : Fin 8)) (by
    refine (Shape.rowMajor_val_six (d := ![64, 64, 4, 1, 8, 8]) _).trans ?_
    refine Eq.trans ?_ (Shape.rowMajor_val_three (d := ![64, 64, 256]) _).symm
    show ((((r.val * 64 + c.val) * 4 + k.val / 64) * 1 + 0) * 8 + k.val / 8 % 8) * 8 + k.val % 8 = (r.val * 64 + c.val) * 256 + k.val
    omega)]
  rw [transpose_apply _ _ _ _ (ix6 (⟨k.val / 64, by omega⟩ : Fin 4) (0 : Fin 1) r (⟨k.val / 8 % 8, by omega⟩ : Fin 8) c (⟨k.val % 8, by omega⟩ : Fin 8)) (by
    intro b
    match b with
    | 0 | 1 | 2 | 3 | 4 | 5 => rfl)]
  rw [shapeCast_apply _ _ _ (ix4 (⟨k.val / 64, by omega⟩ : Fin 4) (0 : Fin 1) (⟨r.val * 8 + k.val / 8 % 8, by omega⟩ : Fin 512) (⟨c.val * 8 + k.val % 8, by omega⟩ : Fin 512)) (by
    refine (Shape.rowMajor_val_four (d := ![4, 1, 512, 512]) _).trans ?_
    refine Eq.trans ?_ (Shape.rowMajor_val_six (d := ![4, 1, 64, 8, 64, 8]) _).symm
    show ((k.val / 64 * 1 + 0) * 512 + (r.val * 8 + k.val / 8 % 8)) * 512 + (c.val * 8 + k.val % 8)
      = ((((k.val / 64 * 1 + 0) * 64 + r.val) * 8 + k.val / 8 % 8) * 64 + c.val) * 8 + k.val % 8
    omega)]
  unfold up
  refine shapeCast_apply _ _ _ _ ?_
  refine (Shape.rowMajor_val_three (d := ![4, 512, 512]) _).trans ?_
  refine Eq.trans ?_ (Shape.rowMajor_val_four (d := ![4, 1, 512, 512]) _).symm
  show (k.val / 64 % 4 * 512 + (r.val * 8 + k.val / 8 % 8) % 512) * 512 + (c.val * 8 + k.val % 8) % 512
    = ((k.val / 64 * 1 + 0) * 512 + (r.val * 8 + k.val / 8 % 8)) * 512 + (c.val * 8 + k.val % 8)
  omega

/-- The window's number times 256. -/
theorem window (r c : Fin 64) (k : Fin 256) :
    broadcastInDim S64x64x256 ![0, 1, 2] bcast_S64x64x1_S64x64x256_0_1_2 (shapeCast S64x64x1 (muli (iotaInDim S4096 32 0) (broadcastInDim S4096 ![] bcast_S_S4096 (constantI S_ 32 256#32))) shapeCasts_S4096_S64x64x1) (ix3 r c k)
      = BitVec.ofNat 32 ((r.val * 64 + c.val) * 256) := by
  have hr := r.isLt
  have hc := c.isLt
  rw [broadcastInDim_apply _ _ _ _ (ix3 r c (0 : Fin 1)) (by
    intro a
    match a with
    | 0 | 1 | 2 => rfl)]
  rw [shapeCast_apply _ _ _ (ix1 (⟨r.val * 64 + c.val, by omega⟩ : Fin 4096)) (by
    refine (Shape.rowMajor_val_one (d := ![4096]) _).trans ?_
    refine Eq.trans ?_ (Shape.rowMajor_val_three (d := ![64, 64, 1]) _).symm
    show r.val * 64 + c.val = (r.val * 64 + c.val) * 1 + 0
    omega)]
  show IntOp.muli (BitVec.ofNat 32 (r.val * 64 + c.val)) 256#32 = _
  apply BitVec.eq_of_toNat_eq
  simp only [IntOp.muli, BitVec.toNat_mul, BitVec.toNat_ofNat]
  omega

theorem words (x : FVec Ideal S64x64x256 .f32) (y : IVec S64x64x256 32) (a w : FVec Ideal S_ .f32) (j : S64x64x256.Idx) :
    addi (minsi (maxsi (fptosi 32 (Host.floor (Host.divf (subf x (broadcastInDim S64x64x256 ![] bcast_S_S64x64x256 a)) (broadcastInDim S64x64x256 ![] bcast_S_S64x64x256 (select (cmpf .oeq w (constant S_ .f32 0x00000000#32)) (id (constant S_ .f32 0x3F800000#32)) w))))) (broadcastInDim S64x64x256 ![] bcast_S_S64x64x256 (constantI S_ 32 0#32))) (broadcastInDim S64x64x256 ![] bcast_S_S64x64x256 (constantI S_ 32 255#32))) y j
      = IntOp.addi (IntOp.minsi (IntOp.maxsi (FloatOps.fptosi 32 (FloatOps.hostUnary .floor (FloatOps.hostDivf (FloatOps.subf (x j) (a ix0)) (Scalar.select (FloatOps.cmpf .oeq (w ix0) (Ideal.ofBits .f32 0x00000000#32)) (Ideal.ofBits .f32 0x3F800000#32) (w ix0)))) : BitVec 32) 0#32) 255#32) (y j) := by
  have e : ∀ g : FVec Ideal S_ .f32, broadcastInDim S64x64x256 ![] bcast_S_S64x64x256 g j = g ix0 := fun g => broadcastInDim_scalar_apply _ _ _
  show IntOp.addi (IntOp.minsi (IntOp.maxsi (FloatOps.fptosi 32 (FloatOps.hostUnary .floor (FloatOps.hostDivf (FloatOps.subf (x j) (broadcastInDim S64x64x256 ![] bcast_S_S64x64x256 a j)) (broadcastInDim S64x64x256 ![] bcast_S_S64x64x256 (select (cmpf .oeq w (constant S_ .f32 0x00000000#32)) (id (constant S_ .f32 0x3F800000#32)) w) j))) : BitVec 32) 0#32) 255#32) (y j) = _
  rw [e, e]
  exact rfl

/-- A quotient by the width is a product with its reciprocal. -/
theorem quot (x w : EReal) : Ideal.div x (Scalar.select (Ideal.cmp .oeq w (Ideal.ofBits .f32 0x00000000#32)) (Ideal.ofBits .f32 0x3F800000#32) w)
    = x * Scalar.select (Ideal.cmp .oeq w (Ideal.ofBits .f32 0x00000000#32)) (Ideal.ofBits .f32 0x3F800000#32) (Ideal.div (Ideal.ofBits .f32 0x3F800000#32) w) := by
  rw [Ideal.ofBits_zero_f32, KI.one_word]
  by_cases h : w = 0
  · have e : Ideal.cmp .oeq w 0 = 1#1 := by simp [Ideal.cmp, h]
    rw [e]
    show Ideal.div x ((1 : ℝ) : EReal) = x * ((1 : ℝ) : EReal)
    rw [Ideal.div_coe one_ne_zero]
    norm_num
  · have e : Ideal.cmp .oeq w 0 = 0#1 := by simp [Ideal.cmp, h]
    rw [e]
    show Ideal.div x w = x * Ideal.div ((1 : ℝ) : EReal) w
    unfold Ideal.div
    rw [if_neg h, if_neg h, EReal.coe_one, one_mul]

theorem clip_host (w : BitVec 32) : IntOp.minsi (IntOp.maxsi w 0#32) 255#32 = clip w := by
  unfold clip IntOp.minsi IntOp.maxsi
  simp only [BitVec.slt, decide_eq_true_eq]
  have e1 : (0#32 : BitVec 32).toInt = 0 := by decide
  have e2 : (255#32 : BitVec 32).toInt = 255 := by decide
  by_cases h : w.toInt = 0
  · have : w = 0#32 := BitVec.eq_of_toInt_eq (h.trans e1.symm)
    subst this
    rfl
  · by_cases h' : w.toInt = 255
    · have : w = 255#32 := BitVec.eq_of_toInt_eq (h'.trans e2.symm)
      subst this
      rfl
    · split_ifs <;> first | rfl | omega

/-- The bin by the quotient is the kernel's. -/
theorem bin_eq (v : FVec Ideal S3 .f32) (z : S3.Idx) :
    IntOp.minsi (IntOp.maxsi (FloatOps.fptosi 32 (FloatOps.hostUnary .floor (FloatOps.hostDivf (FloatOps.subf (v z) (mnOf v)) (Scalar.select (FloatOps.cmpf .oeq (widthOf v) (Ideal.ofBits .f32 0x00000000#32)) (Ideal.ofBits .f32 0x3F800000#32) (widthOf v)))) : BitVec 32) 0#32) 255#32
      = clip (rawOf v z) := by
  rw [clip_host, KI.rawOf_apply]
  unfold invOf
  generalize widthOf v = w
  generalize mnOf v = a
  generalize v z = x
  have := quot (FloatOps.subf x a) w
  exact congrArg (fun y : EReal => clip (FloatOps.fptosi (F := Ideal) (φ := .f32) 32 (Ideal.liftRound Int.floor y))) this

theorem flat_up (v : FVec Ideal S3 .f32) (p : Fin 1048576) :
    flat (up v) (lo (up v)) (wd (up v)) (ix1 p) = BitVec.ofNat 32 (place (bn v) p.val) := by
  have hp := p.isLt
  unfold flat
  rw [shapeCast_apply _ _ _ (ix3 (⟨p.val / 16384, by omega⟩ : Fin 64) (⟨p.val / 256 % 64, by omega⟩ : Fin 64) (⟨p.val % 256, by omega⟩ : Fin 256)) (by
    refine (Shape.rowMajor_val_three (d := ![64, 64, 256]) _).trans ?_
    refine Eq.trans ?_ (Shape.rowMajor_val_one (d := ![1048576]) _).symm
    show (p.val / 16384 * 64 + p.val / 256 % 64) * 256 + p.val % 256 = p.val
    omega)]
  rw [words, listed, window, lo_up, wd_up, bin_eq]
  show IntOp.addi (clip (rawOf v (px (p.val % 256 / 64) (p.val / 16384 * 8 + p.val % 256 / 8 % 8) (p.val / 256 % 64 * 8 + p.val % 256 % 8)))) (BitVec.ofNat 32 ((p.val / 16384 * 64 + p.val / 256 % 64) * 256)) = _
  rw [show p.val % 256 / 64 = p.val / 64 % 4 by omega, show p.val % 256 / 8 % 8 = p.val / 8 % 8 by omega, show p.val % 256 % 8 = p.val % 8 by omega,
    show p.val / 16384 * 64 + p.val / 256 % 64 = p.val / 256 by omega]
  have hb := bn_lt v (p.val / 64 % 4) (p.val / 16384 * 8 + p.val / 8 % 8) (p.val / 256 % 64 * 8 + p.val % 8)
  apply BitVec.eq_of_toNat_eq
  unfold place
  unfold bn at hb ⊢
  simp only [IntOp.addi, BitVec.toNat_add, BitVec.toNat_ofNat]
  omega

/-! ## The counts -/

theorem place_lt (v : FVec Ideal S3 .f32) (p : ℕ) (hp : p < 1048576) : place (bn v) p < 1048576 := by
  have hb := bn_lt v (p / 64 % 4) (p / 16384 * 8 + p / 8 % 8) (p / 256 % 64 * 8 + p % 8)
  unfold place
  omega

/-- Ones added at the places `fl`. -/
def histOf (fl : IVec S1048576 32) : FVec Ideal S64x64x256 .f32 :=
  shapeCast S64x64x256 (sitofp .f32 (Host.scatter scatter_S1048576_S1048576x1_S1048576_n_0_0_1 IntOp.addi (broadcastInDim S1048576 ![] bcast_S_S1048576 (constantI S_ 32 0#32)) (broadcastInDim S1048576x1 ![0] bcast_S1048576_S1048576x1_0 (select (cmpi .slt fl (broadcastInDim S1048576 ![] bcast_S_S1048576 (constantI S_ 32 0#32))) (addi fl (broadcastInDim S1048576 ![] bcast_S_S1048576 (constantI S_ 32 1048576#32))) fl)) (broadcastInDim S1048576 ![] bcast_S_S1048576 (constantI S_ 32 1#32)))) shapeCasts_S1048576_S64x64x256

/-- The histogram repeated for the four images. -/
def rep (h : FVec Ideal S64x64x256 .f32) : FVec Ideal S4x64x64x256 .f32 :=
  broadcastInDim S4x64x64x256 ![0, 1, 2, 3] bcast_S1x64x64x256_S4x64x64x256_0_1_2_3 (broadcastInDim S1x64x64x256 ![1, 2, 3] bcast_S64x64x256_S1x64x64x256_1_2_3 h)

theorem rep_apply (h : FVec Ideal S64x64x256 .f32) (y : S4x64x64x256.Idx) (r c : Fin 64) (k : Fin 256) (hr : (y 1).val = r.val) (hc : (y 2).val = c.val)
    (hk : (y 3).val = k.val) : rep h y = h (ix3 r c k) := by
  unfold rep
  refine (broadcastInDim_apply _ _ _ _ (ix4 (0 : Fin 1) r c k) (by
    intro a
    match a with
    | 0 => rfl
    | 1 => exact hr.symm
    | 2 => exact hc.symm
    | 3 => exact hk.symm)).trans ?_
  exact broadcastInDim_apply _ _ _ _ _ (by
    intro a
    match a with
    | 0 | 1 | 2 => rfl)

theorem wrap_word (n : ℕ) (h : n < 1048576) (w : BitVec 32) :
    Scalar.select (IntOp.cmpi .slt (BitVec.ofNat 32 n) 0#32) w (BitVec.ofNat 32 n) = BitVec.ofNat 32 n := by
  have e : IntOp.cmpi .slt (BitVec.ofNat 32 n) 0#32 = 0#1 := by
    have e1 : (BitVec.ofNat 32 n).toInt = n := by
      rw [BitVec.toInt_eq_toNat_cond, BitVec.toNat_ofNat]
      split <;> omega
    have e2 : (0#32 : BitVec 32).toInt = 0 := by decide
    simp only [IntOp.cmpi, BitVec.slt, e1, e2]
    rw [decide_eq_false (by omega)]
    rfl
  rw [e]
  rfl

/-- Ones added at words that are the numbers `gi` count them. -/
theorem ones (fl : IVec S1048576 32) (gi : ℕ → ℕ) (hfl : ∀ i : Fin 1048576, fl (ix1 i) = BitVec.ofNat 32 (gi i.val)) (hgi : ∀ i < 1048576, gi i < 1048576)
    (x : Fin 1048576) :
    Host.scatter scatter_S1048576_S1048576x1_S1048576_n_0_0_1 IntOp.addi (broadcastInDim S1048576 ![] bcast_S_S1048576 (constantI S_ 32 0#32)) (broadcastInDim S1048576x1 ![0] bcast_S1048576_S1048576x1_0 (select (cmpi .slt fl (broadcastInDim S1048576 ![] bcast_S_S1048576 (constantI S_ 32 0#32))) (addi fl (broadcastInDim S1048576 ![] bcast_S_S1048576 (constantI S_ 32 1048576#32))) fl)) (broadcastInDim S1048576 ![] bcast_S_S1048576 (constantI S_ 32 1#32)) (ix1 x)
      = BitVec.ofNat 32 (Nat.count (fun i => gi i = x.val) 1048576) := by
  refine Routing.scatter_hist scatter_S1048576_S1048576x1_S1048576_n_0_0_1 rfl rfl rfl _ (fun i => by exact rfl) _ _ (fun i => by exact rfl) gi (fun i => ?_)
    (fun i => lt_trans (hgi _ i.isLt) (by norm_num)) x
  refine (broadcastInDim_apply _ _ _ _ (ix1 i) (by
    intro a
    match a with
    | 0 => rfl)).trans ?_
  show Scalar.select (IntOp.cmpi .slt (fl (ix1 i)) 0#32) (IntOp.addi (fl (ix1 i)) _) (fl (ix1 i)) = _
  rw [hfl]
  exact wrap_word _ (hgi _ i.isLt) _

/-- A count below 2^31 as a real. -/
theorem count_coe (c : ℕ) (hc : c ≤ 1048576) : ((((BitVec.ofNat 32 c).toInt : ℤ) : ℝ) : EReal) = ((c : ℝ) : EReal) := by
  have e3 : (BitVec.ofNat 32 c).toInt = c := by
    rw [BitVec.toInt_eq_toNat_cond, BitVec.toNat_ofNat]
    split <;> omega
  rw [e3]
  norm_cast

theorem histOf_real (fl : IVec S1048576 32) (gi : ℕ → ℕ) (hfl : ∀ i : Fin 1048576, fl (ix1 i) = BitVec.ofNat 32 (gi i.val)) (hgi : ∀ i < 1048576, gi i < 1048576)
    (r c : Fin 64) (k : Fin 256) (n : ℕ) (hn : n = (r.val * 64 + c.val) * 256 + k.val) :
    histOf fl (ix3 r c k) = (((Nat.count (fun i => gi i = n) 1048576 : ℕ) : ℝ) : EReal) := by
  have hr := r.isLt
  have hc := c.isLt
  have hk := k.isLt
  have hlt : n < 1048576 := by omega
  unfold histOf
  refine (shapeCast_apply _ _ _ (ix1 (⟨n, hlt⟩ : Fin 1048576)) (by
    refine (Shape.rowMajor_val_one (d := ![1048576]) _).trans ?_
    refine Eq.trans ?_ (Shape.rowMajor_val_three (d := ![64, 64, 256]) _).symm
    exact hn)).trans ?_
  have e := ones fl gi hfl hgi ⟨n, hlt⟩
  refine (congrArg (fun w : BitVec 32 => ((((w.toInt : ℤ) : ℝ)) : EReal)) e).trans ?_
  exact count_coe _ (Nat.count_le _)

theorem hist_real (v : FVec Ideal S3 .f32) (y : S4x64x64x256.Idx) :
    rep (histOf (flat (up v) (lo (up v)) (wd (up v)))) y = (((cnt (bn v) ((S4x64x64x256.rowMajor y).val % 1048576) : ℕ) : ℝ) : EReal) := by
  have h0 : (y 0).val < 4 := (y 0).isLt
  have h1 : (y 1).val < 64 := (y 1).isLt
  have h2 : (y 2).val < 64 := (y 2).isLt
  have h3 : (y 3).val < 256 := (y 3).isLt
  have e : (S4x64x64x256.rowMajor y).val % 1048576 = ((y 1).val * 64 + (y 2).val) * 256 + (y 3).val := by
    have := Shape.rowMajor_val_four (d := ![4, 64, 64, 256]) y
    rw [show (S4x64x64x256.rowMajor y).val = (((y 0).val * 64 + (y 1).val) * 64 + (y 2).val) * 256 + (y 3).val from this]
    omega
  rw [e, rep_apply _ y ⟨_, h1⟩ ⟨_, h2⟩ ⟨_, h3⟩ rfl rfl rfl, ← count_ref]
  exact histOf_real _ (place (bn v)) (flat_up v) (place_lt v) ⟨_, h1⟩ ⟨_, h2⟩ ⟨_, h3⟩ _ rfl

end Cert.Proof.R

end
-- ==== Proof.Same.lean ====
/-
  The values the two programs bin. The reference's Sobel sums read slices of the zero-padded image, the kernel's the image shifted
  with zeros coming in (`gx_up`, `gy_up`); the magnitudes and the angles agree pixel by pixel (`mag_up`, `ang_up`).
-/
module

public import proofs.«01_k».proof.Proof.Hist

@[expose] public section

noncomputable section

namespace Cert.Proof.R

open Cert.ReferenceIdeal Cert.ReferenceIdeal.Gen
open Idealize.ShloMosaic Idealize.ShloMosaic.TcCoe Idealize.ShloMosaic.ValueIdx

/-- The reference's shape at a pixel is the kernel's at the same pixel. -/
theorem up_apply {v : FVec Ideal S3 .f32} (b : Fin 4) (i j : Fin 512) : up v (ix4 b (0 : Fin 1) i j) = v (ix3 b i j) := by
  unfold up
  refine shapeCast_apply _ _ _ _ ?_
  refine (Shape.rowMajor_val_three (d := ![4, 512, 512]) _).trans ?_
  refine Eq.trans ?_ (Shape.rowMajor_val_four (d := ![4, 1, 512, 512]) _).symm
  show (b.val * 512 + i.val) * 512 + j.val = ((b.val * 1 + 0) * 512 + i.val) * 512 + j.val
  omega

/-- Two arrays of the reference's shape that agree with a kernel's array at every pixel. -/
theorem eq_up (w : FVec Ideal S4x1x512x512 .f32) (v : FVec Ideal S3 .f32) (h : ∀ (b : Fin 4) (i j : Fin 512), w (ix4 b (0 : Fin 1) i j) = v (ix3 b i j)) : w = up v := by
  funext y
  rw [eq_ix4 y]
  have e : y 1 = (0 : Fin 1) := Subsingleton.elim (α := Fin 1) _ _
  rw [e]
  exact (h (y 0) (y 2) (y 3)).trans (up_apply (y 0) (y 2) (y 3)).symm

/-- An image read with a border of zeros, rows and columns counted from 1. -/
def brd (y : FVec Ideal S3 .f32) (b : Fin 4) (r c : ℕ) : EReal :=
  if h : 1 ≤ r ∧ r ≤ 512 ∧ 1 ≤ c ∧ c ≤ 512 then y (ix3 b (⟨r - 1, by omega⟩ : Fin 512) (⟨c - 1, by omega⟩ : Fin 512)) else 0

theorem brd_in (y : FVec Ideal S3 .f32) (b : Fin 4) (i j : Fin 512) (r c : ℕ) (hr : r = i.val + 1) (hc : c = j.val + 1) : y (ix3 b i j) = brd y b r c := by
  have hi := i.isLt
  have hj := j.isLt
  subst hr hc
  unfold brd
  rw [dif_pos (by omega)]
  exact rfl
theorem brd_out (y : FVec Ideal S3 .f32) (b : Fin 4) (r c : ℕ) (h : r = 0 ∨ 512 < r ∨ c = 0 ∨ 512 < c) : (0 : EReal) = brd y b r c := by
  unfold brd
  rw [dif_neg (by omega)]

/-! ## The kernel's shifts -/

abbrev zw : Ideal .f32 := Scalar.ofBits .f32 0x00000000#32

/-- The image one row down, one row up, one column right, one column left. -/
def sdn (y : FVec Ideal S3 .f32) : FVec Ideal S3 .f32 := concatenate Cert.KernelIdeal.S4x512x512 1 [⟨Cert.KernelIdeal.S4x1x512, broadcast Cert.KernelIdeal.S4x1x512 zw⟩, ⟨Cert.KernelIdeal.S4x511x512, extractStridedSlice Cert.KernelIdeal.S4x511x512 ![0, 0, 0] y Cert.KernelIdeal.Gen.slices_S4x512x512_o0_0_0_S4x511x512⟩] Cert.KernelIdeal.Gen.concatenates_S4x1x512_S4x511x512_S4x512x512_d1
def sup (y : FVec Ideal S3 .f32) : FVec Ideal S3 .f32 := concatenate Cert.KernelIdeal.S4x512x512 1 [⟨Cert.KernelIdeal.S4x511x512, extractStridedSlice Cert.KernelIdeal.S4x511x512 ![0, 1, 0] y Cert.KernelIdeal.Gen.slices_S4x512x512_o0_1_0_S4x511x512⟩, ⟨Cert.KernelIdeal.S4x1x512, broadcast Cert.KernelIdeal.S4x1x512 zw⟩] Cert.KernelIdeal.Gen.concatenates_S4x511x512_S4x1x512_S4x512x512_d1
def sri (y : FVec Ideal S3 .f32) : FVec Ideal S3 .f32 := concatenate Cert.KernelIdeal.S4x512x512 2 [⟨Cert.KernelIdeal.S4x512x1, broadcast Cert.KernelIdeal.S4x512x1 zw⟩, ⟨Cert.KernelIdeal.S4x512x511, extractStridedSlice Cert.KernelIdeal.S4x512x511 ![0, 0, 0] y Cert.KernelIdeal.Gen.slices_S4x512x512_o0_0_0_S4x512x511⟩] Cert.KernelIdeal.Gen.concatenates_S4x512x1_S4x512x511_S4x512x512_d2
def sle (y : FVec Ideal S3 .f32) : FVec Ideal S3 .f32 := concatenate Cert.KernelIdeal.S4x512x512 2 [⟨Cert.KernelIdeal.S4x512x511, extractStridedSlice Cert.KernelIdeal.S4x512x511 ![0, 0, 1] y Cert.KernelIdeal.Gen.slices_S4x512x512_o0_0_1_S4x512x511⟩, ⟨Cert.KernelIdeal.S4x512x1, broadcast Cert.KernelIdeal.S4x512x1 zw⟩] Cert.KernelIdeal.Gen.concatenates_S4x512x511_S4x512x1_S4x512x512_d2

theorem zw_eq : (zw : EReal) = 0 := Ideal.ofBits_zero_f32

theorem sdn_apply (y : FVec Ideal S3 .f32) (b : Fin 4) (i j : Fin 512) : sdn y (ix3 b i j) = brd y b i.val (j.val + 1) := by
  have hi := i.isLt
  have hj := j.isLt
  unfold sdn
  by_cases h : i.val = 0
  · refine (concatenate_pair_apply_left (t := Cert.KernelIdeal.S4x512x512) (s₁ := Cert.KernelIdeal.S4x1x512) (s₂ := Cert.KernelIdeal.S4x511x512) _ _ _ _ _ rfl (ix3 b (0 : Fin 1) j) (fun a => ?_)).trans ?_
    · match a with
      | 0 => rfl
      | 1 => exact h.symm
      | 2 => rfl
    · refine Eq.trans ?_ (brd_out y b i.val (j.val + 1) (by omega))
      exact zw_eq
  · refine (concatenate_pair_apply_right (t := Cert.KernelIdeal.S4x512x512) (s₁ := Cert.KernelIdeal.S4x1x512) (s₂ := Cert.KernelIdeal.S4x511x512) _ _ _ _ _ rfl rfl (ix3 b (⟨i.val - 1, by omega⟩ : Fin 511) j) (fun a ha => ?_) ?_).trans ?_
    · match a with
      | 0 => rfl
      | 1 => exact absurd rfl ha
      | 2 => rfl
    · show i.val - 1 + 1 = i.val
      omega
    · refine (extractStridedSlice_apply _ _ _ _ (ix3 b (⟨i.val - 1, by omega⟩ : Fin 512) j) (fun a => ?_)).trans ?_
      · match a with
        | 0 => exact (Nat.zero_add _).symm
        | 1 => exact (Nat.zero_add _).symm
        | 2 => exact (Nat.zero_add _).symm
      · exact brd_in y b _ j _ _ (by show i.val = i.val - 1 + 1; omega) rfl

theorem sup_apply (y : FVec Ideal S3 .f32) (b : Fin 4) (i j : Fin 512) : sup y (ix3 b i j) = brd y b (i.val + 2) (j.val + 1) := by
  have hi := i.isLt
  have hj := j.isLt
  unfold sup
  by_cases h : i.val = 511
  · refine (concatenate_pair_apply_right (t := Cert.KernelIdeal.S4x512x512) (s₁ := Cert.KernelIdeal.S4x511x512) (s₂ := Cert.KernelIdeal.S4x1x512) _ _ _ _ _ rfl rfl (ix3 b (0 : Fin 1) j) (fun a ha => ?_) ?_).trans ?_
    · match a with
      | 0 => rfl
      | 1 => exact absurd rfl ha
      | 2 => rfl
    · show 0 + 511 = i.val
      omega
    · refine Eq.trans ?_ (brd_out y b (i.val + 2) (j.val + 1) (by omega))
      exact zw_eq
  · refine (concatenate_pair_apply_left (t := Cert.KernelIdeal.S4x512x512) (s₁ := Cert.KernelIdeal.S4x511x512) (s₂ := Cert.KernelIdeal.S4x1x512) _ _ _ _ _ rfl (ix3 b (⟨i.val, by omega⟩ : Fin 511) j) (fun a => ?_)).trans ?_
    · match a with
      | 0 => rfl
      | 1 => rfl
      | 2 => rfl
    · refine (extractStridedSlice_apply _ _ _ _ (ix3 b (⟨i.val + 1, by omega⟩ : Fin 512) j) (fun a => ?_)).trans ?_
      · match a with
        | 0 => exact (Nat.zero_add _).symm
        | 1 => exact Nat.add_comm _ _
        | 2 => exact (Nat.zero_add _).symm
      · exact brd_in y b _ j _ _ rfl rfl

theorem sri_apply (y : FVec Ideal S3 .f32) (b : Fin 4) (i j : Fin 512) : sri y (ix3 b i j) = brd y b (i.val + 1) j.val := by
  have hi := i.isLt
  have hj := j.isLt
  unfold sri
  by_cases h : j.val = 0
  · refine (concatenate_pair_apply_left (t := Cert.KernelIdeal.S4x512x512) (s₁ := Cert.KernelIdeal.S4x512x1) (s₂ := Cert.KernelIdeal.S4x512x511) _ _ _ _ _ rfl (ix3 b i (0 : Fin 1)) (fun a => ?_)).trans ?_
    · match a with
      | 0 => rfl
      | 1 => rfl
      | 2 => exact h.symm
    · refine Eq.trans ?_ (brd_out y b (i.val + 1) j.val (by omega))
      exact zw_eq
  · refine (concatenate_pair_apply_right (t := Cert.KernelIdeal.S4x512x512) (s₁ := Cert.KernelIdeal.S4x512x1) (s₂ := Cert.KernelIdeal.S4x512x511) _ _ _ _ _ rfl rfl (ix3 b i (⟨j.val - 1, by omega⟩ : Fin 511)) (fun a ha => ?_) ?_).trans ?_
    · match a with
      | 0 => rfl
      | 1 => rfl
      | 2 => exact absurd rfl ha
    · show j.val - 1 + 1 = j.val
      omega
    · refine (extractStridedSlice_apply _ _ _ _ (ix3 b i (⟨j.val - 1, by omega⟩ : Fin 512)) (fun a => ?_)).trans ?_
      · match a with
        | 0 => exact (Nat.zero_add _).symm
        | 1 => exact (Nat.zero_add _).symm
        | 2 => exact (Nat.zero_add _).symm
      · exact brd_in y b i _ _ _ rfl (by show j.val = j.val - 1 + 1; omega)

theorem sle_apply (y : FVec Ideal S3 .f32) (b : Fin 4) (i j : Fin 512) : sle y (ix3 b i j) = brd y b (i.val + 1) (j.val + 2) := by
  have hi := i.isLt
  have hj := j.isLt
  unfold sle
  by_cases h : j.val = 511
  · refine (concatenate_pair_apply_right (t := Cert.KernelIdeal.S4x512x512) (s₁ := Cert.KernelIdeal.S4x512x511) (s₂ := Cert.KernelIdeal.S4x512x1) _ _ _ _ _ rfl rfl (ix3 b i (0 : Fin 1)) (fun a ha => ?_) ?_).trans ?_
    · match a with
      | 0 => rfl
      | 1 => rfl
      | 2 => exact absurd rfl ha
    · show 0 + 511 = j.val
      omega
    · refine Eq.trans ?_ (brd_out y b (i.val + 1) (j.val + 2) (by omega))
      exact zw_eq
  · refine (concatenate_pair_apply_left (t := Cert.KernelIdeal.S4x512x512) (s₁ := Cert.KernelIdeal.S4x512x511) (s₂ := Cert.KernelIdeal.S4x512x1) _ _ _ _ _ rfl (ix3 b i (⟨j.val, by omega⟩ : Fin 511)) (fun a => ?_)).trans ?_
    · match a with
      | 0 => rfl
      | 1 => rfl
      | 2 => rfl
    · refine (extractStridedSlice_apply _ _ _ _ (ix3 b i (⟨j.val + 1, by omega⟩ : Fin 512)) (fun a => ?_)).trans ?_
      · match a with
        | 0 => exact (Nat.zero_add _).symm
        | 1 => exact (Nat.zero_add _).symm
        | 2 => exact Nat.add_comm _ _
      · exact brd_in y b i _ _ _ rfl rfl

/-! ## The two derivatives -/

abbrev two : Ideal .f32 := Scalar.ofBits .f32 0x40000000#32

/-- The weighted sum of three neighbours in a column, and in a row. -/
def smC (y : FVec Ideal S3 .f32) : FVec Ideal S3 .f32 := addf (addf (sdn y) (mulf (broadcast Cert.KernelIdeal.S4x512x512 two) y)) (sup y)
def smR (y : FVec Ideal S3 .f32) : FVec Ideal S3 .f32 := addf (addf (sri y) (mulf (broadcast Cert.KernelIdeal.S4x512x512 two) y)) (sle y)
def sumC (y : FVec Ideal S3 .f32) (b : Fin 4) (r c : ℕ) : EReal := (brd y b r c + two * brd y b (r + 1) c) + brd y b (r + 2) c
def sumR (y : FVec Ideal S3 .f32) (b : Fin 4) (r c : ℕ) : EReal := (brd y b r c + two * brd y b r (c + 1)) + brd y b r (c + 2)

theorem smC_apply (y : FVec Ideal S3 .f32) (b : Fin 4) (i j : Fin 512) : smC y (ix3 b i j) = sumC y b i.val (j.val + 1) := by
  show (sdn y (ix3 b i j) + two * y (ix3 b i j)) + sup y (ix3 b i j) = _
  rw [sdn_apply, sup_apply, brd_in y b i j _ _ rfl rfl]
  rfl
theorem smR_apply (y : FVec Ideal S3 .f32) (b : Fin 4) (i j : Fin 512) : smR y (ix3 b i j) = sumR y b (i.val + 1) j.val := by
  show (sri y (ix3 b i j) + two * y (ix3 b i j)) + sle y (ix3 b i j) = _
  rw [sri_apply, sle_apply, brd_in y b i j _ _ rfl rfl]
  rfl

theorem brd_smC (y : FVec Ideal S3 .f32) (b : Fin 4) (i c : ℕ) (hi : i < 512) : brd (smC y) b (i + 1) c = sumC y b i c := by
  by_cases h : 1 ≤ c ∧ c ≤ 512
  · rw [← brd_in (smC y) b ⟨i, hi⟩ ⟨c - 1, by omega⟩ (i + 1) c rfl (by show c = c - 1 + 1; omega), smC_apply]
    show sumC y b i (c - 1 + 1) = _
    rw [show c - 1 + 1 = c by omega]
  · unfold sumC
    rw [← brd_out (smC y) b (i + 1) c (by omega), ← brd_out y b i c (by omega), ← brd_out y b (i + 1) c (by omega), ← brd_out y b (i + 2) c (by omega)]
    rw [mul_zero, add_zero, add_zero]
theorem brd_smR (y : FVec Ideal S3 .f32) (b : Fin 4) (r j : ℕ) (hj : j < 512) : brd (smR y) b r (j + 1) = sumR y b r j := by
  by_cases h : 1 ≤ r ∧ r ≤ 512
  · rw [← brd_in (smR y) b ⟨r - 1, by omega⟩ ⟨j, hj⟩ r (j + 1) (by show r = r - 1 + 1; omega) rfl, smR_apply]
    show sumR y b (r - 1 + 1) j = _
    rw [show r - 1 + 1 = r by omega]
  · unfold sumR
    rw [← brd_out (smR y) b r (j + 1) (by omega), ← brd_out y b r j (by omega), ← brd_out y b r (j + 1) (by omega), ← brd_out y b r (j + 2) (by omega)]
    rw [mul_zero, add_zero, add_zero]

theorem pay3_eq (x : FVec Ideal S3 .f32) : Cert.KernelIdeal.Gen.k0_pay3 (F := Ideal) x = x := by
  funext j
  unfold Cert.KernelIdeal.Gen.k0_pay3
  exact shapeCast_apply _ _ _ _ rfl

theorem pay4_form (x : FVec Ideal S3 .f32) : Cert.KernelIdeal.Gen.k0_pay4 (F := Ideal) x = subf (sle (smC x)) (sri (smC x)) := by
  unfold Cert.KernelIdeal.Gen.k0_pay4
  rw [pay3_eq]
  unfold smC sle sri sdn sup
  exact rfl
theorem pay5_form (x : FVec Ideal S3 .f32) : Cert.KernelIdeal.Gen.k0_pay5 (F := Ideal) x = subf (sup (smR x)) (sdn (smR x)) := by
  unfold Cert.KernelIdeal.Gen.k0_pay5
  rw [pay3_eq]
  unfold smR sle sri sdn sup
  exact rfl

theorem pay4_apply (x : FVec Ideal S3 .f32) (b : Fin 4) (i j : Fin 512) :
    Cert.KernelIdeal.Gen.k0_pay4 (F := Ideal) x (ix3 b i j) = sumC x b i.val (j.val + 2) - sumC x b i.val j.val := by
  rw [pay4_form]
  show sle (smC x) (ix3 b i j) - sri (smC x) (ix3 b i j) = _
  rw [sle_apply, sri_apply, brd_smC _ _ _ _ i.isLt, brd_smC _ _ _ _ i.isLt]
theorem pay5_apply (x : FVec Ideal S3 .f32) (b : Fin 4) (i j : Fin 512) :
    Cert.KernelIdeal.Gen.k0_pay5 (F := Ideal) x (ix3 b i j) = sumR x b (i.val + 2) j.val - sumR x b i.val j.val := by
  rw [pay5_form]
  show sup (smR x) (ix3 b i j) - sdn (smR x) (ix3 b i j) = _
  rw [sup_apply, sdn_apply, brd_smR _ _ _ _ j.isLt, brd_smR _ _ _ _ j.isLt]

/-- The reference's padded image, and its derivatives along a row and along a column. -/
def padOf (x : FVec Ideal S4x1x512x512 .f32) : FVec Ideal S4x1x514x514 .f32 :=
  pad S4x1x514x514 ![0, 0, 1, 1] ![0, 0, 1, 1] ![0, 0, 0, 0] x (sitofp .f32 (constantI S_ 32 0#32)) pads_S4x1x512x512_S4x1x514x514_000_000_110_110 h_S_
def gx (p : FVec Ideal S4x1x514x514 .f32) : FVec Ideal S4x1x512x512 .f32 :=
  subf (addf (addf (extractStridedSlice S4x1x512x512 ![0, 0, 0, 2] p slices_S4x1x514x514_S4x1x512x512_0_0_0_2) (mulf (broadcastInDim S4x1x512x512 ![] bcast_S_S4x1x512x512 (constant S_ .f32 0x40000000#32)) (extractStridedSlice S4x1x512x512 ![0, 0, 1, 2] p slices_S4x1x514x514_S4x1x512x512_0_0_1_2))) (extractStridedSlice S4x1x512x512 ![0, 0, 2, 2] p slices_S4x1x514x514_S4x1x512x512_0_0_2_2)) (addf (addf (extractStridedSlice S4x1x512x512 ![0, 0, 0, 0] p slices_S4x1x514x514_S4x1x512x512_0_0_0_0) (mulf (broadcastInDim S4x1x512x512 ![] bcast_S_S4x1x512x512 (constant S_ .f32 0x40000000#32)) (extractStridedSlice S4x1x512x512 ![0, 0, 1, 0] p slices_S4x1x514x514_S4x1x512x512_0_0_1_0))) (extractStridedSlice S4x1x512x512 ![0, 0, 2, 0] p slices_S4x1x514x514_S4x1x512x512_0_0_2_0))
def gy (p : FVec Ideal S4x1x514x514 .f32) : FVec Ideal S4x1x512x512 .f32 :=
  subf (addf (addf (extractStridedSlice S4x1x512x512 ![0, 0, 2, 0] p slices_S4x1x514x514_S4x1x512x512_0_0_2_0) (mulf (broadcastInDim S4x1x512x512 ![] bcast_S_S4x1x512x512 (constant S_ .f32 0x40000000#32)) (extractStridedSlice S4x1x512x512 ![0, 0, 2, 1] p slices_S4x1x514x514_S4x1x512x512_0_0_2_1))) (extractStridedSlice S4x1x512x512 ![0, 0, 2, 2] p slices_S4x1x514x514_S4x1x512x512_0_0_2_2)) (addf (addf (extractStridedSlice S4x1x512x512 ![0, 0, 0, 0] p slices_S4x1x514x514_S4x1x512x512_0_0_0_0) (mulf (broadcastInDim S4x1x512x512 ![] bcast_S_S4x1x512x512 (constant S_ .f32 0x40000000#32)) (extractStridedSlice S4x1x512x512 ![0, 0, 0, 1] p slices_S4x1x514x514_S4x1x512x512_0_0_0_1))) (extractStridedSlice S4x1x512x512 ![0, 0, 0, 2] p slices_S4x1x514x514_S4x1x512x512_0_0_0_2))

theorem pad_up (x : FVec Ideal S3 .f32) (b : Fin 4) (r c : Fin 514) : padOf (up x) (ix4 b (0 : Fin 1) r c) = brd x b r.val c.val := by
  have hr := r.isLt
  have hc := c.isLt
  unfold padOf
  by_cases h : 1 ≤ r.val ∧ r.val ≤ 512 ∧ 1 ≤ c.val ∧ c.val ≤ 512
  · refine (pad_apply_of_inside _ _ _ _ _ _ _ _ (ix4 b (0 : Fin 1) (⟨r.val - 1, by omega⟩ : Fin 512) (⟨c.val - 1, by omega⟩ : Fin 512)) (fun a => ?_)).trans ?_
    · match a with
      | 0 => show b.val = 0 + b.val * (0 + 1); omega
      | 1 => rfl
      | 2 => show r.val = 1 + (r.val - 1) * (0 + 1); omega
      | 3 => show c.val = 1 + (c.val - 1) * (0 + 1); omega
    · rw [up_apply]
      exact brd_in x b _ _ _ _ (by show r.val = r.val - 1 + 1; omega) (by show c.val = c.val - 1 + 1; omega)
  · rw [← brd_out x b r.val c.val (by omega)]
    have z : ∀ k : S_.Idx, (sitofp .f32 (constantI S_ 32 0#32) : FVec Ideal S_ .f32) k = (0 : EReal) := fun k => by
      show ((((0#32 : BitVec 32).toInt : ℤ) : ℝ) : EReal) = 0
      simp
    by_cases h2 : 1 ≤ r.val ∧ r.val ≤ 512
    · refine (pad_apply_of_not_inside _ _ _ _ _ _ _ _ 3 (fun hin => ?_)).trans (z _)
      have h3 : 1 ≤ c.val := hin.1
      have h4 : (c.val - 1) / (0 + 1) < 512 := hin.2.2
      omega
    · refine (pad_apply_of_not_inside _ _ _ _ _ _ _ _ 2 (fun hin => ?_)).trans (z _)
      have h3 : 1 ≤ r.val := hin.1
      have h4 : (r.val - 1) / (0 + 1) < 512 := hin.2.2
      omega

theorem cut (p : FVec Ideal S4x1x514x514 .f32) (di dj : ℕ) (hs : S4x1x514x514.Slices ![0, 0, di, dj] S4x1x512x512) (b : Fin 4) (i j : Fin 512)
    (hi : i.val + di < 514) (hj : j.val + dj < 514) :
    extractStridedSlice S4x1x512x512 ![0, 0, di, dj] p hs (ix4 b (0 : Fin 1) i j) = p (ix4 b (0 : Fin 1) (⟨i.val + di, hi⟩ : Fin 514) (⟨j.val + dj, hj⟩ : Fin 514)) := by
  refine extractStridedSlice_apply _ _ _ _ _ (fun a => ?_)
  match a with
  | 0 => exact (Nat.zero_add _).symm
  | 1 => rfl
  | 2 => exact Nat.add_comm _ _
  | 3 => exact Nat.add_comm _ _

theorem cut_up (x : FVec Ideal S3 .f32) (di dj : ℕ) (hs : S4x1x514x514.Slices ![0, 0, di, dj] S4x1x512x512) (b : Fin 4) (i j : Fin 512)
    (hi : di ≤ 2) (hj : dj ≤ 2) :
    extractStridedSlice S4x1x512x512 ![0, 0, di, dj] (padOf (up x)) hs (ix4 b (0 : Fin 1) i j) = brd x b (i.val + di) (j.val + dj) := by
  have h1 := i.isLt
  have h2 := j.isLt
  rw [cut _ di dj hs b i j (by omega) (by omega), pad_up]

theorem gx_up (x : FVec Ideal S3 .f32) : gx (padOf (up x)) = up (Cert.KernelIdeal.Gen.k0_pay4 (F := Ideal) x) := by
  refine eq_up _ _ fun b i j => ?_
  rw [pay4_apply]
  unfold gx
  show ((extractStridedSlice S4x1x512x512 ![0, 0, 0, 2] (padOf (up x)) _ (ix4 b (0 : Fin 1) i j) + two * extractStridedSlice S4x1x512x512 ![0, 0, 1, 2] (padOf (up x)) _ (ix4 b (0 : Fin 1) i j)) + extractStridedSlice S4x1x512x512 ![0, 0, 2, 2] (padOf (up x)) _ (ix4 b (0 : Fin 1) i j))
    - ((extractStridedSlice S4x1x512x512 ![0, 0, 0, 0] (padOf (up x)) _ (ix4 b (0 : Fin 1) i j) + two * extractStridedSlice S4x1x512x512 ![0, 0, 1, 0] (padOf (up x)) _ (ix4 b (0 : Fin 1) i j)) + extractStridedSlice S4x1x512x512 ![0, 0, 2, 0] (padOf (up x)) _ (ix4 b (0 : Fin 1) i j)) = _
  rw [cut_up x 0 2 _ b i j (by omega) (by omega), cut_up x 1 2 _ b i j (by omega) (by omega), cut_up x 2 2 _ b i j (by omega) (by omega),
    cut_up x 0 0 _ b i j (by omega) (by omega), cut_up x 1 0 _ b i j (by omega) (by omega), cut_up x 2 0 _ b i j (by omega) (by omega)]
  rfl
theorem gy_up (x : FVec Ideal S3 .f32) : gy (padOf (up x)) = up (Cert.KernelIdeal.Gen.k0_pay5 (F := Ideal) x) := by
  refine eq_up _ _ fun b i j => ?_
  rw [pay5_apply]
  unfold gy
  show ((extractStridedSlice S4x1x512x512 ![0, 0, 2, 0] (padOf (up x)) _ (ix4 b (0 : Fin 1) i j) + two * extractStridedSlice S4x1x512x512 ![0, 0, 2, 1] (padOf (up x)) _ (ix4 b (0 : Fin 1) i j)) + extractStridedSlice S4x1x512x512 ![0, 0, 2, 2] (padOf (up x)) _ (ix4 b (0 : Fin 1) i j))
    - ((extractStridedSlice S4x1x512x512 ![0, 0, 0, 0] (padOf (up x)) _ (ix4 b (0 : Fin 1) i j) + two * extractStridedSlice S4x1x512x512 ![0, 0, 0, 1] (padOf (up x)) _ (ix4 b (0 : Fin 1) i j)) + extractStridedSlice S4x1x512x512 ![0, 0, 0, 2] (padOf (up x)) _ (ix4 b (0 : Fin 1) i j)) = _
  rw [cut_up x 2 0 _ b i j (by omega) (by omega), cut_up x 2 1 _ b i j (by omega) (by omega), cut_up x 2 2 _ b i j (by omega) (by omega),
    cut_up x 0 0 _ b i j (by omega) (by omega), cut_up x 0 1 _ b i j (by omega) (by omega), cut_up x 0 2 _ b i j (by omega) (by omega)]
  rfl

/-! ## Magnitude and angle -/

/-- The reference's magnitude and angle of two derivatives. -/
def magR (ex ey : FVec Ideal S4x1x512x512 .f32) : FVec Ideal S4x1x512x512 .f32 := Host.sqrt (addf (mulf ex ex) (mulf ey ey))

theorem mag_up (x : FVec Ideal S3 .f32) : magR (up (Cert.KernelIdeal.Gen.k0_pay4 (F := Ideal) x)) (up (Cert.KernelIdeal.Gen.k0_pay5 (F := Ideal) x)) = up (Cert.KernelIdeal.Gen.k0_pay6 (F := Ideal) x) := by
  unfold magR Cert.KernelIdeal.Gen.k0_pay6
  generalize Cert.KernelIdeal.Gen.k0_pay4 (F := Ideal) x = a
  generalize Cert.KernelIdeal.Gen.k0_pay5 (F := Ideal) x = b
  exact rfl

def maxR (ex ey : FVec Ideal S4x1x512x512 .f32) : FVec Ideal S4x1x512x512 .f32 := maximumf (Host.absf ex) (Host.absf ey)
def ratR (ex ey : FVec Ideal S4x1x512x512 .f32) : FVec Ideal S4x1x512x512 .f32 :=
  Host.divf (minimumf (Host.absf ex) (Host.absf ey)) (select (cmpf .oeq (maxR ex ey) (broadcastInDim S4x1x512x512 ![] bcast_S_S4x1x512x512 (constant S_ .f32 0x00000000#32))) (broadcastInDim S4x1x512x512 ![] bcast_S_S4x1x512x512 (id (constant S_ .f32 0x3F800000#32))) (maxR ex ey))
def polR (z t : FVec Ideal S4x1x512x512 .f32) : FVec Ideal S4x1x512x512 .f32 :=
  mulf z (addf (mulf (addf (mulf (addf (mulf (addf (mulf (addf (mulf (addf (mulf (addf (mulf (addf (mulf (broadcastInDim S4x1x512x512 ![] bcast_S_S4x1x512x512 (constant S_ .f32 0x00000000#32)) t) (broadcastInDim S4x1x512x512 ![] bcast_S_S4x1x512x512 (constant S_ .f32 0xBB9E4EC7#32))) t) (broadcastInDim S4x1x512x512 ![] bcast_S_S4x1x512x512 (constant S_ .f32 0x3CCACEBB#32))) t) (broadcastInDim S4x1x512x512 ![] bcast_S_S4x1x512x512 (constant S_ .f32 0xBD76A855#32))) t) (broadcastInDim S4x1x512x512 ![] bcast_S_S4x1x512x512 (constant S_ .f32 0x3DCC24A1#32))) t) (broadcastInDim S4x1x512x512 ![] bcast_S_S4x1x512x512 (constant S_ .f32 0xBE0FC562#32))) t) (broadcastInDim S4x1x512x512 ![] bcast_S_S4x1x512x512 (constant S_ .f32 0x3E4C87CF#32))) t) (broadcastInDim S4x1x512x512 ![] bcast_S_S4x1x512x512 (constant S_ .f32 0xBEAAA951#32))) t) (broadcastInDim S4x1x512x512 ![] bcast_S_S4x1x512x512 (constant S_ .f32 0x3F7FFFFF#32)))
def octR (ex ey q : FVec Ideal S4x1x512x512 .f32) : FVec Ideal S4x1x512x512 .f32 :=
  select (cmpf .ogt (Host.absf ey) (Host.absf ex)) (subf (broadcastInDim S4x1x512x512 ![] bcast_S_S4x1x512x512 (constant S_ .f32 0x3FC90FDB#32)) q) q
def refR (ex q : FVec Ideal S4x1x512x512 .f32) : FVec Ideal S4x1x512x512 .f32 :=
  select (cmpf .olt ex (broadcastInDim S4x1x512x512 ![] bcast_S_S4x1x512x512 (constant S_ .f32 0x00000000#32))) (subf (broadcastInDim S4x1x512x512 ![] bcast_S_S4x1x512x512 (constant S_ .f32 0x40490FDB#32)) q) q
def sgnR (ey q : FVec Ideal S4x1x512x512 .f32) : FVec Ideal S4x1x512x512 .f32 :=
  select (cmpf .olt ey (broadcastInDim S4x1x512x512 ![] bcast_S_S4x1x512x512 (constant S_ .f32 0x00000000#32))) (Host.negf q) q
def angR (ex ey : FVec Ideal S4x1x512x512 .f32) : FVec Ideal S4x1x512x512 .f32 :=
  sgnR ey (refR ex (octR ex ey (polR (ratR ex ey) (mulf (ratR ex ey) (ratR ex ey)))))

abbrev w (b : BitVec 32) : EReal := Ideal.ofBits .f32 b

/-- The angle's steps on one value: the smaller over the larger, the polynomial, and the three reflections. -/
def ratS (n d : EReal) : EReal := Ideal.div n (Scalar.select (Ideal.cmp .oeq d (w 0x00000000#32)) (w 0x3F800000#32) d)
def polS (l z t : EReal) : EReal :=
  z * ((((((((l * t + w 0x3CCACEBB#32) * t + w 0xBD76A855#32) * t + w 0x3DCC24A1#32) * t + w 0xBE0FC562#32) * t + w 0x3E4C87CF#32) * t + w 0xBEAAA951#32) * t + w 0x3F7FFFFF#32))
def octS (s : BitVec 1) (q : EReal) : EReal := Scalar.select s (w 0x3FC90FDB#32 - q) q
def refS (a q : EReal) : EReal := Scalar.select (Ideal.cmp .olt a (w 0x00000000#32)) (w 0x40490FDB#32 - q) q
def sgnS (b n q : EReal) : EReal := Scalar.select (Ideal.cmp .olt b (w 0x00000000#32)) n q
def absS (a : EReal) : EReal := max a (-a)

theorem ratR_apply (ex ey : FVec Ideal S4x1x512x512 .f32) (j : S4x1x512x512.Idx) :
    ratR ex ey j = ratS (min (absS (ex j)) (absS (ey j))) (max (absS (ex j)) (absS (ey j))) := by exact rfl
theorem polR_apply (z t : FVec Ideal S4x1x512x512 .f32) (j : S4x1x512x512.Idx) :
    polR z t j = polS (w 0x00000000#32 * t j + w 0xBB9E4EC7#32) (z j) (t j) := by exact rfl
theorem octR_apply (ex ey q : FVec Ideal S4x1x512x512 .f32) (j : S4x1x512x512.Idx) :
    octR ex ey q j = octS (Ideal.cmp .ogt (absS (ey j)) (absS (ex j))) (q j) := by exact rfl
theorem refR_apply (ex q : FVec Ideal S4x1x512x512 .f32) (j : S4x1x512x512.Idx) : refR ex q j = refS (ex j) (q j) := by exact rfl
theorem sgnR_apply (ey q : FVec Ideal S4x1x512x512 .f32) (j : S4x1x512x512.Idx) : sgnR ey q j = sgnS (ey j) (-(q j)) (q j) := by exact rfl

/-- The kernel's angle on one value. -/
theorem pay13_apply (ex ey n d z : FVec Ideal S3 .f32) (s : IVec S3 1) (j : S3.Idx) (hz : z j = w 0x00000000#32) :
    Cert.KernelIdeal.Gen.k0_pay13 ex ey s n d z j
      = sgnS (ey j) (w 0x00000000#32 - refS (ex j) (octS (s j) (polS (w 0xBB9E4EC7#32) (ratS (n j) (d j)) (ratS (n j) (d j) * ratS (n j) (d j)))))
          (refS (ex j) (octS (s j) (polS (w 0xBB9E4EC7#32) (ratS (n j) (d j)) (ratS (n j) (d j) * ratS (n j) (d j))))) := by
  have e : ratS (n j) (d j) = Ideal.div (n j) (Scalar.select (Ideal.cmp .oeq (d j) (z j)) (w 0x3F800000#32) (d j)) := by
    unfold ratS
    rw [hz]
  rw [e]
  unfold Cert.KernelIdeal.Gen.k0_pay13
  exact rfl

theorem num_eq (a b : EReal) : Scalar.select (Ideal.cmp .ogt b a) a b = min a b := by
  by_cases h : b > a
  · have e : Ideal.cmp .ogt b a = 1#1 := by simp [Ideal.cmp, h]
    rw [e]
    exact (min_eq_left h.le).symm
  · have e : Ideal.cmp .ogt b a = 0#1 := by simp [Ideal.cmp, h]
    rw [e]
    exact (min_eq_right (not_lt.1 h)).symm
theorem den_eq (a b : EReal) : Scalar.select (Ideal.cmp .ogt b a) b a = max a b := by
  by_cases h : b > a
  · have e : Ideal.cmp .ogt b a = 1#1 := by simp [Ideal.cmp, h]
    rw [e]
    exact (max_eq_right h.le).symm
  · have e : Ideal.cmp .ogt b a = 0#1 := by simp [Ideal.cmp, h]
    rw [e]
    exact (max_eq_left (not_lt.1 h)).symm

theorem w_zero : w 0x00000000#32 = 0 := Ideal.ofBits_zero_f32

theorem fAng_apply (x : FVec Ideal S3 .f32) (j : S3.Idx) (ex ey : Ideal .f32) (hx : (Cert.KernelIdeal.Gen.k0_pay4 (F := Ideal) x : FVec Ideal S3 .f32) j = ex) (hy : (Cert.KernelIdeal.Gen.k0_pay5 (F := Ideal) x : FVec Ideal S3 .f32) j = ey) :
    KI.fAng x j = sgnS ey (-refS ex (octS (Ideal.cmp .ogt (absS ey) (absS ex)) (polS (w 0xBB9E4EC7#32) (ratS (min (absS ex) (absS ey)) (max (absS ex) (absS ey))) (ratS (min (absS ex) (absS ey)) (max (absS ex) (absS ey)) * ratS (min (absS ex) (absS ey)) (max (absS ex) (absS ey))))))
      (refS ex (octS (Ideal.cmp .ogt (absS ey) (absS ex)) (polS (w 0xBB9E4EC7#32) (ratS (min (absS ex) (absS ey)) (max (absS ex) (absS ey))) (ratS (min (absS ex) (absS ey)) (max (absS ex) (absS ey)) * ratS (min (absS ex) (absS ey)) (max (absS ex) (absS ey)))))) := by
  have e9 : (Cert.KernelIdeal.Gen.k0_pay9 (F := Ideal) x) j = Ideal.cmp .ogt (absS ey) (absS ex) := by
    subst hx hy
    unfold Cert.KernelIdeal.Gen.k0_pay9 Cert.KernelIdeal.Gen.k0_pay8 Cert.KernelIdeal.Gen.k0_pay7
    exact rfl
  have e10 : (Cert.KernelIdeal.Gen.k0_pay10 (F := Ideal) x) j = min (absS ex) (absS ey) := by
    rw [← num_eq, ← e9]
    subst hx hy
    unfold Cert.KernelIdeal.Gen.k0_pay10 Cert.KernelIdeal.Gen.k0_pay8 Cert.KernelIdeal.Gen.k0_pay7
    exact rfl
  have e11 : (Cert.KernelIdeal.Gen.k0_pay11 (F := Ideal) x) j = max (absS ex) (absS ey) := by
    rw [← den_eq, ← e9]
    subst hx hy
    unfold Cert.KernelIdeal.Gen.k0_pay11 Cert.KernelIdeal.Gen.k0_pay8 Cert.KernelIdeal.Gen.k0_pay7
    exact rfl
  unfold KI.fAng
  rw [pay13_apply _ _ _ _ _ _ _ (by unfold Cert.KernelIdeal.Gen.k0_pay12; exact rfl), hx, hy, e9, e10, e11, w_zero, sub_eq_add_neg, zero_add]

theorem angR_apply (a b : FVec Ideal S4x1x512x512 .f32) (j : S4x1x512x512.Idx) (ex ey : Ideal .f32) (hx : a j = ex) (hy : b j = ey) :
    angR a b j = sgnS ey (-refS ex (octS (Ideal.cmp .ogt (absS ey) (absS ex)) (polS (w 0xBB9E4EC7#32) (ratS (min (absS ex) (absS ey)) (max (absS ex) (absS ey))) (ratS (min (absS ex) (absS ey)) (max (absS ex) (absS ey)) * ratS (min (absS ex) (absS ey)) (max (absS ex) (absS ey))))))
      (refS ex (octS (Ideal.cmp .ogt (absS ey) (absS ex)) (polS (w 0xBB9E4EC7#32) (ratS (min (absS ex) (absS ey)) (max (absS ex) (absS ey))) (ratS (min (absS ex) (absS ey)) (max (absS ex) (absS ey)) * ratS (min (absS ex) (absS ey)) (max (absS ex) (absS ey)))))) := by
  unfold angR
  have em : mulf (ratR a b) (ratR a b) j = ratR a b j * ratR a b j := by exact rfl
  rw [sgnR_apply, refR_apply, octR_apply, polR_apply, em, ratR_apply, hx, hy, w_zero, zero_mul, zero_add]

theorem ang_up (x : FVec Ideal S3 .f32) : angR (up (Cert.KernelIdeal.Gen.k0_pay4 (F := Ideal) x)) (up (Cert.KernelIdeal.Gen.k0_pay5 (F := Ideal) x)) = up (KI.fAng x) := by
  refine eq_up _ _ fun b i j => ?_
  rw [angR_apply _ _ _ _ _ (up_apply b i j) (up_apply b i j), fAng_apply x _ _ _ rfl rfl]

end Cert.Proof.R

end
-- ==== Proof.Equal.lean ====
/-
  The two programs' results are equal. The reference's is written with the six histograms of `Hist.lean`, each of values that
  `Same.lean` shows to be the kernel's; its two means are then the kernel's two sums.
-/
module

public import proofs.«01_k».proof.Proof.Same

@[expose] public section

noncomputable section

namespace Cert.Proof.Equal

open Cert.ReferenceIdeal Cert.ReferenceIdeal.Gen Cert.ReferenceIdeal.Value
open Idealize.ShloMosaic Idealize.ShloMosaic.TcCoe Idealize.ShloMosaic.ValueIdx
open Finset Cert.Proof.Count Cert.Proof.R Cert.Proof.KI

/-! ## The reference's terms, named by what they compute -/

/-- The four-fold histogram of a batch, and the mean absolute difference of two. -/
def hist (v : FVec Ideal S4x1x512x512 .f32) : FVec Ideal S4x64x64x256 .f32 := rep (histOf (flat v (lo v) (wd v)))
def dist (p q : FVec Ideal S4x64x64x256 .f32) : FVec Ideal S_ .f32 :=
  Host.divf (Host.reduceAdd (Host.absf (subf p q)) (constant S_ .f32 0x00000000#32) reducesTo_S4x64x64x256_S_d0_1_2_3 h_S_) (constant S_ .f32 0x4A800000#32)
def gMag (v : FVec Ideal S4x1x512x512 .f32) : FVec Ideal S4x1x512x512 .f32 := magR (gx (padOf v)) (gy (padOf v))
def gAng (v : FVec Ideal S4x1x512x512 .f32) : FVec Ideal S4x1x512x512 .f32 := angR (gx (padOf v)) (gy (padOf v))

variable (V : Valuation τ sig (Elt Ideal))

/-- The two arguments. -/
def a0 : FVec Ideal S4x1x512x512 .f32 := V (Proc.devRef .tc main_arg0)
def a1 : FVec Ideal S4x1x512x512 .f32 := V (Proc.devRef .tc main_arg1)

theorem e0 : res_main_v0 V = lo (a1 V) := by
  unfold res_main_v0
  exact rfl
theorem e6 : res_main_v6 V = wd (a1 V) := by
  unfold res_main_v6
  rw [e0]
  exact rfl
theorem e25 : res_main_v25 V = flat (a1 V) (lo (a1 V)) (wd (a1 V)) := by
  unfold res_main_v25
  rw [e0, e6]
  exact rfl
theorem e39 : res_main_v39 V = lo (a0 V) := by
  unfold res_main_v39
  exact rfl
theorem e45 : res_main_v45 V = wd (a0 V) := by
  unfold res_main_v45
  rw [e39]
  exact rfl
theorem e64 : res_main_v64 V = flat (a0 V) (lo (a0 V)) (wd (a0 V)) := by
  unfold res_main_v64
  rw [e39, e45]
  exact rfl

theorem e78 : res_main_v78 V = padOf (a1 V) := by
  unfold res_main_v78
  exact rfl
theorem e93 : res_main_v93 V = gx (padOf (a1 V)) := by
  unfold res_main_v93
  rw [e78]
  exact rfl
theorem e108 : res_main_v108 V = gy (padOf (a1 V)) := by
  unfold res_main_v108
  rw [e78]
  exact rfl
theorem e112 : res_main_v112 V = gMag (a1 V) := by
  unfold res_main_v112
  rw [e93, e108]
  exact rfl
theorem e118 : res_main_v118 V = maxR (gx (padOf (a1 V))) (gy (padOf (a1 V))) := by
  unfold res_main_v118
  rw [e93, e108]
  exact rfl
theorem e122 : res_main_v122 V = ratR (gx (padOf (a1 V))) (gy (padOf (a1 V))) := by
  unfold res_main_v122
  rw [e93, e108, e118]
  exact rfl
theorem e123 : res_main_v123 V = mulf (ratR (gx (padOf (a1 V))) (gy (padOf (a1 V)))) (ratR (gx (padOf (a1 V))) (gy (padOf (a1 V)))) := by
  unfold res_main_v123
  rw [e122]
theorem e149 : res_main_v149 V = polR (ratR (gx (padOf (a1 V))) (gy (padOf (a1 V)))) (mulf (ratR (gx (padOf (a1 V))) (gy (padOf (a1 V)))) (ratR (gx (padOf (a1 V))) (gy (padOf (a1 V))))) := by
  unfold res_main_v149
  rw [e122, e123]
  exact rfl
theorem e155 : res_main_v155 V = octR (gx (padOf (a1 V))) (gy (padOf (a1 V))) (polR (ratR (gx (padOf (a1 V))) (gy (padOf (a1 V)))) (mulf (ratR (gx (padOf (a1 V))) (gy (padOf (a1 V)))) (ratR (gx (padOf (a1 V))) (gy (padOf (a1 V)))))) := by
  unfold res_main_v155
  rw [e93, e108, e149]
  exact rfl
theorem e160 : res_main_v160 V = refR (gx (padOf (a1 V))) (octR (gx (padOf (a1 V))) (gy (padOf (a1 V))) (polR (ratR (gx (padOf (a1 V))) (gy (padOf (a1 V)))) (mulf (ratR (gx (padOf (a1 V))) (gy (padOf (a1 V)))) (ratR (gx (padOf (a1 V))) (gy (padOf (a1 V))))))) := by
  unfold res_main_v160
  rw [e93, e155]
  exact rfl
theorem e164 : res_main_v164 V = gAng (a1 V) := by
  unfold res_main_v164
  rw [e108, e160]
  exact rfl
theorem e165 : res_main_v165 V = lo (gMag (a1 V)) := by
  unfold res_main_v165
  rw [e112]
  exact rfl
theorem e171 : res_main_v171 V = wd (gMag (a1 V)) := by
  unfold res_main_v171
  rw [e165, e112]
  exact rfl
theorem e190 : res_main_v190 V = flat (gMag (a1 V)) (lo (gMag (a1 V))) (wd (gMag (a1 V))) := by
  unfold res_main_v190
  rw [e165, e171, e112]
  exact rfl
theorem e204 : res_main_v204 V = lo (gAng (a1 V)) := by
  unfold res_main_v204
  rw [e164]
  exact rfl
theorem e210 : res_main_v210 V = wd (gAng (a1 V)) := by
  unfold res_main_v210
  rw [e204, e164]
  exact rfl
theorem e229 : res_main_v229 V = flat (gAng (a1 V)) (lo (gAng (a1 V))) (wd (gAng (a1 V))) := by
  unfold res_main_v229
  rw [e204, e210, e164]
  exact rfl

theorem e244 : res_main_v244 V = padOf (a0 V) := by
  unfold res_main_v244
  exact rfl
theorem e259 : res_main_v259 V = gx (padOf (a0 V)) := by
  unfold res_main_v259
  rw [e244]
  exact rfl
theorem e274 : res_main_v274 V = gy (padOf (a0 V)) := by
  unfold res_main_v274
  rw [e244]
  exact rfl
theorem e278 : res_main_v278 V = gMag (a0 V) := by
  unfold res_main_v278
  rw [e259, e274]
  exact rfl
theorem e284 : res_main_v284 V = maxR (gx (padOf (a0 V))) (gy (padOf (a0 V))) := by
  unfold res_main_v284
  rw [e259, e274]
  exact rfl
theorem e288 : res_main_v288 V = ratR (gx (padOf (a0 V))) (gy (padOf (a0 V))) := by
  unfold res_main_v288
  rw [e259, e274, e284]
  exact rfl
theorem e289 : res_main_v289 V = mulf (ratR (gx (padOf (a0 V))) (gy (padOf (a0 V)))) (ratR (gx (padOf (a0 V))) (gy (padOf (a0 V)))) := by
  unfold res_main_v289
  rw [e288]
theorem e315 : res_main_v315 V = polR (ratR (gx (padOf (a0 V))) (gy (padOf (a0 V)))) (mulf (ratR (gx (padOf (a0 V))) (gy (padOf (a0 V)))) (ratR (gx (padOf (a0 V))) (gy (padOf (a0 V))))) := by
  unfold res_main_v315
  rw [e288, e289]
  exact rfl
theorem e321 : res_main_v321 V = octR (gx (padOf (a0 V))) (gy (padOf (a0 V))) (polR (ratR (gx (padOf (a0 V))) (gy (padOf (a0 V)))) (mulf (ratR (gx (padOf (a0 V))) (gy (padOf (a0 V)))) (ratR (gx (padOf (a0 V))) (gy (padOf (a0 V)))))) := by
  unfold res_main_v321
  rw [e259, e274, e315]
  exact rfl
theorem e326 : res_main_v326 V = refR (gx (padOf (a0 V))) (octR (gx (padOf (a0 V))) (gy (padOf (a0 V))) (polR (ratR (gx (padOf (a0 V))) (gy (padOf (a0 V)))) (mulf (ratR (gx (padOf (a0 V))) (gy (padOf (a0 V)))) (ratR (gx (padOf (a0 V))) (gy (padOf (a0 V))))))) := by
  unfold res_main_v326
  rw [e259, e321]
  exact rfl
theorem e330 : res_main_v330 V = gAng (a0 V) := by
  unfold res_main_v330
  rw [e274, e326]
  exact rfl
theorem e331 : res_main_v331 V = lo (gMag (a0 V)) := by
  unfold res_main_v331
  rw [e278]
  exact rfl
theorem e337 : res_main_v337 V = wd (gMag (a0 V)) := by
  unfold res_main_v337
  rw [e331, e278]
  exact rfl
theorem e356 : res_main_v356 V = flat (gMag (a0 V)) (lo (gMag (a0 V))) (wd (gMag (a0 V))) := by
  unfold res_main_v356
  rw [e331, e337, e278]
  exact rfl
theorem e370 : res_main_v370 V = lo (gAng (a0 V)) := by
  unfold res_main_v370
  rw [e330]
  exact rfl
theorem e376 : res_main_v376 V = wd (gAng (a0 V)) := by
  unfold res_main_v376
  rw [e370, e330]
  exact rfl
theorem e395 : res_main_v395 V = flat (gAng (a0 V)) (lo (gAng (a0 V))) (wd (gAng (a0 V))) := by
  unfold res_main_v395
  rw [e370, e376, e330]
  exact rfl

/-- The reference's result: the two mean differences, of the images' histograms and of their edges'. -/
theorem out_form : res_out0 V = addf (dist (hist (a0 V)) (hist (a1 V))) (dist (addf (hist (gMag (a0 V))) (hist (gAng (a0 V)))) (addf (hist (gMag (a1 V))) (hist (gAng (a1 V))))) := by
  show res_main_v418 V = _
  unfold res_main_v418
  rw [e25, e64, e190, e229, e356, e395]
  exact rfl

/-! ## Its value -/

/-- The mean over the four copies is the sum over windows and bins divided by 2^20. -/
theorem dist_real (p q : FVec Ideal S4x64x64x256 .f32) (P Q : ℕ → ℝ) (hp : ∀ y, p y = ((P ((S4x64x64x256.rowMajor y).val % 1048576) : ℝ) : EReal))
    (hq : ∀ y, q y = ((Q ((S4x64x64x256.rowMajor y).val % 1048576) : ℝ) : EReal)) (j : S_.Idx) :
    dist p q j = (((∑ n ∈ range 1048576, |P n - Q n|) / 1048576 : ℝ) : EReal) := by
  have ht : ∀ y, Host.absf (subf p q) y = (((fun n : ℕ => |P (n % 1048576) - Q (n % 1048576)|) (S4x64x64x256.rowMajor y).val : ℝ) : EReal) := fun y => by
    show max (p y - q y : EReal) (-(p y - q y)) = _
    rw [hp, hq, ← EReal.coe_sub, abs_coe]
  have hs : (∑ y : S4x64x64x256.Idx, Host.absf (subf p q) y) = ((4 * ∑ n ∈ range 1048576, |P n - Q n| : ℝ) : EReal) := by
    rw [sum_congr rfl fun y _ => ht y, ← coe_sum]
    refine congrArg (fun r : ℝ => (r : EReal)) ?_
    refine (sum_idx S4x64x64x256 4194304 (by decide +kernel) (fun n : ℕ => |P (n % 1048576) - Q (n % 1048576)|)).trans ?_
    refine (sum_runs_of _ 4 1048576 4194304 (by norm_num)).trans ?_
    have e : ∀ a ∈ range 4, (∑ b ∈ range 1048576, |P ((a * 1048576 + b) % 1048576) - Q ((a * 1048576 + b) % 1048576)|) = ∑ n ∈ range 1048576, |P n - Q n| := by
      intro a _
      refine sum_congr rfl fun b hb => ?_
      rw [mem_range] at hb
      rw [show (a * 1048576 + b) % 1048576 = b by omega]
    refine (sum_congr rfl e).trans ?_
    generalize (∑ n ∈ range 1048576, |P n - Q n|) = s
    rw [sum_const, card_range, nsmul_eq_mul]
    norm_num
  have h1 : Host.reduceAdd (Host.absf (subf p q)) (constant S_ .f32 0x00000000#32) reducesTo_S4x64x64x256_S_d0_1_2_3 h_S_ j = ((4 * ∑ n ∈ range 1048576, |P n - Q n| : ℝ) : EReal) := by
    refine (Ideal.hostReduceAdd_total reducesTo_S4x64x64x256_S_d0_1_2_3 (fun b => b.elim0) (Host.absf (subf p q)) _ j).trans ?_
    rw [hs]
    show Ideal.ofBits .f32 0x00000000#32 + _ = _
    rw [Ideal.ofBits_zero_f32, zero_add]
  have h2 : (Ideal.ofBits .f32 0x4A800000#32 : EReal) = ((4194304 : ℝ) : EReal) := by
    simp [Ideal.ofBits, Ideal.ieee, -EReal.coe_mul]
    try norm_num
  unfold dist
  show Ideal.div (Host.reduceAdd (Host.absf (subf p q)) (constant S_ .f32 0x00000000#32) reducesTo_S4x64x64x256_S_d0_1_2_3 h_S_ j) (Ideal.ofBits .f32 0x4A800000#32) = _
  rw [h1, h2, Ideal.div_coe (by norm_num), ← EReal.coe_mul]
  generalize (∑ n ∈ range 1048576, |P n - Q n|) = s
  refine congrArg (fun r : ℝ => (r : EReal)) ?_
  ring

/-- The number of pixels in each window and bin, for the values v. -/
def num (v : FVec Ideal S3 .f32) (n : ℕ) : ℝ := ((cnt (bn v) n : ℕ) : ℝ)

theorem hist_up (v : FVec Ideal S3 .f32) (y : S4x64x64x256.Idx) : hist (up v) y = ((num v ((S4x64x64x256.rowMajor y).val % 1048576) : ℝ) : EReal) := hist_real v y

theorem hist_two (v w : FVec Ideal S3 .f32) (y : S4x64x64x256.Idx) :
    addf (hist (up v)) (hist (up w)) y = (((fun n => num v n + num w n) ((S4x64x64x256.rowMajor y).val % 1048576) : ℝ) : EReal) := by
  show (hist (up v) y + hist (up w) y : EReal) = _
  rw [hist_up, hist_up, ← EReal.coe_add]

theorem gMag_up (x : FVec Ideal S3 .f32) : gMag (up x) = up (Cert.KernelIdeal.Gen.k0_pay6 (F := Ideal) x) := by
  unfold gMag
  rw [gx_up, gy_up, mag_up]
theorem gAng_up (x : FVec Ideal S3 .f32) : gAng (up x) = up (KI.fAng x) := by
  unfold gAng
  rw [gx_up, gy_up, ang_up]

/-- A batch put into the kernel's shape and back. -/
theorem up_img (x : FVec Ideal S4x1x512x512 .f32) : up (KI.img x) = x := by
  unfold up KI.img
  rw [shapeCast_shapeCast]

open Idealize.ShloMosaic.StableHlo in
/-- The two results are equal. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (c : Dev Cert.KernelIdeal.nD) : Cert.ReferenceIdeal.Value.res_out0 (launchContents m' c) = KI.res m c := by
  have h0 : a0 (launchContents m' c) = up (KI.X m c) := by
    rw [KI.X_eq, up_img]
    exact (hm c).1
  have h1 : a1 (launchContents m' c) = up (KI.Y m c) := by
    rw [KI.Y_eq, up_img]
    exact (hm c).2
  rw [out_form, h0, h1, gMag_up, gMag_up, gAng_up, gAng_up]
  funext j
  rw [KI.res_real m c j]
  show (dist _ _ j + dist _ _ j : EReal) = _
  rw [dist_real _ _ (num (KI.X m c)) (num (KI.Y m c)) (hist_up _) (hist_up _) j]
  rw [dist_real _ _ (fun n => num (Cert.KernelIdeal.Gen.k0_pay6 (F := Ideal) (KI.X m c)) n + num (KI.fAng (KI.X m c)) n) (fun n => num (Cert.KernelIdeal.Gen.k0_pay6 (F := Ideal) (KI.Y m c)) n + num (KI.fAng (KI.Y m c)) n) (hist_two _ _) (hist_two _ _) j]
  rw [← EReal.coe_add]
  refine congrArg (fun r : ℝ => (r : EReal)) ?_
  unfold KI.total
  rw [add_div]
  have v0 : KI.valOf m c 0 = KI.X m c := pay3_eq _
  have v1 : KI.valOf m c 1 = KI.Y m c := pay3_eq _
  have i1 : ∀ n, KI.tallyI m c n = num (KI.X m c) n - num (KI.Y m c) n := fun n => by
    unfold KI.tallyI num
    rw [v0, v1]
  have i2 : ∀ n, KI.tallyE m c n = (num (Cert.KernelIdeal.Gen.k0_pay6 (F := Ideal) (KI.X m c)) n + num (KI.fAng (KI.X m c)) n) - (num (Cert.KernelIdeal.Gen.k0_pay6 (F := Ideal) (KI.Y m c)) n + num (KI.fAng (KI.Y m c)) n) := fun n => by
    unfold KI.tallyE num
    exact rfl
  rw [sum_congr rfl fun n _ => congrArg abs (i1 n), sum_congr rfl fun n _ => congrArg abs (i2 n)]

end Cert.Proof.Equal

end
-- ==== Proof.lean ====
/-
  The certificate's claim from its parts: the kernel's run at the two float instances (`run_main`, one proof of it generic in
  the instance, written once over each of the two printed programs), the reference's run, and the equality of their two values.
-/
module

public import proofs.«01_k».proof.Defs
public import proofs.«01_k».proof.Proof.Bound
public import proofs.«01_k».proof.Proof.KI.Bound
public import proofs.«01_k».proof.Proof.Gen.ReferenceIdeal.Run
public import Idealize.ShloMosaic.Lib.Pipeline.Frame
public import proofs.«01_k».proof.Proof.Equal

@[expose] public section

noncomputable section

namespace Cert.Proof

open Idealize.ShloMosaic Idealize.ShloMosaic.TcCoe Idealize.SL.Sem

instance (e : EltTy) : Nonempty (Elt Bits e) := by
  cases e <;> exact ⟨0⟩
instance (e : EltTy) : Nonempty (Elt Ideal e) := by
  cases e <;> exact ⟨0⟩

/-- The kernel terminates, nothing faulting, its arguments unchanged and every semaphore at zero. -/
theorem frame_kernel : quiescent_Kernel (hKernel := Cert.Kernel.Gen.facts) := fun m g _ =>
  (θ_run _ _ _).mono (fun _ h => ⟨fun c => (h.1 c).2, h.2⟩) (K.run_main m g (K.fits m))

/-- So does its ideal reading. -/
theorem frame_kernel_ideal : quiescent_KernelIdeal (hKernelIdeal := Cert.KernelIdeal.Gen.facts) := fun m g _ =>
  (θ_run _ _ _).mono (fun _ h => ⟨fun c => (h.1 c).2, h.2⟩) (KI.run_main m g (KI.fits m))

/-- And the reference. -/
theorem frame_reference : quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩) (Cert.ReferenceIdeal.Value.run m g)

/-- The two ideal readings end with equal results. -/
theorem value : algebraic_KernelIdeal_ReferenceIdeal (hKernelIdeal := Cert.KernelIdeal.Gen.facts) (hReferenceIdeal := Cert.ReferenceIdeal.Gen.facts) :=
  fun m g m' g' _ hm => ⟨fun c => KI.res m c,
    (θ_run _ _ _).mono (fun _ h c => h.1 c) (KI.run_main m g (KI.fits m)),
    (θ_run _ _ _).mono (fun _ h c => ⟨(h c).1.trans (Equal.result_eq m m' hm c), (h c).2⟩) (Cert.ReferenceIdeal.Value.run m' g')⟩

/-- All that is claimed. -/
theorem claim : Cert.Claim := ⟨Cert.Kernel.Gen.facts, Cert.KernelIdeal.Gen.facts, Cert.ReferenceIdeal.Gen.facts,
  frame_kernel, frame_kernel_ideal, frame_reference, trivial, value⟩

end Cert.Proof

end
